-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_scores [hPre_finite_scores : Cert.Pre_finite_scores.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_scores.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_scores [hPre_finite_scores : Cert.Pre_finite_scores.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_scores.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite_window [hPre_finite_window : Cert.Pre_finite_window.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite_window.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite_window [hPre_finite_window : Cert.Pre_finite_window.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite_window.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite_window_all [hPre_finite_window_all : Cert.Pre_finite_window_all.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite_window_all.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite_window_all [hPre_finite_window_all : Cert.Pre_finite_window_all.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite_window_all.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite_scores [hKernel10Ideal : Cert.Kernel10Ideal.Facts] [hPre_finite_scores : Cert.Pre_finite_scores.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_scores m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite_scores [hReference10Ideal : Cert.Reference10Ideal.Facts] [hPre_finite_scores : Cert.Pre_finite_scores.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_scores m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Kernel30Ideal_pre_finite_window [hKernel30Ideal : Cert.Kernel30Ideal.Facts] [hPre_finite_window : Cert.Pre_finite_window.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite_window m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Reference30Ideal_pre_finite_window [hReference30Ideal : Cert.Reference30Ideal.Facts] [hPre_finite_window : Cert.Pre_finite_window.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite_window m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Kernel31Ideal_pre_finite_window_all [hKernel31Ideal : Cert.Kernel31Ideal.Facts] [hPre_finite_window_all : Cert.Pre_finite_window_all.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite_window_all m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Reference31Ideal_pre_finite_window_all [hReference31Ideal : Cert.Reference31Ideal.Facts] [hPre_finite_window_all : Cert.Pre_finite_window_all.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite_window_all m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_scores [hKernel10Ideal : Cert.Kernel10Ideal.Facts] [hReference10Ideal : Cert.Reference10Ideal.Facts] [hPre_finite_scores : Cert.Pre_finite_scores.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_scores m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal_pre_finite_window [hKernel30Ideal : Cert.Kernel30Ideal.Facts] [hReference30Ideal : Cert.Reference30Ideal.Facts] [hPre_finite_window : Cert.Pre_finite_window.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite_window m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v22)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v22) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v44) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal_pre_finite_window_all [hKernel31Ideal : Cert.Kernel31Ideal.Facts] [hReference31Ideal : Cert.Reference31Ideal.Facts] [hPre_finite_window_all : Cert.Pre_finite_window_all.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite_window_all m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v69_0)) (v1 : (c : Dev Cert.Kernel31Ideal.nD) → Buf (Elt Ideal) ((c.tc : Thread Cert.Kernel31Ideal.nD Cert.Kernel31Ideal.τ).loc Cert.Kernel31Ideal.main_v69_1)) (v2 : (c : Dev Cert.Kernel31Ideal.nD) → Buf (Elt Ideal) ((c.tc : Thread Cert.Kernel31Ideal.nD Cert.Kernel31Ideal.τ).loc Cert.Kernel31Ideal.main_v69_2)) (v3 : (c : Dev Cert.Kernel31Ideal.nD) → Buf (Elt Ideal) ((c.tc : Thread Cert.Kernel31Ideal.nD Cert.Kernel31Ideal.τ).loc Cert.Kernel31Ideal.main_v69_3)) (v4 : (c : Dev Cert.Kernel31Ideal.nD) → Buf (Elt Ideal) ((c.tc : Thread Cert.Kernel31Ideal.nD Cert.Kernel31Ideal.τ).loc Cert.Kernel31Ideal.main_v69_4)) (v5 : (c : Dev Cert.Kernel31Ideal.nD) → Buf (Elt Ideal) ((c.tc : Thread Cert.Kernel31Ideal.nD Cert.Kernel31Ideal.τ).loc Cert.Kernel31Ideal.main_v69_5)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v69_0) = v0 c
          ∧ r.2.mem ((c.tc : Thread Cert.Kernel31Ideal.nD Cert.Kernel31Ideal.τ).loc Cert.Kernel31Ideal.main_v69_1) = v1 c
          ∧ r.2.mem ((c.tc : Thread Cert.Kernel31Ideal.nD Cert.Kernel31Ideal.τ).loc Cert.Kernel31Ideal.main_v69_2) = v2 c
          ∧ r.2.mem ((c.tc : Thread Cert.Kernel31Ideal.nD Cert.Kernel31Ideal.τ).loc Cert.Kernel31Ideal.main_v69_3) = v3 c
          ∧ r.2.mem ((c.tc : Thread Cert.Kernel31Ideal.nD Cert.Kernel31Ideal.τ).loc Cert.Kernel31Ideal.main_v69_4) = v4 c
          ∧ r.2.mem ((c.tc : Thread Cert.Kernel31Ideal.nD Cert.Kernel31Ideal.τ).loc Cert.Kernel31Ideal.main_v69_5) = v5 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v109) = v0 c
          ∧ r.2.mem ((c.tc : Thread Cert.Reference31Ideal.nD Cert.Reference31Ideal.τ).loc Cert.Reference31Ideal.main_v112) = v1 c
          ∧ r.2.mem ((c.tc : Thread Cert.Reference31Ideal.nD Cert.Reference31Ideal.τ).loc Cert.Reference31Ideal.main_v115) = v2 c
          ∧ r.2.mem ((c.tc : Thread Cert.Reference31Ideal.nD Cert.Reference31Ideal.τ).loc Cert.Reference31Ideal.main_v117) = v3 c
          ∧ r.2.mem ((c.tc : Thread Cert.Reference31Ideal.nD Cert.Reference31Ideal.τ).loc Cert.Reference31Ideal.main_v119) = v4 c
          ∧ r.2.mem ((c.tc : Thread Cert.Reference31Ideal.nD Cert.Reference31Ideal.τ).loc Cert.Reference31Ideal.main_v121) = v5 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite_scores : Cert.Pre_finite_scores.Facts) (hPre_finite_window : Cert.Pre_finite_window.Facts) (hPre_finite_window_all : Cert.Pre_finite_window_all.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_scores (hKernel10Ideal := hKernel10Ideal) (hPre_finite_scores := hPre_finite_scores)
    ∧ quiescent_Reference10Ideal (hReference10Ideal := hReference10Ideal)
    ∧ quiescent_Reference10Ideal_pre_finite_scores (hReference10Ideal := hReference10Ideal) (hPre_finite_scores := hPre_finite_scores)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_finite_window (hKernel30Ideal := hKernel30Ideal) (hPre_finite_window := hPre_finite_window)
    ∧ quiescent_Reference30Ideal (hReference30Ideal := hReference30Ideal)
    ∧ quiescent_Reference30Ideal_pre_finite_window (hReference30Ideal := hReference30Ideal) (hPre_finite_window := hPre_finite_window)
    ∧ quiescent_Kernel31 (hKernel31 := hKernel31)
    ∧ quiescent_Kernel31Ideal (hKernel31Ideal := hKernel31Ideal)
    ∧ quiescent_Kernel31Ideal_pre_finite_window_all (hKernel31Ideal := hKernel31Ideal) (hPre_finite_window_all := hPre_finite_window_all)
    ∧ quiescent_Reference31Ideal (hReference31Ideal := hReference31Ideal)
    ∧ quiescent_Reference31Ideal_pre_finite_window_all (hReference31Ideal := hReference31Ideal) (hPre_finite_window_all := hPre_finite_window_all)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_scores (hKernel10Ideal := hKernel10Ideal) (hReference10Ideal := hReference10Ideal) (hPre_finite_scores := hPre_finite_scores)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_finite_window (hKernel30Ideal := hKernel30Ideal) (hReference30Ideal := hReference30Ideal) (hPre_finite_window := hPre_finite_window)
    ∧ preserves_Kernel31_Kernel31Ideal
    ∧ algebraic_Kernel31Ideal_Reference31Ideal_pre_finite_window_all (hKernel31Ideal := hKernel31Ideal) (hReference31Ideal := hReference31Ideal) (hPre_finite_window_all := hPre_finite_window_all)
-- ==== Pre_finite.lean ====
abbrev S2x4096x4x96 : Shape := ⟨4, ![2, 4096, 4, 96]⟩
abbrev S2x4352x4x96 : Shape := ⟨4, ![2, 4352, 4, 96]⟩
abbrev S2x4352x4x64 : Shape := ⟨4, ![2, 4352, 4, 64]⟩
abbrev S2x4096x4x64 : Shape := ⟨4, ![2, 4096, 4, 64]⟩
abbrev S_ : Shape := ⟨0, ![]⟩

class Facts : Prop where
  bcast_S_S2x4096x4x96 : S_.BroadcastsInDim S2x4096x4x96 (![] : Fin 0 → Fin S2x4096x4x96.rank)
  reducesTo_S2x4096x4x96_S_d0_1_2_3 : S2x4096x4x96.ReducesTo [0, 1, 2, 3] S_
  h_S_ : 0 < S_.numel
  bcast_S_S2x4352x4x96 : S_.BroadcastsInDim S2x4352x4x96 (![] : Fin 0 → Fin S2x4352x4x96.rank)
  reducesTo_S2x4352x4x96_S_d0_1_2_3 : S2x4352x4x96.ReducesTo [0, 1, 2, 3] S_
  bcast_S_S2x4352x4x64 : S_.BroadcastsInDim S2x4352x4x64 (![] : Fin 0 → Fin S2x4352x4x64.rank)
  reducesTo_S2x4352x4x64_S_d0_1_2_3 : S2x4352x4x64.ReducesTo [0, 1, 2, 3] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn_part1 {F : FTy → Type} [FloatOps F] (main_v13 : IVec S_ 1) (main_v16 : IVec S2x4096x4x64 1) : IVec S_ 1 :=
  let main_c_5 : IVec S_ 1 := constantI S_ 1 1#1
  let main_v17 : IVec S_ 1 := (fun x v => Host.reduce IntOp.andi x v reducesTo_S2x4096x4x64_S_d0_1_2_3 h_S_) main_v16 main_c_5
  let main_v18 : IVec S_ 1 := andi main_v13 main_v17
  main_v18

def fn {F : FTy → Type} [FloatOps F] (main_arg0 : FVec F S2x4096x4x96 .f32) (main_arg1 : FVec F S2x4352x4x96 .f32) (main_arg2 : FVec F S2x4352x4x64 .f32) (main_arg3 : FVec F S2x4096x4x64 .f32) : IVec S_ 1 :=
  let main_v0 : FVec F S2x4096x4x96 .f32 := Host.absf main_arg0
  let main_cst : FVec F S_ .f32 := constant S_ .f32 0x7F800000#32
  let main_v1 : FVec F S2x4096x4x96 .f32 := broadcastInDim S2x4096x4x96 ![] bcast_S_S2x4096x4x96 main_cst
  let main_v2 : IVec S2x4096x4x96 1 := cmpf .olt main_v0 main_v1
  let main_c : IVec S_ 1 := constantI S_ 1 1#1
  let main_v3 : IVec S_ 1 := (fun x v => Host.reduce IntOp.andi x v reducesTo_S2x4096x4x96_S_d0_1_2_3 h_S_) main_v2 main_c
  let main_v4 : FVec F S2x4352x4x96 .f32 := Host.absf main_arg1
  let main_cst_0 : FVec F S_ .f32 := constant S_ .f32 0x7F800000#32
  let main_v5 : FVec F S2x4352x4x96 .f32 := broadcastInDim S2x4352x4x96 ![] bcast_S_S2x4352x4x96 main_cst_0
  let main_v6 : IVec S2x4352x4x96 1 := cmpf .olt main_v4 main_v5
  let main_c_1 : IVec S_ 1 := constantI S_ 1 1#1
  let main_v7 : IVec S_ 1 := (fun x v => Host.reduce IntOp.andi x v reducesTo_S2x4352x4x96_S_d0_1_2_3 h_S_) main_v6 main_c_1
  let main_v8 : IVec S_ 1 := andi main_v3 main_v7
  let main_v9 : FVec F S2x4352x4x64 .f32 := Host.absf main_arg2
  let main_cst_2 : FVec F S_ .f32 := constant S_ .f32 0x7F800000#32
  let main_v10 : FVec F S2x4352x4x64 .f32 := broadcastInDim S2x4352x4x64 ![] bcast_S_S2x4352x4x64 main_cst_2
  let main_v11 : IVec S2x4352x4x64 1 := cmpf .olt main_v9 main_v10
  let main_c_3 : IVec S_ 1 := constantI S_ 1 1#1
  let main_v12 : IVec S_ 1 := (fun x v => Host.reduce IntOp.andi x v reducesTo_S2x4352x4x64_S_d0_1_2_3 h_S_) main_v11 main_c_3
  let main_v13 : IVec S_ 1 := andi main_v8 main_v12
  let main_v14 : FVec F S2x4096x4x64 .f32 := Host.absf main_arg3
  let main_cst_4 : FVec F S_ .f32 := constant S_ .f32 0x7F800000#32
  let main_v15 : FVec F S2x4096x4x64 .f32 := broadcastInDim S2x4096x4x64 ![] bcast_S_S2x4096x4x64 main_cst_4
  let main_v16 : IVec S2x4096x4x64 1 := cmpf .olt main_v14 main_v15
  fn_part1 (F := F) main_v13 main_v16
-- ==== Pre_finite_scores.lean ====
abbrev S2x4096x4x96 : Shape := ⟨4, ![2, 4096, 4, 96]⟩
abbrev S2x4352x4x96 : Shape := ⟨4, ![2, 4352, 4, 96]⟩
abbrev S2x4352x4x64 : Shape := ⟨4, ![2, 4352, 4, 64]⟩
abbrev S_ : Shape := ⟨0, ![]⟩

class Facts : Prop where
  bcast_S_S2x4096x4x96 : S_.BroadcastsInDim S2x4096x4x96 (![] : Fin 0 → Fin S2x4096x4x96.rank)
  reducesTo_S2x4096x4x96_S_d0_1_2_3 : S2x4096x4x96.ReducesTo [0, 1, 2, 3] S_
  h_S_ : 0 < S_.numel
  bcast_S_S2x4352x4x96 : S_.BroadcastsInDim S2x4352x4x96 (![] : Fin 0 → Fin S2x4352x4x96.rank)
  reducesTo_S2x4352x4x96_S_d0_1_2_3 : S2x4352x4x96.ReducesTo [0, 1, 2, 3] S_

variable [Facts]

def fn {F : FTy → Type} [FloatOps F] (main_arg0 : FVec F S2x4096x4x96 .f32) (main_arg1 : FVec F S2x4352x4x96 .f32) (main_arg2 : FVec F S2x4352x4x64 .f32) : IVec S_ 1 :=
  let main_v0 : FVec F S2x4096x4x96 .f32 := Host.absf main_arg0
  let main_cst : FVec F S_ .f32 := constant S_ .f32 0x7F800000#32
  let main_v1 : FVec F S2x4096x4x96 .f32 := broadcastInDim S2x4096x4x96 ![] bcast_S_S2x4096x4x96 main_cst
  let main_v2 : IVec S2x4096x4x96 1 := cmpf .olt main_v0 main_v1
  let main_c : IVec S_ 1 := constantI S_ 1 1#1
  let main_v3 : IVec S_ 1 := (fun x v => Host.reduce IntOp.andi x v reducesTo_S2x4096x4x96_S_d0_1_2_3 h_S_) main_v2 main_c
  let main_v4 : FVec F S2x4352x4x96 .f32 := Host.absf main_arg1
  let main_cst_0 : FVec F S_ .f32 := constant S_ .f32 0x7F800000#32
  let main_v5 : FVec F S2x4352x4x96 .f32 := broadcastInDim S2x4352x4x96 ![] bcast_S_S2x4352x4x96 main_cst_0
  let main_v6 : IVec S2x4352x4x96 1 := cmpf .olt main_v4 main_v5
  let main_c_1 : IVec S_ 1 := constantI S_ 1 1#1
  let main_v7 : IVec S_ 1 := (fun x v => Host.reduce IntOp.andi x v reducesTo_S2x4352x4x96_S_d0_1_2_3 h_S_) main_v6 main_c_1
  let main_v8 : IVec S_ 1 := andi main_v3 main_v7
  main_v8
-- ==== Pre_finite_window.lean ====
abbrev S2x4096x4x64 : Shape := ⟨4, ![2, 4096, 4, 64]⟩
abbrev S2x4096x2x64 : Shape := ⟨4, ![2, 4096, 2, 64]⟩
abbrev S2x256x2x64 : Shape := ⟨4, ![2, 256, 2, 64]⟩
abbrev S4 : Shape := ⟨1, ![4]⟩
abbrev S_ : Shape := ⟨0, ![]⟩

class Facts : Prop where
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_
  h_S_ : 0 < S_.numel
  bcast_S_S2x4096x2x64 : S_.BroadcastsInDim S2x4096x2x64 (![] : Fin 0 → Fin S2x4096x2x64.rank)
  reducesTo_S2x4096x2x64_S_d0_1_2_3 : S2x4096x2x64.ReducesTo [0, 1, 2, 3] S_
  bcast_S_S2x256x2x64 : S_.BroadcastsInDim S2x256x2x64 (![] : Fin 0 → Fin S2x256x2x64.rank)
  reducesTo_S2x256x2x64_S_d0_1_2_3 : S2x256x2x64.ReducesTo [0, 1, 2, 3] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S2x4096x4x64 .f32) (main_arg1 : FVec F S2x4096x2x64 .f32) (main_arg2 : FVec F S2x4096x2x64 .f32) (main_arg3 : FVec F S2x256x2x64 .f32) (main_arg4 : FVec F S2x256x2x64 .f32) (main_arg5 : FVec F S4 .f32) : IVec S_ 1 :=
  let main_v0 : FVec F S2x4096x4x64 .f32 := Host.absf main_arg0
  let main_cst : FVec F S_ .f32 := constant S_ .f32 0x7F800000#32
  let main_v1 : FVec F S2x4096x4x64 .f32 := broadcastInDim S2x4096x4x64 ![] bcast_S_S2x4096x4x64 main_cst
  let main_v2 : IVec S2x4096x4x64 1 := cmpf .olt main_v0 main_v1
  let main_c : IVec S_ 1 := constantI S_ 1 1#1
  let main_v3 : IVec S_ 1 := (fun x v => Host.reduce IntOp.andi x v reducesTo_S2x4096x4x64_S_d0_1_2_3 h_S_) main_v2 main_c
  let main_v4 : FVec F S2x4096x2x64 .f32 := Host.absf main_arg1
  let main_cst_0 : FVec F S_ .f32 := constant S_ .f32 0x7F800000#32
  let main_v5 : FVec F S2x4096x2x64 .f32 := broadcastInDim S2x4096x2x64 ![] bcast_S_S2x4096x2x64 main_cst_0
  let main_v6 : IVec S2x4096x2x64 1 := cmpf .olt main_v4 main_v5
  let main_c_1 : IVec S_ 1 := constantI S_ 1 1#1
  let main_v7 : IVec S_ 1 := (fun x v => Host.reduce IntOp.andi x v reducesTo_S2x4096x2x64_S_d0_1_2_3 h_S_) main_v6 main_c_1
  let main_v8 : IVec S_ 1 := andi main_v3 main_v7
  let main_v9 : FVec F S2x256x2x64 .f32 := Host.absf main_arg3
  let main_cst_2 : FVec F S_ .f32 := constant S_ .f32 0x7F800000#32
  let main_v10 : FVec F S2x256x2x64 .f32 := broadcastInDim S2x256x2x64 ![] bcast_S_S2x256x2x64 main_cst_2
  let main_v11 : IVec S2x256x2x64 1 := cmpf .olt main_v9 main_v10
  let main_c_3 : IVec S_ 1 := constantI S_ 1 1#1
  let main_v12 : IVec S_ 1 := (fun x v => Host.reduce IntOp.andi x v reducesTo_S2x256x2x64_S_d0_1_2_3 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Pre_finite_window_all.lean ====
abbrev S2x4096x4x64 : Shape := ⟨4, ![2, 4096, 4, 64]⟩
abbrev S2x4096x2x64 : Shape := ⟨4, ![2, 4096, 2, 64]⟩
abbrev S2x256x2x64 : Shape := ⟨4, ![2, 256, 2, 64]⟩
abbrev S4 : Shape := ⟨1, ![4]⟩
abbrev S_ : Shape := ⟨0, ![]⟩

class Facts : Prop where
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_
  h_S_ : 0 < S_.numel
  bcast_S_S2x4096x2x64 : S_.BroadcastsInDim S2x4096x2x64 (![] : Fin 0 → Fin S2x4096x2x64.rank)
  reducesTo_S2x4096x2x64_S_d0_1_2_3 : S2x4096x2x64.ReducesTo [0, 1, 2, 3] S_
  bcast_S_S2x256x2x64 : S_.BroadcastsInDim S2x256x2x64 (![] : Fin 0 → Fin S2x256x2x64.rank)
  reducesTo_S2x256x2x64_S_d0_1_2_3 : S2x256x2x64.ReducesTo [0, 1, 2, 3] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S2x256x2x64 .f32) (main_arg5 : FVec F S4 .f32) (main_arg6 : FVec F S2x4096x4x64 .f32) (main_v13 : IVec S_ 1) (main_v16 : IVec S2x256x2x64 1) : IVec S_ 1 :=
  let main_c_5 : IVec S_ 1 := constantI S_ 1 1#1
  let main_v17 : IVec S_ 1 := (fun x v => Host.reduce IntOp.andi x v reducesTo_S2x256x2x64_S_d0_1_2_3 h_S_) main_v16 main_c_5
  let main_v18 : IVec S_ 1 := andi main_v13 main_v17
  let main_v19 : FVec F S2x256x2x64 .f32 := Host.absf main_arg4
  let main_cst_6 : FVec F S_ .f32 := constant S_ .f32 0x7F800000#32
  let main_v20 : FVec F S2x256x2x64 .f32 := broadcastInDim S2x256x2x64 ![] bcast_S_S2x256x2x64 main_cst_6
  let main_v21 : IVec S2x256x2x64 1 := cmpf .olt main_v19 main_v20
  let main_c_7 : IVec S_ 1 := constantI S_ 1 1#1
  let main_v22 : IVec S_ 1 := (fun x v => Host.reduce IntOp.andi x v reducesTo_S2x256x2x64_S_d0_1_2_3 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S2x4096x4x64 .f32 := Host.absf main_arg6
  let main_cst_10 : FVec F S_ .f32 := constant S_ .f32 0x7F800000#32
  let main_v30 : FVec F S2x4096x4x64 .f32 := broadcastInDim S2x4096x4x64 ![] bcast_S_S2x4096x4x64 main_cst_10
  let main_v31 : IVec S2x4096x4x64 1 := cmpf .olt main_v29 main_v30
  let main_c_11 : IVec S_ 1 := constantI S_ 1 1#1
  let main_v32 : IVec S_ 1 := (fun x v => Host.reduce IntOp.andi x v reducesTo_S2x4096x4x64_S_d0_1_2_3 h_S_) main_v31 main_c_11
  let main_v33 : IVec S_ 1 := andi main_v28 main_v32
  main_v33

def fn {F : FTy → Type} [FloatOps F] (main_arg0 : FVec F S2x4096x4x64 .f32) (main_arg1 : FVec F S2x4096x2x64 .f32) (main_arg2 : FVec F S2x4096x2x64 .f32) (main_arg3 : FVec F S2x256x2x64 .f32) (main_arg4 : FVec F S2x256x2x64 .f32) (main_arg5 : FVec F S4 .f32) (main_arg6 : FVec F S2x4096x4x64 .f32) : IVec S_ 1 :=
  let main_v0 : FVec F S2x4096x4x64 .f32 := Host.absf main_arg0
  let main_cst : FVec F S_ .f32 := constant S_ .f32 0x7F800000#32
  let main_v1 : FVec F S2x4096x4x64 .f32 := broadcastInDim S2x4096x4x64 ![] bcast_S_S2x4096x4x64 main_cst
  let main_v2 : IVec S2x4096x4x64 1 := cmpf .olt main_v0 main_v1
  let main_c : IVec S_ 1 := constantI S_ 1 1#1
  let main_v3 : IVec S_ 1 := (fun x v => Host.reduce IntOp.andi x v reducesTo_S2x4096x4x64_S_d0_1_2_3 h_S_) main_v2 main_c
  let main_v4 : FVec F S2x4096x2x64 .f32 := Host.absf main_arg1
  let main_cst_0 : FVec F S_ .f32 := constant S_ .f32 0x7F800000#32
  let main_v5 : FVec F S2x4096x2x64 .f32 := broadcastInDim S2x4096x2x64 ![] bcast_S_S2x4096x2x64 main_cst_0
  let main_v6 : IVec S2x4096x2x64 1 := cmpf .olt main_v4 main_v5
  let main_c_1 : IVec S_ 1 := constantI S_ 1 1#1
  let main_v7 : IVec S_ 1 := (fun x v => Host.reduce IntOp.andi x v reducesTo_S2x4096x2x64_S_d0_1_2_3 h_S_) main_v6 main_c_1
  let main_v8 : IVec S_ 1 := andi main_v3 main_v7
  let main_v9 : FVec F S2x4096x2x64 .f32 := Host.absf main_arg2
  let main_cst_2 : FVec F S_ .f32 := constant S_ .f32 0x7F800000#32
  let main_v10 : FVec F S2x4096x2x64 .f32 := broadcastInDim S2x4096x2x64 ![] bcast_S_S2x4096x2x64 main_cst_2
  let main_v11 : IVec S2x4096x2x64 1 := cmpf .olt main_v9 main_v10
  let main_c_3 : IVec S_ 1 := constantI S_ 1 1#1
  let main_v12 : IVec S_ 1 := (fun x v => Host.reduce IntOp.andi x v reducesTo_S2x4096x2x64_S_d0_1_2_3 h_S_) main_v11 main_c_3
  let main_v13 : IVec S_ 1 := andi main_v8 main_v12
  let main_v14 : FVec F S2x256x2x64 .f32 := Host.absf main_arg3
  let main_cst_4 : FVec F S_ .f32 := constant S_ .f32 0x7F800000#32
  let main_v15 : FVec F S2x256x2x64 .f32 := broadcastInDim S2x256x2x64 ![] bcast_S_S2x256x2x64 main_cst_4
  let main_v16 : IVec S2x256x2x64 1 := cmpf .olt main_v14 main_v15
  fn_part1 (F := F) main_arg4 main_arg5 main_arg6 main_v13 main_v16
-- ==== Kernel.lean ====
abbrev S2x4096x4x96 : Shape := ⟨4, ![2, 4096, 4, 96]⟩
abbrev S2x4352x4x96 : Shape := ⟨4, ![2, 4352, 4, 96]⟩
abbrev S2x4352x4x64 : Shape := ⟨4, ![2, 4352, 4, 64]⟩
abbrev S2x4096x4x64 : Shape := ⟨4, ![2, 4096, 4, 64]⟩
abbrev S_ : Shape := ⟨0, ![]⟩
abbrev S8x1x128 : Shape := ⟨3, ![8, 1, 128]⟩
abbrev S2x4x4096x96 : Shape := ⟨4, ![2, 4, 4096, 96]⟩
abbrev S8x4096x96 : Shape := ⟨3, ![8, 4096, 96]⟩
abbrev S2x4x4352x96 : Shape := ⟨4, ![2, 4, 4352, 96]⟩
abbrev S8x4352x96 : Shape := ⟨3, ![8, 4352, 96]⟩
abbrev S2x4x4352x64 : Shape := ⟨4, ![2, 4, 4352, 64]⟩
abbrev S8x4352x64 : Shape := ⟨3, ![8, 4352, 64]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4x4096x64 : Shape := ⟨4, ![2, 4, 4096, 64]⟩
abbrev S8x4096x64 : Shape := ⟨3, ![8, 4096, 64]⟩
abbrev S1x512x96 : Shape := ⟨3, ![1, 512, 96]⟩
abbrev S1x4352x96 : Shape := ⟨3, ![1, 4352, 96]⟩
abbrev S1x4352x64 : Shape := ⟨3, ![1, 4352, 64]⟩
abbrev S1x1x128 : Shape := ⟨3, ![1, 1, 128]⟩
abbrev S1x512x64 : Shape := ⟨3, ![1, 512, 64]⟩
abbrev S512x96 : Shape := ⟨2, ![512, 96]⟩
abbrev S4352x96 : Shape := ⟨2, ![4352, 96]⟩
abbrev S4352x64 : Shape := ⟨2, ![4352, 64]⟩
abbrev S512x64 : Shape := ⟨2, ![512, 64]⟩
abbrev S512x4352 : Shape := ⟨2, ![512, 4352]⟩
abbrev S512 : Shape := ⟨1, ![512]⟩
abbrev S512x1 : Shape := ⟨2, ![512, 1]⟩
abbrev S1x128 : Shape := ⟨2, ![1, 128]⟩

abbrev nBuf : Space → Nat
  | .hbm => 43
  | .vmem => 20
  | .smem => 0
  | _ => 0

abbrev bufTy : (tb : Table) → Fin (tcTables nBuf tb) → BufTy
  | .hbm, ⟨0, _⟩ => ⟨S2x4096x4x96, .f32⟩
  | .hbm, ⟨1, _⟩ => ⟨S2x4352x4x96, .f32⟩
  | .hbm, ⟨2, _⟩ => ⟨S2x4352x4x64, .f32⟩
  | .hbm, ⟨3, _⟩ => ⟨S2x4096x4x64, .f32⟩
  | .hbm, ⟨4, _⟩ => ⟨S_, .f32⟩
  | .hbm, ⟨5, _⟩ => ⟨S8x1x128, .f32⟩
  | .hbm, ⟨6, _⟩ => ⟨S2x4x4096x96, .f32⟩
  | .hbm, ⟨7, _⟩ => ⟨S8x4096x96, .f32⟩
  | .hbm, ⟨8, _⟩ => ⟨S8x4096x96, .bf16⟩
  | .hbm, ⟨9, _⟩ => ⟨S2x4x4352x96, .f32⟩
  | .hbm, ⟨10, _⟩ => ⟨S8x4352x96, .f32⟩
  | .hbm, ⟨11, _⟩ => ⟨S8x4352x96, .bf16⟩
  | .hbm, ⟨12, _⟩ => ⟨S2x4x4352x64, .f32⟩
  | .hbm, ⟨13, _⟩ => ⟨S8x4352x64, .f32⟩
  | .hbm, ⟨14, _⟩ => ⟨S8x4352x64, .bf16⟩
  | .hbm, ⟨15, _⟩ => ⟨S2x4x4096x4352, .f32⟩
  | .hbm, ⟨16, _⟩ => ⟨S_, .f32⟩
  | .hbm, ⟨17, _⟩ => ⟨S2x4x4096x4352, .f32⟩
  | .hbm, ⟨18, _⟩ => ⟨S2x4x4096x4352, .f32⟩
  | .hbm, ⟨19, _⟩ => ⟨S_, .f32⟩
  | .hbm, ⟨20, _⟩ => ⟨S2x4x4096, .f32⟩
  | .hbm, ⟨21, _⟩ => ⟨S_, .f32⟩
  | .hbm, ⟨22, _⟩ => ⟨S2x4x4096, .f32⟩
  | .hbm, ⟨23, _⟩ => ⟨S2x4x4096, .f32⟩
  | .hbm, ⟨24, _⟩ => ⟨S2x4x4096x1, .f32⟩
  | .hbm, ⟨25, _⟩ => ⟨S2x4x4096x4352, .f32⟩
  | .hbm, ⟨26, _⟩ => ⟨S2x4x4096x4352, .f32⟩
  | .hbm, ⟨27, _⟩ => ⟨S2x4x4096x4352, .f32⟩
  | .hbm, ⟨28, _⟩ => ⟨S_, .f32⟩
  | .hbm, ⟨29, _⟩ => ⟨S2x4x4096, .f32⟩
  | .hbm, ⟨30, _⟩ => ⟨S2x4x4096x1, .f32⟩
  | .hbm, ⟨31, _⟩ => ⟨S2x4x4096x4352, .f32⟩
  | .hbm, ⟨32, _⟩ => ⟨S2x4x4096x4352, .f32⟩
  | .hbm, ⟨33, _⟩ => ⟨S2x4x64x4096, .f32⟩
  | .hbm, ⟨34, _⟩ => ⟨S2x4096x4x64, .f32⟩
  | .hbm, ⟨35, _⟩ => ⟨S2x4x4096x64, .f32⟩
  | .hbm, ⟨36, _⟩ => ⟨S8x4096x64, .f32⟩
  | .hbm, ⟨37, _⟩ => ⟨S2x4x4096x64, .f32⟩
  | .hbm, ⟨38, _⟩ => ⟨S8x4096x64, .f32⟩
  | .hbm, ⟨39, _⟩ => ⟨S8x4096x96, .f32⟩
  | .hbm, ⟨40, _⟩ => ⟨S8x4352x96, .f32⟩
  | .hbm, ⟨41, _⟩ => ⟨S8x4352x64, .f32⟩
  | .hbm, ⟨42, _⟩ => ⟨S8x1x128, .f32⟩
  | .local _ .vmem, ⟨0, _⟩ => ⟨S1x512x96, .bf16⟩
  | .local _ .vmem, ⟨1, _⟩ => ⟨S1x512x96, .bf16⟩
  | .local _ .vmem, ⟨2, _⟩ => ⟨S1x4352x96, .bf16⟩
  | .local _ .vmem, ⟨3, _⟩ => ⟨S1x4352x96, .bf16⟩
  | .local _ .vmem, ⟨4, _⟩ => ⟨S1x4352x64, .bf16⟩
  | .local _ .vmem, ⟨5, _⟩ => ⟨S1x4352x64, .bf16⟩
  | .local _ .vmem, ⟨6, _⟩ => ⟨S1x1x128, .f32⟩
  | .local _ .vmem, ⟨7, _⟩ => ⟨S1x1x128, .f32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x512x96, .f32⟩
  | .local _ .vmem, ⟨13, _⟩ => ⟨S1x512x96, .f32⟩
  | .local _ .vmem, ⟨14, _⟩ => ⟨S1x4352x96, .f32⟩
  | .local _ .vmem, ⟨15, _⟩ => ⟨S1x4352x96, .f32⟩
  | .local _ .vmem, ⟨16, _⟩ => ⟨S1x4352x64, .f32⟩
  | .local _ .vmem, ⟨17, _⟩ => ⟨S1x4352x64, .f32⟩
  | .local _ .vmem, ⟨18, _⟩ => ⟨S1x1x128, .f32⟩
  | .local _ .vmem, ⟨19, _⟩ => ⟨S1x1x128, .f32⟩
  | _, _ => ⟨S2x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v45 : BitVec 1 := Scalar.cmpi .eq arg1 c0_i32
  let v46 : BitVec 32 := Scalar.extui v45
  let c0_i32_28 : BitVec 32 := 0#32
  let v47 : BitVec 1 := Scalar.cmpi .ne v46 c0_i32_28
  v47

def k0_cond2 (i : grid0.Coords) : BitVec 1 :=
  let arg1 : BitVec 32 := BitVec.ofNat 32 (i 1).val
  let c0_i32_29 : BitVec 32 := 0#32
  let v48 : BitVec 1 := Scalar.cmpi .sgt arg1 c0_i32_29
  let v49 : BitVec 32 := Scalar.extui v48
  let c0_i32_30 : BitVec 32 := 0#32
  let v50 : BitVec 1 := Scalar.cmpi .ne v49 c0_i32_30
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4352x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4352x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S2x4096x4x96 : Shape := ⟨4, ![2, 4096, 4, 96]⟩
abbrev S2x4352x4x96 : Shape := ⟨4, ![2, 4352, 4, 96]⟩
abbrev S2x4352x4x64 : Shape := ⟨4, ![2, 4352, 4, 64]⟩
abbrev S2x4096x4x64 : Shape := ⟨4, ![2, 4096, 4, 64]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4x64x4352 : Shape := ⟨4, ![2, 4, 64, 4352]⟩
abbrev S2x4x4352x96 : Shape := ⟨4, ![2, 4, 4352, 96]⟩
abbrev S2x4x4096x96 : Shape := ⟨4, ![2, 4, 4096, 96]⟩
abbrev S8x4096x96 : Shape := ⟨3, ![8, 4096, 96]⟩
abbrev S8x4352x96 : Shape := ⟨3, ![8, 4352, 96]⟩
abbrev S2x4x4352x64 : Shape := ⟨4, ![2, 4, 4352, 64]⟩
abbrev S8x4352x64 : Shape := ⟨3, ![8, 4352, 64]⟩

abbrev nBuf : Space → Nat
  | .hbm => 79
  | .vmem => 0
  | .smem => 0
  | _ => 0

abbrev bufTy : (tb : Table) → Fin (tcTables nBuf tb) → BufTy
  | .hbm, ⟨0, _⟩ => ⟨S2x4096x4x96, .f32⟩
  | .hbm, ⟨1, _⟩ => ⟨S2x4352x4x96, .f32⟩
  | .hbm, ⟨2, _⟩ => ⟨S2x4352x4x64, .f32⟩
  | .hbm, ⟨3, _⟩ => ⟨S2x4096x4x64, .f32⟩
  | .hbm, ⟨4, _⟩ => ⟨S2x4x4096x4352, .f32⟩
  | .hbm, ⟨5, _⟩ => ⟨S_, .f32⟩
  | .hbm, ⟨6, _⟩ => ⟨S2x4x4096x4352, .f32⟩
  | .hbm, ⟨7, _⟩ => ⟨S2x4x4096x4352, .f32⟩
  | .hbm, ⟨8, _⟩ => ⟨S_, .f32⟩
  | .hbm, ⟨9, _⟩ => ⟨S2x4x4096, .f32⟩
  | .hbm, ⟨10, _⟩ => ⟨S2x4x4096x1, .f32⟩
  | .hbm, ⟨11, _⟩ => ⟨S2x4x4096x4352, .f32⟩
  | .hbm, ⟨12, _⟩ => ⟨S2x4x4096x4352, .i1⟩
  | .hbm, ⟨13, _⟩ => ⟨S2x4x4096x4352, .f32⟩
  | .hbm, ⟨14, _⟩ => ⟨S_, .f32⟩
  | .hbm, ⟨15, _⟩ => ⟨S2x4x4096, .f32⟩
  | .hbm, ⟨16, _⟩ => ⟨S_, .f32⟩
  | .hbm, ⟨17, _⟩ => ⟨S2x4x4096, .f32⟩
  | .hbm, ⟨18, _⟩ => ⟨S2x4x4096, .f32⟩
  | .hbm, ⟨19, _⟩ => ⟨S_, .f32⟩
  | .hbm, ⟨20, _⟩ => ⟨S2x4x4096, .f32⟩
  | .hbm, ⟨21, _⟩ => ⟨S2x4x4096, .i1⟩
  | .hbm, ⟨22, _⟩ => ⟨S_, .f32⟩
  | .hbm, ⟨23, _⟩ => ⟨S2x4x4096, .f32⟩
  | .hbm, ⟨24, _⟩ => ⟨S2x4x4096, .i1⟩
  | .hbm, ⟨25, _⟩ => ⟨S_, .f32⟩
  | .hbm, ⟨26, _⟩ => ⟨S2x4x4096, .f32⟩
  | .hbm, ⟨27, _⟩ => ⟨S_, .f32⟩
  | .hbm, ⟨28, _⟩ => ⟨S2x4x4096, .f32⟩
  | .hbm, ⟨29, _⟩ => ⟨S_, .f32⟩
  | .hbm, ⟨30, _⟩ => ⟨S2x4x4096, .f32⟩
  | .hbm, ⟨31, _⟩ => ⟨S2x4x4096, .f32⟩
  | .hbm, ⟨32, _⟩ => ⟨S2x4x4096, .f32⟩
  | .hbm, ⟨33, _⟩ => ⟨S2x4x4096x1, .f32⟩
  | .hbm, ⟨34, _⟩ => ⟨S2x4x4096x4352, .f32⟩
  | .hbm, ⟨35, _⟩ => ⟨S2x4x4096x4352, .f32⟩
  | .hbm, ⟨36, _⟩ => ⟨S2x4x4096x4352, .f32⟩
  | .hbm, ⟨37, _⟩ => ⟨S_, .f32⟩
  | .hbm, ⟨38, _⟩ => ⟨S2x4x4096, .f32⟩
  | .hbm, ⟨39, _⟩ => ⟨S2x4x4096x1, .f32⟩
  | .hbm, ⟨40, _⟩ => ⟨S2x4x4096x4352, .f32⟩
  | .hbm, ⟨41, _⟩ => ⟨S2x4x4096x4352, .f32⟩
  | .hbm, ⟨42, _⟩ => ⟨S2x4x4096x1, .f32⟩
  | .hbm, ⟨43, _⟩ => ⟨S_, .f32⟩
  | .hbm, ⟨44, _⟩ => ⟨S2x4x4096x1, .f32⟩
  | .hbm, ⟨45, _⟩ => ⟨S2x4x4096x1, .f32⟩
  | .hbm, ⟨46, _⟩ => ⟨S2x4x64x4096, .f32⟩
  | .hbm, ⟨47, _⟩ => ⟨S2x4096x4x64, .f32⟩
  | .hbm, ⟨48, _⟩ => ⟨S2x4x64x4096, .f32⟩
  | .hbm, ⟨49, _⟩ => ⟨S2x4x4096x4352, .f32⟩
  | .hbm, ⟨50, _⟩ => ⟨S2x4x64x4352, .f32⟩
  | .hbm, ⟨51, _⟩ => ⟨S2x4352x4x64, .f32⟩
  | .hbm, ⟨52, _⟩ => ⟨S2x4x4096x4352, .f32⟩
  | .hbm, ⟨53, _⟩ => ⟨S2x4x4096x4352, .f32⟩
  | .hbm, ⟨54, _⟩ => ⟨S2x4x4096x4352, .f32⟩
  | .hbm, ⟨55, _⟩ => ⟨S_, .f32⟩
  | .hbm, ⟨56, _⟩ => ⟨S2x4x4096, .f32⟩
  | .hbm, ⟨57, _⟩ => ⟨S2x4x4096x1, .f32⟩
  | .hbm, ⟨58, _⟩ => ⟨S2x4x4096x1, .f32⟩
  | .hbm, ⟨59, _⟩ => ⟨S2x4x4096x4352, .f32⟩
  | .hbm, ⟨60, _⟩ => ⟨S2x4x4096x4352, .f32⟩
  | .hbm, ⟨61, _⟩ => ⟨S_, .f32⟩
  | .hbm, ⟨62, _⟩ => ⟨S2x4x4096, .f32⟩
  | .hbm, ⟨63, _⟩ => ⟨S2x4x4096x4352, .f32⟩
  | .hbm, ⟨64, _⟩ => ⟨S2x4x4096x4352, .f32⟩
  | .hbm, ⟨65, _⟩ => ⟨S2x4x4096x4352, .f32⟩
  | .hbm, ⟨66, _⟩ => ⟨S_, .f32⟩
  | .hbm, ⟨67, _⟩ => ⟨S2x4x4096x4352, .f32⟩
  | .hbm, ⟨68, _⟩ => ⟨S2x4x4096x4352, .f32⟩
  | .hbm, ⟨69, _⟩ => ⟨S2x4x4352x96, .f32⟩
  | .hbm, ⟨70, _⟩ => ⟨S2x4352x4x96, .f32⟩
  | .hbm, ⟨71, _⟩ => ⟨S2x4x4096x96, .f32⟩
  | .hbm, ⟨72, _⟩ => ⟨S2x4096x4x96, .f32⟩
  | .hbm, ⟨73, _⟩ => ⟨S2x4x4096x96, .f32⟩
  | .hbm, ⟨74, _⟩ => ⟨S8x4096x96, .f32⟩
  | .hbm, ⟨75, _⟩ => ⟨S2x4x4352x96, .f32⟩
  | .hbm, ⟨76, _⟩ => ⟨S8x4352x96, .f32⟩
  | .hbm, ⟨77, _⟩ => ⟨S2x4x4352x64, .f32⟩
  | .hbm, ⟨78, _⟩ => ⟨S8x4352x64, .f32⟩
  | _, _ => ⟨S2x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel2.lean ====
abbrev S8704x4096 : Shape := ⟨2, ![8704, 4096]⟩
abbrev S4096x1024 : Shape := ⟨2, ![4096, 1024]⟩
abbrev S8704x1024 : Shape := ⟨2, ![8704, 1024]⟩
abbrev S1024x4096 : Shape := ⟨2, ![1024, 4096]⟩
abbrev S1088x1024 : Shape := ⟨2, ![1088, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S8704x1024, .f32⟩
  | .hbm, ⟨3, _⟩ => ⟨S4096x1024, .bf16⟩
  | .hbm, ⟨4, _⟩ => ⟨S1024x4096, .bf16⟩
  | .hbm, ⟨5, _⟩ => ⟨S8704x4096, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel2Ideal.lean ====
abbrev S8704x4096 : Shape := ⟨2, ![8704, 4096]⟩
abbrev S4096x1024 : Shape := ⟨2, ![4096, 1024]⟩
abbrev S8704x1024 : Shape := ⟨2, ![8704, 1024]⟩
abbrev S1024x4096 : Shape := ⟨2, ![1024, 4096]⟩
abbrev S1088x1024 : Shape := ⟨2, ![1088, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S8704x1024, .f32⟩
  | .hbm, ⟨3, _⟩ => ⟨S4096x1024, .bf16⟩
  | .hbm, ⟨4, _⟩ => ⟨S1024x4096, .bf16⟩
  | .hbm, ⟨5, _⟩ => ⟨S8704x4096, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8704x4096 : Shape := ⟨2, ![8704, 4096]⟩
abbrev S4096x1024 : Shape := ⟨2, ![4096, 1024]⟩
abbrev S8704x1024 : Shape := ⟨2, ![8704, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S8704x1024, .f32⟩
  | .hbm, ⟨3, _⟩ => ⟨S_, .f32⟩
  | .hbm, ⟨4, _⟩ => ⟨S8704x4096, .f32⟩
  | .hbm, ⟨5, _⟩ => ⟨S8704x4096, .f32⟩
  | .hbm, ⟨6, _⟩ => ⟨S_, .f32⟩
  | .hbm, ⟨7, _⟩ => ⟨S8704x4096, .f32⟩
  | .hbm, ⟨8, _⟩ => ⟨S8704x4096, .i1⟩
  | .hbm, ⟨9, _⟩ => ⟨S_, .f32⟩
  | .hbm, ⟨10, _⟩ => ⟨S8704x4096, .f32⟩
  | .hbm, ⟨11, _⟩ => ⟨S8704x4096, .f32⟩
  | .hbm, ⟨12, _⟩ => ⟨S_, .f32⟩
  | .hbm, ⟨13, _⟩ => ⟨S8704x4096, .f32⟩
  | .hbm, ⟨14, _⟩ => ⟨S8704x4096, .f32⟩
  | .hbm, ⟨15, _⟩ => ⟨S8704x1024, .f32⟩
  | .hbm, ⟨16, _⟩ => ⟨S1024x4096, .f32⟩
  | .hbm, ⟨17, _⟩ => ⟨S4096x1024, .f32⟩
  | .hbm, ⟨18, _⟩ => ⟨S8704x4096, .f32⟩
  | .hbm, ⟨19, _⟩ => ⟨S8704x4096, .f32⟩
  | .hbm, ⟨20, _⟩ => ⟨S_, .f32⟩
  | .hbm, ⟨21, _⟩ => ⟨S8704x4096, .f32⟩
  | .hbm, ⟨22, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S8704x4096 : Shape := ⟨2, ![8704, 4096]⟩
abbrev S4096x1024 : Shape := ⟨2, ![4096, 1024]⟩
abbrev S8704x1024 : Shape := ⟨2, ![8704, 1024]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S8704x1024, .f32⟩
  | .hbm, ⟨3, _⟩ => ⟨S4096x1024, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | .local _ .vmem, ⟨5, _⟩ => ⟨S1024x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let c7_i32 : BitVec 32 := 7#32
  let v12 : BitVec 1 := Scalar.cmpi .slt arg2 c7_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c7_i32_7 : BitVec 32 := 7#32
  let v16 : BitVec 1 := Scalar.cmpi .eq arg2 c7_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8704x4096 : Shape := ⟨2, ![8704, 4096]⟩
abbrev S4096x1024 : Shape := ⟨2, ![4096, 1024]⟩
abbrev S8704x1024 : Shape := ⟨2, ![8704, 1024]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S8704x1024, .f32⟩
  | .hbm, ⟨3, _⟩ => ⟨S4096x1024, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | .local _ .vmem, ⟨5, _⟩ => ⟨S1024x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let c7_i32 : BitVec 32 := 7#32
  let v12 : BitVec 1 := Scalar.cmpi .slt arg2 c7_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c7_i32_7 : BitVec 32 := 7#32
  let v16 : BitVec 1 := Scalar.cmpi .eq arg2 c7_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8704x4096 : Shape := ⟨2, ![8704, 4096]⟩
abbrev S4096x1024 : Shape := ⟨2, ![4096, 1024]⟩
abbrev S8704x1024 : Shape := ⟨2, ![8704, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S8704x1024, .f32⟩
  | .hbm, ⟨3, _⟩ => ⟨S_, .f32⟩
  | .hbm, ⟨4, _⟩ => ⟨S8704x4096, .f32⟩
  | .hbm, ⟨5, _⟩ => ⟨S8704x4096, .f32⟩
  | .hbm, ⟨6, _⟩ => ⟨S_, .f32⟩
  | .hbm, ⟨7, _⟩ => ⟨S8704x4096, .f32⟩
  | .hbm, ⟨8, _⟩ => ⟨S8704x4096, .i1⟩
  | .hbm, ⟨9, _⟩ => ⟨S_, .f32⟩
  | .hbm, ⟨10, _⟩ => ⟨S8704x4096, .f32⟩
  | .hbm, ⟨11, _⟩ => ⟨S8704x4096, .f32⟩
  | .hbm, ⟨12, _⟩ => ⟨S_, .f32⟩
  | .hbm, ⟨13, _⟩ => ⟨S8704x4096, .f32⟩
  | .hbm, ⟨14, _⟩ => ⟨S8704x4096, .f32⟩
  | .hbm, ⟨15, _⟩ => ⟨S8704x1024, .f32⟩
  | .hbm, ⟨16, _⟩ => ⟨S1024x4096, .f32⟩
  | .hbm, ⟨17, _⟩ => ⟨S4096x1024, .f32⟩
  | .hbm, ⟨18, _⟩ => ⟨S8704x4096, .f32⟩
  | .hbm, ⟨19, _⟩ => ⟨S8704x4096, .f32⟩
  | .hbm, ⟨20, _⟩ => ⟨S_, .f32⟩
  | .hbm, ⟨21, _⟩ => ⟨S8704x4096, .f32⟩
  | .hbm, ⟨22, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8704x1024 : Shape := ⟨2, ![8704, 1024]⟩
abbrev S1024x4096 : Shape := ⟨2, ![1024, 4096]⟩
abbrev S8704x4096 : Shape := ⟨2, ![8704, 4096]⟩
abbrev S4096x1024 : Shape := ⟨2, ![4096, 1024]⟩
abbrev S1088x1024 : Shape := ⟨2, ![1088, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | .hbm, ⟨3, _⟩ => ⟨S1024x4096, .bf16⟩
  | .hbm, ⟨4, _⟩ => ⟨S4096x1024, .bf16⟩
  | .hbm, ⟨5, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c3_i32 : BitVec 32 := 3#32
  let v9 : BitVec 1 := Scalar.cmpi .slt arg2 c3_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S8704x1024 : Shape := ⟨2, ![8704, 1024]⟩
abbrev S1024x4096 : Shape := ⟨2, ![1024, 4096]⟩
abbrev S8704x4096 : Shape := ⟨2, ![8704, 4096]⟩
abbrev S4096x1024 : Shape := ⟨2, ![4096, 1024]⟩
abbrev S1088x1024 : Shape := ⟨2, ![1088, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | .hbm, ⟨3, _⟩ => ⟨S1024x4096, .bf16⟩
  | .hbm, ⟨4, _⟩ => ⟨S4096x1024, .bf16⟩
  | .hbm, ⟨5, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c3_i32 : BitVec 32 := 3#32
  let v9 : BitVec 1 := Scalar.cmpi .slt arg2 c3_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8704x1024 : Shape := ⟨2, ![8704, 1024]⟩
abbrev S1024x4096 : Shape := ⟨2, ![1024, 4096]⟩
abbrev S8704x4096 : Shape := ⟨2, ![8704, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | .hbm, ⟨3, _⟩ => ⟨S8704x4096, .f32⟩
  | .hbm, ⟨4, _⟩ => ⟨S4096x1024, .f32⟩
  | .hbm, ⟨5, _⟩ => ⟨S1024x4096, .f32⟩
  | .hbm, ⟨6, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8704x1024 : Shape := ⟨2, ![8704, 1024]⟩
abbrev S1024x4096 : Shape := ⟨2, ![1024, 4096]⟩
abbrev S8704x4096 : Shape := ⟨2, ![8704, 4096]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | .hbm, ⟨3, _⟩ => ⟨S1024x4096, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | .local _ .vmem, ⟨5, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8704x1024 : Shape := ⟨2, ![8704, 1024]⟩
abbrev S1024x4096 : Shape := ⟨2, ![1024, 4096]⟩
abbrev S8704x4096 : Shape := ⟨2, ![8704, 4096]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | .hbm, ⟨3, _⟩ => ⟨S1024x4096, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | .local _ .vmem, ⟨5, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8704x1024 : Shape := ⟨2, ![8704, 1024]⟩
abbrev S1024x4096 : Shape := ⟨2, ![1024, 4096]⟩
abbrev S8704x4096 : Shape := ⟨2, ![8704, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | .hbm, ⟨3, _⟩ => ⟨S8704x4096, .f32⟩
  | .hbm, ⟨4, _⟩ => ⟨S4096x1024, .f32⟩
  | .hbm, ⟨5, _⟩ => ⟨S1024x4096, .f32⟩
  | .hbm, ⟨6, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8704x1024 : Shape := ⟨2, ![8704, 1024]⟩
abbrev S1024x2736 : Shape := ⟨2, ![1024, 2736]⟩
abbrev S8704x2736 : Shape := ⟨2, ![8704, 2736]⟩
abbrev S_ : Shape := ⟨0, ![]⟩
abbrev S1024x2816 : Shape := ⟨2, ![1024, 2816]⟩
abbrev S8704x2816 : Shape := ⟨2, ![8704, 2816]⟩
abbrev S2816x1024 : Shape := ⟨2, ![2816, 1024]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x2736, .f32⟩
  | .hbm, ⟨2, _⟩ => ⟨S8704x2736, .f32⟩
  | .hbm, ⟨3, _⟩ => ⟨S_, .i32⟩
  | .hbm, ⟨4, _⟩ => ⟨S_, .f32⟩
  | .hbm, ⟨5, _⟩ => ⟨S1024x2816, .f32⟩
  | .hbm, ⟨6, _⟩ => ⟨S_, .i32⟩
  | .hbm, ⟨7, _⟩ => ⟨S_, .f32⟩
  | .hbm, ⟨8, _⟩ => ⟨S8704x2816, .f32⟩
  | .hbm, ⟨9, _⟩ => ⟨S1024x2816, .bf16⟩
  | .hbm, ⟨10, _⟩ => ⟨S2816x1024, .bf16⟩
  | .hbm, ⟨11, _⟩ => ⟨S8704x1024, .f32⟩
  | .local _ .vmem, ⟨0, _⟩ => ⟨S1088x1408, .f32⟩
  | .local _ .vmem, ⟨1, _⟩ => ⟨S1088x1408, .f32⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let c1_i32 : BitVec 32 := 1#32
  let v10 : BitVec 1 := Scalar.cmpi .slt arg2 c1_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond3 (i : grid0.Coords) : BitVec 1 :=
  let arg2 : BitVec 32 := BitVec.ofNat 32 (i 2).val
  let c1_i32_6 : BitVec 32 := 1#32
  let v14 : BitVec 1 := Scalar.cmpi .eq arg2 c1_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8704x1024 : Shape := ⟨2, ![8704, 1024]⟩
abbrev S1024x2736 : Shape := ⟨2, ![1024, 2736]⟩
abbrev S8704x2736 : Shape := ⟨2, ![8704, 2736]⟩
abbrev S2736x1024 : Shape := ⟨2, ![2736, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x2736, .f32⟩
  | .hbm, ⟨2, _⟩ => ⟨S8704x2736, .f32⟩
  | .hbm, ⟨3, _⟩ => ⟨S8704x2736, .f32⟩
  | .hbm, ⟨4, _⟩ => ⟨S2736x1024, .f32⟩
  | .hbm, ⟨5, _⟩ => ⟨S1024x2736, .f32⟩
  | .hbm, ⟨6, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8704x1024 : Shape := ⟨2, ![8704, 1024]⟩
abbrev S1024x2736 : Shape := ⟨2, ![1024, 2736]⟩
abbrev S8704x2736 : Shape := ⟨2, ![8704, 2736]⟩
abbrev S_ : Shape := ⟨0, ![]⟩
abbrev S1024x2816 : Shape := ⟨2, ![1024, 2816]⟩
abbrev S8704x2816 : Shape := ⟨2, ![8704, 2816]⟩
abbrev S1088x1024 : Shape := ⟨2, ![1088, 1024]⟩
abbrev S1088x1408 : Shape := ⟨2, ![1088, 1408]⟩
abbrev S1024x1408 : Shape := ⟨2, ![1024, 1408]⟩

abbrev nBuf : Space → Nat
  | .hbm => 10
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x2736, .f32⟩
  | .hbm, ⟨2, _⟩ => ⟨S8704x2736, .f32⟩
  | .hbm, ⟨3, _⟩ => ⟨S_, .i32⟩
  | .hbm, ⟨4, _⟩ => ⟨S_, .f32⟩
  | .hbm, ⟨5, _⟩ => ⟨S1024x2816, .f32⟩
  | .hbm, ⟨6, _⟩ => ⟨S_, .i32⟩
  | .hbm, ⟨7, _⟩ => ⟨S_, .f32⟩
  | .hbm, ⟨8, _⟩ => ⟨S8704x2816, .f32⟩
  | .hbm, ⟨9, _⟩ => ⟨S1024x2816, .f32⟩
  | .local _ .vmem, ⟨0, _⟩ => ⟨S1088x1024, .f32⟩
  | .local _ .vmem, ⟨1, _⟩ => ⟨S1088x1024, .f32⟩
  | .local _ .vmem, ⟨2, _⟩ => ⟨S1088x1408, .f32⟩
  | .local _ .vmem, ⟨3, _⟩ => ⟨S1088x1408, .f32⟩
  | .local _ .vmem, ⟨4, _⟩ => ⟨S1024x1408, .f32⟩
  | .local _ .vmem, ⟨5, _⟩ => ⟨S1024x1408, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let c7_i32 : BitVec 32 := 7#32
  let v10 : BitVec 1 := Scalar.cmpi .slt arg2 c7_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond3 (i : grid0.Coords) : BitVec 1 :=
  let arg2 : BitVec 32 := BitVec.ofNat 32 (i 2).val
  let c7_i32_6 : BitVec 32 := 7#32
  let v14 : BitVec 1 := Scalar.cmpi .eq arg2 c7_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8704x1024 : Shape := ⟨2, ![8704, 1024]⟩
abbrev S1024x2736 : Shape := ⟨2, ![1024, 2736]⟩
abbrev S8704x2736 : Shape := ⟨2, ![8704, 2736]⟩
abbrev S2736x1024 : Shape := ⟨2, ![2736, 1024]⟩
abbrev S_ : Shape := ⟨0, ![]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x2736, .f32⟩
  | .hbm, ⟨2, _⟩ => ⟨S8704x2736, .f32⟩
  | .hbm, ⟨3, _⟩ => ⟨S8704x2736, .f32⟩
  | .hbm, ⟨4, _⟩ => ⟨S2736x1024, .f32⟩
  | .hbm, ⟨5, _⟩ => ⟨S1024x2736, .f32⟩
  | .hbm, ⟨6, _⟩ => ⟨S8704x1024, .f32⟩
  | .hbm, ⟨7, _⟩ => ⟨S_, .i32⟩
  | .hbm, ⟨8, _⟩ => ⟨S_, .f32⟩
  | .hbm, ⟨9, _⟩ => ⟨S1024x2816, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S1024x1024, .bf16⟩
  | .hbm, ⟨4, _⟩ => ⟨S1024x1024, .bf16⟩
  | .hbm, ⟨5, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S1024x1024, .bf16⟩
  | .hbm, ⟨4, _⟩ => ⟨S1024x1024, .bf16⟩
  | .hbm, ⟨5, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8704x1024 : Shape := ⟨2, ![8704, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S8704x1024, .f32⟩
  | .hbm, ⟨4, _⟩ => ⟨S1024x1024, .f32⟩
  | .hbm, ⟨5, _⟩ => ⟨S1024x1024, .f32⟩
  | .hbm, ⟨6, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S1024x1024, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel9Ideal.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S1024x1024, .f32⟩
  | .local _ .vmem, ⟨0, _⟩ => ⟨S1088x1024, .f32⟩
  | .local _ .vmem, ⟨1, _⟩ => ⟨S1088x1024, .f32⟩
  | .local _ .vmem, ⟨2, _⟩ => ⟨S1088x1024, .f32⟩
  | .local _ .vmem, ⟨3, _⟩ => ⟨S1088x1024, .f32⟩
  | .local _ .vmem, ⟨4, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8704x1024 : Shape := ⟨2, ![8704, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S8704x1024, .f32⟩
  | .hbm, ⟨4, _⟩ => ⟨S1024x1024, .f32⟩
  | .hbm, ⟨5, _⟩ => ⟨S1024x1024, .f32⟩
  | .hbm, ⟨6, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2x4096x4x96 : Shape := ⟨4, ![2, 4096, 4, 96]⟩
abbrev S2x4352x4x96 : Shape := ⟨4, ![2, 4352, 4, 96]⟩
abbrev S2x4352x4x64 : Shape := ⟨4, ![2, 4352, 4, 64]⟩
abbrev S_ : Shape := ⟨0, ![]⟩
abbrev S8x1x128 : Shape := ⟨3, ![8, 1, 128]⟩
abbrev S2x4x4096x96 : Shape := ⟨4, ![2, 4, 4096, 96]⟩
abbrev S8x4096x96 : Shape := ⟨3, ![8, 4096, 96]⟩
abbrev S2x4x4352x96 : Shape := ⟨4, ![2, 4, 4352, 96]⟩
abbrev S8x4352x96 : Shape := ⟨3, ![8, 4352, 96]⟩
abbrev S2x4x4352x64 : Shape := ⟨4, ![2, 4, 4352, 64]⟩
abbrev S8x4352x64 : Shape := ⟨3, ![8, 4352, 64]⟩
abbrev S8x4096x64 : Shape := ⟨3, ![8, 4096, 64]⟩
abbrev S1x256x96 : Shape := ⟨3, ![1, 256, 96]⟩
abbrev S1x4352x96 : Shape := ⟨3, ![1, 4352, 96]⟩
abbrev S1x4352x64 : Shape := ⟨3, ![1, 4352, 64]⟩
abbrev S1x1x128 : Shape := ⟨3, ![1, 1, 128]⟩
abbrev S1x256x64 : Shape := ⟨3, ![1, 256, 64]⟩
abbrev S256x96 : Shape := ⟨2, ![256, 96]⟩
abbrev S4352x96 : Shape := ⟨2, ![4352, 96]⟩
abbrev S256x4352 : Shape := ⟨2, ![256, 4352]⟩
abbrev S256 : Shape := ⟨1, ![256]⟩
abbrev S256x1 : Shape := ⟨2, ![256, 1]⟩
abbrev S4352x64 : Shape := ⟨2, ![4352, 64]⟩
abbrev S256x64 : Shape := ⟨2, ![256, 64]⟩

abbrev nBuf : Space → Nat
  | .hbm => 15
  | .vmem => 10
  | .smem => 0
  | _ => 0

abbrev bufTy : (tb : Table) → Fin (tcTables nBuf tb) → BufTy
  | .hbm, ⟨0, _⟩ => ⟨S2x4096x4x96, .f32⟩
  | .hbm, ⟨1, _⟩ => ⟨S2x4352x4x96, .f32⟩
  | .hbm, ⟨2, _⟩ => ⟨S2x4352x4x64, .f32⟩
  | .hbm, ⟨3, _⟩ => ⟨S_, .f32⟩
  | .hbm, ⟨4, _⟩ => ⟨S8x1x128, .f32⟩
  | .hbm, ⟨5, _⟩ => ⟨S2x4x4096x96, .f32⟩
  | .hbm, ⟨6, _⟩ => ⟨S8x4096x96, .f32⟩
  | .hbm, ⟨7, _⟩ => ⟨S8x4096x96, .bf16⟩
  | .hbm, ⟨8, _⟩ => ⟨S2x4x4352x96, .f32⟩
  | .hbm, ⟨9, _⟩ => ⟨S8x4352x96, .f32⟩
  | .hbm, ⟨10, _⟩ => ⟨S8x4352x96, .bf16⟩
  | .hbm, ⟨11, _⟩ => ⟨S2x4x4352x64, .f32⟩
  | .hbm, ⟨12, _⟩ => ⟨S8x4352x64, .f32⟩
  | .hbm, ⟨13, _⟩ => ⟨S8x4352x64, .bf16⟩
  | .hbm, ⟨14, _⟩ => ⟨S8x4096x64, .f32⟩
  | .local _ .vmem, ⟨0, _⟩ => ⟨S1x256x96, .bf16⟩
  | .local _ .vmem, ⟨1, _⟩ => ⟨S1x256x96, .bf16⟩
  | .local _ .vmem, ⟨2, _⟩ => ⟨S1x4352x96, .bf16⟩
  | .local _ .vmem, ⟨3, _⟩ => ⟨S1x4352x96, .bf16⟩
  | .local _ .vmem, ⟨4, _⟩ => ⟨S1x4352x64, .bf16⟩
  | .local _ .vmem, ⟨5, _⟩ => ⟨S1x4352x64, .bf16⟩
  | .local _ .vmem, ⟨6, _⟩ => ⟨S1x1x128, .f32⟩
  | .local _ .vmem, ⟨7, _⟩ => ⟨S1x1x128, .f32⟩
  | .local _ .vmem, ⟨8, _⟩ => ⟨S1x256x64, .f32⟩
  | .local _ .vmem, ⟨9, _⟩ => ⟨S1x256x64, .f32⟩
  | _, _ => ⟨S2x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S2x4096x4x96 : Shape := ⟨4, ![2, 4096, 4, 96]⟩
abbrev S2x4352x4x96 : Shape := ⟨4, ![2, 4352, 4, 96]⟩
abbrev S2x4352x4x64 : Shape := ⟨4, ![2, 4352, 4, 64]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4096x4x64 : Shape := ⟨4, ![2, 4096, 4, 64]⟩
abbrev S2x4x4096x64 : Shape := ⟨4, ![2, 4, 4096, 64]⟩
abbrev S8x4096x64 : Shape := ⟨3, ![8, 4096, 64]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x4x96, .f32⟩
  | .hbm, ⟨1, _⟩ => ⟨S2x4352x4x96, .f32⟩
  | .hbm, ⟨2, _⟩ => ⟨S2x4352x4x64, .f32⟩
  | .hbm, ⟨3, _⟩ => ⟨S2x4x4096x4352, .f32⟩
  | .hbm, ⟨4, _⟩ => ⟨S_, .f32⟩
  | .hbm, ⟨5, _⟩ => ⟨S2x4x4096x4352, .f32⟩
  | .hbm, ⟨6, _⟩ => ⟨S2x4x4096x4352, .f32⟩
  | .hbm, ⟨7, _⟩ => ⟨S_, .f32⟩
  | .hbm, ⟨8, _⟩ => ⟨S2x4x4096, .f32⟩
  | .hbm, ⟨9, _⟩ => ⟨S_, .f32⟩
  | .hbm, ⟨10, _⟩ => ⟨S2x4x4096, .f32⟩
  | .hbm, ⟨11, _⟩ => ⟨S2x4x4096, .f32⟩
  | .hbm, ⟨12, _⟩ => ⟨S2x4x4096x1, .f32⟩
  | .hbm, ⟨13, _⟩ => ⟨S2x4x4096x4352, .f32⟩
  | .hbm, ⟨14, _⟩ => ⟨S2x4x4096x4352, .f32⟩
  | .hbm, ⟨15, _⟩ => ⟨S2x4x4096x4352, .f32⟩
  | .hbm, ⟨16, _⟩ => ⟨S_, .f32⟩
  | .hbm, ⟨17, _⟩ => ⟨S2x4x4096, .f32⟩
  | .hbm, ⟨18, _⟩ => ⟨S2x4x4096x1, .f32⟩
  | .hbm, ⟨19, _⟩ => ⟨S2x4x4096x4352, .f32⟩
  | .hbm, ⟨20, _⟩ => ⟨S2x4x4096x4352, .f32⟩
  | .hbm, ⟨21, _⟩ => ⟨S2x4x64x4096, .f32⟩
  | .hbm, ⟨22, _⟩ => ⟨S2x4096x4x64, .f32⟩
  | .hbm, ⟨23, _⟩ => ⟨S2x4x4096x64, .f32⟩
  | .hbm, ⟨24, _⟩ => ⟨S8x4096x64, .f32⟩
  | _, _ => ⟨S2x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel11.lean ====
abbrev S8704x4096 : Shape := ⟨2, ![8704, 4096]⟩
abbrev S4096x1024 : Shape := ⟨2, ![4096, 1024]⟩
abbrev S8704x1024 : Shape := ⟨2, ![8704, 1024]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S4096x1024, .bf16⟩
  | .hbm, ⟨3, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let c3_i32 : BitVec 32 := 3#32
  let v12 : BitVec 1 := Scalar.cmpi .slt arg2 c3_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c3_i32_7 : BitVec 32 := 3#32
  let v16 : BitVec 1 := Scalar.cmpi .eq arg2 c3_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S8704x4096 : Shape := ⟨2, ![8704, 4096]⟩
abbrev S4096x1024 : Shape := ⟨2, ![4096, 1024]⟩
abbrev S8704x1024 : Shape := ⟨2, ![8704, 1024]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S4096x1024, .bf16⟩
  | .hbm, ⟨3, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let c3_i32 : BitVec 32 := 3#32
  let v12 : BitVec 1 := Scalar.cmpi .slt arg2 c3_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c3_i32_7 : BitVec 32 := 3#32
  let v16 : BitVec 1 := Scalar.cmpi .eq arg2 c3_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8704x4096 : Shape := ⟨2, ![8704, 4096]⟩
abbrev S4096x1024 : Shape := ⟨2, ![4096, 1024]⟩
abbrev S_ : Shape := ⟨0, ![]⟩
abbrev S8704x1024 : Shape := ⟨2, ![8704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S_, .f32⟩
  | .hbm, ⟨3, _⟩ => ⟨S8704x4096, .f32⟩
  | .hbm, ⟨4, _⟩ => ⟨S8704x4096, .f32⟩
  | .hbm, ⟨5, _⟩ => ⟨S8704x4096, .f32⟩
  | .hbm, ⟨6, _⟩ => ⟨S8704x1024, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel12.lean ====
abbrev S8704x1024 : Shape := ⟨2, ![8704, 1024]⟩
abbrev S1024x4096 : Shape := ⟨2, ![1024, 4096]⟩
abbrev S8704x4096 : Shape := ⟨2, ![8704, 4096]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S1024x4096, .bf16⟩
  | .hbm, ⟨3, _⟩ => ⟨S8704x4096, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8704x1024 : Shape := ⟨2, ![8704, 1024]⟩
abbrev S1024x4096 : Shape := ⟨2, ![1024, 4096]⟩
abbrev S8704x4096 : Shape := ⟨2, ![8704, 4096]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S1024x4096, .bf16⟩
  | .hbm, ⟨3, _⟩ => ⟨S8704x4096, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8704x1024 : Shape := ⟨2, ![8704, 1024]⟩
abbrev S1024x4096 : Shape := ⟨2, ![1024, 4096]⟩
abbrev S8704x4096 : Shape := ⟨2, ![8704, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S8704x4096, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8704x1024 : Shape := ⟨2, ![8704, 1024]⟩
abbrev S1024x2736 : Shape := ⟨2, ![1024, 2736]⟩
abbrev S_ : Shape := ⟨0, ![]⟩
abbrev S1024x2816 : Shape := ⟨2, ![1024, 2816]⟩
abbrev S8704x2816 : Shape := ⟨2, ![8704, 2816]⟩
abbrev S1088x1024 : Shape := ⟨2, ![1088, 1024]⟩
abbrev S1024x1408 : Shape := ⟨2, ![1024, 1408]⟩
abbrev S1088x1408 : Shape := ⟨2, ![1088, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x2736, .f32⟩
  | .hbm, ⟨2, _⟩ => ⟨S_, .i32⟩
  | .hbm, ⟨3, _⟩ => ⟨S_, .f32⟩
  | .hbm, ⟨4, _⟩ => ⟨S1024x2816, .f32⟩
  | .hbm, ⟨5, _⟩ => ⟨S1024x2816, .bf16⟩
  | .hbm, ⟨6, _⟩ => ⟨S8704x2816, .f32⟩
  | .local _ .vmem, ⟨0, _⟩ => ⟨S1088x1024, .f32⟩
  | .local _ .vmem, ⟨1, _⟩ => ⟨S1088x1024, .f32⟩
  | .local _ .vmem, ⟨2, _⟩ => ⟨S1024x1408, .bf16⟩
  | .local _ .vmem, ⟨3, _⟩ => ⟨S1024x1408, .bf16⟩
  | .local _ .vmem, ⟨4, _⟩ => ⟨S1088x1408, .f32⟩
  | .local _ .vmem, ⟨5, _⟩ => ⟨S1088x1408, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8704x1024 : Shape := ⟨2, ![8704, 1024]⟩
abbrev S1024x2736 : Shape := ⟨2, ![1024, 2736]⟩
abbrev S8704x2736 : Shape := ⟨2, ![8704, 2736]⟩
abbrev S_ : Shape := ⟨0, ![]⟩
abbrev S8704x2816 : Shape := ⟨2, ![8704, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x2736, .f32⟩
  | .hbm, ⟨2, _⟩ => ⟨S8704x2736, .f32⟩
  | .hbm, ⟨3, _⟩ => ⟨S_, .i32⟩
  | .hbm, ⟨4, _⟩ => ⟨S_, .f32⟩
  | .hbm, ⟨5, _⟩ => ⟨S8704x2816, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel14.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S1024x1024, .bf16⟩
  | .hbm, ⟨3, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S1024x1024, .bf16⟩
  | .hbm, ⟨3, _⟩ => ⟨S8704x1024, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8704x1024 : Shape := ⟨2, ![8704, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S1024x4096, .bf16⟩
  | .hbm, ⟨5, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S1024x4096, .f32⟩
  | .hbm, ⟨17, _⟩ => ⟨S4096x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel16.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let c7_i32 : BitVec 32 := 7#32
  let v12 : BitVec 1 := Scalar.cmpi .slt arg2 c7_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c7_i32_7 : BitVec 32 := 7#32
  let v16 : BitVec 1 := Scalar.cmpi .eq arg2 c7_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S1024x4096, .f32⟩
  | .hbm, ⟨17, _⟩ => ⟨S4096x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel17.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S1024x4096, .bf16⟩
  | .hbm, ⟨4, _⟩ => ⟨S4096x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c3_i32 : BitVec 32 := 3#32
  let v9 : BitVec 1 := Scalar.cmpi .slt arg2 c3_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S1024x4096, .bf16⟩
  | .hbm, ⟨4, _⟩ => ⟨S4096x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c3_i32 : BitVec 32 := 3#32
  let v9 : BitVec 1 := Scalar.cmpi .slt arg2 c3_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S1024x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S1024x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel20Ideal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S4096x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let c3_i32 : BitVec 32 := 3#32
  let v12 : BitVec 1 := Scalar.cmpi .slt arg2 c3_i32
  let v13 : BitVec 1 := Scalar.andi v11 v12
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c3_i32_7 : BitVec 32 := 3#32
  let v16 : BitVec 1 := Scalar.cmpi .eq arg2 c3_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x4096 : Shape := ⟨2, ![8192, 4096]⟩
abbrev S4096x1024 : Shape := ⟨2, ![4096, 1024]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel22.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .bf16⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel22Ideal.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .bf16⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8704x256 : Shape := ⟨2, ![8704, 256]⟩
abbrev S256x384 : Shape := ⟨2, ![256, 384]⟩
abbrev S8704x384 : Shape := ⟨2, ![8704, 384]⟩
abbrev S384x256 : Shape := ⟨2, ![384, 256]⟩
abbrev S1088x384 : Shape := ⟨2, ![1088, 384]⟩
abbrev S1088x256 : Shape := ⟨2, ![1088, 256]⟩

abbrev nBuf : Space → Nat
  | .hbm => 6
  | .vmem => 5
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | .hbm, ⟨3, _⟩ => ⟨S256x384, .bf16⟩
  | .hbm, ⟨4, _⟩ => ⟨S384x256, .bf16⟩
  | .hbm, ⟨5, _⟩ => ⟨S8704x256, .f32⟩
  | .local _ .vmem, ⟨0, _⟩ => ⟨S1088x384, .f32⟩
  | .local _ .vmem, ⟨1, _⟩ => ⟨S1088x384, .f32⟩
  | .local _ .vmem, ⟨2, _⟩ => ⟨S384x256, .bf16⟩
  | .local _ .vmem, ⟨3, _⟩ => ⟨S1088x256, .f32⟩
  | .local _ .vmem, ⟨4, _⟩ => ⟨S1088x256, .f32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel24Ideal.lean ====
abbrev S8704x256 : Shape := ⟨2, ![8704, 256]⟩
abbrev S256x384 : Shape := ⟨2, ![256, 384]⟩
abbrev S8704x384 : Shape := ⟨2, ![8704, 384]⟩
abbrev S384x256 : Shape := ⟨2, ![384, 256]⟩
abbrev S1088x384 : Shape := ⟨2, ![1088, 384]⟩
abbrev S1088x256 : Shape := ⟨2, ![1088, 256]⟩

abbrev nBuf : Space → Nat
  | .hbm => 6
  | .vmem => 5
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | .hbm, ⟨3, _⟩ => ⟨S256x384, .bf16⟩
  | .hbm, ⟨4, _⟩ => ⟨S384x256, .bf16⟩
  | .hbm, ⟨5, _⟩ => ⟨S8704x256, .f32⟩
  | .local _ .vmem, ⟨0, _⟩ => ⟨S1088x384, .f32⟩
  | .local _ .vmem, ⟨1, _⟩ => ⟨S1088x384, .f32⟩
  | .local _ .vmem, ⟨2, _⟩ => ⟨S384x256, .bf16⟩
  | .local _ .vmem, ⟨3, _⟩ => ⟨S1088x256, .f32⟩
  | .local _ .vmem, ⟨4, _⟩ => ⟨S1088x256, .f32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8704x256 : Shape := ⟨2, ![8704, 256]⟩
abbrev S256x384 : Shape := ⟨2, ![256, 384]⟩
abbrev S8704x384 : Shape := ⟨2, ![8704, 384]⟩
abbrev S384x256 : Shape := ⟨2, ![384, 256]⟩

abbrev nBuf : Space → Nat
  | .hbm => 7
  | .vmem => 0
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | .hbm, ⟨3, _⟩ => ⟨S8704x384, .f32⟩
  | .hbm, ⟨4, _⟩ => ⟨S384x256, .f32⟩
  | .hbm, ⟨5, _⟩ => ⟨S256x384, .f32⟩
  | .hbm, ⟨6, _⟩ => ⟨S8704x256, .f32⟩
  | _, _ => ⟨S8704x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S8704x256 : Shape := ⟨2, ![8704, 256]⟩
abbrev S256x384 : Shape := ⟨2, ![256, 384]⟩
abbrev S8704x384 : Shape := ⟨2, ![8704, 384]⟩
abbrev S1088x256 : Shape := ⟨2, ![1088, 256]⟩
abbrev S1088x384 : Shape := ⟨2, ![1088, 384]⟩

abbrev nBuf : Space → Nat
  | .hbm => 4
  | .vmem => 5
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | .hbm, ⟨3, _⟩ => ⟨S256x384, .f32⟩
  | .local _ .vmem, ⟨0, _⟩ => ⟨S1088x256, .f32⟩
  | .local _ .vmem, ⟨1, _⟩ => ⟨S1088x256, .f32⟩
  | .local _ .vmem, ⟨2, _⟩ => ⟨S1088x384, .f32⟩
  | .local _ .vmem, ⟨3, _⟩ => ⟨S1088x384, .f32⟩
  | .local _ .vmem, ⟨4, _⟩ => ⟨S256x384, .f32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel25Ideal.lean ====
abbrev S8704x256 : Shape := ⟨2, ![8704, 256]⟩
abbrev S256x384 : Shape := ⟨2, ![256, 384]⟩
abbrev S8704x384 : Shape := ⟨2, ![8704, 384]⟩
abbrev S1088x256 : Shape := ⟨2, ![1088, 256]⟩
abbrev S1088x384 : Shape := ⟨2, ![1088, 384]⟩

abbrev nBuf : Space → Nat
  | .hbm => 4
  | .vmem => 5
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | .hbm, ⟨3, _⟩ => ⟨S256x384, .f32⟩
  | .local _ .vmem, ⟨0, _⟩ => ⟨S1088x256, .f32⟩
  | .local _ .vmem, ⟨1, _⟩ => ⟨S1088x256, .f32⟩
  | .local _ .vmem, ⟨2, _⟩ => ⟨S1088x384, .f32⟩
  | .local _ .vmem, ⟨3, _⟩ => ⟨S1088x384, .f32⟩
  | .local _ .vmem, ⟨4, _⟩ => ⟨S256x384, .f32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8704x256 : Shape := ⟨2, ![8704, 256]⟩
abbrev S256x384 : Shape := ⟨2, ![256, 384]⟩
abbrev S8704x384 : Shape := ⟨2, ![8704, 384]⟩
abbrev S384x256 : Shape := ⟨2, ![384, 256]⟩

abbrev nBuf : Space → Nat
  | .hbm => 7
  | .vmem => 0
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | .hbm, ⟨3, _⟩ => ⟨S8704x384, .f32⟩
  | .hbm, ⟨4, _⟩ => ⟨S384x256, .f32⟩
  | .hbm, ⟨5, _⟩ => ⟨S256x384, .f32⟩
  | .hbm, ⟨6, _⟩ => ⟨S8704x256, .f32⟩
  | _, _ => ⟨S8704x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8704x128 : Shape := ⟨2, ![8704, 128]⟩
abbrev S128x512 : Shape := ⟨2, ![128, 512]⟩
abbrev S8704x512 : Shape := ⟨2, ![8704, 512]⟩
abbrev S512x128 : Shape := ⟨2, ![512, 128]⟩
abbrev S1088x512 : Shape := ⟨2, ![1088, 512]⟩
abbrev S1088x128 : Shape := ⟨2, ![1088, 128]⟩

abbrev nBuf : Space → Nat
  | .hbm => 6
  | .vmem => 5
  | .smem => 0
  | _ => 0

abbrev bufTy : (tb : Table) → Fin (tcTables nBuf tb) → BufTy
  | .hbm, ⟨0, _⟩ => ⟨S8704x128, .f32⟩
  | .hbm, ⟨1, _⟩ => ⟨S128x512, .f32⟩
  | .hbm, ⟨2, _⟩ => ⟨S8704x512, .f32⟩
  | .hbm, ⟨3, _⟩ => ⟨S128x512, .bf16⟩
  | .hbm, ⟨4, _⟩ => ⟨S512x128, .bf16⟩
  | .hbm, ⟨5, _⟩ => ⟨S8704x128, .f32⟩
  | .local _ .vmem, ⟨0, _⟩ => ⟨S1088x512, .f32⟩
  | .local _ .vmem, ⟨1, _⟩ => ⟨S1088x512, .f32⟩
  | .local _ .vmem, ⟨2, _⟩ => ⟨S512x128, .bf16⟩
  | .local _ .vmem, ⟨3, _⟩ => ⟨S1088x128, .f32⟩
  | .local _ .vmem, ⟨4, _⟩ => ⟨S1088x128, .f32⟩
  | _, _ => ⟨S8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8704x128 : Shape := ⟨2, ![8704, 128]⟩
abbrev S128x512 : Shape := ⟨2, ![128, 512]⟩
abbrev S8704x512 : Shape := ⟨2, ![8704, 512]⟩
abbrev S512x128 : Shape := ⟨2, ![512, 128]⟩

abbrev nBuf : Space → Nat
  | .hbm => 7
  | .vmem => 0
  | .smem => 0
  | _ => 0

abbrev bufTy : (tb : Table) → Fin (tcTables nBuf tb) → BufTy
  | .hbm, ⟨0, _⟩ => ⟨S8704x128, .f32⟩
  | .hbm, ⟨1, _⟩ => ⟨S128x512, .f32⟩
  | .hbm, ⟨2, _⟩ => ⟨S8704x512, .f32⟩
  | .hbm, ⟨3, _⟩ => ⟨S8704x512, .f32⟩
  | .hbm, ⟨4, _⟩ => ⟨S512x128, .f32⟩
  | .hbm, ⟨5, _⟩ => ⟨S128x512, .f32⟩
  | .hbm, ⟨6, _⟩ => ⟨S8704x128, .f32⟩
  | _, _ => ⟨S8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S8704x128 : Shape := ⟨2, ![8704, 128]⟩
abbrev S128x512 : Shape := ⟨2, ![128, 512]⟩
abbrev S8704x512 : Shape := ⟨2, ![8704, 512]⟩
abbrev S1088x128 : Shape := ⟨2, ![1088, 128]⟩
abbrev S1088x512 : Shape := ⟨2, ![1088, 512]⟩

abbrev nBuf : Space → Nat
  | .hbm => 4
  | .vmem => 5
  | .smem => 0
  | _ => 0

abbrev bufTy : (tb : Table) → Fin (tcTables nBuf tb) → BufTy
  | .hbm, ⟨0, _⟩ => ⟨S8704x128, .f32⟩
  | .hbm, ⟨1, _⟩ => ⟨S128x512, .f32⟩
  | .hbm, ⟨2, _⟩ => ⟨S8704x512, .f32⟩
  | .hbm, ⟨3, _⟩ => ⟨S128x512, .f32⟩
  | .local _ .vmem, ⟨0, _⟩ => ⟨S1088x128, .f32⟩
  | .local _ .vmem, ⟨1, _⟩ => ⟨S1088x128, .f32⟩
  | .local _ .vmem, ⟨2, _⟩ => ⟨S1088x512, .f32⟩
  | .local _ .vmem, ⟨3, _⟩ => ⟨S1088x512, .f32⟩
  | .local _ .vmem, ⟨4, _⟩ => ⟨S128x512, .f32⟩
  | _, _ => ⟨S8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let c7_i32 : BitVec 32 := 7#32
  let v9 : BitVec 1 := Scalar.cmpi .slt arg2 c7_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S8704x128 : Shape := ⟨2, ![8704, 128]⟩
abbrev S128x512 : Shape := ⟨2, ![128, 512]⟩
abbrev S8704x512 : Shape := ⟨2, ![8704, 512]⟩
abbrev S512x128 : Shape := ⟨2, ![512, 128]⟩

abbrev nBuf : Space → Nat
  | .hbm => 7
  | .vmem => 0
  | .smem => 0
  | _ => 0

abbrev bufTy : (tb : Table) → Fin (tcTables nBuf tb) → BufTy
  | .hbm, ⟨0, _⟩ => ⟨S8704x128, .f32⟩
  | .hbm, ⟨1, _⟩ => ⟨S128x512, .f32⟩
  | .hbm, ⟨2, _⟩ => ⟨S8704x512, .f32⟩
  | .hbm, ⟨3, _⟩ => ⟨S8704x512, .f32⟩
  | .hbm, ⟨4, _⟩ => ⟨S512x128, .f32⟩
  | .hbm, ⟨5, _⟩ => ⟨S128x512, .f32⟩
  | .hbm, ⟨6, _⟩ => ⟨S8704x128, .f32⟩
  | _, _ => ⟨S8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S8704x256 : Shape := ⟨2, ![8704, 256]⟩
abbrev S256x384 : Shape := ⟨2, ![256, 384]⟩
abbrev S8704x384 : Shape := ⟨2, ![8704, 384]⟩
abbrev S1088x256 : Shape := ⟨2, ![1088, 256]⟩
abbrev S1088x384 : Shape := ⟨2, ![1088, 384]⟩

abbrev nBuf : Space → Nat
  | .hbm => 4
  | .vmem => 5
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S256x384, .bf16⟩
  | .hbm, ⟨3, _⟩ => ⟨S8704x384, .f32⟩
  | .local _ .vmem, ⟨0, _⟩ => ⟨S1088x256, .f32⟩
  | .local _ .vmem, ⟨1, _⟩ => ⟨S1088x256, .f32⟩
  | .local _ .vmem, ⟨2, _⟩ => ⟨S256x384, .bf16⟩
  | .local _ .vmem, ⟨3, _⟩ => ⟨S1088x384, .f32⟩
  | .local _ .vmem, ⟨4, _⟩ => ⟨S1088x384, .f32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel28Ideal.lean ====
abbrev S8704x256 : Shape := ⟨2, ![8704, 256]⟩
abbrev S256x384 : Shape := ⟨2, ![256, 384]⟩
abbrev S8704x384 : Shape := ⟨2, ![8704, 384]⟩
abbrev S1088x256 : Shape := ⟨2, ![1088, 256]⟩
abbrev S1088x384 : Shape := ⟨2, ![1088, 384]⟩

abbrev nBuf : Space → Nat
  | .hbm => 4
  | .vmem => 5
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S256x384, .bf16⟩
  | .hbm, ⟨3, _⟩ => ⟨S8704x384, .f32⟩
  | .local _ .vmem, ⟨0, _⟩ => ⟨S1088x256, .f32⟩
  | .local _ .vmem, ⟨1, _⟩ => ⟨S1088x256, .f32⟩
  | .local _ .vmem, ⟨2, _⟩ => ⟨S256x384, .bf16⟩
  | .local _ .vmem, ⟨3, _⟩ => ⟨S1088x384, .f32⟩
  | .local _ .vmem, ⟨4, _⟩ => ⟨S1088x384, .f32⟩
  | _, _ => ⟨S8704x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8704x256 : Shape := ⟨2, ![8704, 256]⟩
abbrev S256x384 : Shape := ⟨2, ![256, 384]⟩
abbrev S8704x384 : Shape := ⟨2, ![8704, 384]⟩

abbrev nBuf : Space → Nat
  | .hbm => 3
  | .vmem => 0
  | .smem => 0
  | _ => 0

abbrev bufTy : (tb : Table) → Fin (tcTables nBuf tb) → BufTy
  | .hbm, ⟨0, _⟩ => ⟨S8704x256, .f32⟩
  | .hbm, ⟨1, _⟩ => ⟨S256x384, .f32⟩
  | .hbm, ⟨2, _⟩ => ⟨S8704x384, .f32⟩
  | _, _ => ⟨S8704x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8704x128 : Shape := ⟨2, ![8704, 128]⟩
abbrev S128x512 : Shape := ⟨2, ![128, 512]⟩
abbrev S8704x512 : Shape := ⟨2, ![8704, 512]⟩
abbrev S1088x128 : Shape := ⟨2, ![1088, 128]⟩
abbrev S1088x512 : Shape := ⟨2, ![1088, 512]⟩

abbrev nBuf : Space → Nat
  | .hbm => 4
  | .vmem => 5
  | .smem => 0
  | _ => 0

abbrev bufTy : (tb : Table) → Fin (tcTables nBuf tb) → BufTy
  | .hbm, ⟨0, _⟩ => ⟨S8704x128, .f32⟩
  | .hbm, ⟨1, _⟩ => ⟨S128x512, .f32⟩
  | .hbm, ⟨2, _⟩ => ⟨S128x512, .bf16⟩
  | .hbm, ⟨3, _⟩ => ⟨S8704x512, .f32⟩
  | .local _ .vmem, ⟨0, _⟩ => ⟨S1088x128, .f32⟩
  | .local _ .vmem, ⟨1, _⟩ => ⟨S1088x128, .f32⟩
  | .local _ .vmem, ⟨2, _⟩ => ⟨S128x512, .bf16⟩
  | .local _ .vmem, ⟨3, _⟩ => ⟨S1088x512, .f32⟩
  | .local _ .vmem, ⟨4, _⟩ => ⟨S1088x512, .f32⟩
  | _, _ => ⟨S8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8704x128 : Shape := ⟨2, ![8704, 128]⟩
abbrev S128x512 : Shape := ⟨2, ![128, 512]⟩
abbrev S8704x512 : Shape := ⟨2, ![8704, 512]⟩

abbrev nBuf : Space → Nat
  | .hbm => 3
  | .vmem => 0
  | .smem => 0
  | _ => 0

abbrev bufTy : (tb : Table) → Fin (tcTables nBuf tb) → BufTy
  | .hbm, ⟨0, _⟩ => ⟨S8704x128, .f32⟩
  | .hbm, ⟨1, _⟩ => ⟨S128x512, .f32⟩
  | .hbm, ⟨2, _⟩ => ⟨S8704x512, .f32⟩
  | _, _ => ⟨S8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel30.lean ====
abbrev S2x4096x4x64 : Shape := ⟨4, ![2, 4096, 4, 64]⟩
abbrev S2x4096x2x64 : Shape := ⟨4, ![2, 4096, 2, 64]⟩
abbrev S2x256x2x64 : Shape := ⟨4, ![2, 256, 2, 64]⟩
abbrev S4 : Shape := ⟨1, ![4]⟩
abbrev S2x4x4096x64 : Shape := ⟨4, ![2, 4, 4096, 64]⟩
abbrev S8x4096x64 : Shape := ⟨3, ![8, 4096, 64]⟩
abbrev S2x2x4096x64 : Shape := ⟨4, ![2, 2, 4096, 64]⟩
abbrev S4x4096x64 : Shape := ⟨3, ![4, 4096, 64]⟩
abbrev S_ : Shape := ⟨0, ![]⟩
abbrev S4x4352x64 : Shape := ⟨3, ![4, 4352, 64]⟩
abbrev S2x2x256x64 : Shape := ⟨4, ![2, 2, 256, 64]⟩
abbrev S4x256x64 : Shape := ⟨3, ![4, 256, 64]⟩
abbrev S1x4 : Shape := ⟨2, ![1, 4]⟩
abbrev S2x4 : Shape := ⟨2, ![2, 4]⟩
abbrev S8 : Shape := ⟨1, ![8]⟩
abbrev S8x1x1 : Shape := ⟨3, ![8, 1, 1]⟩
abbrev S8x1x128 : Shape := ⟨3, ![8, 1, 128]⟩
abbrev S2x128x64 : Shape := ⟨3, ![2, 128, 64]⟩
abbrev S1x4352x64 : Shape := ⟨3, ![1, 4352, 64]⟩
abbrev S1x256x64 : Shape := ⟨3, ![1, 256, 64]⟩
abbrev S2x1x128 : Shape := ⟨3, ![2, 1, 128]⟩
abbrev S1x384x64 : Shape := ⟨3, ![1, 384, 64]⟩
abbrev S384x64 : Shape := ⟨2, ![384, 64]⟩
abbrev S256x64 : Shape := ⟨2, ![256, 64]⟩
abbrev S256x1 : Shape := ⟨2, ![256, 1]⟩
abbrev S1x1x1 : Shape := ⟨3, ![1, 1, 1]⟩
abbrev S1x1 : Shape := ⟨2, ![1, 1]⟩
abbrev S256x384 : Shape := ⟨2, ![256, 384]⟩
abbrev S256x256 : Shape := ⟨2, ![256, 256]⟩
abbrev S256 : Shape := ⟨1, ![256]⟩

abbrev nBuf : Space → Nat
  | .hbm => 33
  | .vmem => 14
  | .smem => 0
  | _ => 0

abbrev bufTy : (tb : Table) → Fin (tcTables nBuf tb) → BufTy
  | .hbm, ⟨0, _⟩ => ⟨S2x4096x4x64, .f32⟩
  | .hbm, ⟨1, _⟩ => ⟨S2x4096x2x64, .f32⟩
  | .hbm, ⟨2, _⟩ => ⟨S2x4096x2x64, .f32⟩
  | .hbm, ⟨3, _⟩ => ⟨S2x256x2x64, .f32⟩
  | .hbm, ⟨4, _⟩ => ⟨S2x256x2x64, .f32⟩
  | .hbm, ⟨5, _⟩ => ⟨S4, .f32⟩
  | .hbm, ⟨6, _⟩ => ⟨S2x4x4096x64, .f32⟩
  | .hbm, ⟨7, _⟩ => ⟨S8x4096x64, .f32⟩
  | .hbm, ⟨8, _⟩ => ⟨S2x2x4096x64, .f32⟩
  | .hbm, ⟨9, _⟩ => ⟨S4x4096x64, .f32⟩
  | .hbm, ⟨10, _⟩ => ⟨S_, .i32⟩
  | .hbm, ⟨11, _⟩ => ⟨S_, .f32⟩
  | .hbm, ⟨12, _⟩ => ⟨S4x4352x64, .f32⟩
  | .hbm, ⟨13, _⟩ => ⟨S2x2x4096x64, .f32⟩
  | .hbm, ⟨14, _⟩ => ⟨S4x4096x64, .f32⟩
  | .hbm, ⟨15, _⟩ => ⟨S_, .i32⟩
  | .hbm, ⟨16, _⟩ => ⟨S_, .f32⟩
  | .hbm, ⟨17, _⟩ => ⟨S4x4352x64, .f32⟩
  | .hbm, ⟨18, _⟩ => ⟨S2x2x256x64, .f32⟩
  | .hbm, ⟨19, _⟩ => ⟨S4x256x64, .f32⟩
  | .hbm, ⟨20, _⟩ => ⟨S2x2x256x64, .f32⟩
  | .hbm, ⟨21, _⟩ => ⟨S4x256x64, .f32⟩
  | .hbm, ⟨22, _⟩ => ⟨S8x4096x64, .bf16⟩
  | .hbm, ⟨23, _⟩ => ⟨S4x4352x64, .bf16⟩
  | .hbm, ⟨24, _⟩ => ⟨S4x4352x64, .bf16⟩
  | .hbm, ⟨25, _⟩ => ⟨S4x256x64, .bf16⟩
  | .hbm, ⟨26, _⟩ => ⟨S4x256x64, .bf16⟩
  | .hbm, ⟨27, _⟩ => ⟨S1x4, .f32⟩
  | .hbm, ⟨28, _⟩ => ⟨S2x4, .f32⟩
  | .hbm, ⟨29, _⟩ => ⟨S8, .f32⟩
  | .hbm, ⟨30, _⟩ => ⟨S8x1x1, .f32⟩
  | .hbm, ⟨31, _⟩ => ⟨S8x1x128, .f32⟩
  | .hbm, ⟨32, _⟩ => ⟨S8x4096x64, .f32⟩
  | .local _ .vmem, ⟨0, _⟩ => ⟨S2x128x64, .bf16⟩
  | .local _ .vmem, ⟨1, _⟩ => ⟨S2x128x64, .bf16⟩
  | .local _ .vmem, ⟨2, _⟩ => ⟨S1x4352x64, .bf16⟩
  | .local _ .vmem, ⟨3, _⟩ => ⟨S1x4352x64, .bf16⟩
  | .local _ .vmem, ⟨4, _⟩ => ⟨S1x4352x64, .bf16⟩
  | .local _ .vmem, ⟨5, _⟩ => ⟨S1x4352x64, .bf16⟩
  | .local _ .vmem, ⟨6, _⟩ => ⟨S1x256x64, .bf16⟩
  | .local _ .vmem, ⟨7, _⟩ => ⟨S1x256x64, .bf16⟩
  | .local _ .vmem, ⟨8, _⟩ => ⟨S1x256x64, .bf16⟩
  | .local _ .vmem, ⟨9, _⟩ => ⟨S1x256x64, .bf16⟩
  | .local _ .vmem, ⟨10, _⟩ => ⟨S2x1x128, .f32⟩
  | .local _ .vmem, ⟨11, _⟩ => ⟨S2x1x128, .f32⟩
  | .local _ .vmem, ⟨12, _⟩ => ⟨S2x128x64, .f32⟩
  | .local _ .vmem, ⟨13, _⟩ => ⟨S2x128x64, .f32⟩
  | _, _ => ⟨S2x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference30Ideal.lean ====
abbrev S2x4096x4x64 : Shape := ⟨4, ![2, 4096, 4, 64]⟩
abbrev S2x4096x2x64 : Shape := ⟨4, ![2, 4096, 2, 64]⟩
abbrev S2x256x2x64 : Shape := ⟨4, ![2, 256, 2, 64]⟩
abbrev S4 : Shape := ⟨1, ![4]⟩
abbrev S2x4 : Shape := ⟨2, ![2, 4]⟩
abbrev S2x4096x2x2x64 : Shape := ⟨5, ![2, 4096, 2, 2, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x2x4096x4096x2 : Shape := ⟨5, ![2, 2, 4096, 4096, 2]⟩
abbrev S2x2x2x4096x4096 : Shape := ⟨5, ![2, 2, 2, 4096, 4096]⟩
abbrev S2x2x256x4096x2 : Shape := ⟨5, ![2, 2, 256, 4096, 2]⟩
abbrev S2x2x2x4096x256 : Shape := ⟨5, ![2, 2, 2, 4096, 256]⟩
abbrev S2x2x2 : Shape := ⟨3, ![2, 2, 2]⟩
abbrev S2x2x2x1x1 : Shape := ⟨5, ![2, 2, 2, 1, 1]⟩
abbrev S2x2x2x4096x1 : Shape := ⟨5, ![2, 2, 2, 4096, 1]⟩
abbrev S2x2x2x4096x4353 : Shape := ⟨5, ![2, 2, 2, 4096, 4353]⟩
abbrev S2x2x2x4096 : Shape := ⟨4, ![2, 2, 2, 4096]⟩
abbrev S2x2x64x2x4096 : Shape := ⟨5, ![2, 2, 64, 2, 4096]⟩
abbrev S2x4x4096x64 : Shape := ⟨4, ![2, 4, 4096, 64]⟩
abbrev S8x4096x64 : Shape := ⟨3, ![8, 4096, 64]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x4x64, .f32⟩
  | .hbm, ⟨1, _⟩ => ⟨S2x4096x2x64, .f32⟩
  | .hbm, ⟨2, _⟩ => ⟨S2x4096x2x64, .f32⟩
  | .hbm, ⟨3, _⟩ => ⟨S2x256x2x64, .f32⟩
  | .hbm, ⟨4, _⟩ => ⟨S2x256x2x64, .f32⟩
  | .hbm, ⟨5, _⟩ => ⟨S4, .f32⟩
  | .hbm, ⟨6, _⟩ => ⟨S2x4, .f32⟩
  | .hbm, ⟨7, _⟩ => ⟨S2x4096x2x2x64, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S2x2x4096x4096x2, .f32⟩
  | .hbm, ⟨19, _⟩ => ⟨S2x2x2x4096x4096, .f32⟩
  | .hbm, ⟨20, _⟩ => ⟨S_, .f32⟩
  | .hbm, ⟨21, _⟩ => ⟨S2x2x2x4096x4096, .f32⟩
  | .hbm, ⟨22, _⟩ => ⟨S2x2x2x4096x4096, .f32⟩
  | .hbm, ⟨23, _⟩ => ⟨S_, .f32⟩
  | .hbm, ⟨24, _⟩ => ⟨S_, .f32⟩
  | .hbm, ⟨25, _⟩ => ⟨S2x2x2x4096x4096, .i1⟩
  | .hbm, ⟨26, _⟩ => ⟨S2x2x2x4096x4096, .f32⟩
  | .hbm, ⟨27, _⟩ => ⟨S2x2x2x4096x4096, .f32⟩
  | .hbm, ⟨28, _⟩ => ⟨S2x2x256x4096x2, .f32⟩
  | .hbm, ⟨29, _⟩ => ⟨S2x2x2x4096x256, .f32⟩
  | .hbm, ⟨30, _⟩ => ⟨S_, .f32⟩
  | .hbm, ⟨31, _⟩ => ⟨S2x2x2x4096x256, .f32⟩
  | .hbm, ⟨32, _⟩ => ⟨S2x2x2x4096x256, .f32⟩
  | .hbm, ⟨33, _⟩ => ⟨S2x2x2, .f32⟩
  | .hbm, ⟨34, _⟩ => ⟨S2x2x2x1x1, .f32⟩
  | .hbm, ⟨35, _⟩ => ⟨S2x2x2x4096x1, .f32⟩
  | .hbm, ⟨36, _⟩ => ⟨S2x2x2x4096x4353, .f32⟩
  | .hbm, ⟨37, _⟩ => ⟨S_, .f32⟩
  | .hbm, ⟨38, _⟩ => ⟨S2x2x2x4096, .f32⟩
  | .hbm, ⟨39, _⟩ => ⟨S_, .f32⟩
  | .hbm, ⟨40, _⟩ => ⟨S2x2x2x4096, .f32⟩
  | .hbm, ⟨41, _⟩ => ⟨S2x2x2x4096, .f32⟩
  | .hbm, ⟨42, _⟩ => ⟨S2x2x2x4096x1, .f32⟩
  | .hbm, ⟨43, _⟩ => ⟨S2x2x2x4096x4353, .f32⟩
  | .hbm, ⟨44, _⟩ => ⟨S2x2x2x4096x4353, .f32⟩
  | .hbm, ⟨45, _⟩ => ⟨S2x2x2x4096x4353, .f32⟩
  | .hbm, ⟨46, _⟩ => ⟨S_, .f32⟩
  | .hbm, ⟨47, _⟩ => ⟨S2x2x2x4096, .f32⟩
  | .hbm, ⟨48, _⟩ => ⟨S2x2x2x4096x1, .f32⟩
  | .hbm, ⟨49, _⟩ => ⟨S2x2x2x4096x4353, .f32⟩
  | .hbm, ⟨50, _⟩ => ⟨S2x2x2x4096x4353, .f32⟩
  | .hbm, ⟨51, _⟩ => ⟨S2x2x2x4096x4096, .f32⟩
  | .hbm, ⟨52, _⟩ => ⟨S2x2x64x2x4096, .f32⟩
  | .hbm, ⟨53, _⟩ => ⟨S2x4096x2x2x64, .f32⟩
  | .hbm, ⟨54, _⟩ => ⟨S2x2x2x4096x256, .f32⟩
  | .hbm, ⟨55, _⟩ => ⟨S2x2x64x2x4096, .f32⟩
  | .hbm, ⟨56, _⟩ => ⟨S2x4096x2x2x64, .f32⟩
  | .hbm, ⟨57, _⟩ => ⟨S2x4096x2x2x64, .f32⟩
  | .hbm, ⟨58, _⟩ => ⟨S2x4096x4x64, .f32⟩
  | .hbm, ⟨59, _⟩ => ⟨S2x4x4096x64, .f32⟩
  | .hbm, ⟨60, _⟩ => ⟨S8x4096x64, .f32⟩
  | _, _ => ⟨S2x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel31.lean ====
abbrev S2x4096x4x64 : Shape := ⟨4, ![2, 4096, 4, 64]⟩
abbrev S2x4096x2x64 : Shape := ⟨4, ![2, 4096, 2, 64]⟩
abbrev S2x256x2x64 : Shape := ⟨4, ![2, 256, 2, 64]⟩
abbrev S4 : Shape := ⟨1, ![4]⟩
abbrev S2x4 : Shape := ⟨2, ![2, 4]⟩
abbrev S2x4096x2x2x64 : Shape := ⟨5, ![2, 4096, 2, 2, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x2x4096x4096x2 : Shape := ⟨5, ![2, 2, 4096, 4096, 2]⟩
abbrev S2x2x2x4096x4096 : Shape := ⟨5, ![2, 2, 2, 4096, 4096]⟩
abbrev S2x2x256x4096x2 : Shape := ⟨5, ![2, 2, 256, 4096, 2]⟩
abbrev S2x2x2x4096x256 : Shape := ⟨5, ![2, 2, 2, 4096, 256]⟩
abbrev S2x2x2 : Shape := ⟨3, ![2, 2, 2]⟩
abbrev S2x2x2x1x1 : Shape := ⟨5, ![2, 2, 2, 1, 1]⟩
abbrev S2x2x2x4096x1 : Shape := ⟨5, ![2, 2, 2, 4096, 1]⟩
abbrev S2x2x2x4096x4353 : Shape := ⟨5, ![2, 2, 2, 4096, 4353]⟩
abbrev S2x2x2x4096 : Shape := ⟨4, ![2, 2, 2, 4096]⟩
abbrev S2x2x64x2x4096 : Shape := ⟨5, ![2, 2, 64, 2, 4096]⟩
abbrev S2x4x4096x64 : Shape := ⟨4, ![2, 4, 4096, 64]⟩
abbrev S8x4096x64 : Shape := ⟨3, ![8, 4096, 64]⟩
abbrev S2x2x4096x64 : Shape := ⟨4, ![2, 2, 4096, 64]⟩
abbrev S4x4096x64 : Shape := ⟨3, ![4, 4096, 64]⟩
abbrev S4x4352x64 : Shape := ⟨3, ![4, 4352, 64]⟩
abbrev S2x2x256x64 : Shape := ⟨4, ![2, 2, 256, 64]⟩
abbrev S4x256x64 : Shape := ⟨3, ![4, 256, 64]⟩
abbrev S1x4 : Shape := ⟨2, ![1, 4]⟩
abbrev S8 : Shape := ⟨1, ![8]⟩
abbrev S8x1x1 : Shape := ⟨3, ![8, 1, 1]⟩
abbrev S8x1x128 : Shape := ⟨3, ![8, 1, 128]⟩
abbrev S2x128x64 : Shape := ⟨3, ![2, 128, 64]⟩
abbrev S1x4352x64 : Shape := ⟨3, ![1, 4352, 64]⟩
abbrev S1x256x64 : Shape := ⟨3, ![1, 256, 64]⟩
abbrev S2x1x128 : Shape := ⟨3, ![2, 1, 128]⟩
abbrev S256x64 : Shape := ⟨2, ![256, 64]⟩
abbrev S1x384x64 : Shape := ⟨3, ![1, 384, 64]⟩
abbrev S384x64 : Shape := ⟨2, ![384, 64]⟩
abbrev S256x1 : Shape := ⟨2, ![256, 1]⟩
abbrev S1x1x1 : Shape := ⟨3, ![1, 1, 1]⟩
abbrev S1x1 : Shape := ⟨2, ![1, 1]⟩
abbrev S256x384 : Shape := ⟨2, ![256, 384]⟩
abbrev S256x256 : Shape := ⟨2, ![256, 256]⟩
abbrev S256 : Shape := ⟨1, ![256]⟩
abbrev S2x128x1 : Shape := ⟨3, ![2, 128, 1]⟩
abbrev S2x1 : Shape := ⟨2, ![2, 1]⟩
abbrev S2x1x1 : Shape := ⟨3, ![2, 1, 1]⟩

abbrev nBuf : Space → Nat
  | .hbm => 96
  | .vmem => 28
  | .smem => 0
  | _ => 0

abbrev bufTy : (tb : Table) → Fin (tcTables nBuf tb) → BufTy
  | .hbm, ⟨0, _⟩ => ⟨S2x4096x4x64, .f32⟩
  | .hbm, ⟨1, _⟩ => ⟨S2x4096x2x64, .f32⟩
  | .hbm, ⟨2, _⟩ => ⟨S2x4096x2x64, .f32⟩
  | .hbm, ⟨3, _⟩ => ⟨S2x256x2x64, .f32⟩
  | .hbm, ⟨4, _⟩ => ⟨S2x256x2x64, .f32⟩
  | .hbm, ⟨5, _⟩ => ⟨S4, .f32⟩
  | .hbm, ⟨6, _⟩ => ⟨S2x4096x4x64, .f32⟩
  | .hbm, ⟨7, _⟩ => ⟨S2x4, .f32⟩
  | .hbm, ⟨8, _⟩ => ⟨S2x4096x2x2x64, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S2x2x4096x4096x2, .f32⟩
  | .hbm, ⟨20, _⟩ => ⟨S2x2x2x4096x4096, .f32⟩
  | .hbm, ⟨21, _⟩ => ⟨S_, .f32⟩
  | .hbm, ⟨22, _⟩ => ⟨S2x2x2x4096x4096, .f32⟩
  | .hbm, ⟨23, _⟩ => ⟨S2x2x2x4096x4096, .f32⟩
  | .hbm, ⟨24, _⟩ => ⟨S_, .f32⟩
  | .hbm, ⟨25, _⟩ => ⟨S_, .f32⟩
  | .hbm, ⟨26, _⟩ => ⟨S2x2x2x4096x4096, .i1⟩
  | .hbm, ⟨27, _⟩ => ⟨S2x2x2x4096x4096, .f32⟩
  | .hbm, ⟨28, _⟩ => ⟨S2x2x2x4096x4096, .f32⟩
  | .hbm, ⟨29, _⟩ => ⟨S2x2x256x4096x2, .f32⟩
  | .hbm, ⟨30, _⟩ => ⟨S2x2x2x4096x256, .f32⟩
  | .hbm, ⟨31, _⟩ => ⟨S_, .f32⟩
  | .hbm, ⟨32, _⟩ => ⟨S2x2x2x4096x256, .f32⟩
  | .hbm, ⟨33, _⟩ => ⟨S2x2x2x4096x256, .f32⟩
  | .hbm, ⟨34, _⟩ => ⟨S2x2x2, .f32⟩
  | .hbm, ⟨35, _⟩ => ⟨S2x2x2x1x1, .f32⟩
  | .hbm, ⟨36, _⟩ => ⟨S2x2x2x4096x1, .f32⟩
  | .hbm, ⟨37, _⟩ => ⟨S2x2x2x4096x4353, .f32⟩
  | .hbm, ⟨38, _⟩ => ⟨S_, .f32⟩
  | .hbm, ⟨39, _⟩ => ⟨S2x2x2x4096, .f32⟩
  | .hbm, ⟨40, _⟩ => ⟨S_, .f32⟩
  | .hbm, ⟨41, _⟩ => ⟨S2x2x2x4096, .f32⟩
  | .hbm, ⟨42, _⟩ => ⟨S2x2x2x4096, .f32⟩
  | .hbm, ⟨43, _⟩ => ⟨S2x2x2x4096x1, .f32⟩
  | .hbm, ⟨44, _⟩ => ⟨S2x2x2x4096x4353, .f32⟩
  | .hbm, ⟨45, _⟩ => ⟨S2x2x2x4096x4353, .f32⟩
  | .hbm, ⟨46, _⟩ => ⟨S2x2x2x4096x4353, .f32⟩
  | .hbm, ⟨47, _⟩ => ⟨S_, .f32⟩
  | .hbm, ⟨48, _⟩ => ⟨S2x2x2x4096, .f32⟩
  | .hbm, ⟨49, _⟩ => ⟨S2x2x2x4096x1, .f32⟩
  | .hbm, ⟨50, _⟩ => ⟨S2x2x2x4096x4353, .f32⟩
  | .hbm, ⟨51, _⟩ => ⟨S2x2x2x4096x4353, .f32⟩
  | .hbm, ⟨52, _⟩ => ⟨S2x2x2x4096x4096, .f32⟩
  | .hbm, ⟨53, _⟩ => ⟨S2x2x64x2x4096, .f32⟩
  | .hbm, ⟨54, _⟩ => ⟨S2x4096x2x2x64, .f32⟩
  | .hbm, ⟨55, _⟩ => ⟨S2x2x2x4096x256, .f32⟩
  | .hbm, ⟨56, _⟩ => ⟨S2x2x64x2x4096, .f32⟩
  | .hbm, ⟨57, _⟩ => ⟨S2x4096x2x2x64, .f32⟩
  | .hbm, ⟨58, _⟩ => ⟨S2x4096x2x2x64, .f32⟩
  | .hbm, ⟨59, _⟩ => ⟨S2x4096x4x64, .f32⟩
  | .hbm, ⟨60, _⟩ => ⟨S2x4x4096x64, .f32⟩
  | .hbm, ⟨61, _⟩ => ⟨S8x4096x64, .f32⟩
  | .hbm, ⟨62, _⟩ => ⟨S2x2x4096x64, .f32⟩
  | .hbm, ⟨63, _⟩ => ⟨S4x4096x64, .f32⟩
  | .hbm, ⟨64, _⟩ => ⟨S_, .i32⟩
  | .hbm, ⟨65, _⟩ => ⟨S_, .f32⟩
  | .hbm, ⟨66, _⟩ => ⟨S4x4352x64, .f32⟩
  | .hbm, ⟨67, _⟩ => ⟨S2x2x4096x64, .f32⟩
  | .hbm, ⟨68, _⟩ => ⟨S4x4096x64, .f32⟩
  | .hbm, ⟨69, _⟩ => ⟨S_, .i32⟩
  | .hbm, ⟨70, _⟩ => ⟨S_, .f32⟩
  | .hbm, ⟨71, _⟩ => ⟨S4x4352x64, .f32⟩
  | .hbm, ⟨72, _⟩ => ⟨S2x2x256x64, .f32⟩
  | .hbm, ⟨73, _⟩ => ⟨S4x256x64, .f32⟩
  | .hbm, ⟨74, _⟩ => ⟨S2x2x256x64, .f32⟩
  | .hbm, ⟨75, _⟩ => ⟨S4x256x64, .f32⟩
  | .hbm, ⟨76, _⟩ => ⟨S8x4096x64, .bf16⟩
  | .hbm, ⟨77, _⟩ => ⟨S4x4352x64, .bf16⟩
  | .hbm, ⟨78, _⟩ => ⟨S4x4352x64, .bf16⟩
  | .hbm, ⟨79, _⟩ => ⟨S4x256x64, .bf16⟩
  | .hbm, ⟨80, _⟩ => ⟨S4x256x64, .bf16⟩
  | .hbm, ⟨81, _⟩ => ⟨S1x4, .f32⟩
  | .hbm, ⟨82, _⟩ => ⟨S2x4, .f32⟩
  | .hbm, ⟨83, _⟩ => ⟨S8, .f32⟩
  | .hbm, ⟨84, _⟩ => ⟨S8x1x1, .f32⟩
  | .hbm, ⟨85, _⟩ => ⟨S8x1x128, .f32⟩
  | .hbm, ⟨86, _⟩ => ⟨S2x4x4096x64, .f32⟩
  | .hbm, ⟨87, _⟩ => ⟨S8x4096x64, .f32⟩
  | .hbm, ⟨88, _⟩ => ⟨S2x4x4096x64, .f32⟩
  | .hbm, ⟨89, _⟩ => ⟨S8x4096x64, .f32⟩
  | .hbm, ⟨90, _⟩ => ⟨S8x4096x64, .f32⟩
  | .hbm, ⟨91, _⟩ => ⟨S4x4352x64, .f32⟩
  | .hbm, ⟨92, _⟩ => ⟨S4x4352x64, .f32⟩
  | .hbm, ⟨93, _⟩ => ⟨S4x256x64, .f32⟩
  | .hbm, ⟨94, _⟩ => ⟨S4x256x64, .f32⟩
  | .hbm, ⟨95, _⟩ => ⟨S8x1x128, .f32⟩
  | .local _ .vmem, ⟨0, _⟩ => ⟨S2x128x64, .bf16⟩
  | .local _ .vmem, ⟨1, _⟩ => ⟨S2x128x64, .bf16⟩
  | .local _ .vmem, ⟨2, _⟩ => ⟨S1x4352x64, .bf16⟩
  | .local _ .vmem, ⟨3, _⟩ => ⟨S1x4352x64, .bf16⟩
  | .local _ .vmem, ⟨4, _⟩ => ⟨S1x4352x64, .bf16⟩
  | .local _ .vmem, ⟨5, _⟩ => ⟨S1x4352x64, .bf16⟩
  | .local _ .vmem, ⟨6, _⟩ => ⟨S1x256x64, .bf16⟩
  | .local _ .vmem, ⟨7, _⟩ => ⟨S1x256x64, .bf16⟩
  | .local _ .vmem, ⟨8, _⟩ => ⟨S1x256x64, .bf16⟩
  | .local _ .vmem, ⟨9, _⟩ => ⟨S1x256x64, .bf16⟩
  | .local _ .vmem, ⟨10, _⟩ => ⟨S2x1x128, .f32⟩
  | .local _ .vmem, ⟨11, _⟩ => ⟨S2x1x128, .f32⟩
  | .local _ .vmem, ⟨12, _⟩ => ⟨S2x128x64, .f32⟩
  | .local _ .vmem, ⟨13, _⟩ => ⟨S2x128x64, .f32⟩
  | .local _ .vmem, ⟨14, _⟩ => ⟨S2x128x64, .f32⟩
  | .local _ .vmem, ⟨15, _⟩ => ⟨S2x128x64, .f32⟩
  | .local _ .vmem, ⟨16, _⟩ => ⟨S2x128x64, .f32⟩
  | .local _ .vmem, ⟨17, _⟩ => ⟨S2x128x64, .f32⟩
  | .local _ .vmem, ⟨18, _⟩ => ⟨S1x4352x64, .f32⟩
  | .local _ .vmem, ⟨19, _⟩ => ⟨S1x4352x64, .f32⟩
  | .local _ .vmem, ⟨20, _⟩ => ⟨S1x4352x64, .f32⟩
  | .local _ .vmem, ⟨21, _⟩ => ⟨S1x4352x64, .f32⟩
  | .local _ .vmem, ⟨22, _⟩ => ⟨S1x256x64, .f32⟩
  | .local _ .vmem, ⟨23, _⟩ => ⟨S1x256x64, .f32⟩
  | .local _ .vmem, ⟨24, _⟩ => ⟨S1x256x64, .f32⟩
  | .local _ .vmem, ⟨25, _⟩ => ⟨S1x256x64, .f32⟩
  | .local _ .vmem, ⟨26, _⟩ => ⟨S2x1x128, .f32⟩
  | .local _ .vmem, ⟨27, _⟩ => ⟨S2x1x128, .f32⟩
  | _, _ => ⟨S2x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_5 : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_call2_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69_0 : Ref sig .tc := ⟨.hbm, 90, rfl⟩
abbrev main_v69_1 : Ref sig .tc := ⟨.hbm, 91, rfl⟩
abbrev main_v69_2 : Ref sig .tc := ⟨.hbm, 92, rfl⟩
abbrev main_v69_3 : Ref sig .tc := ⟨.hbm, 93, rfl⟩
abbrev main_v69_4 : Ref sig .tc := ⟨.hbm, 94, rfl⟩
abbrev main_v69_5 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_5 : Index := 0#32
  let arg1 : BitVec 32 := BitVec.ofNat 32 (i 1).val
  let c128_i32 : BitVec 32 := 128#32
  let v0 : BitVec 32 := Scalar.muli arg1 c128_i32
  let v1 : BitVec 32 := v0
  let v8 : Index := Scalar.indexCast v1
  let c0_6 : Index := 0#32
  ![0, v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4352x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4352x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference31Ideal.lean ====
abbrev S2x4096x4x64 : Shape := ⟨4, ![2, 4096, 4, 64]⟩
abbrev S2x4096x2x64 : Shape := ⟨4, ![2, 4096, 2, 64]⟩
abbrev S2x256x2x64 : Shape := ⟨4, ![2, 256, 2, 64]⟩
abbrev S4 : Shape := ⟨1, ![4]⟩
abbrev S2x4 : Shape := ⟨2, ![2, 4]⟩
abbrev S2x4096x2x2x64 : Shape := ⟨5, ![2, 4096, 2, 2, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x2x4096x4096x2 : Shape := ⟨5, ![2, 2, 4096, 4096, 2]⟩
abbrev S2x2x2x4096x4096 : Shape := ⟨5, ![2, 2, 2, 4096, 4096]⟩
abbrev S2x2x256x4096x2 : Shape := ⟨5, ![2, 2, 256, 4096, 2]⟩
abbrev S2x2x2x4096x256 : Shape := ⟨5, ![2, 2, 2, 4096, 256]⟩
abbrev S2x2x2 : Shape := ⟨3, ![2, 2, 2]⟩
abbrev S2x2x2x1x1 : Shape := ⟨5, ![2, 2, 2, 1, 1]⟩
abbrev S2x2x2x4096x1 : Shape := ⟨5, ![2, 2, 2, 4096, 1]⟩
abbrev S2x2x2x4096x4353 : Shape := ⟨5, ![2, 2, 2, 4096, 4353]⟩
abbrev S2x2x2x4096 : Shape := ⟨4, ![2, 2, 2, 4096]⟩
abbrev S2x2x64x2x4096 : Shape := ⟨5, ![2, 2, 64, 2, 4096]⟩
abbrev S2x2x64x256 : Shape := ⟨4, ![2, 2, 64, 256]⟩
abbrev S2x2x64x4096 : Shape := ⟨4, ![2, 2, 64, 4096]⟩
abbrev S2x2x4096x2x64 : Shape := ⟨5, ![2, 2, 4096, 2, 64]⟩
abbrev S2x2x256x64 : Shape := ⟨4, ![2, 2, 256, 64]⟩
abbrev S2x2x4096x64 : Shape := ⟨4, ![2, 2, 4096, 64]⟩
abbrev S2x4x4096x64 : Shape := ⟨4, ![2, 4, 4096, 64]⟩
abbrev S8x4096x64 : Shape := ⟨3, ![8, 4096, 64]⟩
abbrev S4x4096x64 : Shape := ⟨3, ![4, 4096, 64]⟩
abbrev S4x4352x64 : Shape := ⟨3, ![4, 4352, 64]⟩
abbrev S4x256x64 : Shape := ⟨3, ![4, 256, 64]⟩
abbrev S8x1x1 : Shape := ⟨3, ![8, 1, 1]⟩
abbrev S8x1x128 : Shape := ⟨3, ![8, 1, 128]⟩

abbrev nBuf : Space → Nat
  | .hbm => 162
  | .vmem => 0
  | .smem => 0
  | _ => 0

abbrev hbmTy0_0 (i : Nat) : BufTy := match i % 128 with
  | 0 => ⟨S2x4096x4x64, .f32⟩
  | 1 => ⟨S2x4096x2x64, .f32⟩
  | 2 => ⟨S2x4096x2x64, .f32⟩
  | 3 => ⟨S2x256x2x64, .f32⟩
  | 4 => ⟨S2x256x2x64, .f32⟩
  | 5 => ⟨S4, .f32⟩
  | 6 => ⟨S2x4096x4x64, .f32⟩
  | 7 => ⟨S2x4, .f32⟩
  | 8 => ⟨S2x4096x2x2x64, .f32⟩
  | 9 => ⟨S4096, .i32⟩
  | 10 => ⟨S1x4096, .i32⟩
  | 11 => ⟨S4096x1, .i32⟩
  | 12 => ⟨S4096x4096, .i32⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i1⟩
  | 19 => ⟨S2x2x4096x4096x2, .f32⟩
  | 20 => ⟨S2x2x2x4096x4096, .f32⟩
  | 21 => ⟨S_, .f32⟩
  | 22 => ⟨S2x2x2x4096x4096, .f32⟩
  | 23 => ⟨S2x2x2x4096x4096, .f32⟩
  | 24 => ⟨S_, .f32⟩
  | 25 => ⟨S_, .f32⟩
  | 26 => ⟨S2x2x2x4096x4096, .i1⟩
  | 27 => ⟨S2x2x2x4096x4096, .f32⟩
  | 28 => ⟨S2x2x2x4096x4096, .f32⟩
  | 29 => ⟨S_, .f32⟩
  | 30 => ⟨S2x2x2x4096x4096, .f32⟩
  | 31 => ⟨S2x2x256x4096x2, .f32⟩
  | 32 => ⟨S2x2x2x4096x256, .f32⟩
  | 33 => ⟨S_, .f32⟩
  | 34 => ⟨S2x2x2x4096x256, .f32⟩
  | 35 => ⟨S2x2x2x4096x256, .f32⟩
  | 36 => ⟨S2x2x2, .f32⟩
  | 37 => ⟨S2x2x2x1x1, .f32⟩
  | 38 => ⟨S2x2x2x4096x1, .f32⟩
  | 39 => ⟨S2x2x2x4096x4353, .f32⟩
  | 40 => ⟨S_, .f32⟩
  | 41 => ⟨S2x2x2x4096, .f32⟩
  | 42 => ⟨S2x2x2x4096x1, .f32⟩
  | 43 => ⟨S2x2x2x4096x4353, .f32⟩
  | 44 => ⟨S2x2x2x4096x4353, .i1⟩
  | 45 => ⟨S2x2x2x4096x4353, .f32⟩
  | 46 => ⟨S_, .f32⟩
  | 47 => ⟨S2x2x2x4096, .f32⟩
  | 48 => ⟨S_, .f32⟩
  | 49 => ⟨S2x2x2x4096, .f32⟩
  | 50 => ⟨S2x2x2x4096, .f32⟩
  | 51 => ⟨S_, .f32⟩
  | 52 => ⟨S2x2x2x4096, .f32⟩
  | 53 => ⟨S2x2x2x4096, .i1⟩
  | 54 => ⟨S_, .f32⟩
  | 55 => ⟨S2x2x2x4096, .f32⟩
  | 56 => ⟨S2x2x2x4096, .i1⟩
  | 57 => ⟨S_, .f32⟩
  | 58 => ⟨S2x2x2x4096, .f32⟩
  | 59 => ⟨S_, .f32⟩
  | 60 => ⟨S2x2x2x4096, .f32⟩
  | 61 => ⟨S_, .f32⟩
  | 62 => ⟨S2x2x2x4096, .f32⟩
  | 63 => ⟨S2x2x2x4096, .f32⟩
  | 64 => ⟨S2x2x2x4096, .f32⟩
  | 65 => ⟨S2x2x2x4096x1, .f32⟩
  | 66 => ⟨S2x2x2x4096x4353, .f32⟩
  | 67 => ⟨S2x2x2x4096x4353, .f32⟩
  | 68 => ⟨S2x2x2x4096x4353, .f32⟩
  | 69 => ⟨S_, .f32⟩
  | 70 => ⟨S2x2x2x4096, .f32⟩
  | 71 => ⟨S2x2x2x4096x1, .f32⟩
  | 72 => ⟨S2x2x2x4096x4353, .f32⟩
  | 73 => ⟨S2x2x2x4096x4353, .f32⟩
  | 74 => ⟨S2x2x2x4096x1, .f32⟩
  | 75 => ⟨S_, .f32⟩
  | 76 => ⟨S2x2x2x4096x1, .f32⟩
  | 77 => ⟨S2x2x2x4096x1, .f32⟩
  | 78 => ⟨S2x2x2x4096x4096, .f32⟩
  | 79 => ⟨S2x2x64x2x4096, .f32⟩
  | 80 => ⟨S2x4096x2x2x64, .f32⟩
  | 81 => ⟨S2x2x2x4096x256, .f32⟩
  | 82 => ⟨S2x2x64x2x4096, .f32⟩
  | 83 => ⟨S2x4096x2x2x64, .f32⟩
  | 84 => ⟨S2x4096x2x2x64, .f32⟩
  | 85 => ⟨S2x4096x4x64, .f32⟩
  | 86 => ⟨S2x4096x2x2x64, .f32⟩
  | 87 => ⟨S2x2x64x2x4096, .f32⟩
  | 88 => ⟨S2x2x2x4096x256, .f32⟩
  | 89 => ⟨S2x2x64x256, .f32⟩
  | 90 => ⟨S2x256x2x64, .f32⟩
  | 91 => ⟨S_, .f32⟩
  | 92 => ⟨S2x2x2x4096x4353, .f32⟩
  | 93 => ⟨S2x2x64x2x4096, .f32⟩
  | 94 => ⟨S2x2x2x4096x4096, .f32⟩
  | 95 => ⟨S2x2x64x4096, .f32⟩
  | 96 => ⟨S2x4096x2x64, .f32⟩
  | 97 => ⟨S_, .f32⟩
  | 98 => ⟨S2x2x2x4096x4353, .f32⟩
  | 99 => ⟨S2x2x2x4096x4353, .f32⟩
  | 100 => ⟨S2x2x2x4096x4353, .f32⟩
  | 101 => ⟨S2x2x2x4096x4353, .f32⟩
  | 102 => ⟨S2x2x2x4096x4353, .f32⟩
  | 103 => ⟨S_, .f32⟩
  | 104 => ⟨S2x2x2x4096, .f32⟩
  | 105 => ⟨S2x2x2x4096x1, .f32⟩
  | 106 => ⟨S2x2x2x4096x1, .f32⟩
  | 107 => ⟨S2x2x2x4096x4353, .f32⟩
  | 108 => ⟨S2x2x2x4096x4353, .f32⟩
  | 109 => ⟨S_, .f32⟩
  | 110 => ⟨S2x2x2x4096, .f32⟩
  | 111 => ⟨S2x2x2x4096x4353, .f32⟩
  | 112 => ⟨S2x2x2x4096x4353, .f32⟩
  | 113 => ⟨S2x2x2x4096x4353, .f32⟩
  | 114 => ⟨S2x2x2x4096x4096, .f32⟩
  | 115 => ⟨S2x2x2x4096x256, .f32⟩
  | 116 => ⟨S2x2x2x4096x1, .f32⟩
  | 117 => ⟨S_, .f32⟩
  | 118 => ⟨S2x2x2, .f32⟩
  | 119 => ⟨S2x2x2x1x1, .f32⟩
  | 120 => ⟨S_, .f32⟩
  | 121 => ⟨S2x2x2, .f32⟩
  | 122 => ⟨S2x4, .f32⟩
  | 123 => ⟨S_, .f32⟩
  | 124 => ⟨S2x2x2x4096x256, .f32⟩
  | 125 => ⟨S2x2x2x4096x256, .f32⟩
  | 126 => ⟨S2x2x256x4096x2, .f32⟩
  | 127 => ⟨S2x2x4096x2x64, .f32⟩
  | _ => ⟨S2x4096x4x64, .f32⟩

abbrev hbmTy0_1 (i : Nat) : BufTy := match i % 128 with
  | 0 => ⟨S2x4096x2x2x64, .f32⟩
  | 1 => ⟨S2x2x256x64, .f32⟩
  | 2 => ⟨S2x256x2x64, .f32⟩
  | 3 => ⟨S_, .f32⟩
  | 4 => ⟨S2x2x2x4096x4096, .f32⟩
  | 5 => ⟨S2x2x2x4096x4096, .f32⟩
  | 6 => ⟨S_, .f32⟩
  | 7 => ⟨S2x2x2x4096x4096, .f32⟩
  | 8 => ⟨S2x2x2x4096x4096, .f32⟩
  | 9 => ⟨S2x2x4096x4096x2, .f32⟩
  | 10 => ⟨S2x2x4096x2x64, .f32⟩
  | 11 => ⟨S2x4096x2x2x64, .f32⟩
  | 12 => ⟨S2x4096x2x2x64, .f32⟩
  | 13 => ⟨S2x2x4096x64, .f32⟩
  | 14 => ⟨S2x4096x2x64, .f32⟩
  | 15 => ⟨S2x4096x4x64, .f32⟩
  | 16 => ⟨S2x4x4096x64, .f32⟩
  | 17 => ⟨S8x4096x64, .f32⟩
  | 18 => ⟨S2x2x4096x64, .f32⟩
  | 19 => ⟨S4x4096x64, .f32⟩
  | 20 => ⟨S_, .i32⟩
  | 21 => ⟨S_, .f32⟩
  | 22 => ⟨S4x4352x64, .f32⟩
  | 23 => ⟨S2x2x4096x64, .f32⟩
  | 24 => ⟨S4x4096x64, .f32⟩
  | 25 => ⟨S_, .i32⟩
  | 26 => ⟨S_, .f32⟩
  | 27 => ⟨S4x4352x64, .f32⟩
  | 28 => ⟨S2x2x256x64, .f32⟩
  | 29 => ⟨S4x256x64, .f32⟩
  | 30 => ⟨S2x2x256x64, .f32⟩
  | 31 => ⟨S4x256x64, .f32⟩
  | 32 => ⟨S8x1x1, .f32⟩
  | 33 => ⟨S8x1x128, .f32⟩
  | _ => ⟨S2x4096x4x64, .f32⟩

abbrev hbmTy (i : Nat) : BufTy := match i / 128 with
  | 0 => hbmTy0_0 i
  | 1 => hbmTy0_1 i
  | _ => ⟨S2x4096x4x64, .f32⟩

abbrev bufTy : (tb : Table) → Fin (tcTables nBuf tb) → BufTy
  | .hbm, ⟨i, _⟩ => hbmTy i
  | _, _ => ⟨S2x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_call0_v0 : Ref sig .tc := ⟨.hbm, 25, rfl⟩
abbrev main_v15_1 : Ref sig .tc := ⟨.hbm, 26, rfl⟩
abbrev main_call0_v2 : Ref sig .tc := ⟨.hbm, 27, rfl⟩
abbrev main_v15_0 : Ref sig .tc := ⟨.hbm, 28, rfl⟩
abbrev main_call0_cst : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call1_cst : Ref sig .tc := ⟨.hbm, 131, rfl⟩
abbrev main_call1_v0 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_20 : Ref sig .tc := ⟨.hbm, 148, rfl⟩
abbrev main_call2_v0 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_21 : Ref sig .tc := ⟨.hbm, 153, rfl⟩
abbrev main_call3_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩

abbrev nD : Nat := 1
abbrev τ : Topo := Topo.v7x

variable {F : FTy → Type} [FloatOps F]
-- ==== Proof.Softmax.lean ====
/- The softmax attention of one head and its backward pass, over the extended reals. For finite arguments the two ways of
   writing the gradient of the scores agree: through the rows' inner products with the output, and through the derivative of
   each division. -/
module

public import Idealize.ShloMosaic.Lib.Pointwise

@[expose] public section

noncomputable section

namespace Cert.Attn

open Idealize.ShloMosaic

variable {n l D E : ℕ}

/-- Minus infinity, as the programs write it. -/
abbrev lowest : EReal := Ideal.ofBits .f32 0xFF800000#32

theorem lowest_eq : lowest = ⊥ := by simp [lowest, Ideal.ofBits, Ideal.ieee]

/-- The scale of the scores, as the programs write it. -/
abbrev scale : EReal := Ideal.ofBits .f32 0x3DD105EC#32

theorem scale_real : ∃ r : ℝ, scale = r := by
  simp only [scale, Ideal.ofBits, Ideal.ieee]
  simp [-EReal.coe_mul]

section Rows

variable (q : Fin n → Fin D → EReal) (k : Fin l → Fin D → EReal) (v : Fin l → Fin E → EReal) (ct : Fin n → Fin E → EReal)

/-- The scaled product of query `i` and key `j`. -/
def score (i : Fin n) (j : Fin l) : EReal := (∑ x, q i x * k j x) * scale

/-- The largest score of query `i`. -/
def top (i : Fin n) : EReal := Finset.fold max lowest (fun j => score q k i j) Finset.univ

/-- The exponential of a score below the largest. -/
def expo (i : Fin n) (j : Fin l) : EReal := Ideal.exp (score q k i j - top q k i)

/-- The sum of the exponentials of query `i`. -/
def mass (i : Fin n) : EReal := ∑ j, expo q k i j

/-- The probability, by the reciprocal of the sum. -/
def prob (i : Fin n) (j : Fin l) : EReal := expo q k i j * Ideal.div 1 (mass q k i)

/-- The output of the attention. -/
def out (i : Fin n) (x : Fin E) : EReal := ∑ j, v j x * Ideal.div (expo q k i j) (mass q k i)

/-- The gradient of the probability. -/
def dprob (i : Fin n) (j : Fin l) : EReal := ∑ x, ct i x * v j x

/-- The gradient of the products of queries and keys, by the inner product of the gradient with the output. -/
def dscoreByRow (i : Fin n) (j : Fin l) : EReal :=
  prob q k i j * (dprob v ct i j - ∑ x, ct i x * out q k v i x) * scale

/-- The gradient of the products of queries and keys, by the derivative of the division. -/
def dscoreByDiv (i : Fin n) (j : Fin l) : EReal :=
  (Ideal.div (dprob v ct i j) (mass q k i)
    + -∑ x, dprob v ct i x * Ideal.div 1 (mass q k i * mass q k i) * expo q k i x) * expo q k i j * scale

end Rows

/-- A sum of finite numbers is the finite number that is their sum. -/
theorem coe_sum {α : Type*} (s : Finset α) (f : α → ℝ) : (∑ a ∈ s, (f a : EReal)) = ((∑ a ∈ s, f a : ℝ) : EReal) := by
  classical
  induction s using Finset.induction_on with
  | empty => simp
  | insert a s ha ih => rw [Finset.sum_insert ha, Finset.sum_insert ha, ih, EReal.coe_add]

/-- The largest of finitely many finite numbers, at least one, is finite. -/
theorem fold_max_real (f : Fin l → ℝ) (j₀ : Fin l) :
    ∃ r : ℝ, Finset.fold max (⊥ : EReal) (fun j => (f j : EReal)) Finset.univ = r := by
  have hne : Finset.fold max (⊥ : EReal) (fun j => (f j : EReal)) Finset.univ ≠ ⊥ := by
    intro h
    have := (Finset.le_fold_max (s := Finset.univ) (b := (⊥ : EReal)) (f := fun j => (f j : EReal)) (f j₀ : EReal)).2
      (Or.inr ⟨j₀, Finset.mem_univ _, le_rfl⟩)
    rw [h] at this
    exact absurd this (by simp)
  have hnt : Finset.fold max (⊥ : EReal) (fun j => (f j : EReal)) Finset.univ ≠ ⊤ := by
    intro h
    have := (Finset.lt_fold_max (s := Finset.univ) (b := (⊥ : EReal)) (f := fun j => (f j : EReal))
      ((∑ j, |f j| : ℝ) : EReal)).1 (by rw [h]; exact EReal.coe_lt_top _)
    rcases this with h | ⟨j, _, hj⟩
    · simp at h
    · have h1 : f j ≤ ∑ j, |f j| := (le_abs_self _).trans
        (Finset.single_le_sum (f := fun j => |f j|) (fun _ _ => abs_nonneg _) (Finset.mem_univ j))
      exact absurd (EReal.coe_lt_coe_iff.1 hj) (not_lt.2 h1)
  exact ⟨_, (EReal.coe_toReal hnt hne).symm⟩

section Finite

variable (q : Fin n → Fin D → ℝ) (k : Fin l → Fin D → ℝ) (v : Fin l → Fin E → ℝ) (ct : Fin n → Fin E → ℝ)

/-- For finite queries and keys the exponentials of a query are positive reals. -/
theorem expo_real (i : Fin n) (j₀ : Fin l) : ∃ e : Fin l → ℝ, (∀ j, 0 < e j) ∧
    ∀ j, expo (fun i x => (q i x : EReal)) (fun j x => (k j x : EReal)) i j = e j := by
  obtain ⟨κ, hκ⟩ := scale_real
  have hs : ∀ j, score (fun i x => (q i x : EReal)) (fun j x => (k j x : EReal)) i j = ((∑ x, q i x * k j x) * κ : ℝ) := by
    intro j
    simp only [score, hκ, ← EReal.coe_mul, coe_sum]
  obtain ⟨t, ht⟩ := fold_max_real (fun j => (∑ x, q i x * k j x) * κ) j₀
  refine ⟨fun j => Real.exp ((∑ x, q i x * k j x) * κ - t), fun j => Real.exp_pos _, fun j => ?_⟩
  have htop : top (fun i x => (q i x : EReal)) (fun j x => (k j x : EReal)) i = t := by
    rw [top, lowest_eq, ← ht]; simp only [hs]
  rw [expo, hs, htop, ← EReal.coe_sub, Ideal.exp_coe]

/-- The probability by the reciprocal and by the division are the same. -/
theorem prob_eq_div (i : Fin n) (j : Fin l) :
    prob (fun i x => (q i x : EReal)) (fun j x => (k j x : EReal)) i j
      = Ideal.div (expo (fun i x => (q i x : EReal)) (fun j x => (k j x : EReal)) i j)
          (mass (fun i x => (q i x : EReal)) (fun j x => (k j x : EReal)) i) := by
  obtain ⟨e, he, h⟩ := expo_real q k i j
  have hm : (∑ j, e j) ≠ 0 := (Finset.sum_pos (fun j _ => he j) ⟨j, Finset.mem_univ _⟩).ne'
  simp only [prob, mass, h, coe_sum, Ideal.div_coe hm]
  rw [one_mul]

/-- The two gradients of the scores are the same. -/
theorem dscore_eq (i : Fin n) (j : Fin l) :
    dscoreByRow (fun i x => (q i x : EReal)) (fun j x => (k j x : EReal)) (fun j x => (v j x : EReal)) (fun i x => (ct i x : EReal)) i j
      = dscoreByDiv (fun i x => (q i x : EReal)) (fun j x => (k j x : EReal)) (fun j x => (v j x : EReal)) (fun i x => (ct i x : EReal)) i j := by
  obtain ⟨κ, hκ⟩ := scale_real
  obtain ⟨e, he, h⟩ := expo_real q k i j
  have hm : (∑ j, e j) ≠ 0 := (Finset.sum_pos (fun j _ => he j) ⟨j, Finset.mem_univ _⟩).ne'
  have hmm : (∑ j, e j) * (∑ j, e j) ≠ 0 := mul_ne_zero hm hm
  have h1 : (1 : EReal) = ((1 : ℝ) : EReal) := rfl
  simp only [dscoreByRow, dscoreByDiv, prob, mass, dprob, out, h, coe_sum, Ideal.div_coe hm, hκ, ← EReal.coe_mul,
    Ideal.div_coe hmm, h1, ← EReal.coe_sub, ← EReal.coe_neg, ← EReal.coe_add]
  refine congrArg _ ?_
  have hsw : ∑ x, ct i x * ∑ j, v j x * (e j * (1 / ∑ j, e j)) = (∑ j, (∑ x, ct i x * v j x) * e j) * (1 / ∑ j, e j) := by
    simp only [Finset.mul_sum, Finset.sum_mul]
    rw [Finset.sum_comm]
    refine Finset.sum_congr rfl fun j _ => Finset.sum_congr rfl fun x _ => ?_
    ring
  have hsm : ∑ x, (∑ y, ct i y * v x y) * (1 * (1 / ((∑ j, e j) * ∑ j, e j))) * e x
      = (∑ j, (∑ x, ct i x * v j x) * e j) * (1 / ((∑ j, e j) * ∑ j, e j)) := by
    refine Eq.trans (Finset.sum_congr rfl fun j _ => ?_) (Finset.sum_mul _ _ _).symm
    ring
  rw [hsw, hsm]
  field_simp
  ring

end Finite

end Cert.Attn
-- ==== Proof.HostGradient.lean ====
/- What the reference computes, entry by entry: its gradients of the attention are read off the run of its operations, one
   named array for each step of the softmax and of its backward pass. -/
module

public import proofs.«01_k».proof.Proof.Gen.ReferenceIdeal.Run
public import Idealize.ShloMosaic.Lib.Pipeline.ValueKit
public import proofs.«01_k».proof.Proof.Softmax

@[expose] public section

set_option maxRecDepth 16384

noncomputable section

namespace Cert.Attn.Host

open Cert.ReferenceIdeal Cert.ReferenceIdeal.Gen Idealize.ShloMosaic Idealize.ShloMosaic.TcCoe Idealize.SL.Sem
  Idealize.ShloMosaic.StableHlo

variable (q : FVec Ideal S2x4096x4x96 .f32) (k : FVec Ideal S2x4352x4x96 .f32) (v : FVec Ideal S2x4352x4x64 .f32)
  (ct : FVec Ideal S2x4096x4x64 .f32)

/-- The scaled products of queries and keys. -/
def scores : FVec Ideal S2x4x4096x4352 .f32 :=
  mulf (Host.dotGeneral dot_S2x4096x4x96_S2x4352x4x96_S2x4x4096x4352_3_3_1_1_02_02 none q k)
    (broadcastInDim S2x4x4096x4352 ![] bcast_S_S2x4x4096x4352 (constant S_ .f32 0x3DD105EC#32))

/-- The largest score of each query. -/
def tops : FVec Ideal S2x4x4096 .f32 :=
  maximumf (broadcastInDim S2x4x4096 ![] bcast_S_S2x4x4096 (constant S_ .f32 0xFF800000#32))
    (Host.reduce FloatOps.maximumf (scores q k) (constant S_ .f32 0xFF800000#32) reducesTo_S2x4x4096x4352_S2x4x4096_d3 h_S_)

/-- One number for each query, repeated over the keys. -/
def over (x : FVec Ideal S2x4x4096 .f32) : FVec Ideal S2x4x4096x4352 .f32 :=
  broadcastInDim S2x4x4096x4352 ![0, 1, 2, 3] bcast_S2x4x4096x1_S2x4x4096x4352_0_1_2_3
    (broadcastInDim S2x4x4096x1 ![0, 1, 2] bcast_S2x4x4096_S2x4x4096x1_0_1_2 x)

/-- The exponentials of the scores below the largest. -/
def exps : FVec Ideal S2x4x4096x4352 .f32 := Host.exp (subf (scores q k) (over (tops q k)))

/-- The sum of the exponentials of each query. -/
def den : FVec Ideal S2x4x4096 .f32 :=
  Host.reduceAdd (exps q k) (constant S_ .f32 0x00000000#32) reducesTo_S2x4x4096x4352_S2x4x4096_d3 h_S_

/-- The gradient's entries with the feature axis in front of the queries. -/
def ctT : FVec Ideal S2x4x64x4096 .f32 := transpose S2x4x64x4096 [0, 2, 3, 1] ct transposes_S2x4096x4x64_S2x4x64x4096_0_2_3_1

/-- The gradient of the probabilities. -/
def dprobs : FVec Ideal S2x4x4096x4352 .f32 :=
  Host.dotGeneral dot_S2x4x64x4096_S2x4352x4x64_S2x4x4096x4352_2_3_3_1_01_02 none (ctT ct) v

/-- The part of the gradient that goes through the sum of the exponentials. -/
def coef : FVec Ideal S2x4x4096 .f32 :=
  Host.reduceAdd (Host.negf (shapeCast S2x4x4096x1
      (Host.reduceAdd (mulf (mulf (dprobs v ct)
          (broadcastInDim S2x4x4096x4352 ![0, 1, 2, 3] bcast_S2x4x4096x1_S2x4x4096x4352_0_1_2_3
            (Host.divf (broadcastInDim S2x4x4096x1 ![] bcast_S_S2x4x4096x1 (constant S_ .f32 0x3F800000#32))
              (mulf (broadcastInDim S2x4x4096x1 ![0, 1, 2] bcast_S2x4x4096_S2x4x4096x1_0_1_2 (den q k))
                (broadcastInDim S2x4x4096x1 ![0, 1, 2] bcast_S2x4x4096_S2x4x4096x1_0_1_2 (den q k))))))
        (exps q k)) (constant S_ .f32 0x00000000#32) reducesTo_S2x4x4096x4352_S2x4x4096_d3 h_S_)
      shapeCasts_S2x4x4096_S2x4x4096x1)) (constant S_ .f32 0x00000000#32) reducesTo_S2x4x4096x1_S2x4x4096_d3 h_S_

/-- The gradient of the products of queries and keys. -/
def dscores : FVec Ideal S2x4x4096x4352 .f32 :=
  mulf (mulf (addf (Host.divf (dprobs v ct) (over (den q k)))
      (broadcastInDim S2x4x4096x4352 ![0, 1, 2] bcast_S2x4x4096_S2x4x4096x4352_0_1_2 (coef q k v ct))) (exps q k))
    (broadcastInDim S2x4x4096x4352 ![] bcast_S_S2x4x4096x4352 (constant S_ .f32 0x3DD105EC#32))

/-- The gradient of the queries, one batch of rows for each head. -/
def gradQ : FVec Ideal S8x4096x96 .f32 :=
  shapeCast S8x4096x96 (transpose S2x4x4096x96 [0, 2, 1, 3] (transpose S2x4096x4x96 [0, 2, 1, 3]
    (Host.dotGeneral dot_S2x4x4096x4352_S2x4352x4x96_S2x4x4096x96_3_1_2_3_01_02 none (dscores q k v ct) k)
    transposes_S2x4x4096x96_S2x4096x4x96_0_2_1_3) transposes_S2x4096x4x96_S2x4x4096x96_0_2_1_3) shapeCasts_S2x4x4096x96_S8x4096x96

/-- The gradient of the keys. -/
def gradK : FVec Ideal S8x4352x96 .f32 :=
  shapeCast S8x4352x96 (transpose S2x4x4352x96 [0, 2, 1, 3] (transpose S2x4352x4x96 [0, 2, 1, 3]
    (Host.dotGeneral dot_S2x4x4096x4352_S2x4096x4x96_S2x4x4352x96_2_1_3_3_01_02 none (dscores q k v ct) q)
    transposes_S2x4x4352x96_S2x4352x4x96_0_2_1_3) transposes_S2x4352x4x96_S2x4x4352x96_0_2_1_3) shapeCasts_S2x4x4352x96_S8x4352x96

/-- The gradient of the values. -/
def gradV : FVec Ideal S8x4352x64 .f32 :=
  shapeCast S8x4352x64 (transpose S2x4x4352x64 [0, 2, 1, 3] (transpose S2x4352x4x64 [0, 3, 1, 2]
    (Host.dotGeneral dot_S2x4x64x4096_S2x4x4096x4352_S2x4x64x4352_3_2_2_3_01_01 none (ctT ct)
      (Host.divf (exps q k) (over (den q k))))
    transposes_S2x4x64x4352_S2x4352x4x64_0_3_1_2) transposes_S2x4352x4x64_S2x4x4352x64_0_2_1_3) shapeCasts_S2x4x4352x64_S8x4352x64

/-- The largest entry of each row. -/
theorem top_at (x : FVec Ideal S2x4x4096x4352 .f32) (b : Fin 2) (h : Fin 4) (i : Fin 4096) :
    Host.reduce FloatOps.maximumf x (constant S_ .f32 0xFF800000#32) reducesTo_S2x4x4096x4352_S2x4x4096_d3 h_S_ (ix3 b h i)
      = Finset.fold max lowest (fun j : Fin 4352 => x (ix4 b h i j)) Finset.univ := by
  pointwise

/-- The rows of one head of a four-axis array. -/
abbrev head {n a d : ℕ} (x : (⟨4, ![2, n, a, d]⟩ : Shape).Idx → EReal) (b : Fin 2) (h : Fin a) : Fin n → Fin d → EReal :=
  fun i y => x (ix4 b i h y)

theorem scores_at (b : Fin 2) (h : Fin 4) (i : Fin 4096) (j : Fin 4352) :
    scores q k (ix4 b h i j) = score (head q b h) (head k b h) i j := by
  unfold scores score
  pointwise

theorem max_at (x : FVec Ideal S2x4x4096 .f32) (b : Fin 2) (h : Fin 4) (i : Fin 4096) :
    maximumf (broadcastInDim S2x4x4096 ![] bcast_S_S2x4x4096 (constant S_ .f32 0xFF800000#32)) x (ix3 b h i)
      = max lowest (x (ix3 b h i)) := by
  pointwise

theorem tops_at (b : Fin 2) (h : Fin 4) (i : Fin 4096) : tops q k (ix3 b h i) = top (head q b h) (head k b h) i := by
  unfold tops
  rw [max_at, top_at]
  simp only [scores_at, top, lowest_eq, max_eq_right, bot_le]

theorem over_at (x : FVec Ideal S2x4x4096 .f32) (b : Fin 2) (h : Fin 4) (i : Fin 4096) (j : Fin 4352) :
    over x (ix4 b h i j) = x (ix3 b h i) := by
  unfold over
  pointwise

theorem exps_at (b : Fin 2) (h : Fin 4) (i : Fin 4096) (j : Fin 4352) :
    exps q k (ix4 b h i j) = expo (head q b h) (head k b h) i j := by
  have h1 : exps q k (ix4 b h i j) = Ideal.exp (scores q k (ix4 b h i j) - over (tops q k) (ix4 b h i j)) := rfl
  rw [h1, over_at, tops_at, scores_at, expo]

theorem sum_at (x : FVec Ideal S2x4x4096x4352 .f32) (b : Fin 2) (h : Fin 4) (i : Fin 4096) :
    Host.reduceAdd x (constant S_ .f32 0x00000000#32) reducesTo_S2x4x4096x4352_S2x4x4096_d3 h_S_ (ix3 b h i)
      = ∑ j : Fin 4352, x (ix4 b h i j) := by
  pointwise

theorem den_at (b : Fin 2) (h : Fin 4) (i : Fin 4096) : den q k (ix3 b h i) = mass (head q b h) (head k b h) i := by
  unfold den mass
  rw [sum_at]
  simp only [exps_at]

theorem dprobs_at (b : Fin 2) (h : Fin 4) (i : Fin 4096) (j : Fin 4352) :
    dprobs v ct (ix4 b h i j) = dprob (head v b h) (head ct b h) i j := by
  unfold dprobs ctT dprob
  pointwise

theorem dscores_at (b : Fin 2) (h : Fin 4) (i : Fin 4096) (j : Fin 4352) :
    dscores q k v ct (ix4 b h i j) = dscoreByDiv (head q b h) (head k b h) (head v b h) (head ct b h) i j := by
  unfold dscores coef over dscoreByDiv
  pointwise
  simp only [dprobs_at, exps_at, den_at, Fin.sum_univ_one]

theorem gradQ_at (g : Fin 8) (i : Fin 4096) (d : Fin 96) : gradQ q k v ct (ix3 g i d)
    = ∑ x : Fin 4352, dscores q k v ct (ix4 ⟨g / 4, by omega⟩ ⟨g % 4, by omega⟩ i x) * k (ix4 ⟨g / 4, by omega⟩ x ⟨g % 4, by omega⟩ d) := by
  unfold gradQ
  pointwise

theorem gradK_at (g : Fin 8) (i : Fin 4352) (d : Fin 96) : gradK q k v ct (ix3 g i d)
    = ∑ x : Fin 4096, dscores q k v ct (ix4 ⟨g / 4, by omega⟩ ⟨g % 4, by omega⟩ x i) * q (ix4 ⟨g / 4, by omega⟩ x ⟨g % 4, by omega⟩ d) := by
  unfold gradK
  pointwise

theorem gradV_at (g : Fin 8) (i : Fin 4352) (d : Fin 64) : gradV q k ct (ix3 g i d)
    = ∑ x : Fin 4096, ct (ix4 ⟨g / 4, by omega⟩ x ⟨g % 4, by omega⟩ d)
        * Ideal.div (exps q k (ix4 ⟨g / 4, by omega⟩ ⟨g % 4, by omega⟩ x i)) (den q k (ix3 ⟨g / 4, by omega⟩ ⟨g % 4, by omega⟩ x)) := by
  unfold gradV ctT over
  pointwise

variable (m : (ℓ : Loc nD τ sig) → Buf (Elt Ideal) ℓ) (c : Dev nD)

theorem out0 : Value.res_out0 m c = gradQ (m ((c.tc : Thread nD τ).loc main_arg0)) (m ((c.tc : Thread nD τ).loc main_arg1))
    (m ((c.tc : Thread nD τ).loc main_arg2)) (m ((c.tc : Thread nD τ).loc main_arg3)) := rfl

theorem out1 : Value.res_out1 m c = gradK (m ((c.tc : Thread nD τ).loc main_arg0)) (m ((c.tc : Thread nD τ).loc main_arg1))
    (m ((c.tc : Thread nD τ).loc main_arg2)) (m ((c.tc : Thread nD τ).loc main_arg3)) := rfl

end Cert.Attn.Host
-- ==== Proof.KernelBlocks.lean ====
/- What one grid point of the kernel computes from the blocks it reads: a block of the gradient of the queries, and the
   parts it adds to the gradients of the keys and values. -/
module

public import proofs.«01_k».proof.Proof.Gen.KernelIdeal.Value
public import Idealize.ShloMosaic.Lib.Pipeline.ValueKit
public import proofs.«01_k».proof.Proof.Softmax

@[expose] public section

set_option maxRecDepth 16384

noncomputable section

namespace Cert.Attn.Blocks

open Cert.KernelIdeal Cert.KernelIdeal.Gen Idealize.ShloMosaic Idealize.ShloMosaic.TcCoe Idealize.SL.Sem

/-- The rows of a block. -/
abbrev rows {n d : ℕ} (x : (⟨3, ![1, n, d]⟩ : Shape).Idx → EReal) : Fin n → Fin d → EReal := fun i y => x (ix3 0 i y)

variable (xq : Vec Ideal S1x512x96 .bf16) (xk : Vec Ideal S1x4352x96 .bf16) (xv : Vec Ideal S1x4352x64 .bf16)
  (xc : Vec Ideal S1x512x64 .f32) (xo : Vec Ideal S1x512x64 .f32)

theorem prob_at (i : Fin 512) (j : Fin 4352) : k0_pay14 xq xk (ix2 i j) = prob (rows xq) (rows xk) i j := by
  unfold prob expo mass expo top score
  pointwise [k0_pay14, k0_pay11, k0_pay12]

/-- The gradient of the products of queries and keys in one block, before the scale. -/
theorem inner_at (i : Fin 512) (j : Fin 4352) : k0_pay16 xq xk xv xc xo (ix2 i j)
    = prob (rows xq) (rows xk) i j * (dprob (rows xv) (rows xc) i j - ∑ x, rows xc i x * rows xo i x) := by
  rw [← prob_at]
  unfold dprob
  pointwise [k0_pay16, k0_pay13]

theorem dq_at (s : FVec Ideal S512x4352 .f32) (i : Fin 512) (d : Fin 96) :
    k0_pay2 (k0_pay12 xk) s (ix3 0 i d) = ∑ j : Fin 4352, (s (ix2 i j) * scale) * xk (ix3 0 j d) := by
  pointwise [k0_pay2, k0_pay12, k0_pay1]

theorem dk_at (s : FVec Ideal S512x4352 .f32) (j : Fin 4352) (d : Fin 96) :
    k0_pay5 (k0_pay11 xq) s (ix3 0 j d) = ∑ i : Fin 512, (s (ix2 i j) * scale) * xq (ix3 0 i d) := by
  pointwise [k0_pay5, k0_pay3, k0_pay11, k0_pay1]

theorem dk_add_at (s : FVec Ideal S512x4352 .f32) (acc : Vec Ideal S1x4352x96 .f32) (j : Fin 4352) (d : Fin 96) :
    k0_pay8 (k0_pay11 xq) s acc (ix3 0 j d) = acc (ix3 0 j d) + ∑ i : Fin 512, (s (ix2 i j) * scale) * xq (ix3 0 i d) := by
  pointwise [k0_pay8, k0_pay3, k0_pay11, k0_pay1]

theorem dv_part_at (j : Fin 4352) (d : Fin 64) :
    k0_pay15 xq xk xc (ix2 j d) = ∑ i : Fin 512, prob (rows xq) (rows xk) i j * xc (ix3 0 i d) := by
  simp only [← prob_at]
  pointwise [k0_pay15, k0_pay13]

theorem dv_at (j : Fin 4352) (d : Fin 64) :
    k0_pay6 (k0_pay15 xq xk xc) (ix3 0 j d) = ∑ i : Fin 512, prob (rows xq) (rows xk) i j * xc (ix3 0 i d) := by
  rw [← dv_part_at]
  pointwise [k0_pay6]

theorem dv_add_at (acc : Vec Ideal S1x4352x64 .f32) (j : Fin 4352) (d : Fin 64) :
    k0_pay9 (k0_pay15 xq xk xc) acc (ix3 0 j d)
      = acc (ix3 0 j d) + ∑ i : Fin 512, prob (rows xq) (rows xk) i j * xc (ix3 0 i d) := by
  rw [← dv_part_at]
  pointwise [k0_pay9]

end Cert.Attn.Blocks
-- ==== Proof.Inputs.lean ====
/- The arrays that the kernel's grid reads: the rows of the queries, keys, values and incoming gradient of each head, and the
   rows of the attention's output, which the host computes before the call. -/
module

public import proofs.«01_k».proof.Proof.HostGradient
public import proofs.«01_k».proof.Proof.KernelBlocks

@[expose] public section

set_option maxRecDepth 16384

noncomputable section

namespace Cert.Attn.Inputs

open Cert.KernelIdeal Cert.KernelIdeal.Gen Idealize.ShloMosaic Idealize.ShloMosaic.TcCoe Idealize.SL.Sem
open Cert.Attn.Host (head)

variable (m : (ℓ : Loc nD τ sig) → Buf (Elt Ideal) ℓ) (c : Dev nD)

/-- The queries at launch. -/
abbrev argQ : FVec Ideal S2x4096x4x96 .f32 := m ((c.tc : Thread nD τ).loc main_arg0)
/-- The keys at launch. -/
abbrev argK : FVec Ideal S2x4352x4x96 .f32 := m ((c.tc : Thread nD τ).loc main_arg1)
/-- The values at launch. -/
abbrev argV : FVec Ideal S2x4352x4x64 .f32 := m ((c.tc : Thread nD τ).loc main_arg2)
/-- The gradient of the output at launch. -/
abbrev argC : FVec Ideal S2x4096x4x64 .f32 := m ((c.tc : Thread nD τ).loc main_arg3)

theorem queries_at (g : Fin 8) (i : Fin 4096) (x : Fin 96) :
    (V m c main_v3 : S8x4096x96.Idx → EReal) (ix3 g i x) = argQ m c (ix4 ⟨g / 4, by omega⟩ i ⟨g % 4, by omega⟩ x) := by
  entry_read
  pointwise

theorem keys_at (g : Fin 8) (i : Fin 4352) (x : Fin 96) :
    (V m c main_v6 : S8x4352x96.Idx → EReal) (ix3 g i x) = argK m c (ix4 ⟨g / 4, by omega⟩ i ⟨g % 4, by omega⟩ x) := by
  entry_read
  pointwise

theorem values_at (g : Fin 8) (i : Fin 4352) (x : Fin 64) :
    (V m c main_v9 : S8x4352x64.Idx → EReal) (ix3 g i x) = argV m c (ix4 ⟨g / 4, by omega⟩ i ⟨g % 4, by omega⟩ x) := by
  entry_read
  pointwise

theorem grads_at (g : Fin 8) (i : Fin 4096) (x : Fin 64) :
    (V m c main_v29 : S8x4096x64.Idx → EReal) (ix3 g i x) = argC m c (ix4 ⟨g / 4, by omega⟩ i ⟨g % 4, by omega⟩ x) := by
  entry_read
  pointwise

/-- The output rows from the probabilities, one batch of rows for each head. -/
def outRows (v : FVec Ideal S2x4352x4x64 .f32) (p : FVec Ideal S2x4x4096x4352 .f32) : FVec Ideal S8x4096x64 .f32 :=
  shapeCast S8x4096x64 (transpose S2x4x4096x64 [0, 2, 1, 3] (transpose S2x4096x4x64 [0, 3, 1, 2]
    (Host.dotGeneral dot_S2x4352x4x64_S2x4x4096x4352_S2x4x64x4096_1_3_3_2_02_01 none v p)
    transposes_S2x4x64x4096_S2x4096x4x64_0_3_1_2) transposes_S2x4096x4x64_S2x4x4096x64_0_2_1_3) shapeCasts_S2x4x4096x64_S8x4096x64

theorem outs_eq : V m c main_v27 = outRows (argV m c)
    (Host.divf (Host.exps (argQ m c) (argK m c)) (Host.over (Host.den (argQ m c) (argK m c)))) := by
  entry_read
  rfl

theorem outRows_at (v : FVec Ideal S2x4352x4x64 .f32) (p : FVec Ideal S2x4x4096x4352 .f32) (g : Fin 8) (i : Fin 4096) (x : Fin 64) :
    outRows v p (ix3 g i x) = ∑ j : Fin 4352, v (ix4 ⟨g / 4, by omega⟩ j ⟨g % 4, by omega⟩ x)
      * p (ix4 ⟨g / 4, by omega⟩ ⟨g % 4, by omega⟩ i j) := by
  unfold outRows
  pointwise

/-- The output that the kernel reads is the attention's output. -/
theorem outs_at (g : Fin 8) (i : Fin 4096) (x : Fin 64) :
    (V m c main_v27 : S8x4096x64.Idx → EReal) (ix3 g i x)
      = out (head (argQ m c) ⟨g / 4, by omega⟩ ⟨g % 4, by omega⟩) (head (argK m c) ⟨g / 4, by omega⟩ ⟨g % 4, by omega⟩)
          (head (argV m c) ⟨g / 4, by omega⟩ ⟨g % 4, by omega⟩) i x := by
  rw [outs_eq, outRows_at, out]
  show (_ : EReal) = _
  refine Finset.sum_congr rfl fun j _ => congrArg (argV m c _ * ·) ?_
  show Ideal.div (Host.exps (argQ m c) (argK m c) _) (Host.over (Host.den (argQ m c) (argK m c)) _) = _
  rw [Host.over_at, Host.den_at, Host.exps_at]

end Cert.Attn.Inputs
-- ==== Proof.KernelGradient.lean ====
/- What the kernel's three results hold after its run: the gradients of the queries, keys and values of every head. -/
module

public import proofs.«01_k».proof.Proof.Inputs

@[expose] public section

set_option maxRecDepth 16384

noncomputable section

namespace Cert.Attn.Kernel

open Cert.KernelIdeal Cert.KernelIdeal.Gen Idealize.ShloMosaic Idealize.ShloMosaic.TcCoe Idealize.SL.Sem
open Cert.Attn.Host (head)
open Cert.Attn.Inputs Cert.Attn.Blocks

/-- Which block of each array a grid point reads and writes. -/
theorem idx : ∀ t : Fin cfg0.N, win0_0.index t = ![t.val / 8, t.val % 8, 0] ∧ win0_1.index t = ![t.val / 8, 0, 0]
    ∧ win0_2.index t = ![t.val / 8, 0, 0] ∧ win0_4.index t = ![t.val / 8, t.val % 8, 0] ∧ win0_5.index t = ![t.val / 8, t.val % 8, 0]
    ∧ win0_6.index t = ![t.val / 8, t.val % 8, 0] ∧ win0_7.index t = ![t.val / 8, 0, 0] ∧ win0_8.index t = ![t.val / 8, 0, 0] :=
  (by decide +kernel : ∀ t : Fin grid0.N, _)

variable (m : (ℓ : Loc nD τ sig) → Buf (Elt Ideal) ℓ) (c : Dev nD)

section Head

variable (g : Fin 8)

/-- The queries, keys, values and incoming gradient of one head. -/
abbrev hq : Fin 4096 → Fin 96 → EReal := head (argQ m c) ⟨g / 4, by omega⟩ ⟨g % 4, by omega⟩
@[inherit_doc hq] abbrev hk : Fin 4352 → Fin 96 → EReal := head (argK m c) ⟨g / 4, by omega⟩ ⟨g % 4, by omega⟩
@[inherit_doc hq] abbrev hv : Fin 4352 → Fin 64 → EReal := head (argV m c) ⟨g / 4, by omega⟩ ⟨g % 4, by omega⟩
@[inherit_doc hq] abbrev hc : Fin 4096 → Fin 64 → EReal := head (argC m c) ⟨g / 4, by omega⟩ ⟨g % 4, by omega⟩

end Head

theorem point_lt (t : Fin cfg0.N) : t.val < 64 := lt_of_lt_of_eq t.isLt N_0

/-- The head of a grid point. -/
abbrev hd (t : Fin cfg0.N) : Fin 8 := ⟨t.val / 8, by have := point_lt t; omega⟩

/-- Row `i` of a grid point's block, in its head. -/
abbrev row (t : Fin cfg0.N) (i : Fin 512) : Fin 4096 := ⟨t.val % 8 * 512 + i, by omega⟩

theorem read_q (t : Fin cfg0.N) : rows (iblk m c 0 t : Vec Ideal S1x512x96 .bf16) = fun i => hq m c (hd t) (row t i) := by
  funext i x
  refine Eq.trans (congrArg (V m c main_v3) (?_ : ((cfg0.win 0).blk t).view.emb (ix3 0 i x) = ix3 (hd t) (row t i) x)) (queries_at m c (hd t) (row t i) x)
  blk_ext [idx t]

theorem read_k (t : Fin cfg0.N) : rows (iblk m c 1 t : Vec Ideal S1x4352x96 .bf16) = hk m c (hd t) := by
  funext i x
  refine Eq.trans (congrArg (V m c main_v6) (?_ : ((cfg0.win 1).blk t).view.emb (ix3 0 i x) = ix3 (hd t) i x)) (keys_at m c (hd t) i x)
  blk_ext [idx t]

theorem read_v (t : Fin cfg0.N) : rows (iblk m c 2 t : Vec Ideal S1x4352x64 .bf16) = hv m c (hd t) := by
  funext i x
  refine Eq.trans (congrArg (V m c main_v9) (?_ : ((cfg0.win 2).blk t).view.emb (ix3 0 i x) = ix3 (hd t) i x)) (values_at m c (hd t) i x)
  blk_ext [idx t]

theorem read_o (t : Fin cfg0.N) : rows (iblk m c 4 t : Vec Ideal S1x512x64 .f32)
    = fun i => out (hq m c (hd t)) (hk m c (hd t)) (hv m c (hd t)) (row t i) := by
  funext i x
  refine Eq.trans (congrArg (V m c main_v27) (?_ : ((cfg0.win 4).blk t).view.emb (ix3 0 i x) = ix3 (hd t) (row t i) x)) (outs_at m c (hd t) (row t i) x)
  blk_ext [idx t]

theorem read_c (t : Fin cfg0.N) : rows (iblk m c 5 t : Vec Ideal S1x512x64 .f32) = fun i => hc m c (hd t) (row t i) := by
  funext i x
  refine Eq.trans (congrArg (V m c main_v29) (?_ : ((cfg0.win 5).blk t).view.emb (ix3 0 i x) = ix3 (hd t) (row t i) x)) (grads_at m c (hd t) (row t i) x)
  blk_ext [idx t]

/-- The scaled gradient of the scores that a grid point computes. -/
theorem inner_eq (t : Fin cfg0.N) (i : Fin 512) (j : Fin 4352) :
    k0_pay16 (F := Ideal) (iblk m c 0 t) (iblk m c 1 t) (iblk m c 2 t) (iblk m c 5 t) (iblk m c 4 t) (ix2 i j) * scale
      = dscoreByRow (hq m c (hd t)) (hk m c (hd t)) (hv m c (hd t)) (hc m c (hd t)) (row t i) j := by
  rw [inner_at, read_q, read_k, read_v, read_o, read_c]
  rfl

/-- The gradient of the queries, all heads. -/
def arrQ : FVec Ideal S8x4096x96 .f32 := fun z =>
  ∑ j : Fin 4352, dscoreByRow (hq m c (z 0)) (hk m c (z 0)) (hv m c (z 0)) (hc m c (z 0)) (z 1) j * hk m c (z 0) j (z 2)

/-- The gradient of the keys, all heads. -/
def arrK : FVec Ideal S8x4352x96 .f32 := fun z =>
  ∑ i : Fin 4096, dscoreByRow (hq m c (z 0)) (hk m c (z 0)) (hv m c (z 0)) (hc m c (z 0)) i (z 1) * hq m c (z 0) i (z 2)

/-- The gradient of the values, all heads. -/
def arrV : FVec Ideal S8x4352x64 .f32 := fun z =>
  ∑ i : Fin 4096, prob (hq m c (z 0)) (hk m c (z 0)) i (z 1) * hc m c (z 0) i (z 2)

/-- What a grid point writes of the gradient of the queries. -/
theorem point_q (t : Fin cfg0.N) (y : S1x512x96.Idx) :
    k0_pay2 (F := Ideal) (k0_pay12 (iblk m c 1 t)) (k0_pay16 (iblk m c 0 t) (iblk m c 1 t) (iblk m c 2 t) (iblk m c 5 t) (iblk m c 4 t)) y
      = arrQ m c (((cfg0.win 6).blk t).view.emb y) := by
  idx_vars y
  obtain rfl : y0 = 0 := Subsingleton.elim _ _
  have e : ((cfg0.win 6).blk t).view.emb (ix3 0 y1 y2) = ix3 (hd t) (row t y1) y2 := by blk_ext [idx t]
  rw [e, dq_at]
  show (_ : EReal) = _
  refine Finset.sum_congr rfl fun j _ => ?_
  rw [inner_eq]
  exact congrArg (_ * ·) (congrFun (congrFun (read_k m c t) j) y2)

/-- What a grid point adds to the gradient of the keys. -/
def partK (t : Fin cfg0.N) (z : S1x4352x96.Idx) : EReal :=
  ∑ i : Fin 512, dscoreByRow (hq m c (hd t)) (hk m c (hd t)) (hv m c (hd t)) (hc m c (hd t)) (row t i) (z 1) * hq m c (hd t) (row t i) (z 2)

/-- What a grid point adds to the gradient of the values. -/
def partV (t : Fin cfg0.N) (z : S1x4352x64.Idx) : EReal :=
  ∑ i : Fin 512, prob (hq m c (hd t)) (hk m c (hd t)) (row t i) (z 1) * hc m c (hd t) (row t i) (z 2)

theorem partK_eq (t : Fin cfg0.N) (j : Fin 4352) (d : Fin 96) :
    (∑ i : Fin 512, (k0_pay16 (F := Ideal) (iblk m c 0 t) (iblk m c 1 t) (iblk m c 2 t) (iblk m c 5 t) (iblk m c 4 t) (ix2 i j) * scale)
      * rows (iblk m c 0 t : Vec Ideal S1x512x96 .bf16) i d) = partK m c t (ix3 0 j d) := by
  refine Finset.sum_congr rfl fun i _ => ?_
  rw [inner_eq, read_q]
  rfl

theorem partV_eq (t : Fin cfg0.N) (j : Fin 4352) (d : Fin 64) :
    (∑ i : Fin 512, prob (rows (iblk m c 0 t : Vec Ideal S1x512x96 .bf16)) (rows (iblk m c 1 t : Vec Ideal S1x4352x96 .bf16)) i j
      * rows (iblk m c 5 t : Vec Ideal S1x512x64 .f32) i d) = partV m c t (ix3 0 j d) := by
  refine Finset.sum_congr rfl fun i _ => ?_
  rw [read_c, read_q, read_k]
  rfl

theorem finalQ : (dats m 0 c).arrAt 6 (cfgs 0).N = arrQ m c := by
  refine (dats m 0 c).arrAt_eq_of_covers 6 _ (by decide +kernel) fun t hf y => ?_
  blk_simp
  rw [after0_6]
  by_cases h : t.val % 8 = 0
  · rw [Gen.outsAt0_A m c t h (by omega)]
    frame_out
    exact point_q m c t y
  · rw [Gen.outsAt0_B m c t h (by omega)]
    frame_out
    exact point_q m c t y

/-- The sum over a head's eight points and the rows of each is the sum over the head's rows. -/
theorem sum_rows (t : Fin cfg0.N) (h : t.val % 8 = 8 - 1) (f : Fin 8 → Fin 4096 → EReal) :
    (∑ s : Fin 8, ∑ i : Fin 512, f (hd ⟨8 * (t.val / 8) + s.val, Pipeline.run_point_lt_of_flush t h s⟩)
      (row ⟨8 * (t.val / 8) + s.val, Pipeline.run_point_lt_of_flush t h s⟩ i)) = ∑ i : Fin 4096, f (hd t) i := by
  refine Fin.sum_mul_add_congr fun s i hl => ?_
  have h1 : hd ⟨8 * (t.val / 8) + s.val, Pipeline.run_point_lt_of_flush t h s⟩ = hd t := Fin.ext (by
    show (8 * (t.val / 8) + s.val) / 8 = t.val / 8
    omega)
  have h2 : row ⟨8 * (t.val / 8) + s.val, Pipeline.run_point_lt_of_flush t h s⟩ i = ⟨s.val * 512 + i.val, hl⟩ := Fin.ext (by
    show (8 * (t.val / 8) + s.val) % 8 * 512 + i.val = s.val * 512 + i.val
    omega)
  rw [h1, h2]

theorem finalK : (dats m 0 c).arrAt 7 (cfgs 0).N = arrK m c := by
  refine (dats m 0 c).arrAt_eq_of_covers 7 _ (by decide +kernel) fun t hf y => ?_
  blk_simp
  rw [after0_7]
  refine (Pipeline.eq_sum_fin_of_reset_step_apply_of_flush (fun n h => (outsAt0 m c n h).2.1) 8 (fun _ => (0 : EReal)) (partK m c)
    (fun t h j => by
      rw [outsAt0_A m c t h (by omega)]
      frame_out
      idx_vars j
      obtain rfl : j0 = 0 := Subsingleton.elim _ _
      rw [dk_at, zero_add, ← partK_eq])
    (fun t h j => by
      rw [outsAt0_B m c t h (by omega)]
      frame_out
      idx_vars j
      obtain rfl : j0 = 0 := Subsingleton.elim _ _
      rw [dk_add_at, ← partK_eq])
    t ((flush0_7 t).mp hf) y).trans ?_
  idx_vars y
  obtain rfl : y0 = 0 := Subsingleton.elim _ _
  have e : ((cfg0.win 7).blk t).view.emb (ix3 0 y1 y2) = ix3 (hd t) y1 y2 := by blk_ext [idx t]
  refine Eq.trans ?_ (congrArg (arrK m c) e).symm
  rw [zero_add]
  exact sum_rows t ((flush0_7 t).mp hf) fun g i =>
    dscoreByRow (hq m c g) (hk m c g) (hv m c g) (hc m c g) i y1 * hq m c g i y2

theorem finalV : (dats m 0 c).arrAt 8 (cfgs 0).N = arrV m c := by
  refine (dats m 0 c).arrAt_eq_of_covers 8 _ (by decide +kernel) fun t hf y => ?_
  blk_simp
  rw [after0_8]
  refine (Pipeline.eq_sum_fin_of_reset_step_apply_of_flush (fun n h => (outsAt0 m c n h).2.2.1) 8 (fun _ => (0 : EReal)) (partV m c)
    (fun t h j => by
      rw [outsAt0_A m c t h (by omega)]
      frame_out
      idx_vars j
      obtain rfl : j0 = 0 := Subsingleton.elim _ _
      rw [dv_at, zero_add, ← partV_eq])
    (fun t h j => by
      rw [outsAt0_B m c t h (by omega)]
      frame_out
      idx_vars j
      obtain rfl : j0 = 0 := Subsingleton.elim _ _
      rw [dv_add_at, ← partV_eq])
    t ((flush0_8 t).mp hf) y).trans ?_
  idx_vars y
  obtain rfl : y0 = 0 := Subsingleton.elim _ _
  have e : ((cfg0.win 8).blk t).view.emb (ix3 0 y1 y2) = ix3 (hd t) y1 y2 := by blk_ext [idx t]
  refine Eq.trans ?_ (congrArg (arrV m c) e).symm
  rw [zero_add]
  exact sum_rows t ((flush0_8 t).mp hf) fun g i => prob (hq m c g) (hk m c g) i y1 * hc m c g i y2

end Cert.Attn.Kernel
-- ==== Proof.Finite.lean ====
/- The precondition: every entry of every argument is a real number. -/
module

public import proofs.«01_k».proof.Defs
public import Idealize.ShloMosaic.Lib.ReduceAll
public import Idealize.ShloMosaic.Lib.Pointwise
public import Idealize.ShloMosaic.Lib.StableHlo.Predicate

@[expose] public section

set_option maxRecDepth 16384

noncomputable section

namespace Cert.Attn.Finite

open Cert.Pre_finite Idealize.ShloMosaic

instance facts : Cert.Pre_finite.Facts where
  bcast_S_S2x4096x4x96 := by decide
  reducesTo_S2x4096x4x96_S_d0_1_2_3 := by decide
  h_S_ := by decide
  bcast_S_S2x4352x4x96 := by decide
  reducesTo_S2x4352x4x96_S_d0_1_2_3 := by decide
  bcast_S_S2x4352x4x64 := by decide
  reducesTo_S2x4352x4x64_S_d0_1_2_3 := by decide
  bcast_S_S2x4096x4x64 := by decide
  reducesTo_S2x4096x4x64_S_d0_1_2_3 := by decide

/-- An extended real of finite absolute value is a real number. -/
theorem real_of_abs_lt (x : EReal) (h : max x (-x) < ⊤) : ∃ r : ℝ, x = r := by
  induction x with
  | bot => simp at h
  | coe r => exact ⟨r, rfl⟩
  | top => simp at h

/-- An array all of whose entries compare below infinity holds real numbers. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = r := by
  have h1 := Host.reduce_andi_all _ _ hr hu j h i
  have h2 : max (x i) (-(x i)) < Ideal.ofBits .f32 0x7F800000#32 := by
    simpa [cmpf, Host.absf, broadcastInDim, constant, FloatOps.cmpf, FloatOps.absf, FloatOps.ofBits, Ideal.cmp, StableHlo.Predicate.ofBool_eq_one_iff] using h1
  have h3 : Ideal.ofBits .f32 0x7F800000#32 = ⊤ := by simp [Ideal.ofBits, Ideal.ieee]
  exact real_of_abs_lt _ (h3 ▸ h2)

theorem and_one (a b : IVec S_ 1) (j : S_.Idx) (h : andi a b j = 1#1) : a j = 1#1 ∧ b j = 1#1 := by
  have h1 : a j &&& b j = 1#1 := h
  generalize a j = p at *
  generalize b j = r at *
  revert p r
  decide

theorem real_args (q : FVec Ideal S2x4096x4x96 .f32) (k : FVec Ideal S2x4352x4x96 .f32) (v : FVec Ideal S2x4352x4x64 .f32)
    (ct : FVec Ideal S2x4096x4x64 .f32) (h : Cert.Pre_finite.fn q k v ct = fun _ => 1#1) :
    (∀ i, ∃ r : ℝ, q i = r) ∧ (∀ i, ∃ r : ℝ, k i = r) ∧ (∀ i, ∃ r : ℝ, v i = r) ∧ ∀ i, ∃ r : ℝ, ct i = r := by
  have h0 := congrFun h (fun a => a.elim0)
  unfold fn fn_part1 at h0
  obtain ⟨h1, hc⟩ := and_one _ _ _ h0
  obtain ⟨h2, hv⟩ := and_one _ _ _ h1
  obtain ⟨hq, hk⟩ := and_one _ _ _ h2
  exact ⟨real_of_all q _ _ _ _ hq, real_of_all k _ _ _ _ hk, real_of_all v _ _ _ _ hv, real_of_all ct _ _ _ _ hc⟩

end Cert.Attn.Finite
-- ==== Proof.AttentionBackward.lean ====
/- The claims about the backward pass of the full attention: the run of the kernel ends at the gradients that the reference
   computes, for finite arguments. -/
module

public import proofs.«01_k».proof.Proof.KernelGradient
public import proofs.«01_k».proof.Proof.Finite
public import proofs.«01_k».proof.Proof.Gen.Kernel.Frame
public import proofs.«01_k».proof.Proof.Gen.KernelIdeal.Frame

@[expose] public section

set_option maxRecDepth 16384

noncomputable section

namespace Cert.Attn.Claims

open Idealize.ShloMosaic Idealize.ShloMosaic.TcCoe Idealize.SL.Sem
open Cert.Attn.Host (head)
open Cert.Attn.Inputs

section Equal

open Cert.KernelIdeal

variable (m : (ℓ : Loc nD τ sig) → Buf (Elt Ideal) ℓ) (c : Dev nD)

/-- The two gradients of the scores of a head, for real arguments. -/
theorem dscore_head {n l : ℕ} (q : Fin n → Fin 96 → EReal) (k : Fin l → Fin 96 → EReal) (v : Fin l → Fin 64 → EReal)
    (ct : Fin n → Fin 64 → EReal) (hq : ∀ i x, ∃ r : ℝ, q i x = r) (hk : ∀ i x, ∃ r : ℝ, k i x = r)
    (hv : ∀ i x, ∃ r : ℝ, v i x = r) (hc : ∀ i x, ∃ r : ℝ, ct i x = r) (i : Fin n) (j : Fin l) :
    dscoreByRow q k v ct i j = dscoreByDiv q k v ct i j := by
  choose q' hq using hq
  choose k' hk using hk
  choose v' hv using hv
  choose c' hc using hc
  obtain rfl : q = fun i x => (q' i x : EReal) := funext fun i => funext fun x => hq i x
  obtain rfl : k = fun i x => (k' i x : EReal) := funext fun i => funext fun x => hk i x
  obtain rfl : v = fun i x => (v' i x : EReal) := funext fun i => funext fun x => hv i x
  obtain rfl : ct = fun i x => (c' i x : EReal) := funext fun i => funext fun x => hc i x
  exact dscore_eq q' k' v' c' i j

/-- The two ways of writing a probability of a head, for real arguments. -/
theorem prob_head {n l : ℕ} (q : Fin n → Fin 96 → EReal) (k : Fin l → Fin 96 → EReal) (hq : ∀ i x, ∃ r : ℝ, q i x = r)
    (hk : ∀ i x, ∃ r : ℝ, k i x = r) (i : Fin n) (j : Fin l) :
    prob q k i j = Ideal.div (expo q k i j) (mass q k i) := by
  choose q' hq using hq
  choose k' hk using hk
  obtain rfl : q = fun i x => (q' i x : EReal) := funext fun i => funext fun x => hq i x
  obtain rfl : k = fun i x => (k' i x : EReal) := funext fun i => funext fun x => hk i x
  exact prob_eq_div q' k' i j

variable (hq : ∀ i, ∃ r : ℝ, argQ m c i = r) (hk : ∀ i, ∃ r : ℝ, argK m c i = r) (hv : ∀ i, ∃ r : ℝ, argV m c i = r)
  (hc : ∀ i, ∃ r : ℝ, argC m c i = r)

include hq hk hv hc in
theorem gradQ_eq : Kernel.arrQ m c = Host.gradQ (argQ m c) (argK m c) (argV m c) (argC m c) := by
  funext z
  idx_vars z
  refine Eq.trans ?_ (Host.gradQ_at (argQ m c) (argK m c) (argV m c) (argC m c) z0 z1 z2).symm
  refine Finset.sum_congr rfl fun j _ => ?_
  rw [Host.dscores_at, ← dscore_head _ _ _ _ (fun _ _ => hq _) (fun _ _ => hk _) (fun _ _ => hv _) (fun _ _ => hc _)]
  rfl

include hq hk hv hc in
theorem gradK_eq : Kernel.arrK m c = Host.gradK (argQ m c) (argK m c) (argV m c) (argC m c) := by
  funext z
  idx_vars z
  refine Eq.trans ?_ (Host.gradK_at (argQ m c) (argK m c) (argV m c) (argC m c) z0 z1 z2).symm
  refine Finset.sum_congr rfl fun j _ => ?_
  rw [Host.dscores_at, ← dscore_head _ _ _ _ (fun _ _ => hq _) (fun _ _ => hk _) (fun _ _ => hv _) (fun _ _ => hc _)]
  rfl

include hq hk in
theorem gradV_eq : Kernel.arrV m c = Host.gradV (argQ m c) (argK m c) (argC m c) := by
  funext z
  idx_vars z
  refine Eq.trans ?_ (Host.gradV_at (argQ m c) (argK m c) (argC m c) z0 z1 z2).symm
  refine Finset.sum_congr rfl fun j _ => ?_
  rw [Host.exps_at, Host.den_at, ← prob_head _ _ (fun _ _ => hq _) (fun _ _ => hk _), mul_comm]
  rfl

end Equal

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2,
      sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The kernel and the reference end with the same gradients. -/
theorem algebraic : Cert.algebraic_KernelIdeal_ReferenceIdeal_pre_finite := by
  intro m ρ m' ρ' hpre hagree
  refine ⟨fun c => Kernel.arrQ m c, fun c => Kernel.arrK m c, fun c => Kernel.arrV m c, ?_, ?_⟩
  · refine (θ_run Cert.KernelIdeal.defs _ _).mono (fun r h c => ?_) (Cert.KernelIdeal.Value.run_blocks (F := Ideal) m ρ)
    obtain ⟨h0, h1, h2, _, hrest⟩ := h c
    exact ⟨h0.trans (Kernel.finalQ m c), h1.trans (Kernel.finalK m c), h2.trans (Kernel.finalV m c), hrest⟩
  · refine (θ_run Cert.ReferenceIdeal.defs _ _).mono (fun r h c => ?_) (Cert.ReferenceIdeal.Value.run (F := Ideal) m' ρ')
    obtain ⟨h0, h1, h2, hrest⟩ := h c
    obtain ⟨hq, hk, hv, hc⟩ := Finite.real_args _ _ _ _ (hpre c)
    obtain ⟨e0, e1, e2, e3⟩ := hagree c
    refine ⟨h0.trans ?_, h1.trans ?_, h2.trans ?_, hrest⟩
    · refine Eq.trans ?_ (gradQ_eq m c hq hk hv hc).symm
      refine (Host.out0 m' c).trans ?_
      rw [e0, e1, e2, e3]
    · refine Eq.trans ?_ (gradK_eq m c hq hk hv hc).symm
      refine (Host.out1 m' c).trans ?_
      rw [e0, e1, e2, e3]
    · refine Eq.trans ?_ (gradV_eq m c hq hk).symm
      rw [e0, e1, e3]
      rfl

end Cert.Attn.Claims
-- ==== Proof.AttentionForward.lean ====
/- The full attention, forward: the run of the version's forward call ends at the attention that the reference computes, for
   finite queries and keys. -/
module

public import proofs.«01_k».proof.Proof.AttentionBackward
public import proofs.«01_k».proof.Proof.Gen.Kernel10.Frame
public import proofs.«01_k».proof.Proof.Gen.Kernel10Ideal.Value
public import proofs.«01_k».proof.Proof.Gen.Reference10Ideal.Run

@[expose] public section

set_option maxRecDepth 16384

noncomputable section

namespace Cert.Attn.Forward

open Idealize.ShloMosaic Idealize.ShloMosaic.TcCoe Idealize.SL.Sem
open Cert.Attn.Host (head)
open Cert.Attn.Blocks (rows)

section Pre

open Cert.Pre_finite_scores

instance facts : Cert.Pre_finite_scores.Facts where
  bcast_S_S2x4096x4x96 := by decide
  reducesTo_S2x4096x4x96_S_d0_1_2_3 := by decide
  h_S_ := by decide
  bcast_S_S2x4352x4x96 := by decide
  reducesTo_S2x4352x4x96_S_d0_1_2_3 := by decide

theorem real_scores (q : FVec Ideal S2x4096x4x96 .f32) (k : FVec Ideal S2x4352x4x96 .f32) (v : FVec Ideal S2x4352x4x64 .f32)
    (h : Cert.Pre_finite_scores.fn q k v = fun _ => 1#1) : (∀ i, ∃ r : ℝ, q i = r) ∧ ∀ i, ∃ r : ℝ, k i = r := by
  have h0 := congrFun h (fun a => a.elim0)
  unfold fn at h0
  obtain ⟨hq, hk⟩ := Finite.and_one _ _ _ h0
  exact ⟨Finite.real_of_all q _ _ _ _ hq, Finite.real_of_all k _ _ _ _ hk⟩

end Pre

section Kernel

open Cert.Kernel10Ideal Cert.Kernel10Ideal.Gen

/-- What a grid point writes. -/
theorem block_at (xq : Vec Ideal S1x256x96 .bf16) (xk : Vec Ideal S1x4352x96 .bf16) (xv : Vec Ideal S1x4352x64 .bf16)
    (i : Fin 256) (d : Fin 64) :
    k0_pay1 xq xk xv (ix3 0 i d) = ∑ j : Fin 4352, prob (rows xq) (rows xk) i j * rows xv j d := by
  unfold prob expo mass expo top score
  pointwise [k0_pay1]

/-- Which block of each array a grid point reads and writes. -/
theorem idx : ∀ t : Fin cfg0.N, win0_0.index t = ![t.val / 16, t.val % 16, 0] ∧ win0_1.index t = ![t.val / 16, 0, 0]
    ∧ win0_2.index t = ![t.val / 16, 0, 0] ∧ win0_4.index t = ![t.val / 16, t.val % 16, 0] :=
  (by decide +kernel : ∀ t : Fin grid0.N, _)

variable (m : (ℓ : Loc nD τ sig) → Buf (Elt Ideal) ℓ) (c : Dev nD)

/-- The queries at launch. -/
abbrev argQ : FVec Ideal S2x4096x4x96 .f32 := m ((c.tc : Thread nD τ).loc main_arg0)
/-- The keys at launch. -/
abbrev argK : FVec Ideal S2x4352x4x96 .f32 := m ((c.tc : Thread nD τ).loc main_arg1)
/-- The values at launch. -/
abbrev argV : FVec Ideal S2x4352x4x64 .f32 := m ((c.tc : Thread nD τ).loc main_arg2)

/-- The queries, keys and values of one head. -/
abbrev hq (g : Fin 8) : Fin 4096 → Fin 96 → EReal := head (argQ m c) ⟨g / 4, by omega⟩ ⟨g % 4, by omega⟩
@[inherit_doc hq] abbrev hk (g : Fin 8) : Fin 4352 → Fin 96 → EReal := head (argK m c) ⟨g / 4, by omega⟩ ⟨g % 4, by omega⟩
@[inherit_doc hq] abbrev hv (g : Fin 8) : Fin 4352 → Fin 64 → EReal := head (argV m c) ⟨g / 4, by omega⟩ ⟨g % 4, by omega⟩

theorem queries_at (g : Fin 8) (i : Fin 4096) (x : Fin 96) : (V m c main_v3 : S8x4096x96.Idx → EReal) (ix3 g i x) = hq m c g i x := by
  entry_read
  pointwise

theorem keys_at (g : Fin 8) (i : Fin 4352) (x : Fin 96) : (V m c main_v6 : S8x4352x96.Idx → EReal) (ix3 g i x) = hk m c g i x := by
  entry_read
  pointwise

theorem values_at (g : Fin 8) (i : Fin 4352) (x : Fin 64) : (V m c main_v9 : S8x4352x64.Idx → EReal) (ix3 g i x) = hv m c g i x := by
  entry_read
  pointwise

theorem point_lt (t : Fin cfg0.N) : t.val < 128 := lt_of_lt_of_eq t.isLt N_0

/-- The head of a grid point. -/
abbrev hd (t : Fin cfg0.N) : Fin 8 := ⟨t.val / 16, by have := point_lt t; omega⟩

/-- Row `i` of a grid point's block, in its head. -/
abbrev row (t : Fin cfg0.N) (i : Fin 256) : Fin 4096 := ⟨t.val % 16 * 256 + i, by omega⟩

theorem read_q (t : Fin cfg0.N) : rows (iblk m c 0 t : Vec Ideal S1x256x96 .bf16) = fun i => hq m c (hd t) (row t i) := by
  funext i x
  refine Eq.trans (congrArg (V m c main_v3) (?_ : ((cfg0.win 0).blk t).view.emb (ix3 0 i x) = ix3 (hd t) (row t i) x)) (queries_at m c (hd t) (row t i) x)
  blk_ext [idx t]

theorem read_k (t : Fin cfg0.N) : rows (iblk m c 1 t : Vec Ideal S1x4352x96 .bf16) = hk m c (hd t) := by
  funext i x
  refine Eq.trans (congrArg (V m c main_v6) (?_ : ((cfg0.win 1).blk t).view.emb (ix3 0 i x) = ix3 (hd t) i x)) (keys_at m c (hd t) i x)
  blk_ext [idx t]

theorem read_v (t : Fin cfg0.N) : rows (iblk m c 2 t : Vec Ideal S1x4352x64 .bf16) = hv m c (hd t) := by
  funext i x
  refine Eq.trans (congrArg (V m c main_v9) (?_ : ((cfg0.win 2).blk t).view.emb (ix3 0 i x) = ix3 (hd t) i x)) (values_at m c (hd t) i x)
  blk_ext [idx t]

/-- The result that the kernel computes. -/
def arr : FVec Ideal S8x4096x64 .f32 := fun z => ∑ j : Fin 4352, prob (hq m c (z 0)) (hk m c (z 0)) (z 1) j * hv m c (z 0) j (z 2)

/-- The kernel's result array after its run. -/
theorem final : (dats m 0 c).arrAt 4 (cfgs 0).N = arr m c := by
  refine (dats m 0 c).arrAt_eq_of_covers 4 _ (by decide +kernel) fun t hf y => ?_
  blk_simp
  rw [after0_4]
  frame_out
  idx_vars y
  obtain rfl : y0 = 0 := Subsingleton.elim _ _
  have e : ((cfg0.win 4).blk t).view.emb (ix3 0 y1 y2) = ix3 (hd t) (row t y1) y2 := by blk_ext [idx t]
  refine Eq.trans ?_ (congrArg (arr m c) e).symm
  rw [block_at, read_q, read_k, read_v]
  rfl

variable (hQ : ∀ i, ∃ r : ℝ, argQ m c i = r) (hK : ∀ i, ∃ r : ℝ, argK m c i = r)

include hQ hK in
theorem arr_eq : arr m c = Inputs.outRows (argV m c)
    (Idealize.ShloMosaic.Host.divf (Host.exps (argQ m c) (argK m c)) (Host.over (Host.den (argQ m c) (argK m c)))) := by
  funext z
  idx_vars z
  refine Eq.trans ?_ (Inputs.outRows_at _ _ z0 z1 z2).symm
  refine Finset.sum_congr rfl fun j _ => ?_
  rw [mul_comm]
  refine congrArg (argV m c _ * ·) ?_
  show _ = Ideal.div (Host.exps (argQ m c) (argK m c) _) (Host.over (Host.den (argQ m c) (argK m c)) _)
  rw [Host.over_at, Host.den_at, Host.exps_at, ← Claims.prob_head _ _ (fun _ _ => hQ _) (fun _ _ => hK _)]
  rfl

end Kernel

theorem frame_p : Cert.quiescent_Kernel10 := fun m ρ _ => Cert.Kernel10.Gen.frame m ρ
theorem frame_pi : Cert.quiescent_Kernel10Ideal := fun m ρ _ => Cert.Kernel10Ideal.Gen.frame m ρ
theorem frame_pi_finite : Cert.quiescent_Kernel10Ideal_pre_finite_scores := fun m ρ _ => Cert.Kernel10Ideal.Gen.frame m ρ
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem frame_ri_finite : Cert.quiescent_Reference10Ideal_pre_finite_scores := fun m ρ _ => frame_ri m ρ trivial

/-- The kernel and the reference end with the same array. -/
theorem algebraic : Cert.algebraic_Kernel10Ideal_Reference10Ideal_pre_finite_scores := by
  intro m ρ m' ρ' hpre hagree
  refine ⟨fun c => arr m c, ?_, ?_⟩
  · refine (θ_run Cert.Kernel10Ideal.defs _ _).mono (fun r h c => ?_) (Cert.Kernel10Ideal.Value.run_blocks (F := Ideal) m ρ)
    exact ⟨(h c).1.trans (final m c), (h c).2⟩
  · refine (θ_run Cert.Reference10Ideal.defs _ _).mono (fun r h c => ?_) (Cert.Reference10Ideal.Value.run (F := Ideal) m' ρ')
    obtain ⟨hQ, hK⟩ := real_scores _ _ _ (hpre c)
    obtain ⟨e0, e1, e2⟩ := hagree c
    refine ⟨(h c).1.trans (Eq.trans ?_ (arr_eq m c hQ hK).symm), (h c).2⟩
    rw [e0, e1, e2]
    rfl

end Cert.Attn.Forward
-- ==== Proof.WindowRow.lean ====
/- One row of the sliding-window attention: the scores of the keys near a query, of the context's keys and of the sink,
   their exponentials, and the two ways in which the kernel and the reference write the gradient of the scores. -/
module

public import proofs.«01_k».proof.Proof.Softmax

@[expose] public section

set_option maxRecDepth 16384

noncomputable section

namespace Cert.Window

open Idealize.ShloMosaic
open Cert.Attn (lowest lowest_eq coe_sum)

/-- The scale of the scores, as the programs write it. -/
abbrev scale : EReal := Ideal.ofBits .f32 0x3E000000#32

theorem scale_real : ∃ r : ℝ, scale = r := by
  simp only [scale, Ideal.ofBits, Ideal.ieee]
  simp [-EReal.coe_mul]

section Scores

variable {L : ℕ} (a : Fin L → EReal) (b : Fin 256 → EReal) (s : EReal)

/-- The largest of the scores `a` near the query, `b` of the context and `s` of the sink. -/
def top : EReal := max (max (Finset.fold max lowest a Finset.univ) (Finset.fold max lowest b Finset.univ)) s

/-- The exponential of a score below the largest. -/
def expo (x : EReal) : EReal := Ideal.exp (x - top a b s)

/-- The sum of the exponentials. -/
def mass : EReal := (∑ j, expo a b s (a j)) + (∑ j, expo a b s (b j)) + expo a b s s

/-- The probability, by the reciprocal of the sum. -/
def prob (x : EReal) : EReal := expo a b s x * Ideal.div 1 (mass a b s)

/-- Three parts of a row, one after the other. -/
def joined : Fin (L + 257) → EReal := fun j =>
  if h : j.val < L then a ⟨j, h⟩ else if h' : j.val < L + 256 then b ⟨j - L, by omega⟩ else s

theorem joined_near (j : Fin L) : joined a b s ⟨j, by omega⟩ = a j := by simp [joined]

theorem joined_far (j : Fin 256) : joined a b s ⟨L + j, by omega⟩ = b j := by
  have h1 : ¬ L + j.val < L := by omega
  have h2 : L + j.val < L + 256 := by omega
  simp [joined, h2]

theorem joined_last : joined a b s ⟨L + 256, by omega⟩ = s := by simp [joined]

/-- A sum over a row is the sum over its three parts. -/
theorem sum_parts {L : ℕ} {α : Type*} [AddCommMonoid α] (f : Fin (L + 257) → α) :
    ∑ j, f j = (∑ j : Fin L, f ⟨j, by omega⟩) + (∑ j : Fin 256, f ⟨L + j, by omega⟩) + f ⟨L + 256, by omega⟩ := by
  rw [Fin.sum_univ_castSucc]
  exact congrArg (· + _) (Fin.sum_univ_add (a := L) (b := 256) (fun j => f (Fin.castSucc j)))

theorem parts {L : ℕ} {p : Fin (L + 257) → Prop} (h1 : ∀ j : Fin L, p ⟨j, by omega⟩) (h2 : ∀ j : Fin 256, p ⟨L + j, by omega⟩)
    (h3 : p ⟨L + 256, by omega⟩) (j : Fin (L + 257)) : p j := by
  obtain ⟨j, hj⟩ := j
  by_cases h : j < L
  · exact h1 ⟨j, h⟩
  · by_cases h' : j < L + 256
    · have := h2 ⟨j - L, by omega⟩
      simpa [show L + (j - L) = j by omega] using this
    · have e : j = L + 256 := by omega
      subst e
      exact h3

theorem top_joined : Finset.fold max lowest (joined a b s) Finset.univ = top a b s := by
  rw [lowest_eq]
  apply le_antisymm
  · refine (Finset.fold_max_le _).2 ⟨bot_le, fun j _ => ?_⟩
    refine parts (p := fun j => joined a b s j ≤ top a b s) (fun j => ?_) (fun j => ?_) ?_ j
    · rw [joined_near]
      exact le_max_of_le_left (le_max_of_le_left ((Finset.le_fold_max _).2 (Or.inr ⟨j, Finset.mem_univ _, le_rfl⟩)))
    · rw [joined_far]
      exact le_max_of_le_left (le_max_of_le_right ((Finset.le_fold_max _).2 (Or.inr ⟨j, Finset.mem_univ _, le_rfl⟩)))
    · rw [joined_last]
      exact le_max_right _ _
  · rw [top, lowest_eq]
    refine max_le (max_le ?_ ?_) ?_
    · refine (Finset.fold_max_le _).2 ⟨bot_le, fun j _ => ?_⟩
      exact (Finset.le_fold_max _).2 (Or.inr ⟨⟨j, by omega⟩, Finset.mem_univ _, (joined_near a b s j).ge⟩)
    · refine (Finset.fold_max_le _).2 ⟨bot_le, fun j _ => ?_⟩
      exact (Finset.le_fold_max _).2 (Or.inr ⟨⟨L + j, by omega⟩, Finset.mem_univ _, (joined_far a b s j).ge⟩)
    · exact (Finset.le_fold_max _).2 (Or.inr ⟨⟨L + 256, by omega⟩, Finset.mem_univ _, (joined_last a b s).ge⟩)

theorem mass_joined : ∑ j, expo a b s (joined a b s j) = mass a b s := by
  rw [sum_parts]
  simp only [joined_near, joined_far, joined_last, mass]

/-- For scores that are finite or minus infinity, the sink's finite, the exponentials are reals of a positive sum. -/
theorem expo_real (ha : ∀ j, a j = ⊥ ∨ ∃ r : ℝ, a j = r) (hb : ∀ j, ∃ r : ℝ, b j = r) (hs : ∃ r : ℝ, s = r) :
    ∃ e : Fin (L + 257) → ℝ, 0 < ∑ j, e j ∧ ∀ j, expo a b s (joined a b s j) = e j := by
  have hj : ∀ j, joined a b s j = ⊥ ∨ ∃ r : ℝ, joined a b s j = r :=
    parts (fun j => by rw [joined_near]; exact ha j) (fun j => by rw [joined_far]; exact Or.inr (hb j))
      (by rw [joined_last]; exact Or.inr hs)
  obtain ⟨s', hs'⟩ := hs
  have hnt : top a b s ≠ ⊤ := by
    rw [← top_joined, lowest_eq]
    refine ((Finset.fold_max_lt _).2 ⟨bot_lt_top, fun j _ => ?_⟩).ne
    rcases hj j with h | ⟨r, h⟩
    · rw [h]; exact bot_lt_top
    · rw [h]; exact EReal.coe_lt_top r
  have hnb : top a b s ≠ ⊥ := by
    intro h
    have h1 : s ≤ top a b s := le_max_right _ _
    rw [h, hs'] at h1
    exact absurd h1 (by simp)
  obtain ⟨t, ht⟩ : ∃ t : ℝ, top a b s = t := ⟨_, (EReal.coe_toReal hnt hnb).symm⟩
  have he : ∀ j, ∃ r : ℝ, 0 ≤ r ∧ expo a b s (joined a b s j) = r := by
    intro j
    rw [expo, ht]
    rcases hj j with h | ⟨r, h⟩
    · refine ⟨0, le_rfl, ?_⟩
      rw [h, EReal.bot_sub, Ideal.exp_bot, EReal.coe_zero]
    · refine ⟨Real.exp (r - t), (Real.exp_pos _).le, ?_⟩
      rw [h, ← EReal.coe_sub, Ideal.exp_coe]
  choose e he0 he using he
  refine ⟨e, ?_, he⟩
  have h1 : 0 < e ⟨L + 256, by omega⟩ := by
    have h2 := he ⟨L + 256, by omega⟩
    rw [joined_last, expo, ht, hs', ← EReal.coe_sub, Ideal.exp_coe, EReal.coe_eq_coe_iff] at h2
    rw [← h2]
    exact Real.exp_pos _
  exact lt_of_lt_of_le h1 (Finset.single_le_sum (fun j _ => he0 j) (Finset.mem_univ _))

end Scores

section Row

variable {L : ℕ} (q c : Fin 64 → EReal) (k v : Fin L → Fin 64 → EReal) (kc vc : Fin 256 → Fin 64 → EReal) (s : EReal)
  (ok : Fin L → BitVec 1)

/-- The score of a key near the query, minus infinity where the window does not reach it. -/
def near (j : Fin L) : EReal := if ok j = 1#1 then (∑ x, q x * k j x) * scale else lowest

/-- The score of a key of the context. -/
def far (j : Fin 256) : EReal := (∑ x, q x * kc j x) * scale

/-- The output of the attention. -/
def out (x : Fin 64) : EReal :=
  (∑ j, Ideal.div (expo (near q k ok) (far q kc) s (near q k ok j)) (mass (near q k ok) (far q kc) s) * v j x)
    + ∑ j, Ideal.div (expo (near q k ok) (far q kc) s (far q kc j)) (mass (near q k ok) (far q kc) s) * vc j x

/-- The inner product of the incoming gradient with the output. -/
def inner : EReal := ∑ x, c x * out q k v kc vc s ok x

/-- The gradient of the product of the query with a key near it, by the inner product. -/
def dnear (j : Fin L) : EReal :=
  prob (near q k ok) (far q kc) s (near q k ok j) * ((∑ x, c x * v j x) - inner q c k v kc vc s ok) * scale

/-- The gradient of the product of the query with a key of the context. -/
def dfar (j : Fin 256) : EReal :=
  prob (near q k ok) (far q kc) s (far q kc j) * ((∑ x, c x * vc j x) - inner q c k v kc vc s ok) * scale

/-- The gradient of the sink from this row, with the sign turned. -/
def dsink : EReal := prob (near q k ok) (far q kc) s s * inner q c k v kc vc s ok

/-- The gradient of the probabilities. -/
def dprob : Fin (L + 257) → EReal := joined (fun j => ∑ x, c x * v j x) (fun j => ∑ x, c x * vc j x) 0

/-- The gradient of the scores, by the derivative of the division. -/
def dscore (j : Fin (L + 257)) : EReal :=
  (Ideal.div (dprob c v vc j) (mass (near q k ok) (far q kc) s)
    + -∑ x, dprob c v vc x * Ideal.div 1 (mass (near q k ok) (far q kc) s * mass (near q k ok) (far q kc) s)
        * expo (near q k ok) (far q kc) s (joined (near q k ok) (far q kc) s x))
    * expo (near q k ok) (far q kc) s (joined (near q k ok) (far q kc) s j)

end Row

/-- The derivative of the division is the probability times the gradient less its mean. -/
theorem quotient_rule {L : ℕ} (e d : Fin L → ℝ) (h : 0 < ∑ j, e j) (j : Fin L) :
    (Ideal.div (d j : EReal) ((∑ j, e j : ℝ) : EReal)
        + -∑ x, (d x : EReal) * Ideal.div 1 (((∑ j, e j : ℝ) : EReal) * ((∑ j, e j : ℝ) : EReal)) * (e x : EReal)) * (e j : EReal)
      = ((e j * (1 / ∑ j, e j) * (d j - ∑ x, d x * (e x * (1 / ∑ j, e j))) : ℝ) : EReal) := by
  have hm : (∑ j, e j) ≠ 0 := h.ne'
  have hmm : (∑ j, e j) * (∑ j, e j) ≠ 0 := mul_ne_zero hm hm
  have h1 : (1 : EReal) = ((1 : ℝ) : EReal) := rfl
  simp only [← EReal.coe_mul, Ideal.div_coe hm, Ideal.div_coe hmm, h1, coe_sum, ← EReal.coe_neg, ← EReal.coe_add]
  refine congrArg _ ?_
  have h2 : ∑ x, d x * (1 * (1 / ((∑ j, e j) * ∑ j, e j))) * e x = (∑ x, d x * e x) * (1 / ((∑ j, e j) * ∑ j, e j)) := by
    generalize (∑ j, e j) * ∑ j, e j = S
    rw [Finset.sum_mul]
    refine Finset.sum_congr rfl fun x _ => ?_
    rw [one_mul, mul_right_comm]
  have h3 : ∑ x, d x * (e x * (1 / ∑ j, e j)) = (∑ x, d x * e x) * (1 / ∑ j, e j) := by
    rw [Finset.sum_mul]
    exact Finset.sum_congr rfl fun x _ => by ring
  rw [h2, h3]
  field_simp
  ring

section Finite

variable {L : ℕ} {q c : Fin 64 → EReal} {k v : Fin L → Fin 64 → EReal} {kc vc : Fin 256 → Fin 64 → EReal} {s : EReal}
  (ok : Fin L → BitVec 1)
  (hq : ∀ x, ∃ r : ℝ, q x = r) (hc : ∀ x, ∃ r : ℝ, c x = r) (hk : ∀ j x, ∃ r : ℝ, k j x = r) (hv : ∀ j x, ∃ r : ℝ, v j x = r)
  (hkc : ∀ j x, ∃ r : ℝ, kc j x = r) (hvc : ∀ j x, ∃ r : ℝ, vc j x = r) (hs : ∃ r : ℝ, s = r)

include hq hk in
theorem near_real (j : Fin L) : near q k ok j = ⊥ ∨ ∃ r : ℝ, near q k ok j = r := by
  choose q' hq using hq
  choose k' hk using hk
  obtain ⟨κ, hκ⟩ := scale_real
  unfold near
  split
  · refine Or.inr ⟨(∑ x, q' x * k' j x) * κ, ?_⟩
    simp only [hq, hk, hκ, ← EReal.coe_mul, coe_sum]
  · exact Or.inl lowest_eq

include hq hkc in
theorem far_real (j : Fin 256) : ∃ r : ℝ, far q kc j = r := by
  choose q' hq using hq
  choose k' hk using hkc
  obtain ⟨κ, hκ⟩ := scale_real
  refine ⟨(∑ x, q' x * k' j x) * κ, ?_⟩
  simp only [far, hq, hk, hκ, ← EReal.coe_mul, coe_sum]

include hq hk hkc hs in
theorem row_real : ∃ e : Fin (L + 257) → ℝ, 0 < ∑ j, e j
    ∧ (∀ j, expo (near q k ok) (far q kc) s (joined (near q k ok) (far q kc) s j) = e j)
    ∧ mass (near q k ok) (far q kc) s = ((∑ j, e j : ℝ) : EReal) := by
  obtain ⟨e, he, h⟩ := expo_real _ _ s (near_real ok hq hk) (far_real hq hkc) hs
  refine ⟨e, he, h, ?_⟩
  rw [← mass_joined]
  simp only [h, coe_sum]

include hq hk hkc hs in
/-- The probability by the reciprocal and by the division are the same. -/
theorem prob_joined (j : Fin (L + 257)) :
    Ideal.div (expo (near q k ok) (far q kc) s (joined (near q k ok) (far q kc) s j)) (mass (near q k ok) (far q kc) s)
      = prob (near q k ok) (far q kc) s (joined (near q k ok) (far q kc) s j) := by
  obtain ⟨e, he, h, hm⟩ := row_real ok hq hk hkc hs
  rw [prob, hm, h, Ideal.div_coe he.ne', Ideal.div_coe he.ne', one_mul]

include hq hk hkc hs in
theorem prob_near (j : Fin L) : Ideal.div (expo (near q k ok) (far q kc) s (near q k ok j)) (mass (near q k ok) (far q kc) s)
    = prob (near q k ok) (far q kc) s (near q k ok j) := by
  have h := prob_joined ok hq hk hkc hs ⟨j, by omega⟩
  rwa [joined_near] at h

include hq hk hkc hs in
theorem prob_far (j : Fin 256) : Ideal.div (expo (near q k ok) (far q kc) s (far q kc j)) (mass (near q k ok) (far q kc) s)
    = prob (near q k ok) (far q kc) s (far q kc j) := by
  have h := prob_joined ok hq hk hkc hs ⟨L + j, by omega⟩
  rwa [joined_far] at h

include hq hc hk hv hkc hvc hs in
/-- The gradient of the scores, by the derivative of the division and by the inner product. -/
theorem dscore_eq (j : Fin (L + 257)) : dscore q c k v kc vc s ok j
    = prob (near q k ok) (far q kc) s (joined (near q k ok) (far q kc) s j)
      * (dprob c v vc j - inner q c k v kc vc s ok) := by
  obtain ⟨e, he, h, hm⟩ := row_real ok hq hk hkc hs
  choose c' hc using hc
  choose v' hv using hv
  choose w' hvc using hvc
  have h1 : (1 : EReal) = ((1 : ℝ) : EReal) := rfl
  have hd : ∃ d : Fin (L + 257) → ℝ, (∀ j, dprob c v vc j = d j) ∧ (∀ j : Fin L, d ⟨j, by omega⟩ = ∑ x, c' x * v' j x)
      ∧ (∀ j : Fin 256, d ⟨L + j, by omega⟩ = ∑ x, c' x * w' j x) ∧ d ⟨L + 256, by omega⟩ = 0 := by
    have hr : ∀ j, ∃ r : ℝ, dprob c v vc j = r := parts
      (fun j => ⟨∑ x, c' x * v' j x, by simp only [dprob, joined_near, hc, hv, ← EReal.coe_mul, coe_sum]⟩)
      (fun j => ⟨∑ x, c' x * w' j x, by simp only [dprob, joined_far, hc, hvc, ← EReal.coe_mul, coe_sum]⟩)
      ⟨0, by rw [dprob, joined_last, EReal.coe_zero]⟩
    choose d hd using hr
    refine ⟨d, hd, fun j => ?_, fun j => ?_, ?_⟩
    · have := hd ⟨j, by omega⟩
      simp only [dprob, joined_near, hc, hv, ← EReal.coe_mul, coe_sum, EReal.coe_eq_coe_iff] at this
      exact this.symm
    · have := hd ⟨L + j, by omega⟩
      simp only [dprob, joined_far, hc, hvc, ← EReal.coe_mul, coe_sum, EReal.coe_eq_coe_iff] at this
      exact this.symm
    · have := hd ⟨L + 256, by omega⟩
      rw [dprob, joined_last, ← EReal.coe_zero, EReal.coe_eq_coe_iff] at this
      exact this.symm
  obtain ⟨d, hd, hd1, hd2, hd3⟩ := hd
  have hn : ∀ j : Fin L, expo (near q k ok) (far q kc) s (near q k ok j) = e ⟨j, by omega⟩ := fun j => by
    rw [← h, joined_near]
  have hf : ∀ j : Fin 256, expo (near q k ok) (far q kc) s (far q kc j) = e ⟨L + j, by omega⟩ := fun j => by
    rw [← h, joined_far]
  have hi : inner q c k v kc vc s ok = ((∑ x, d x * (e x * (1 / ∑ j, e j)) : ℝ) : EReal) := by
    simp only [inner, out, hm, hn, hf, Ideal.div_coe he.ne', hc, hv, hvc, ← EReal.coe_mul, coe_sum, ← EReal.coe_add]
    refine congrArg _ ?_
    rw [sum_parts (fun x => d x * (e x * (1 / ∑ j, e j)))]
    simp only [hd1, hd2, hd3, zero_mul, add_zero, mul_add, Finset.sum_add_distrib, Finset.mul_sum, Finset.sum_mul]
    refine congrArg₂ (· + ·) ?_ ?_
    · rw [Finset.sum_comm]
      exact Finset.sum_congr rfl fun j _ => Finset.sum_congr rfl fun x _ => by ring
    · rw [Finset.sum_comm]
      exact Finset.sum_congr rfl fun j _ => Finset.sum_congr rfl fun x _ => by ring
  simp only [dscore, prob, hm, h, hd]
  rw [quotient_rule e d he j, hi, h1, Ideal.div_coe he.ne', ← EReal.coe_mul, ← EReal.coe_mul, ← EReal.coe_sub, ← EReal.coe_mul, one_mul]

end Finite

end Cert.Window
-- ==== Proof.WindowBand.lean ====
/- The keys near a block of queries: which of them the window of a query reaches, and sums over them as sums over all keys. -/
module

public import proofs.«01_k».proof.Proof.WindowRow

@[expose] public section

set_option maxRecDepth 16384

noncomputable section

namespace Cert.Window

open Idealize.ShloMosaic
open Cert.Attn (lowest lowest_eq)

/-- Whether the window of query `i` reaches key `j`. -/
def within (i j : Fin 4096) : BitVec 1 :=
  IntOp.cmpi .sle (IntOp.absi (BitVec.ofNat 32 j.val - BitVec.ofNat 32 i.val)) 128#32

theorem distance : ∀ x : Fin 8192, IntOp.cmpi .sle (IntOp.absi (BitVec.ofNat 32 x.val - 4096#32)) 128#32 = 1#1
    ↔ 3968 ≤ x.val ∧ x.val ≤ 4224 := by decide +kernel

theorem difference (i j : ℕ) (hi : i < 4096) (hj : j < 8192) : BitVec.ofNat 32 j - BitVec.ofNat 32 i = BitVec.ofNat 32 (j + 4096 - i) - 4096#32 := by
  apply BitVec.eq_of_toNat_eq
  simp only [BitVec.toNat_sub, BitVec.toNat_ofNat]
  omega

theorem within_iff (i j : Fin 4096) : within i j = 1#1 ↔ j.val ≤ i.val + 128 ∧ i.val ≤ j.val + 128 := by
  rw [within, difference i j i.isLt (by omega)]
  refine (distance ⟨j.val + 4096 - i.val, by omega⟩).trans ?_
  simp only
  omega

/-- Row `i` of block `n` of the queries. -/
abbrev rowOf (n : Fin 32) (w : Fin 128) : Fin 4096 := ⟨n * 128 + w, by omega⟩

/-- A sum over the rows near block `n` is the sum over all rows, for a function that vanishes away from the block. -/
theorem band_sum {α : Type*} [AddCommMonoid α] (n : Fin 32) (f : Fin 4096 → α)
    (h : ∀ j : Fin 4096, ¬(n.val * 128 ≤ j.val + 128 ∧ j.val + 128 < n.val * 128 + 384) → f j = 0) :
    ∑ J : Fin 384, (if hJ : 128 ≤ n.val * 128 + J.val ∧ n.val * 128 + J.val < 4224 then f ⟨n * 128 + J - 128, by omega⟩ else 0)
      = ∑ j, f j := by
  refine Finset.sum_bij_ne_zero (fun J _ _ => if hJ : 128 ≤ n.val * 128 + J.val ∧ n.val * 128 + J.val < 4224
    then ⟨n * 128 + J - 128, by omega⟩ else 0) (fun _ _ _ => Finset.mem_univ _) ?_ ?_ ?_
  · intro J _ hJ J' _ hJ' e
    have h1 : 128 ≤ n.val * 128 + J.val ∧ n.val * 128 + J.val < 4224 := by
      by_contra hc
      exact hJ (dif_neg hc)
    have h2 : 128 ≤ n.val * 128 + J'.val ∧ n.val * 128 + J'.val < 4224 := by
      by_contra hc
      exact hJ' (dif_neg hc)
    rw [dif_pos h1, dif_pos h2, Fin.mk.injEq] at e
    exact Fin.ext (by omega)
  · intro j _ hj
    have h1 : n.val * 128 ≤ j.val + 128 ∧ j.val + 128 < n.val * 128 + 384 := by
      by_contra hc
      exact hj (h j hc)
    have h2 : 128 ≤ n.val * 128 + (j.val + 128 - n.val * 128) ∧ n.val * 128 + (j.val + 128 - n.val * 128) < 4224 := by omega
    have h3 : (⟨n.val * 128 + (j.val + 128 - n.val * 128) - 128, by omega⟩ : Fin 4096) = j := Fin.ext (by simp only; omega)
    refine ⟨⟨j.val + 128 - n.val * 128, by omega⟩, Finset.mem_univ _, ?_, ?_⟩
    · rw [dif_pos h2, h3]
      exact hj
    · rw [dif_pos h2]
      exact h3
  · intro J _ hJ
    have h1 : 128 ≤ n.val * 128 + J.val ∧ n.val * 128 + J.val < 4224 := by
      by_contra hc
      exact hJ (dif_neg hc)
    rw [dif_pos h1, dif_pos h1]

/-- The same for the largest value, for a function that is minus infinity away from the block. -/
theorem band_max (n : Fin 32) (f : Fin 4096 → EReal)
    (h : ∀ j : Fin 4096, ¬(n.val * 128 ≤ j.val + 128 ∧ j.val + 128 < n.val * 128 + 384) → f j = ⊥) :
    Finset.fold max lowest (fun J : Fin 384 => if hJ : 128 ≤ n.val * 128 + J.val ∧ n.val * 128 + J.val < 4224
      then f ⟨n * 128 + J - 128, by omega⟩ else ⊥) Finset.univ = Finset.fold max lowest f Finset.univ := by
  rw [lowest_eq]
  apply le_antisymm
  · refine (Finset.fold_max_le _).2 ⟨bot_le, fun J _ => ?_⟩
    split
    · exact (Finset.le_fold_max _).2 (Or.inr ⟨_, Finset.mem_univ _, le_rfl⟩)
    · exact bot_le
  · refine (Finset.fold_max_le _).2 ⟨bot_le, fun j _ => ?_⟩
    by_cases h1 : n.val * 128 ≤ j.val + 128 ∧ j.val + 128 < n.val * 128 + 384
    · have h2 : 128 ≤ n.val * 128 + (j.val + 128 - n.val * 128) ∧ n.val * 128 + (j.val + 128 - n.val * 128) < 4224 := by omega
      have h3 : (⟨n.val * 128 + (j.val + 128 - n.val * 128) - 128, by omega⟩ : Fin 4096) = j := Fin.ext (by simp only; omega)
      refine (Finset.le_fold_max _).2 (Or.inr ⟨⟨j.val + 128 - n.val * 128, by omega⟩, Finset.mem_univ _, ?_⟩)
      simp only [dif_pos h2, h3, le_refl]
    · rw [h j h1]
      exact bot_le

/-- A function of all rows, read off at the rows near block `n`; `z` at the 128 rows before the first and after the last. -/
def spread (n : Fin 32) (f : Fin 4096 → EReal) (z : EReal) : Fin 384 → EReal := fun J =>
  if hJ : 128 ≤ n.val * 128 + J.val ∧ n.val * 128 + J.val < 4224 then f ⟨n * 128 + J - 128, by omega⟩ else z

/-- What the window of a query of block `n` reaches is near the block. -/
theorem near_block (n : Fin 32) (w : Fin 128) (j : Fin 4096)
    (h : ¬(n.val * 128 ≤ j.val + 128 ∧ j.val + 128 < n.val * 128 + 384)) : within (rowOf n w) j ≠ 1#1 := by
  rw [ne_eq, within_iff]
  simp only [rowOf]
  omega

section Band

variable (n : Fin 32) (w : Fin 128) (q : Fin 64 → EReal) (k : Fin 4096 → Fin 64 → EReal) (b : Fin 256 → EReal) (s : EReal)

/-- The scores of a query over all keys. -/
abbrev full : Fin 4096 → EReal := near q k (within (rowOf n w))

theorem full_away (j : Fin 4096) (h : ¬(n.val * 128 ≤ j.val + 128 ∧ j.val + 128 < n.val * 128 + 384)) : full n w q k j = ⊥ := by
  rw [full, near, if_neg (near_block n w j h), lowest_eq]

theorem top_band : top (spread n (full n w q k) ⊥) b s = top (full n w q k) b s := by
  unfold top spread
  rw [band_max n (full n w q k) (full_away n w q k)]

theorem expo_band (x : EReal) : expo (spread n (full n w q k) ⊥) b s x = expo (full n w q k) b s x := by
  unfold expo
  rw [top_band]

theorem expo_bot {L : ℕ} (a : Fin L → EReal) : expo a b s ⊥ = 0 := by
  rw [expo, EReal.bot_sub, Ideal.exp_bot]

theorem mass_band : mass (spread n (full n w q k) ⊥) b s = mass (full n w q k) b s := by
  unfold mass
  simp only [expo_band]
  refine congrArg (· + _) (congrArg (· + _) ?_)
  rw [← band_sum n (fun j => expo (full n w q k) b s (full n w q k j))
    (fun j h => by rw [full_away n w q k j h, expo_bot])]
  refine Finset.sum_congr rfl fun J _ => ?_
  unfold spread
  split
  · rfl
  · rw [expo_bot]

theorem prob_band (x : EReal) : prob (spread n (full n w q k) ⊥) b s x = prob (full n w q k) b s x := by
  rw [prob, expo_band, mass_band, prob]

theorem prob_bot {L : ℕ} (a : Fin L → EReal) : prob a b s ⊥ = 0 := by rw [prob, expo_bot, zero_mul]

theorem prob_away (j : Fin 4096) (h : ¬(n.val * 128 ≤ j.val + 128 ∧ j.val + 128 < n.val * 128 + 384)) :
    prob (full n w q k) b s (full n w q k j) = 0 := by rw [full_away n w q k j h, prob_bot]

/-- The probabilities near block `n`. -/
theorem prob_spread : (fun J => prob (spread n (full n w q k) ⊥) b s (spread n (full n w q k) ⊥ J))
    = spread n (fun j => prob (full n w q k) b s (full n w q k j)) 0 := by
  funext J
  simp only [prob_band]
  unfold spread
  split
  · rfl
  · rw [prob_bot]

/-- A sum over the rows near block `n` of products with the probabilities, or with what vanishes with them. -/
theorem sum_spread (p f : Fin 4096 → EReal) (z : EReal)
    (hp : ∀ j : Fin 4096, ¬(n.val * 128 ≤ j.val + 128 ∧ j.val + 128 < n.val * 128 + 384) → p j = 0) :
    ∑ J, spread n p 0 J * spread n f z J = ∑ j, p j * f j := by
  rw [← band_sum n (fun j => p j * f j) (fun j h => by rw [hp j h, zero_mul])]
  refine Finset.sum_congr rfl fun J _ => ?_
  unfold spread
  split
  · rfl
  · rw [zero_mul]

end Band

end Cert.Window
-- ==== Proof.WindowHost.lean ====
/- What the reference of the sliding-window attention computes, entry by entry: one named array for each step of the softmax. -/
module

public import proofs.«01_k».proof.Proof.Gen.Reference30Ideal
public import Idealize.ShloMosaic.Lib.Pipeline.ValueKit
public import proofs.«01_k».proof.Proof.WindowRow
public import proofs.«01_k».proof.Proof.WindowBand

@[expose] public section

set_option maxRecDepth 16384

noncomputable section

namespace Cert.Window.Host

open Cert.Reference30Ideal Cert.Reference30Ideal.Gen Idealize.ShloMosaic Idealize.ShloMosaic.TcCoe Idealize.SL.Sem
  Idealize.ShloMosaic.StableHlo
open Cert.Attn (lowest lowest_eq coe_sum)

variable (q : FVec Ideal S2x4096x4x64 .f32) (k v : FVec Ideal S2x4096x2x64 .f32) (kc vc : FVec Ideal S2x256x2x64 .f32)
  (s : FVec Ideal S4 .f32)

/-- The heads in groups of two. -/
def groups : FVec Ideal S2x4096x2x2x64 .f32 := shapeCast S2x4096x2x2x64 q shapeCasts_S2x4096x4x64_S2x4096x2x2x64

/-- Which keys the window of a query reaches. -/
def reach : IVec S2x2x2x4096x4096 1 :=
  broadcastInDim S2x2x2x4096x4096 ![3, 4] bcast_S4096x4096_S2x2x2x4096x4096_3_4
    (cmpi .sle (absi (subi
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
      (broadcastInDim S4096x4096 ![] bcast_S_S4096x4096 (constantI S_ 32 128#32)))

/-- The scores over all keys. -/
def nearScores : FVec Ideal S2x2x2x4096x4096 .f32 :=
  select reach (mulf (transpose S2x2x2x4096x4096 [0, 1, 4, 3, 2]
      (Host.dotGeneral dot_S2x4096x2x64_S2x4096x2x2x64_S2x2x4096x4096x2_3_4_1_13_02_02 none k (groups q))
      transposes_S2x2x4096x4096x2_S2x2x2x4096x4096_0_1_4_3_2)
    (broadcastInDim S2x2x2x4096x4096 ![] bcast_S_S2x2x2x4096x4096 (constant S_ .f32 0x3E000000#32)))
    (broadcastInDim S2x2x2x4096x4096 ![] bcast_S_S2x2x2x4096x4096 (id (constant S_ .f32 0xFF800000#32)))

/-- The scores over the keys of the context. -/
def farScores : FVec Ideal S2x2x2x4096x256 .f32 :=
  mulf (transpose S2x2x2x4096x256 [0, 1, 4, 3, 2]
      (Host.dotGeneral dot_S2x256x2x64_S2x4096x2x2x64_S2x2x256x4096x2_3_4_1_13_02_02 none kc (groups q))
      transposes_S2x2x256x4096x2_S2x2x2x4096x256_0_1_4_3_2)
    (broadcastInDim S2x2x2x4096x256 ![] bcast_S_S2x2x2x4096x256 (constant S_ .f32 0x3E000000#32))

/-- The sink of each query's head. -/
def sinkScores : FVec Ideal S2x2x2x4096x1 .f32 :=
  broadcastInDim S2x2x2x4096x1 ![0, 1, 2, 3, 4] bcast_S2x2x2x1x1_S2x2x2x4096x1_0_1_2_3_4
    (broadcastInDim S2x2x2x1x1 ![0, 1, 2] bcast_S2x2x2_S2x2x2x1x1_0_1_2
      (shapeCast S2x2x2 (broadcastInDim S2x4 ![1] bcast_S4_S2x4_1 s) shapeCasts_S2x4_S2x2x2))

/-- All scores of a query, one after the other. -/
def scores : FVec Ideal S2x2x2x4096x4353 .f32 :=
  concatenate S2x2x2x4096x4353 4 [⟨S2x2x2x4096x4096, nearScores q k⟩, ⟨S2x2x2x4096x256, farScores q kc⟩, ⟨S2x2x2x4096x1, sinkScores s⟩]
    concatenates_S2x2x2x4096x4096_S2x2x2x4096x256_S2x2x2x4096x1_S2x2x2x4096x4353_d4

/-- One number for each query, as a column. -/
def column (x : FVec Ideal S2x2x2x4096 .f32) : FVec Ideal S2x2x2x4096x1 .f32 :=
  broadcastInDim S2x2x2x4096x1 ![0, 1, 2, 3] bcast_S2x2x2x4096_S2x2x2x4096x1_0_1_2_3 x

/-- A column, repeated over the scores. -/
def over (x : FVec Ideal S2x2x2x4096x1 .f32) : FVec Ideal S2x2x2x4096x4353 .f32 :=
  broadcastInDim S2x2x2x4096x4353 ![0, 1, 2, 3, 4] bcast_S2x2x2x4096x1_S2x2x2x4096x4353_0_1_2_3_4 x

/-- The largest score of each query. -/
def tops : FVec Ideal S2x2x2x4096 .f32 :=
  maximumf (broadcastInDim S2x2x2x4096 ![] bcast_S_S2x2x2x4096 (constant S_ .f32 0xFF800000#32))
    (Host.reduce FloatOps.maximumf (scores q k kc s) (constant S_ .f32 0xFF800000#32) reducesTo_S2x2x2x4096x4353_S2x2x2x4096_d4 h_S_)

/-- The exponentials of the scores below the largest. -/
def exps : FVec Ideal S2x2x2x4096x4353 .f32 := Host.exp (subf (scores q k kc s) (over (column (tops q k kc s))))

/-- The sum of the exponentials of each query. -/
def den : FVec Ideal S2x2x2x4096x1 .f32 :=
  column (Host.reduceAdd (exps q k kc s) (constant S_ .f32 0x00000000#32) reducesTo_S2x2x2x4096x4353_S2x2x2x4096_d4 h_S_)

/-- The probabilities. -/
def probs : FVec Ideal S2x2x2x4096x4353 .f32 := Host.divf (exps q k kc s) (over (den q k kc s))

/-- The rows of one head of a four-axis array. -/
abbrev head {n a : ℕ} (x : (⟨4, ![2, n, a, 64]⟩ : Shape).Idx → EReal) (b : Fin 2) (h : Fin a) : Fin n → Fin 64 → EReal :=
  fun i y => x (ix4 b i h y)

/-- Head `u` of group `g`. -/
abbrev hd (g u : Fin 2) : Fin 4 := ⟨g * 2 + u, by omega⟩

theorem groups_at (b : Fin 2) (i : Fin 4096) (g u : Fin 2) (x : Fin 64) : groups q (ix5 b i g u x) = head q b (hd g u) i x := by
  unfold groups
  pointwise

theorem reach_at (b g u : Fin 2) (i j : Fin 4096) : reach (ix5 b g u i j) = within i j := by
  unfold reach within
  pointwise
  rfl

theorem near_at (b g u : Fin 2) (i j : Fin 4096) :
    nearScores q k (ix5 b g u i j) = near (head q b (hd g u) i) (head k b g) (within i) j := by
  have h : nearScores q k (ix5 b g u i j) = if reach (ix5 b g u i j) = 1#1 then
      (∑ x, head k b g j x * groups q (ix5 b i g u x)) * scale else lowest := by
    unfold nearScores
    pointwise
    rfl
  rw [h, reach_at, near]
  simp only [groups_at, mul_comm]

theorem far_at (b g u : Fin 2) (i : Fin 4096) (j : Fin 256) :
    farScores q kc (ix5 b g u i j) = far (head q b (hd g u) i) (head kc b g) j := by
  have h : farScores q kc (ix5 b g u i j) = (∑ x, head kc b g j x * groups q (ix5 b i g u x)) * scale := by
    unfold farScores
    pointwise
  rw [h, far]
  simp only [groups_at, mul_comm]

theorem sink_at (b g u : Fin 2) (i : Fin 4096) : sinkScores s (ix5 b g u i 0) = s (ix1 (hd g u)) := by
  unfold sinkScores
  pointwise

theorem scores_at (b g u : Fin 2) (i : Fin 4096) (j : Fin 4353) :
    scores q k kc s (ix5 b g u i j)
      = joined (near (head q b (hd g u) i) (head k b g) (within i)) (far (head q b (hd g u) i) (head kc b g)) (s (ix1 (hd g u))) j := by
  refine parts (L := 4096) (p := fun j => scores q k kc s (ix5 b g u i j) = joined (near (head q b (hd g u) i) (head k b g) (within i))
    (far (head q b (hd g u) i) (head kc b g)) (s (ix1 (hd g u))) j) (fun j => ?_) (fun j => ?_) ?_ j
  · rw [joined_near, ← near_at]
    exact concatenate_apply_piece (t := S2x2x2x4096x4353) 4 [⟨S2x2x2x4096x4096, nearScores q k⟩, ⟨S2x2x2x4096x256, farScores q kc⟩, ⟨S2x2x2x4096x1, sinkScores s⟩]
      concatenates_S2x2x2x4096x4096_S2x2x2x4096x256_S2x2x2x4096x1_S2x2x2x4096x4353_d4
      (ix5 b g u i ⟨j, by omega⟩) 0 (by simp) S2x2x2x4096x4096 (nearScores q k) rfl rfl 0 rfl (ix5 b g u i j)
      (fun a ha => by fin_cases a <;> first | rfl | exact absurd rfl ha) (Nat.zero_add _)
  · rw [joined_far, ← far_at]
    exact concatenate_apply_piece (t := S2x2x2x4096x4353) 4 [⟨S2x2x2x4096x4096, nearScores q k⟩, ⟨S2x2x2x4096x256, farScores q kc⟩, ⟨S2x2x2x4096x1, sinkScores s⟩]
      concatenates_S2x2x2x4096x4096_S2x2x2x4096x256_S2x2x2x4096x1_S2x2x2x4096x4353_d4
      (ix5 b g u i ⟨4096 + j, by omega⟩) 1 (by simp) S2x2x2x4096x256 (farScores q kc) rfl rfl 4096 rfl (ix5 b g u i j)
      (fun a ha => by fin_cases a <;> first | rfl | exact absurd rfl ha) rfl
  · rw [joined_last, ← sink_at s b g u i]
    exact concatenate_apply_piece (t := S2x2x2x4096x4353) 4 [⟨S2x2x2x4096x4096, nearScores q k⟩, ⟨S2x2x2x4096x256, farScores q kc⟩, ⟨S2x2x2x4096x1, sinkScores s⟩]
      concatenates_S2x2x2x4096x4096_S2x2x2x4096x256_S2x2x2x4096x1_S2x2x2x4096x4353_d4
      (ix5 b g u i ⟨4352, by omega⟩) 2 (by simp) S2x2x2x4096x1 (sinkScores s) rfl rfl 4352 rfl (ix5 b g u i 0)
      (fun a ha => by fin_cases a <;> first | rfl | exact absurd rfl ha) rfl

theorem top_at (x : FVec Ideal S2x2x2x4096x4353 .f32) (b g u : Fin 2) (i : Fin 4096) :
    Host.reduce FloatOps.maximumf x (constant S_ .f32 0xFF800000#32) reducesTo_S2x2x2x4096x4353_S2x2x2x4096_d4 h_S_ (ix4 b g u i)
      = Finset.fold max lowest (fun j : Fin 4353 => x (ix5 b g u i j)) Finset.univ := by
  pointwise

theorem max_at (x : FVec Ideal S2x2x2x4096 .f32) (b g u : Fin 2) (i : Fin 4096) :
    maximumf (broadcastInDim S2x2x2x4096 ![] bcast_S_S2x2x2x4096 (constant S_ .f32 0xFF800000#32)) x (ix4 b g u i)
      = max lowest (x (ix4 b g u i)) := by
  pointwise

section Row

variable (b g u : Fin 2) (i : Fin 4096)

/-- The scores of one query over the keys. -/
abbrev rowNear : Fin 4096 → EReal := near (head q b (hd g u) i) (head k b g) (within i)
/-- The scores of one query over the context. -/
abbrev rowFar : Fin 256 → EReal := far (head q b (hd g u) i) (head kc b g)

theorem tops_at : tops q k kc s (ix4 b g u i) = top (rowNear q k b g u i) (rowFar q kc b g u i) (s (ix1 (hd g u))) := by
  unfold tops
  rw [max_at, top_at]
  simp only [scores_at]
  rw [top_joined (L := 4096), lowest_eq, max_eq_right bot_le]

theorem over_at (x : FVec Ideal S2x2x2x4096x1 .f32) (j : Fin 4353) : over x (ix5 b g u i j) = x (ix5 b g u i 0) := by
  unfold over
  pointwise

theorem column_at (x : FVec Ideal S2x2x2x4096 .f32) : column x (ix5 b g u i 0) = x (ix4 b g u i) := by
  unfold column
  pointwise

theorem exps_at (j : Fin 4353) : exps q k kc s (ix5 b g u i j)
    = expo (rowNear q k b g u i) (rowFar q kc b g u i) (s (ix1 (hd g u)))
      (joined (rowNear q k b g u i) (rowFar q kc b g u i) (s (ix1 (hd g u))) j) := by
  have h1 : exps q k kc s (ix5 b g u i j)
      = Ideal.exp (scores q k kc s (ix5 b g u i j) - over (column (tops q k kc s)) (ix5 b g u i j)) := rfl
  rw [h1, over_at, column_at, tops_at, scores_at, expo]

theorem sum_at (x : FVec Ideal S2x2x2x4096x4353 .f32) :
    Host.reduceAdd x (constant S_ .f32 0x00000000#32) reducesTo_S2x2x2x4096x4353_S2x2x2x4096_d4 h_S_ (ix4 b g u i)
      = ∑ j : Fin 4353, x (ix5 b g u i j) := by
  pointwise

theorem den_at : den q k kc s (ix5 b g u i 0) = mass (rowNear q k b g u i) (rowFar q kc b g u i) (s (ix1 (hd g u))) := by
  unfold den
  rw [column_at, sum_at]
  simp only [exps_at]
  exact mass_joined (L := 4096) _ _ _

theorem probs_at (j : Fin 4353) : probs q k kc s (ix5 b g u i j)
    = Ideal.div (expo (rowNear q k b g u i) (rowFar q kc b g u i) (s (ix1 (hd g u)))
      (joined (rowNear q k b g u i) (rowFar q kc b g u i) (s (ix1 (hd g u))) j))
      (mass (rowNear q k b g u i) (rowFar q kc b g u i) (s (ix1 (hd g u)))) := by
  have h1 : probs q k kc s (ix5 b g u i j) = Ideal.div (exps q k kc s (ix5 b g u i j)) (over (den q k kc s) (ix5 b g u i j)) := rfl
  rw [h1, exps_at, over_at, den_at]

end Row

/-- The output of the attention, with the heads as the groups. -/
def outGroups : FVec Ideal S2x4096x2x2x64 .f32 :=
  addf (transpose S2x4096x2x2x64 [0, 4, 1, 3, 2] (Host.dotGeneral dot_S2x4096x2x64_S2x2x2x4096x4096_S2x2x64x2x4096_1_4_3_23_02_01 none v
      (extractStridedSlice S2x2x2x4096x4096 ![0, 0, 0, 0, 0] (probs q k kc s) slices_S2x2x2x4096x4353_S2x2x2x4096x4096_0_0_0_0_0))
      transposes_S2x2x64x2x4096_S2x4096x2x2x64_0_4_1_3_2)
    (transpose S2x4096x2x2x64 [0, 4, 1, 3, 2] (Host.dotGeneral dot_S2x256x2x64_S2x2x2x4096x256_S2x2x64x2x4096_1_4_3_23_02_01 none vc
      (extractStridedSlice S2x2x2x4096x256 ![0, 0, 0, 0, 4096] (probs q k kc s) slices_S2x2x2x4096x4353_S2x2x2x4096x256_0_0_0_0_4096))
      transposes_S2x2x64x2x4096_S2x4096x2x2x64_0_4_1_3_2)

/-- The output of the attention, one batch of rows for each head. -/
def outRows : FVec Ideal S8x4096x64 .f32 :=
  shapeCast S8x4096x64 (transpose S2x4x4096x64 [0, 2, 1, 3] (shapeCast S2x4096x4x64 (outGroups q k v kc vc s)
    shapeCasts_S2x4096x2x2x64_S2x4096x4x64) transposes_S2x4096x4x64_S2x4x4096x64_0_2_1_3) shapeCasts_S2x4x4096x64_S8x4096x64

theorem outGroups_at (b : Fin 2) (i : Fin 4096) (g u : Fin 2) (x : Fin 64) : outGroups q k v kc vc s (ix5 b i g u x)
    = out (head q b (hd g u) i) (head k b g) (head v b g) (head kc b g) (head vc b g) (s (ix1 (hd g u))) (within i) x := by
  have h : ∀ p : FVec Ideal S2x2x2x4096x4353 .f32,
      addf (F := Ideal) (transpose S2x4096x2x2x64 [0, 4, 1, 3, 2] (Host.dotGeneral dot_S2x4096x2x64_S2x2x2x4096x4096_S2x2x64x2x4096_1_4_3_23_02_01 none v
      (extractStridedSlice S2x2x2x4096x4096 ![0, 0, 0, 0, 0] p slices_S2x2x2x4096x4353_S2x2x2x4096x4096_0_0_0_0_0))
      transposes_S2x2x64x2x4096_S2x4096x2x2x64_0_4_1_3_2)
    (transpose S2x4096x2x2x64 [0, 4, 1, 3, 2] (Host.dotGeneral dot_S2x256x2x64_S2x2x2x4096x256_S2x2x64x2x4096_1_4_3_23_02_01 none vc
      (extractStridedSlice S2x2x2x4096x256 ![0, 0, 0, 0, 4096] p slices_S2x2x2x4096x4353_S2x2x2x4096x256_0_0_0_0_4096))
      transposes_S2x2x64x2x4096_S2x4096x2x2x64_0_4_1_3_2) (ix5 b i g u x)
      = (∑ j : Fin 4096, head v b g j x * p (ix5 b g u i ⟨j, by omega⟩)) + ∑ j : Fin 256, head vc b g j x * p (ix5 b g u i ⟨4096 + j, by omega⟩) := by
    intro p
    pointwise
  unfold outGroups
  rw [h]
  simp only [probs_at]
  unfold out
  refine congrArg₂ (· + ·) (Finset.sum_congr rfl fun j _ => ?_) (Finset.sum_congr rfl fun j _ => ?_)
  · rw [mul_comm, joined_near (L := 4096)]
  · rw [mul_comm, joined_far (L := 4096)]

theorem outRows_at (G : Fin 8) (i : Fin 4096) (x : Fin 64) : outRows q k v kc vc s (ix3 G i x)
    = outGroups q k v kc vc s (ix5 ⟨G / 4, by omega⟩ i ⟨G % 4 / 2, by omega⟩ ⟨G % 4 % 2, by omega⟩ x) := by
  unfold outRows
  generalize outGroups q k v kc vc s = y
  pointwise

end Cert.Window.Host
-- ==== Proof.WindowMask.lean ====
/- Which of the 384 keys near a block of queries the kernel's mask keeps. -/
module

public import proofs.«01_k».proof.Proof.WindowBand
public import Idealize.ShloMosaic.Lib.Pipeline.ValueKit

@[expose] public section

set_option maxRecDepth 16384

noncomputable section

namespace Cert.Window

open Idealize.ShloMosaic
open Cert.Attn (lowest lowest_eq)

/-- The position of row `i` of block `n`, as the kernel computes it. -/
def queryPos (n i : ℕ) : BitVec 32 :=
  IntOp.addi (IntOp.muli (BitVec.ofNat 32 n) 128#32)
    (Scalar.select (IntOp.andi (IntOp.xori (IntOp.cmpi .slt (IntOp.remsi .vector (BitVec.ofNat 32 i) 128#32) 0#32) (IntOp.cmpi .slt 128#32 0#32))
        (IntOp.cmpi .ne (IntOp.remsi .vector (BitVec.ofNat 32 i) 128#32) 0#32))
      (IntOp.addi (IntOp.remsi .vector (BitVec.ofNat 32 i) 128#32) 128#32) (IntOp.remsi .vector (BitVec.ofNat 32 i) 128#32))

theorem queryPos_eq : ∀ (n : Fin 32) (i : Fin 256), queryPos n i = BitVec.ofNat 32 (n.val * 128 + i.val % 128) := by decide +kernel

/-- The head, in its group, of row `i` of a block, as the kernel computes it. -/
def headOf (i : ℕ) : BitVec 32 :=
  Scalar.select (IntOp.andi
      (IntOp.cmpi .ne (IntOp.subi (BitVec.setWidth 32 (IntOp.cmpi .sgt (BitVec.ofNat 32 i) 0#32)) (BitVec.setWidth 32 (IntOp.cmpi .slt (BitVec.ofNat 32 i) 0#32)))
        (Scalar.subi (Scalar.extui (Scalar.cmpi .sgt 128#32 0#32)) (Scalar.extui (Scalar.cmpi .slt 128#32 0#32))))
      (IntOp.cmpi .ne (IntOp.remsi .vector (BitVec.ofNat 32 i) 128#32) 0#32))
    (IntOp.subi (IntOp.divsi .vector (BitVec.ofNat 32 i) 128#32) 1#32) (IntOp.divsi .vector (BitVec.ofNat 32 i) 128#32)

theorem headOf_eq : ∀ i : Fin 256, IntOp.cmpi .eq (headOf i) 1#32 = (if i.val < 128 then 0#1 else 1#1)
    ∧ IntOp.cmpi .eq (headOf i) 0#32 = (if i.val < 128 then 1#1 else 0#1) := by decide +kernel

/-- A number for each of the two heads, chosen by the head of row `i`. -/
theorem headOf_choose (i : Fin 256) (a b z : EReal) : Scalar.select (IntOp.cmpi .eq (headOf i) 1#32) b
    (Scalar.select (IntOp.cmpi .eq (headOf i) 0#32) a z) = if i.val < 128 then a else b := by
  rw [(headOf_eq i).1, (headOf_eq i).2]
  split <;> rfl

/-- The position of key `J` near block `n`, as the kernel computes it. -/
def keyPos (n J : ℕ) : BitVec 32 := IntOp.addi (IntOp.muli (IntOp.subi (BitVec.ofNat 32 n) 1#32) 128#32) (BitVec.ofNat 32 J)

theorem keyPos_eq : ∀ (n : Fin 32) (J : Fin 384), keyPos n J = BitVec.ofNat 32 (n.val * 128 + J.val) - 128#32 := by decide +kernel

theorem inside : ∀ X : Fin 4352, (IntOp.cmpi .sge (BitVec.ofNat 32 X.val - 128#32) 0#32 = 1#1
    ∧ IntOp.cmpi .slt (BitVec.ofNat 32 X.val - 128#32) 4096#32 = 1#1) ↔ 128 ≤ X.val ∧ X.val < 4224 := by decide +kernel

theorem and_and : ∀ a b c : BitVec 1, IntOp.andi (IntOp.andi a b) c = 1#1 ↔ a = 1#1 ∧ b = 1#1 ∧ c = 1#1 := by decide

/-- The kernel's mask. -/
def mask (n i J : ℕ) : BitVec 1 :=
  IntOp.andi (IntOp.andi (IntOp.cmpi .sle (IntOp.absi (IntOp.subi (keyPos n J) (queryPos n i))) 128#32)
    (IntOp.cmpi .sge (keyPos n J) 0#32)) (IntOp.cmpi .slt (keyPos n J) 4096#32)

/-- The masked scores of row `i` of block `n`: those over all keys, read off near the block. -/
theorem masked (n : Fin 32) (i : Fin 256) (q : Fin 64 → EReal) (kw : Fin 384 → Fin 64 → EReal) (k : Fin 4096 → Fin 64 → EReal)
    (hk : ∀ x, (fun J => kw J x) = spread n (fun j => k j x) 0) (J : Fin 384) :
    (if mask n i J = 1#1 then (∑ x, q x * kw J x) * scale else lowest)
      = spread n (full n ⟨i % 128, by omega⟩ q k) ⊥ J := by
  have hX := inside ⟨n * 128 + J, by omega⟩
  simp only at hX
  have hm : mask n i J = 1#1 ↔ IntOp.cmpi .sle (IntOp.absi (IntOp.subi (BitVec.ofNat 32 (n.val * 128 + J.val) - 128#32)
      (BitVec.ofNat 32 (n.val * 128 + i.val % 128)))) 128#32 = 1#1 ∧ 128 ≤ n.val * 128 + J.val ∧ n.val * 128 + J.val < 4224 := by
    rw [mask, and_and, keyPos_eq, hX, queryPos_eq]
  simp only [hm]
  unfold spread
  by_cases h : 128 ≤ n.val * 128 + J.val ∧ n.val * 128 + J.val < 4224
  · rw [dif_pos h]
    have e : BitVec.ofNat 32 (n.val * 128 + J.val) - 128#32 = BitVec.ofNat 32 (n.val * 128 + J.val - 128) := by
      apply BitVec.eq_of_toNat_eq
      simp only [BitVec.toNat_sub, BitVec.toNat_ofNat]
      omega
    have hkw : ∀ x, kw J x = k ⟨n * 128 + J - 128, by omega⟩ x := fun x => by
      refine (congrFun (hk x) J).trans ?_
      unfold spread
      rw [dif_pos h]
    simp only [hkw, e, h, and_self, and_true, full, near]
    rfl
  · rw [dif_neg h, if_neg (fun hc => h hc.2), lowest_eq]

end Cert.Window
-- ==== Proof.Products.lean ====
/- The squared ReLU and the factor that its derivative brings, at one number. -/
module

public import Idealize.ShloMosaic.Lib.Pipeline.ValueKit
public import Idealize.ShloMosaic.PureOps.Ideal

@[expose] public section

noncomputable section

namespace Cert.Products

open Idealize.ShloMosaic

/-- The squared ReLU. -/
def relu2 (x : EReal) : EReal := max x 0 * max x 0

/-- The number two, as the programs write it. -/
abbrev two : EReal := Ideal.ofBits .f32 0x40000000#32

/-- The factor that the squared ReLU's derivative brings. -/
def reluSlope (x : EReal) : EReal := two * max x 0

/-- Where the argument is not positive the factor is zero, so that choosing between the product and zero by the sign of the
    argument is the product itself. -/
theorem mul_reluSlope (x g : EReal) : (if 0 < x then g * reluSlope x else 0) = g * reluSlope x := by
  split_ifs with h
  · rfl
  · rw [reluSlope, max_eq_right (not_lt.mp h), mul_zero, mul_zero]

end Cert.Products
-- ==== Proof.WideProducts.lean ====
/- Products whose operands carry columns of zeros: what the columns add. -/
module

public import proofs.«01_k».proof.Proof.Products

@[expose] public section

noncomputable section

namespace Cert.Products

open Idealize.ShloMosaic

/-- The number the padding is made of: the integer zero as a float. -/
theorem pad_zero : (FloatOps.sitofp FTy.f32 0#32 : Ideal .f32) = 0 := by
  show ((((0#32 : BitVec 32).toInt : ℝ)) : EReal) = 0
  simp

/-- A row of 2736 entries followed by 80 zeros. -/
def wide (f : Fin 2736 → EReal) (j : Fin 2816) : EReal := if h : j.val < 2736 then f ⟨j.val, h⟩ else 0

/-- The zeros add nothing to a sum of products. -/
theorem sum_wide_mul (f g : Fin 2736 → EReal) : ∑ k, wide f k * wide g k = ∑ k, f k * g k := by
  rw [show (∑ k : Fin 2816, wide f k * wide g k) = ∑ k : Fin (2736 + 80), wide f k * wide g k from rfl, Fin.sum_univ_add]
  rw [Finset.sum_eq_zero (s := (Finset.univ : Finset (Fin 80))) fun k _ => ?_, add_zero]
  · refine Finset.sum_congr rfl fun k _ => ?_
    have h : (Fin.castAdd 80 k).val < 2736 := k.isLt
    simp only [wide, dif_pos h]
    rfl
  · have h : ¬(Fin.natAdd 2736 k).val < 2736 := Nat.not_lt.mpr (Nat.le_add_right _ _)
    simp only [wide, dif_neg h, mul_zero]

/-- A column of a product with such rows: the product's own, or zero. -/
theorem sum_mul_wide {n : ℕ} (f : Fin n → EReal) (g : Fin n → Fin 2736 → EReal) (j : Fin 2816) :
    ∑ k, f k * wide (g k) j = if h : j.val < 2736 then ∑ k, f k * g k ⟨j.val, h⟩ else 0 := by
  unfold wide
  split
  · rfl
  · simp only [mul_zero, Finset.sum_const_zero]

end Cert.Products
-- ==== Proof.WindowForward.lean ====
/- The sliding-window attention, forward: the run of the version's forward call ends at the attention that the reference
   computes, for finite queries, keys and sinks. -/
module

public import proofs.«01_k».proof.Proof.WindowHost
public import proofs.«01_k».proof.Proof.WindowMask
public import proofs.«01_k».proof.Proof.Finite
public import proofs.«01_k».proof.Proof.WideProducts
public import proofs.«01_k».proof.Defs
public import proofs.«01_k».proof.Proof.Gen.Kernel30.Frame
public import proofs.«01_k».proof.Proof.Gen.Kernel30Ideal.Value
public import proofs.«01_k».proof.Proof.Gen.Reference30Ideal.Run

@[expose] public section

set_option maxRecDepth 16384

noncomputable section

namespace Cert.Window.Forward

open Idealize.ShloMosaic Idealize.ShloMosaic.TcCoe Idealize.SL.Sem
open Cert.Window.Host (head hd)
open Cert.Attn (lowest lowest_eq)
open Cert.Attn.Finite (and_one real_of_all)
open Cert.Products (pad_zero)

section Pre

open Cert.Pre_finite_window

instance facts : Cert.Pre_finite_window.Facts where
  bcast_S_S2x4096x4x64 := by decide
  reducesTo_S2x4096x4x64_S_d0_1_2_3 := by decide
  h_S_ := by decide
  bcast_S_S2x4096x2x64 := by decide
  reducesTo_S2x4096x2x64_S_d0_1_2_3 := by decide
  bcast_S_S2x256x2x64 := by decide
  reducesTo_S2x256x2x64_S_d0_1_2_3 := by decide
  bcast_S_S4 := by decide
  reducesTo_S4_S_d0 := by decide

theorem real_window (q : FVec Ideal S2x4096x4x64 .f32) (k v : FVec Ideal S2x4096x2x64 .f32) (kc vc : FVec Ideal S2x256x2x64 .f32)
    (s : FVec Ideal S4 .f32) (h : Cert.Pre_finite_window.fn q k v kc vc s = fun _ => 1#1) :
    (∀ i, ∃ r : ℝ, q i = r) ∧ (∀ i, ∃ r : ℝ, k i = r) ∧ (∀ i, ∃ r : ℝ, kc i = r) ∧ ∀ i, ∃ r : ℝ, s i = r := by
  have h0 := congrFun h (fun a => a.elim0)
  unfold fn fn_part1 at h0
  obtain ⟨h1, hs⟩ := and_one _ _ _ h0
  obtain ⟨h2, hkc⟩ := and_one _ _ _ h1
  obtain ⟨hq, hk⟩ := and_one _ _ _ h2
  exact ⟨real_of_all q _ _ _ _ hq, real_of_all k _ _ _ _ hk, real_of_all kc _ _ _ _ hkc, real_of_all s _ _ _ _ hs⟩

end Pre

section Kernel

open Cert.Kernel30Ideal Cert.Kernel30Ideal.Gen

section Block

variable (v7 : FVec Ideal S384x64 .bf16) (v10 : FVec Ideal S256x64 .bf16) (v12 : FVec Ideal S256x64 .bf16) (v52 : FVec Ideal S256x1 .f32)
  (v55 : FVec Ideal S256x384 .f32) (v75 v78 v79 : IVec S256x384 32) (i : Fin 256)

/-- The scores of row `i` over the keys near it, over the context and at the sink. -/
abbrev rowA : Fin 384 → EReal := fun J => k0_pay12 v55 v75 v78 v79 (ix2 i J)
@[inherit_doc rowA] abbrev rowB : Fin 256 → EReal := fun j => k0_pay13 v10 v12 (ix2 i j)

theorem top_at : k0_pay14 v10 v12 v52 v55 v75 v78 v79 (ix2 i 0) = top (rowA v55 v75 v78 v79 i) (rowB v10 v12 i) (v52 (ix2 i 0)) := by
  unfold top
  pointwise [k0_pay14]

theorem near_at (J : Fin 384) : k0_pay15 v10 v12 v52 v55 v75 v78 v79 (ix2 i J)
    = expo (rowA v55 v75 v78 v79 i) (rowB v10 v12 i) (v52 (ix2 i 0)) (rowA v55 v75 v78 v79 i J) := by
  unfold expo
  rw [← top_at]
  pointwise [k0_pay15]

theorem far_at (j : Fin 256) : k0_pay16 v10 v12 v52 v55 v75 v78 v79 (ix2 i j)
    = expo (rowA v55 v75 v78 v79 i) (rowB v10 v12 i) (v52 (ix2 i 0)) (rowB v10 v12 i j) := by
  unfold expo
  rw [← top_at]
  pointwise [k0_pay16]

theorem inv_at : k0_pay17 v10 v12 v52 v55 v75 v78 v79 (ix2 i 0)
    = Ideal.div 1 (mass (rowA v55 v75 v78 v79 i) (rowB v10 v12 i) (v52 (ix2 i 0))) := by
  unfold mass
  simp only [← near_at, ← far_at]
  unfold expo
  rw [← top_at]
  pointwise [k0_pay17]

theorem farProb_at (j : Fin 256) : k0_pay18 v10 v12 v52 v55 v75 v78 v79 (ix2 i j)
    = prob (rowA v55 v75 v78 v79 i) (rowB v10 v12 i) (v52 (ix2 i 0)) (rowB v10 v12 i j) := by
  unfold prob
  rw [← far_at, ← inv_at]
  pointwise [k0_pay18]

theorem nearOut_at (x : Fin 64) : k0_pay19 v7 v10 v12 v52 v55 v75 v78 v79 (ix2 i x)
    = ∑ J, prob (rowA v55 v75 v78 v79 i) (rowB v10 v12 i) (v52 (ix2 i 0)) (rowA v55 v75 v78 v79 i J) * v7 (ix2 J x) := by
  unfold prob
  simp only [← near_at, ← inv_at]
  pointwise [k0_pay19]

end Block

/-- The scores' products with the keys near the block. -/
theorem masked_at (v4 : FVec Ideal S384x64 .bf16) (v10 : FVec Ideal S256x64 .bf16) (n : ℕ) (i : Fin 256) (J : Fin 384) :
    k0_pay12 (k0_pay9 v4 v10) (k0_pay10 (BitVec.ofNat 32 n)) (iota .tc S256x384 32 [1] iota_S256x384_d1_w32) (k0_pay11 (BitVec.ofNat 32 n)) (ix2 i J)
      = if mask n i J = 1#1 then (∑ x, v10 (ix2 i x) * v4 (ix2 J x)) * scale else lowest := by
  pointwise [k0_pay12, k0_pay9, k0_pay10, k0_pay11]
  rfl

theorem context_at (v10 v12 : FVec Ideal S256x64 .bf16) (i j : Fin 256) :
    k0_pay13 v10 v12 (ix2 i j) = (∑ x, v10 (ix2 i x) * v12 (ix2 j x)) * scale := by
  pointwise [k0_pay13]

theorem sink_at (s0 s1 : Vec Ideal S1x1x1 .f32) (i : Fin 256) :
    k0_pay8 k0_pay6 (k0_pay7 (F := Ideal)) s0 s1 (ix2 i 0) = if i.val < 128 then s0 (ix3 0 0 0) else s1 (ix3 0 0 0) := by
  refine Eq.trans ?_ (headOf_choose i _ _ 0)
  pointwise [k0_pay8, k0_pay6, k0_pay7]
  rfl

theorem result_at (v121 : FVec Ideal S256x256 .f32) (v123 : FVec Ideal S256x64 .f32) (v124 : Vec Ideal S1x256x64 .bf16) (u : Fin 2) (w : Fin 128) (x : Fin 64) :
    k0_pay1 v121 v123 v124 (ix3 u w x) = v123 (ix2 ⟨u * 128 + w, by omega⟩ x) + ∑ j : Fin 256, v121 (ix2 ⟨u * 128 + w, by omega⟩ j) * v124 (ix3 0 j x) := by
  pointwise [k0_pay1]

theorem queries_at (v8 : Vec Ideal S2x128x64 .bf16) (i : Fin 256) (x : Fin 64) :
    k0_pay4 v8 (ix2 i x) = v8 (ix3 ⟨i / 128, by omega⟩ ⟨i % 128, by omega⟩ x) := by
  pointwise [k0_pay4]

theorem keys_at (v3 : Vec Ideal S1x384x64 .bf16) (J : Fin 384) (x : Fin 64) : k0_pay2 v3 (ix2 J x) = v3 (ix3 0 J x) := by
  pointwise [k0_pay2]

theorem values_at (v3 : Vec Ideal S1x384x64 .bf16) (J : Fin 384) (x : Fin 64) : k0_pay3 v3 (ix2 J x) = v3 (ix3 0 J x) := by
  pointwise [k0_pay3]

theorem ckeys_at (v3 : Vec Ideal S1x256x64 .bf16) (J : Fin 256) (x : Fin 64) : k0_pay5 v3 (ix2 J x) = v3 (ix3 0 J x) := by
  pointwise [k0_pay5]

/-- The block of results at a grid point, from the block's loads. -/
theorem block_at (n : Fin 32) (u : Fin 2) (w : Fin 128) (x : Fin 64) (q : Fin 64 → EReal) (k v : Fin 4096 → Fin 64 → EReal)
    (kc vc : Fin 256 → Fin 64 → EReal) (s : EReal) (xq : Vec Ideal S2x128x64 .bf16) (xk xv : Vec Ideal S1x384x64 .bf16)
    (xc xd : Vec Ideal S1x256x64 .bf16) (s0 s1 : Vec Ideal S1x1x1 .f32)
    (hq : ∀ x, xq (ix3 u w x) = q x) (hk : ∀ x, (fun J => xk (ix3 0 J x)) = spread n (fun j => k j x) 0)
    (hv : ∀ x, (fun J => xv (ix3 0 J x)) = spread n (fun j => v j x) 0)
    (hc : ∀ j x, xc (ix3 0 j x) = kc j x) (hd : ∀ j x, xd (ix3 0 j x) = vc j x)
    (hs : (if u.val * 128 + w.val < 128 then s0 (ix3 0 0 0) else s1 (ix3 0 0 0)) = s) :
    k0_pay1 (k0_pay18 (k0_pay4 xq) (k0_pay5 xc) (k0_pay8 k0_pay6 (k0_pay7 (F := Ideal)) s0 s1)
        (k0_pay9 (k0_pay2 xk) (k0_pay4 xq)) (k0_pay10 (BitVec.ofNat 32 n)) (iota .tc S256x384 32 [1] iota_S256x384_d1_w32) (k0_pay11 (BitVec.ofNat 32 n)))
      (k0_pay19 (k0_pay3 xv) (k0_pay4 xq) (k0_pay5 xc) (k0_pay8 k0_pay6 (k0_pay7 (F := Ideal)) s0 s1)
        (k0_pay9 (k0_pay2 xk) (k0_pay4 xq)) (k0_pay10 (BitVec.ofNat 32 n)) (iota .tc S256x384 32 [1] iota_S256x384_d1_w32) (k0_pay11 (BitVec.ofNat 32 n)))
      xd (ix3 u w x)
      = (∑ j, prob (full n w q k) (far q kc) s (full n w q k j) * v j x) + ∑ j, prob (full n w q k) (far q kc) s (far q kc j) * vc j x := by
  have hw : (⟨(u.val * 128 + w.val) % 128, by omega⟩ : Fin 128) = w := Fin.ext (by simp only; omega)
  have hu : (⟨(u.val * 128 + w.val) / 128, by omega⟩ : Fin 2) = u := Fin.ext (by simp only; omega)
  have hqi : ∀ x, k0_pay4 xq (ix2 ⟨u * 128 + w, by omega⟩ x) = q x := fun x => by
    rw [queries_at]
    simp only [hw, hu, hq]
  have hA : rowA (k0_pay9 (k0_pay2 xk) (k0_pay4 xq)) (k0_pay10 (BitVec.ofNat 32 n)) (iota .tc S256x384 32 [1] iota_S256x384_d1_w32)
      (k0_pay11 (BitVec.ofNat 32 n)) ⟨u * 128 + w, by omega⟩ = spread n (full n w q k) ⊥ := by
    funext J
    refine (masked_at _ _ _ _ _).trans ?_
    simp only [hqi, keys_at]
    refine (masked n ⟨u * 128 + w, by omega⟩ q (fun J x => xk (ix3 0 J x)) k hk J).trans ?_
    simp only [hw]
  have hB : rowB (k0_pay4 xq) (k0_pay5 xc) ⟨u * 128 + w, by omega⟩ = far q kc := by
    funext j
    refine (context_at _ _ _ _).trans ?_
    simp only [hqi, ckeys_at, hc, far]
  have hS := (sink_at s0 s1 ⟨u * 128 + w, by omega⟩).trans hs
  rw [result_at, nearOut_at]
  simp only [farProb_at]
  rw [hA, hB, hS]
  refine congrArg₂ (· + ·) ?_ ?_
  · rw [← sum_spread n (fun j => prob (full n w q k) (far q kc) s (full n w q k j)) (fun j => v j x) 0 (prob_away n w q k (far q kc) s),
      ← prob_spread, ← hv x]
    refine Finset.sum_congr rfl fun J _ => ?_
    rw [values_at]
  · refine Finset.sum_congr rfl fun j _ => ?_
    rw [prob_band, hd]

/-- Which block of each array a grid point reads and writes. -/
theorem idx : ∀ t : Fin cfg0.N, win0_0.index t = ![t.val / 32, t.val % 32, 0] ∧ win0_1.index t = ![t.val / 32, 0, 0]
    ∧ win0_2.index t = ![t.val / 32, 0, 0] ∧ win0_3.index t = ![t.val / 32, 0, 0] ∧ win0_4.index t = ![t.val / 32, 0, 0]
    ∧ win0_5.index t = ![t.val / 32, 0, 0] ∧ win0_6.index t = ![t.val / 32, t.val % 32, 0] :=
  (by decide +kernel : ∀ t : Fin grid0.N, _)

theorem coord : ∀ t : Fin cfg0.N, ((grid0.coords t) 1).val = t.val % 32 ∧ k0_off1 (grid0.coords t) = ![0, t.val % 32 * 128, 0] :=
  (by decide +kernel : ∀ t : Fin grid0.N, _)

variable (m : (ℓ : Loc nD τ sig) → Buf (Elt Ideal) ℓ) (c : Dev nD)

/-- The queries at launch. -/
abbrev argQ : FVec Ideal S2x4096x4x64 .f32 := m ((c.tc : Thread nD τ).loc main_arg0)
/-- The keys at launch. -/
abbrev argK : FVec Ideal S2x4096x2x64 .f32 := m ((c.tc : Thread nD τ).loc main_arg1)
/-- The values at launch. -/
abbrev argV : FVec Ideal S2x4096x2x64 .f32 := m ((c.tc : Thread nD τ).loc main_arg2)
/-- The keys of the context at launch. -/
abbrev argKc : FVec Ideal S2x256x2x64 .f32 := m ((c.tc : Thread nD τ).loc main_arg3)
/-- The values of the context at launch. -/
abbrev argVc : FVec Ideal S2x256x2x64 .f32 := m ((c.tc : Thread nD τ).loc main_arg4)
/-- The sinks at launch. -/
abbrev argS : FVec Ideal S4 .f32 := m ((c.tc : Thread nD τ).loc main_arg5)

theorem q_at (G : Fin 8) (i : Fin 4096) (x : Fin 64) : (V m c main_v12 : S8x4096x64.Idx → EReal) (ix3 G i x)
    = argQ m c (ix4 ⟨G / 4, by omega⟩ i ⟨G % 4, by omega⟩ x) := by
  simp only [V, hostOps0, hostOps0_1, hostOps0_2, hostOps0_3, hostOps0_4, List.flatten_cons, List.flatten_nil, List.append_nil, List.cons_append, List.nil_append]
  entry_read
  pointwise

theorem k_at (G : Fin 4) (J : Fin 4352) (x : Fin 64) : (V m c main_v13 : S4x4352x64.Idx → EReal) (ix3 G J x)
    = if h : 128 ≤ J.val ∧ J.val - 128 < 4096 then argK m c (ix4 ⟨G / 2, by omega⟩ ⟨J - 128, by omega⟩ ⟨G % 2, by omega⟩ x) else 0 := by
  simp only [V, hostOps0, hostOps0_1, hostOps0_2, hostOps0_3, hostOps0_4, List.flatten_cons, List.flatten_nil, List.append_nil, List.cons_append, List.nil_append]
  entry_read
  show (truncf .bf16 (pad S4x4352x64 ![0, 128, 0] ![0, 128, 0] ![0, 0, 0] (shapeCast S4x4096x64 (transpose S2x2x4096x64 [0, 2, 1, 3] (argK m c)
    transposes_S2x4096x2x64_S2x2x4096x64_0_2_1_3) shapeCasts_S2x2x4096x64_S4x4096x64) (sitofp (F := Ideal) .f32 (constantI S_ 32 0#32))
    pads_S4x4096x64_S4x4352x64_000_1281280_000 h_S_) bitsLt_bf16_f32 : S4x4352x64.Idx → EReal) (ix3 G J x) = _
  pointwise [pad_zero]

theorem v_at (G : Fin 4) (J : Fin 4352) (x : Fin 64) : (V m c main_v14 : S4x4352x64.Idx → EReal) (ix3 G J x)
    = if h : 128 ≤ J.val ∧ J.val - 128 < 4096 then argV m c (ix4 ⟨G / 2, by omega⟩ ⟨J - 128, by omega⟩ ⟨G % 2, by omega⟩ x) else 0 := by
  simp only [V, hostOps0, hostOps0_1, hostOps0_2, hostOps0_3, hostOps0_4, List.flatten_cons, List.flatten_nil, List.append_nil, List.cons_append, List.nil_append]
  entry_read
  show (truncf .bf16 (pad S4x4352x64 ![0, 128, 0] ![0, 128, 0] ![0, 0, 0] (shapeCast S4x4096x64 (transpose S2x2x4096x64 [0, 2, 1, 3] (argV m c)
    transposes_S2x4096x2x64_S2x2x4096x64_0_2_1_3) shapeCasts_S2x2x4096x64_S4x4096x64) (sitofp (F := Ideal) .f32 (constantI S_ 32 0#32))
    pads_S4x4096x64_S4x4352x64_000_1281280_000 h_S_) bitsLt_bf16_f32 : S4x4352x64.Idx → EReal) (ix3 G J x) = _
  pointwise [pad_zero]

theorem kc_at (G : Fin 4) (J : Fin 256) (x : Fin 64) : (V m c main_v15 : S4x256x64.Idx → EReal) (ix3 G J x)
    = argKc m c (ix4 ⟨G / 2, by omega⟩ J ⟨G % 2, by omega⟩ x) := by
  simp only [V, hostOps0, hostOps0_1, hostOps0_2, hostOps0_3, hostOps0_4, List.flatten_cons, List.flatten_nil, List.append_nil, List.cons_append, List.nil_append]
  entry_read
  pointwise

theorem vc_at (G : Fin 4) (J : Fin 256) (x : Fin 64) : (V m c main_v16 : S4x256x64.Idx → EReal) (ix3 G J x)
    = argVc m c (ix4 ⟨G / 2, by omega⟩ J ⟨G % 2, by omega⟩ x) := by
  simp only [V, hostOps0, hostOps0_1, hostOps0_2, hostOps0_3, hostOps0_4, List.flatten_cons, List.flatten_nil, List.append_nil, List.cons_append, List.nil_append]
  entry_read
  pointwise

theorem s_at (G : Fin 8) (z : Fin 128) : (V m c main_v21 : S8x1x128.Idx → EReal) (ix3 G 0 z) = argS m c (ix1 ⟨G % 4, by omega⟩) := by
  simp only [V, hostOps0, hostOps0_1, hostOps0_2, hostOps0_3, hostOps0_4, List.flatten_cons, List.flatten_nil, List.append_nil, List.cons_append, List.nil_append]
  entry_read
  pointwise

/-- The scores of query `i` of head `G` over the keys, over the context and at the sink. -/
abbrev near_ (G : Fin 8) (i : Fin 4096) : Fin 4096 → EReal :=
  near (head (argQ m c) ⟨G / 4, by omega⟩ ⟨G % 4, by omega⟩ i) (head (argK m c) ⟨G / 4, by omega⟩ ⟨G % 4 / 2, by omega⟩) (within i)
@[inherit_doc near_] abbrev far_ (G : Fin 8) (i : Fin 4096) : Fin 256 → EReal :=
  far (head (argQ m c) ⟨G / 4, by omega⟩ ⟨G % 4, by omega⟩ i) (head (argKc m c) ⟨G / 4, by omega⟩ ⟨G % 4 / 2, by omega⟩)
@[inherit_doc near_] abbrev sink_ (G : Fin 8) : EReal := argS m c (ix1 ⟨G % 4, by omega⟩)

/-- One entry of the result. -/
def entry (G : Fin 8) (i : Fin 4096) (x : Fin 64) : EReal :=
  (∑ j : Fin 4096, prob (near_ m c G i) (far_ m c G i) (sink_ m c G) (near_ m c G i j)
      * argV m c (ix4 ⟨G / 4, by omega⟩ j ⟨G % 4 / 2, by omega⟩ x))
    + ∑ j : Fin 256, prob (near_ m c G i) (far_ m c G i) (sink_ m c G) (far_ m c G i j)
      * argVc m c (ix4 ⟨G / 4, by omega⟩ j ⟨G % 4 / 2, by omega⟩ x)

/-- The result array. -/
def arr : FVec Ideal S8x4096x64 .f32 := fun z => entry m c (z 0) (z 1) (z 2)

theorem point_lt (t : Fin cfg0.N) : t.val < 128 := lt_of_lt_of_eq t.isLt N_0

/-- The head of a grid point's row, and the row's query. -/
abbrev rowHead (t : Fin cfg0.N) (u : Fin 2) : Fin 8 := ⟨t.val / 32 * 2 + u, by have := point_lt t; omega⟩
/-- The block of queries of a grid point. -/
abbrev nth (t : Fin cfg0.N) : Fin 32 := ⟨t.val % 32, by omega⟩
/-- The group of heads of a grid point. -/
abbrev grp (t : Fin cfg0.N) : Fin 4 := ⟨t.val / 32, by have := point_lt t; omega⟩

theorem read_q (t : Fin cfg0.N) (u : Fin 2) (w : Fin 128) (x : Fin 64) : (iblk m c 0 t : Vec Ideal S2x128x64 .bf16) (ix3 u w x)
    = head (argQ m c) ⟨rowHead t u / 4, by omega⟩ ⟨rowHead t u % 4, by omega⟩ (rowOf (nth t) w) x := by
  refine Eq.trans (congrArg (V m c main_v12) (?_ : ((cfg0.win 0).blk t).view.emb (ix3 u w x) = ix3 (rowHead t u) (rowOf (nth t) w) x)) (q_at m c _ _ x)
  blk_ext [idx t]

/-- What is loaded of an array of 4352 rows at a grid point. -/
theorem ld_at (t : Fin cfg0.N) (y : Vec Ideal S1x4352x64 .bf16) (J : Fin 384) (x : Fin 64) :
    View.ld y (Rect.unit (s := S1x4352x64) (k0_off1 (grid0.coords t)) S1x384x64.size (k0_off1_inb (grid0.coords t))) (ix3 0 J x)
      = y (ix3 0 ⟨t.val % 32 * 128 + J, by omega⟩ x) := by
  refine View.ld_unit_apply_of _ _ _ _ _ _ fun a => ?_
  refine Eq.trans ?_ (congrArg (· + ((ix3 0 J x : S1x384x64.Idx) a).val) (congrFun (coord t).2 a).symm)
  fin_cases a
  · rfl
  · rfl
  · exact (Nat.zero_add _).symm

theorem read_k (t : Fin cfg0.N) (u : Fin 2) (x : Fin 64) :
    (fun J => View.ld (iblk m c 1 t : Vec Ideal S1x4352x64 .bf16) (Rect.unit (s := S1x4352x64) (k0_off1 (grid0.coords t)) S1x384x64.size (k0_off1_inb (grid0.coords t))) (ix3 0 J x))
      = spread (nth t) (fun j => head (argK m c) ⟨rowHead t u / 4, by omega⟩ ⟨rowHead t u % 4 / 2, by omega⟩ j x) 0 := by
  funext J
  rw [ld_at]
  refine Eq.trans (congrArg (V m c main_v13) (?_ : ((cfg0.win 1).blk t).view.emb (ix3 0 ⟨t.val % 32 * 128 + J, by omega⟩ x)
    = ix3 (grp t) ⟨t.val % 32 * 128 + J, by omega⟩ x)) ((k_at m c _ _ x).trans ?_)
  · blk_ext [idx t]
  · have h1 : (⟨t.val / 32 / 2, by have := point_lt t; omega⟩ : Fin 2) = ⟨rowHead t u / 4, by omega⟩ :=
      Fin.ext (show t.val / 32 / 2 = (t.val / 32 * 2 + u.val) / 4 by omega)
    have h2 : (⟨t.val / 32 % 2, by omega⟩ : Fin 2) = ⟨rowHead t u % 4 / 2, by omega⟩ :=
      Fin.ext (show t.val / 32 % 2 = (t.val / 32 * 2 + u.val) % 4 / 2 by omega)
    unfold spread
    simp only [head, h1, h2]
    split <;> rename_i h
    · have h' : 128 ≤ t.val % 32 * 128 + J.val ∧ t.val % 32 * 128 + J.val - 128 < 4096 := h
      rw [dif_pos (show 128 ≤ t.val % 32 * 128 + J.val ∧ t.val % 32 * 128 + J.val < 4224 by omega)]
    · have h' : ¬(128 ≤ t.val % 32 * 128 + J.val ∧ t.val % 32 * 128 + J.val - 128 < 4096) := h
      rw [dif_neg (show ¬(128 ≤ t.val % 32 * 128 + J.val ∧ t.val % 32 * 128 + J.val < 4224) by omega)]

theorem read_v (t : Fin cfg0.N) (u : Fin 2) (x : Fin 64) :
    (fun J => View.ld (iblk m c 2 t : Vec Ideal S1x4352x64 .bf16) (Rect.unit (s := S1x4352x64) (k0_off1 (grid0.coords t)) S1x384x64.size (k0_off1_inb (grid0.coords t))) (ix3 0 J x))
      = spread (nth t) (fun j => head (argV m c) ⟨rowHead t u / 4, by omega⟩ ⟨rowHead t u % 4 / 2, by omega⟩ j x) 0 := by
  funext J
  rw [ld_at]
  refine Eq.trans (congrArg (V m c main_v14) (?_ : ((cfg0.win 2).blk t).view.emb (ix3 0 ⟨t.val % 32 * 128 + J, by omega⟩ x)
    = ix3 (grp t) ⟨t.val % 32 * 128 + J, by omega⟩ x)) ((v_at m c _ _ x).trans ?_)
  · blk_ext [idx t]
  · have h1 : (⟨t.val / 32 / 2, by have := point_lt t; omega⟩ : Fin 2) = ⟨rowHead t u / 4, by omega⟩ :=
      Fin.ext (show t.val / 32 / 2 = (t.val / 32 * 2 + u.val) / 4 by omega)
    have h2 : (⟨t.val / 32 % 2, by omega⟩ : Fin 2) = ⟨rowHead t u % 4 / 2, by omega⟩ :=
      Fin.ext (show t.val / 32 % 2 = (t.val / 32 * 2 + u.val) % 4 / 2 by omega)
    unfold spread
    simp only [head, h1, h2]
    split <;> rename_i h
    · have h' : 128 ≤ t.val % 32 * 128 + J.val ∧ t.val % 32 * 128 + J.val - 128 < 4096 := h
      rw [dif_pos (show 128 ≤ t.val % 32 * 128 + J.val ∧ t.val % 32 * 128 + J.val < 4224 by omega)]
    · have h' : ¬(128 ≤ t.val % 32 * 128 + J.val ∧ t.val % 32 * 128 + J.val - 128 < 4096) := h
      rw [dif_neg (show ¬(128 ≤ t.val % 32 * 128 + J.val ∧ t.val % 32 * 128 + J.val < 4224) by omega)]

theorem read_kc (t : Fin cfg0.N) (u : Fin 2) (j : Fin 256) (x : Fin 64) : (iblk m c 3 t : Vec Ideal S1x256x64 .bf16) (ix3 0 j x)
    = head (argKc m c) ⟨rowHead t u / 4, by omega⟩ ⟨rowHead t u % 4 / 2, by omega⟩ j x := by
  refine Eq.trans (congrArg (V m c main_v15) (?_ : ((cfg0.win 3).blk t).view.emb (ix3 0 j x) = ix3 (grp t) j x)) ((kc_at m c _ _ x).trans ?_)
  · blk_ext [idx t]
  · exact congrArg (argKc m c) (congrArg₂ (fun a b => ix4 a j b x)
      (Fin.ext (show t.val / 32 / 2 = (t.val / 32 * 2 + u.val) / 4 by omega))
      (Fin.ext (show t.val / 32 % 2 = (t.val / 32 * 2 + u.val) % 4 / 2 by omega)))

theorem read_vc (t : Fin cfg0.N) (u : Fin 2) (j : Fin 256) (x : Fin 64) : (iblk m c 4 t : Vec Ideal S1x256x64 .bf16) (ix3 0 j x)
    = head (argVc m c) ⟨rowHead t u / 4, by omega⟩ ⟨rowHead t u % 4 / 2, by omega⟩ j x := by
  refine Eq.trans (congrArg (V m c main_v16) (?_ : ((cfg0.win 4).blk t).view.emb (ix3 0 j x) = ix3 (grp t) j x)) ((vc_at m c _ _ x).trans ?_)
  · blk_ext [idx t]
  · exact congrArg (argVc m c) (congrArg₂ (fun a b => ix4 a j b x)
      (Fin.ext (show t.val / 32 / 2 = (t.val / 32 * 2 + u.val) / 4 by omega))
      (Fin.ext (show t.val / 32 % 2 = (t.val / 32 * 2 + u.val) % 4 / 2 by omega)))

theorem read_s (t : Fin cfg0.N) (u : Fin 2) : (iblk m c 5 t : Vec Ideal S2x1x128 .f32) (ix3 u 0 0)
    = argS m c (ix1 ⟨rowHead t u % 4, by omega⟩) := by
  refine Eq.trans (congrArg (V m c main_v21) (?_ : ((cfg0.win 5).blk t).view.emb (ix3 u 0 0) = ix3 (rowHead t u) 0 0)) (s_at m c _ 0)
  blk_ext [idx t]

/-- The sink of a row's head, chosen by the row. -/
theorem choose_s (y : Vec Ideal S2x1x128 .f32) (u : Fin 2) (w : Fin 128) (a b) :
    (if u.val * 128 + w.val < 128 then View.ld y (Rect.unit ![0, 0, 0] ![1, 1, 1] a) (ix3 0 0 0) else View.ld y (Rect.unit ![1, 0, 0] ![1, 1, 1] b) (ix3 0 0 0))
      = y (ix3 u 0 0) := by
  split <;> rename_i h
  · obtain rfl : u = 0 := Fin.ext (by simp only [Fin.val_zero]; omega)
    exact View.ld_unit_apply_of _ _ _ _ _ _ fun a => by fin_cases a <;> rfl
  · obtain rfl : u = 1 := Fin.ext (by simp only [Fin.val_one]; omega)
    exact View.ld_unit_apply_of _ _ _ _ _ _ fun a => by fin_cases a <;> rfl

/-- The result array after the run. -/
theorem final : (dats m 0 c).arrAt 6 (cfgs 0).N = arr m c := by
  refine (dats m 0 c).arrAt_eq_of_covers 6 _ (by decide +kernel) fun t hf y => ?_
  blk_simp
  rw [after0_6]
  unfold outsAt0
  frame_out
  idx_vars y
  have e : ((cfg0.win 6).blk t).view.emb (ix3 y0 y1 y2) = ix3 (rowHead t y0) (rowOf (nth t) y1) y2 := by blk_ext [idx t]
  refine Eq.trans ?_ (congrArg (arr m c) e).symm
  rw [(coord t).1]
  refine (block_at (nth t) y0 y1 y2 _ _ _ _ _ _ _ _ _ _ _ _ _ (fun x => read_q m c t y0 y1 x) (fun x => read_k m c t y0 x)
    (fun x => read_v m c t y0 x) (fun j x => read_kc m c t y0 j x) (fun j x => read_vc m c t y0 j x)
    ((choose_s _ y0 y1 _ _).trans (read_s m c t y0))).trans ?_
  rfl

variable (hQ : ∀ i, ∃ r : ℝ, argQ m c i = r) (hK : ∀ i, ∃ r : ℝ, argK m c i = r) (hKc : ∀ i, ∃ r : ℝ, argKc m c i = r)
  (hS : ∀ i, ∃ r : ℝ, argS m c i = r)

include hQ hK hKc hS in
theorem arr_eq : arr m c = Host.outRows (argQ m c) (argK m c) (argV m c) (argKc m c) (argVc m c) (argS m c) := by
  funext z
  idx_vars z
  refine Eq.trans ?_ (Host.outRows_at _ _ _ _ _ _ z0 z1 z2).symm
  rw [Host.outGroups_at]
  have hh : hd ⟨z0 % 4 / 2, by omega⟩ ⟨z0 % 4 % 2, by omega⟩ = ⟨z0 % 4, by omega⟩ := Fin.ext (by simp only; omega)
  rw [hh]
  unfold out
  refine congrArg₂ (· + ·) (Finset.sum_congr rfl fun j _ => ?_) (Finset.sum_congr rfl fun j _ => ?_)
  · rw [prob_near _ (fun _ => hQ _) (fun _ _ => hK _) (fun _ _ => hKc _) (hS _)]
    rfl
  · rw [prob_far _ (fun _ => hQ _) (fun _ _ => hK _) (fun _ _ => hKc _) (hS _)]
    rfl

end Kernel

theorem frame_p : Cert.quiescent_Kernel30 := fun m ρ _ => Cert.Kernel30.Gen.frame m ρ
theorem frame_pi : Cert.quiescent_Kernel30Ideal := fun m ρ _ => Cert.Kernel30Ideal.Gen.frame m ρ
theorem frame_pi_finite : Cert.quiescent_Kernel30Ideal_pre_finite_window := fun m ρ _ => Cert.Kernel30Ideal.Gen.frame m ρ
theorem frame_ri : Cert.quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)
theorem frame_ri_finite : Cert.quiescent_Reference30Ideal_pre_finite_window := fun m ρ _ => frame_ri m ρ trivial

/-- The kernel and the reference end with the same array. -/
theorem algebraic : Cert.algebraic_Kernel30Ideal_Reference30Ideal_pre_finite_window := by
  intro m ρ m' ρ' hpre hagree
  refine ⟨fun c => arr m c, ?_, ?_⟩
  · refine (θ_run Cert.Kernel30Ideal.defs _ _).mono (fun r h c => ?_) (Cert.Kernel30Ideal.Value.run_blocks (F := Ideal) m ρ)
    exact ⟨(h c).1.trans (final m c), (h c).2⟩
  · refine (θ_run Cert.Reference30Ideal.defs _ _).mono (fun r h c => ?_) (Cert.Reference30Ideal.Value.run (F := Ideal) m' ρ')
    obtain ⟨hQ, hK, hKc, hS⟩ := real_window _ _ _ _ _ _ (hpre c)
    obtain ⟨e0, e1, e2, e3, e4, e5⟩ := hagree c
    refine ⟨(h c).1.trans (Eq.trans ?_ (arr_eq m c hQ hK hKc hS).symm), (h c).2⟩
    refine Eq.trans (b := Host.outRows (m' ((c.tc : Thread Cert.Reference30Ideal.nD Cert.Reference30Ideal.τ).loc Cert.Reference30Ideal.main_arg0))
      (m' ((c.tc : Thread Cert.Reference30Ideal.nD Cert.Reference30Ideal.τ).loc Cert.Reference30Ideal.main_arg1))
      (m' ((c.tc : Thread Cert.Reference30Ideal.nD Cert.Reference30Ideal.τ).loc Cert.Reference30Ideal.main_arg2))
      (m' ((c.tc : Thread Cert.Reference30Ideal.nD Cert.Reference30Ideal.τ).loc Cert.Reference30Ideal.main_arg3))
      (m' ((c.tc : Thread Cert.Reference30Ideal.nD Cert.Reference30Ideal.τ).loc Cert.Reference30Ideal.main_arg4))
      (m' ((c.tc : Thread Cert.Reference30Ideal.nD Cert.Reference30Ideal.τ).loc Cert.Reference30Ideal.main_arg5))) rfl ?_
    rw [e0, e1, e2, e3, e4, e5]

end Cert.Window.Forward
-- ==== Proof.WindowBlocks.lean ====
/- What one grid point of the backward call of the sliding-window attention computes, entry by entry. -/
module

public import proofs.«01_k».proof.Proof.WindowHost
public import proofs.«01_k».proof.Proof.WindowMask
public import proofs.«01_k».proof.Proof.Gen.Kernel31Ideal.Value

@[expose] public section

set_option maxRecDepth 16384

noncomputable section

namespace Cert.Window.Blocks

open Cert.Kernel31Ideal Cert.Kernel31Ideal.Gen Idealize.ShloMosaic Idealize.ShloMosaic.TcCoe Idealize.SL.Sem
open Cert.Attn (lowest lowest_eq)

section Exponentials

variable (a : BitVec 32) (v4 v15 : FVec Ideal S256x64 .bf16) (v57 : FVec Ideal S256x1 .f32) (v60 : FVec Ideal S256x384 .f32)
  (v61 v64 : BitVec 32) (v66 : IVec S256x384 32) (v75 : IVec S256x384 1) (i : Fin 256)

/-- The scores of row `i` over the keys near it, and over the context. -/
abbrev rowA : Fin 384 → EReal := fun J => k0_pay16 a v60 v61 v64 v66 v75 (ix2 i J)
@[inherit_doc rowA] abbrev rowB : Fin 256 → EReal := fun j => k0_pay17 v4 v15 (ix2 i j)

theorem top_at : k0_pay18 a v4 v15 v57 v60 v61 v64 v66 v75 (ix2 i 0) = top (rowA a v60 v61 v64 v66 v75 i) (rowB v4 v15 i) (v57 (ix2 i 0)) := by
  unfold top
  pointwise [k0_pay18]

theorem near_at (J : Fin 384) : k0_pay19 a v4 v15 v57 v60 v61 v64 v66 v75 (ix2 i J)
    = expo (rowA a v60 v61 v64 v66 v75 i) (rowB v4 v15 i) (v57 (ix2 i 0)) (rowA a v60 v61 v64 v66 v75 i J) := by
  unfold expo
  rw [← top_at]
  pointwise [k0_pay19]

theorem far_at (j : Fin 256) : k0_pay20 a v4 v15 v57 v60 v61 v64 v66 v75 (ix2 i j)
    = expo (rowA a v60 v61 v64 v66 v75 i) (rowB v4 v15 i) (v57 (ix2 i 0)) (rowB v4 v15 i j) := by
  unfold expo
  rw [← top_at]
  pointwise [k0_pay20]

theorem last_at : k0_pay21 a v4 v15 v57 v60 v61 v64 v66 v75 (ix2 i 0)
    = expo (rowA a v60 v61 v64 v66 v75 i) (rowB v4 v15 i) (v57 (ix2 i 0)) (v57 (ix2 i 0)) := by
  unfold expo
  rw [← top_at]
  pointwise [k0_pay21]

theorem inv_at : k0_pay22 a v4 v15 v57 v60 v61 v64 v66 v75 (ix2 i 0)
    = Ideal.div 1 (mass (rowA a v60 v61 v64 v66 v75 i) (rowB v4 v15 i) (v57 (ix2 i 0))) := by
  unfold mass
  simp only [← near_at, ← far_at, ← last_at]
  pointwise [k0_pay22]

end Exponentials

/-- The scores' products with the keys near the block. -/
theorem masked_at (v4 : FVec Ideal S256x64 .bf16) (v10 : FVec Ideal S384x64 .bf16) (n : ℕ) (i : Fin 256) (J : Fin 384) :
    k0_pay16 (BitVec.ofNat 32 n) (k0_pay13 v4 v10) (Scalar.muli (BitVec.ofNat 32 n) 128#32) 128#32 k0_pay14 k0_pay15 (ix2 i J)
      = if mask n i J = 1#1 then (∑ x, v4 (ix2 i x) * v10 (ix2 J x)) * scale else lowest := by
  pointwise [k0_pay16, k0_pay13, k0_pay14, k0_pay15]
  rfl

theorem context_at (v4 v15 : FVec Ideal S256x64 .bf16) (i j : Fin 256) :
    k0_pay17 v4 v15 (ix2 i j) = (∑ x, v4 (ix2 i x) * v15 (ix2 j x)) * scale := by
  pointwise [k0_pay17]

theorem sink_at (s0 s1 : Vec Ideal S1x1x1 .f32) (i : Fin 256) :
    k0_pay12 (F := Ideal) (iota .tc S256x1 32 [0] iota_S256x1_d0_w32) k0_pay9 k0_pay10 k0_pay11 s0 s1 (ix2 i 0)
      = if i.val < 128 then s0 (ix3 0 0 0) else s1 (ix3 0 0 0) := by
  refine Eq.trans ?_ (headOf_choose i _ _ 0)
  pointwise [k0_pay12, k0_pay9, k0_pay10, k0_pay11]
  rfl

theorem queries_at (v : Vec Ideal S2x128x64 .bf16) (i : Fin 256) (x : Fin 64) :
    k0_pay3 v (ix2 i x) = v (ix3 ⟨i / 128, by omega⟩ ⟨i % 128, by omega⟩ x) := by
  pointwise [k0_pay3]

theorem grads_at (v : Vec Ideal S2x128x64 .f32) (i : Fin 256) (x : Fin 64) :
    k0_pay4 v (ix2 i x) = v (ix3 ⟨i / 128, by omega⟩ ⟨i % 128, by omega⟩ x) := by
  pointwise [k0_pay4]

theorem keys_at (v : Vec Ideal S1x384x64 .bf16) (J : Fin 384) (x : Fin 64) : k0_pay5 v (ix2 J x) = v (ix3 0 J x) := by
  pointwise [k0_pay5]

theorem values_at (v : Vec Ideal S1x384x64 .bf16) (J : Fin 384) (x : Fin 64) : k0_pay6 v (ix2 J x) = v (ix3 0 J x) := by
  pointwise [k0_pay6]

theorem ckeys_at (v : Vec Ideal S1x256x64 .bf16) (J : Fin 256) (x : Fin 64) : k0_pay7 v (ix2 J x) = v (ix3 0 J x) := by
  pointwise [k0_pay7]

theorem cvalues_at (v : Vec Ideal S1x256x64 .bf16) (J : Fin 256) (x : Fin 64) : k0_pay8 v (ix2 J x) = v (ix3 0 J x) := by
  pointwise [k0_pay8]

section Gradients

variable (v4 v15 v17 : FVec Ideal S256x64 .bf16) (v7 : FVec Ideal S256x64 .f32) (v10 v13 : FVec Ideal S384x64 .bf16)
  (e : FVec Ideal S256x384 .f32) (f : FVec Ideal S256x256 .f32) (l d : FVec Ideal S256x1 .f32) (o : Vec Ideal S2x128x64 .f32) (i : Fin 256)

theorem prob_at (J : Fin 384) : k0_pay23 e d (ix2 i J) = e (ix2 i J) * d (ix2 i 0) := by
  pointwise [k0_pay23]

theorem cprob_at (j : Fin 256) : k0_pay24 f d (ix2 i j) = f (ix2 i j) * d (ix2 i 0) := by
  pointwise [k0_pay24]

theorem inner_at : k0_pay25 v7 o (ix2 i 0) = ∑ x, v7 (ix2 i x) * o (ix3 ⟨i / 128, by omega⟩ ⟨i % 128, by omega⟩ x) := by
  pointwise [k0_pay25]

theorem dnear_at (J : Fin 384) : k0_pay26 v7 v13 e d o (ix2 i J)
    = e (ix2 i J) * d (ix2 i 0) * ((∑ x, v7 (ix2 i x) * v13 (ix2 J x)) - k0_pay25 v7 o (ix2 i 0)) * scale := by
  pointwise [k0_pay26, k0_pay23]

theorem dfar_at (j : Fin 256) : k0_pay27 v7 v17 f d o (ix2 i j)
    = f (ix2 i j) * d (ix2 i 0) * ((∑ x, v7 (ix2 i x) * v17 (ix2 j x)) - k0_pay25 v7 o (ix2 i 0)) * scale := by
  pointwise [k0_pay27, k0_pay24]

theorem dq_at (u : Fin 2) (w : Fin 128) (x : Fin 64) : k0_pay28 v7 v10 v13 v15 v17 e f d o (ix3 u w x)
    = (∑ J : Fin 384, k0_pay26 v7 v13 e d o (ix2 ⟨u * 128 + w, by omega⟩ J) * v10 (ix2 J x))
      + ∑ j : Fin 256, k0_pay27 v7 v17 f d o (ix2 ⟨u * 128 + w, by omega⟩ j) * v15 (ix2 j x) := by
  pointwise [k0_pay28]

theorem dsink_at (u : Fin 2) (z : Fin 128) : k0_pay29 v7 l d o (ix3 u 0 z)
    = 0 - ∑ w : Fin 128, l (ix2 ⟨u * 128 + w, by omega⟩ 0) * d (ix2 ⟨u * 128 + w, by omega⟩ 0) * k0_pay25 v7 o (ix2 ⟨u * 128 + w, by omega⟩ 0) := by
  pointwise [k0_pay29]

theorem dk_at (p : FVec Ideal S256x384 .f32) (y : Vec Ideal S1x384x64 .f32) (J : Fin 384) (x : Fin 64) :
    k0_pay35 v4 p y (ix3 0 J x) = y (ix3 0 J x) + ∑ i : Fin 256, p (ix2 i J) * v4 (ix2 i x) := by
  pointwise [k0_pay35]

theorem dv_at (p : FVec Ideal S256x384 .f32) (y : Vec Ideal S1x384x64 .f32) (J : Fin 384) (x : Fin 64) :
    k0_pay36 v7 p y (ix3 0 J x) = y (ix3 0 J x) + ∑ i : Fin 256, p (ix2 i J) * v7 (ix2 i x) := by
  pointwise [k0_pay36]

theorem dkc_at (p : FVec Ideal S256x256 .f32) (y : Vec Ideal S1x256x64 .f32) (j : Fin 256) (x : Fin 64) :
    k0_pay37 v4 p y (ix3 0 j x) = y (ix3 0 j x) + ∑ i : Fin 256, p (ix2 i j) * v4 (ix2 i x) := by
  pointwise [k0_pay37]

theorem dvc_at (p : FVec Ideal S256x256 .f32) (y : Vec Ideal S1x256x64 .f32) (j : Fin 256) (x : Fin 64) :
    k0_pay1 (k0_pay38 y) (k0_pay39 v7 p) (ix3 0 j x) = y (ix3 0 j x) + ∑ i : Fin 256, p (ix2 i j) * v7 (ix2 i x) := by
  pointwise [k0_pay1, k0_pay38, k0_pay39]

theorem ds_at (p y : FVec Ideal S2x1x128 .f32) (u : Fin 2) (z : Fin 128) : k0_pay2 p y (ix3 u 0 z) = y (ix3 u 0 z) + p (ix3 u 0 z) := by
  pointwise [k0_pay2]

end Gradients

theorem zero_k (z : S1x4352x64.Idx) : k0_pay30 (F := Ideal) z = 0 := by
  idx_vars z
  pointwise [k0_pay30]

theorem zero_v (z : S1x4352x64.Idx) : k0_pay31 (F := Ideal) z = 0 := by
  idx_vars z
  pointwise [k0_pay31]

theorem zero_kc (z : S1x256x64.Idx) : k0_pay32 (F := Ideal) z = 0 := by
  idx_vars z
  pointwise [k0_pay32]

theorem zero_vc (z : S1x256x64.Idx) : k0_pay33 (F := Ideal) z = 0 := by
  idx_vars z
  pointwise [k0_pay33]

theorem zero_s (z : S2x1x128.Idx) : k0_pay34 (F := Ideal) z = 0 := by
  idx_vars z
  pointwise [k0_pay34]

end Cert.Window.Blocks
-- ==== Proof.WindowInputs.lean ====
/- What the backward call of the sliding-window attention reads: its arguments as the version's host code prepares them, and the
   blocks of a grid point. -/
module

public import proofs.«01_k».proof.Proof.WindowBlocks
public import proofs.«01_k».proof.Proof.WideProducts
public import Idealize.ShloMosaic.Lib.StableHlo.RunRead

@[expose] public section

set_option maxRecDepth 16384

noncomputable section

namespace Cert.Window.Inputs

open Cert.Kernel31Ideal Cert.Kernel31Ideal.Gen Idealize.ShloMosaic Idealize.ShloMosaic.TcCoe Idealize.SL.Sem
open Cert.Window.Host (head hd)
open Cert.Attn (lowest lowest_eq)
open Cert.Products (pad_zero)

/-- Which block of each array a grid point reads and writes. -/
theorem idx : ∀ t : Fin cfg0.N, win0_0.index t = ![t.val / 32, t.val % 32, 0] ∧ win0_1.index t = ![t.val / 32, 0, 0]
    ∧ win0_2.index t = ![t.val / 32, 0, 0] ∧ win0_3.index t = ![t.val / 32, 0, 0] ∧ win0_4.index t = ![t.val / 32, 0, 0]
    ∧ win0_5.index t = ![t.val / 32, 0, 0] ∧ win0_6.index t = ![t.val / 32, t.val % 32, 0] ∧ win0_7.index t = ![t.val / 32, t.val % 32, 0]
    ∧ win0_8.index t = ![t.val / 32, t.val % 32, 0] ∧ win0_9.index t = ![t.val / 32, 0, 0] ∧ win0_10.index t = ![t.val / 32, 0, 0]
    ∧ win0_11.index t = ![t.val / 32, 0, 0] ∧ win0_12.index t = ![t.val / 32, 0, 0] ∧ win0_13.index t = ![t.val / 32, 0, 0] :=
  (by decide +kernel : ∀ t : Fin grid0.N, _)

theorem coord : ∀ t : Fin cfg0.N, ((grid0.coords t) 1).val = t.val % 32 ∧ k0_off1 (grid0.coords t) = ![0, t.val % 32 * 128, 0] :=
  (by decide +kernel : ∀ t : Fin grid0.N, _)

variable (m : (ℓ : Loc nD τ sig) → Buf (Elt Ideal) ℓ) (c : Dev nD)

/-- The queries at launch. -/
abbrev argQ : FVec Ideal S2x4096x4x64 .f32 := m ((c.tc : Thread nD τ).loc main_arg0)
/-- The keys at launch. -/
abbrev argK : FVec Ideal S2x4096x2x64 .f32 := m ((c.tc : Thread nD τ).loc main_arg1)
/-- The values at launch. -/
abbrev argV : FVec Ideal S2x4096x2x64 .f32 := m ((c.tc : Thread nD τ).loc main_arg2)
/-- The keys of the context at launch. -/
abbrev argKc : FVec Ideal S2x256x2x64 .f32 := m ((c.tc : Thread nD τ).loc main_arg3)
/-- The values of the context at launch. -/
abbrev argVc : FVec Ideal S2x256x2x64 .f32 := m ((c.tc : Thread nD τ).loc main_arg4)
/-- The sinks at launch. -/
abbrev argS : FVec Ideal S4 .f32 := m ((c.tc : Thread nD τ).loc main_arg5)

/-- The incoming gradient at launch. -/
abbrev argC : FVec Ideal S2x4096x4x64 .f32 := m ((c.tc : Thread nD τ).loc main_arg6)

theorem q_at (G : Fin 8) (i : Fin 4096) (x : Fin 64) : (V m c main_v55 : S8x4096x64.Idx → EReal) (ix3 G i x)
    = argQ m c (ix4 ⟨G / 4, by omega⟩ i ⟨G % 4, by omega⟩ x) := by
  simp only [V, hostOps0, hostOps0_1, hostOps0_2, hostOps0_3, hostOps0_4, hostOps0_5, hostOps0_6, List.flatten_cons, List.flatten_nil, List.append_nil, List.cons_append, List.nil_append]
  entry_read
  pointwise

theorem k_at (G : Fin 4) (J : Fin 4352) (x : Fin 64) : (V m c main_v56 : S4x4352x64.Idx → EReal) (ix3 G J x)
    = if h : 128 ≤ J.val ∧ J.val - 128 < 4096 then argK m c (ix4 ⟨G / 2, by omega⟩ ⟨J - 128, by omega⟩ ⟨G % 2, by omega⟩ x) else 0 := by
  simp only [V, hostOps0, hostOps0_1, hostOps0_2, hostOps0_3, hostOps0_4, hostOps0_5, hostOps0_6, List.flatten_cons, List.flatten_nil, List.append_nil, List.cons_append, List.nil_append]
  entry_read
  show (truncf .bf16 (pad S4x4352x64 ![0, 128, 0] ![0, 128, 0] ![0, 0, 0] (shapeCast S4x4096x64 (transpose S2x2x4096x64 [0, 2, 1, 3] (argK m c)
    transposes_S2x4096x2x64_S2x2x4096x64_0_2_1_3) shapeCasts_S2x2x4096x64_S4x4096x64) (sitofp (F := Ideal) .f32 (constantI S_ 32 0#32))
    pads_S4x4096x64_S4x4352x64_000_1281280_000 h_S_) bitsLt_bf16_f32 : S4x4352x64.Idx → EReal) (ix3 G J x) = _
  pointwise [pad_zero]

theorem v_at (G : Fin 4) (J : Fin 4352) (x : Fin 64) : (V m c main_v57 : S4x4352x64.Idx → EReal) (ix3 G J x)
    = if h : 128 ≤ J.val ∧ J.val - 128 < 4096 then argV m c (ix4 ⟨G / 2, by omega⟩ ⟨J - 128, by omega⟩ ⟨G % 2, by omega⟩ x) else 0 := by
  simp only [V, hostOps0, hostOps0_1, hostOps0_2, hostOps0_3, hostOps0_4, hostOps0_5, hostOps0_6, List.flatten_cons, List.flatten_nil, List.append_nil, List.cons_append, List.nil_append]
  entry_read
  show (truncf .bf16 (pad S4x4352x64 ![0, 128, 0] ![0, 128, 0] ![0, 0, 0] (shapeCast S4x4096x64 (transpose S2x2x4096x64 [0, 2, 1, 3] (argV m c)
    transposes_S2x4096x2x64_S2x2x4096x64_0_2_1_3) shapeCasts_S2x2x4096x64_S4x4096x64) (sitofp (F := Ideal) .f32 (constantI S_ 32 0#32))
    pads_S4x4096x64_S4x4352x64_000_1281280_000 h_S_) bitsLt_bf16_f32 : S4x4352x64.Idx → EReal) (ix3 G J x) = _
  pointwise [pad_zero]

theorem kc_at (G : Fin 4) (J : Fin 256) (x : Fin 64) : (V m c main_v58 : S4x256x64.Idx → EReal) (ix3 G J x)
    = argKc m c (ix4 ⟨G / 2, by omega⟩ J ⟨G % 2, by omega⟩ x) := by
  simp only [V, hostOps0, hostOps0_1, hostOps0_2, hostOps0_3, hostOps0_4, hostOps0_5, hostOps0_6, List.flatten_cons, List.flatten_nil, List.append_nil, List.cons_append, List.nil_append]
  entry_read
  pointwise

theorem vc_at (G : Fin 4) (J : Fin 256) (x : Fin 64) : (V m c main_v59 : S4x256x64.Idx → EReal) (ix3 G J x)
    = argVc m c (ix4 ⟨G / 2, by omega⟩ J ⟨G % 2, by omega⟩ x) := by
  simp only [V, hostOps0, hostOps0_1, hostOps0_2, hostOps0_3, hostOps0_4, hostOps0_5, hostOps0_6, List.flatten_cons, List.flatten_nil, List.append_nil, List.cons_append, List.nil_append]
  entry_read
  pointwise

theorem s_at (G : Fin 8) (z : Fin 128) : (V m c main_v64 : S8x1x128.Idx → EReal) (ix3 G 0 z) = argS m c (ix1 ⟨G % 4, by omega⟩) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 1000000 in
theorem c_at (G : Fin 8) (i : Fin 4096) (x : Fin 64) : (V m c main_v68 : S8x4096x64.Idx → EReal) (ix3 G i x)
    = argC m c (ix4 ⟨G / 4, by omega⟩ i ⟨G % 4, by omega⟩ x) := by
  simp only [V, hostOps0, hostOps0_1, hostOps0_2, hostOps0_3, hostOps0_4, hostOps0_5, hostOps0_6, List.flatten_cons, List.flatten_nil, List.append_nil, List.cons_append, List.nil_append]
  entry_read
  pointwise

set_option maxHeartbeats 2000000 in
theorem o_eq : (V m c main_v66 : FVec Ideal S8x4096x64 .f32)
    = Host.outRows (argQ m c) (argK m c) (argV m c) (argKc m c) (argVc m c) (argS m c) := by
  simp only [V, hostOps0, hostOps0_1, hostOps0_2, hostOps0_3, hostOps0_4, hostOps0_5, hostOps0_6, List.flatten_cons, List.flatten_nil, List.append_nil, List.cons_append, List.nil_append]
  after_reads_simp
  rfl

section Head

variable (G : Fin 8) (i : Fin 4096)

/-- What a query of a head works on: the query, its incoming gradient, and the keys and values of its group. -/
abbrev hq : Fin 64 → EReal := head (argQ m c) ⟨G / 4, by omega⟩ ⟨G % 4, by omega⟩ i
@[inherit_doc hq] abbrev hc : Fin 64 → EReal := head (argC m c) ⟨G / 4, by omega⟩ ⟨G % 4, by omega⟩ i
@[inherit_doc hq] abbrev hk : Fin 4096 → Fin 64 → EReal := head (argK m c) ⟨G / 4, by omega⟩ ⟨G % 4 / 2, by omega⟩
@[inherit_doc hq] abbrev hv : Fin 4096 → Fin 64 → EReal := head (argV m c) ⟨G / 4, by omega⟩ ⟨G % 4 / 2, by omega⟩
@[inherit_doc hq] abbrev hkc : Fin 256 → Fin 64 → EReal := head (argKc m c) ⟨G / 4, by omega⟩ ⟨G % 4 / 2, by omega⟩
@[inherit_doc hq] abbrev hvc : Fin 256 → Fin 64 → EReal := head (argVc m c) ⟨G / 4, by omega⟩ ⟨G % 4 / 2, by omega⟩
/-- The sink of a head. -/
abbrev hs : EReal := argS m c (ix1 ⟨G % 4, by omega⟩)

/-- The output of the attention that the kernel reads. -/
theorem o_at (x : Fin 64) : (V m c main_v66 : S8x4096x64.Idx → EReal) (ix3 G i x)
    = out (hq m c G i) (hk m c G) (hv m c G) (hkc m c G) (hvc m c G) (hs m c G) (within i) x := by
  have hh : hd ⟨G % 4 / 2, by omega⟩ ⟨G % 4 % 2, by omega⟩ = ⟨G % 4, by omega⟩ := Fin.ext (by simp only; omega)
  rw [o_eq, Host.outRows_at, Host.outGroups_at, hh]

/-- The probabilities of a query over the keys, over the context and of the sink, and the gradients of its products with the
    keys and with the context's keys. -/
def pN : Fin 4096 → EReal := fun j => prob (near (hq m c G i) (hk m c G) (within i)) (far (hq m c G i) (hkc m c G)) (hs m c G)
  (near (hq m c G i) (hk m c G) (within i) j)
@[inherit_doc pN] def pF : Fin 256 → EReal := fun j => prob (near (hq m c G i) (hk m c G) (within i)) (far (hq m c G i) (hkc m c G)) (hs m c G)
  (far (hq m c G i) (hkc m c G) j)
@[inherit_doc pN] def pS : EReal := prob (near (hq m c G i) (hk m c G) (within i)) (far (hq m c G i) (hkc m c G)) (hs m c G) (hs m c G)
@[inherit_doc pN] def iN : EReal := inner (hq m c G i) (hc m c G i) (hk m c G) (hv m c G) (hkc m c G) (hvc m c G) (hs m c G) (within i)
@[inherit_doc pN] def dN : Fin 4096 → EReal :=
  dnear (hq m c G i) (hc m c G i) (hk m c G) (hv m c G) (hkc m c G) (hvc m c G) (hs m c G) (within i)
@[inherit_doc pN] def dF : Fin 256 → EReal :=
  dfar (hq m c G i) (hc m c G i) (hk m c G) (hv m c G) (hkc m c G) (hvc m c G) (hs m c G) (within i)

end Head

theorem pN_away (G : Fin 8) (n : Fin 32) (w : Fin 128) (j : Fin 4096)
    (h : ¬(n.val * 128 ≤ j.val + 128 ∧ j.val + 128 < n.val * 128 + 384)) : pN m c G (rowOf n w) j = 0 :=
  prob_away n w _ _ _ _ j h

theorem dN_away (G : Fin 8) (n : Fin 32) (w : Fin 128) (j : Fin 4096)
    (h : ¬(n.val * 128 ≤ j.val + 128 ∧ j.val + 128 < n.val * 128 + 384)) : dN m c G (rowOf n w) j = 0 := by
  have h1 := pN_away m c G n w j h
  unfold pN at h1
  unfold dN dnear
  rw [h1, zero_mul, zero_mul]

theorem point_lt (t : Fin cfg0.N) : t.val < 128 := lt_of_lt_of_eq t.isLt N_0

/-- The head of a grid point's row, and the row's query. -/
abbrev rowHead (t : Fin cfg0.N) (u : Fin 2) : Fin 8 := ⟨t.val / 32 * 2 + u, by have := point_lt t; omega⟩
/-- The block of queries of a grid point. -/
abbrev nth (t : Fin cfg0.N) : Fin 32 := ⟨t.val % 32, by omega⟩
/-- The group of heads of a grid point. -/
abbrev grp (t : Fin cfg0.N) : Fin 4 := ⟨t.val / 32, by have := point_lt t; omega⟩

set_option maxHeartbeats 2000000

theorem read_q (t : Fin cfg0.N) (u : Fin 2) (w : Fin 128) (x : Fin 64) : (iblk m c 0 t : Vec Ideal S2x128x64 .bf16) (ix3 u w x)
    = head (argQ m c) ⟨rowHead t u / 4, by omega⟩ ⟨rowHead t u % 4, by omega⟩ (rowOf (nth t) w) x := by
  refine Eq.trans (congrArg (V m c main_v55) (?_ : ((cfg0.win 0).blk t).view.emb (ix3 u w x) = ix3 (rowHead t u) (rowOf (nth t) w) x)) (q_at m c _ _ x)
  blk_ext [idx t]

theorem read_c (t : Fin cfg0.N) (u : Fin 2) (w : Fin 128) (x : Fin 64) : (iblk m c 7 t : Vec Ideal S2x128x64 .f32) (ix3 u w x)
    = hc m c (rowHead t u) (rowOf (nth t) w) x := by
  refine Eq.trans (congrArg (V m c main_v68) (?_ : ((cfg0.win 7).blk t).view.emb (ix3 u w x) = ix3 (rowHead t u) (rowOf (nth t) w) x)) (c_at m c _ _ x)
  blk_ext [idx t]

theorem read_o (t : Fin cfg0.N) (u : Fin 2) (w : Fin 128) (x : Fin 64) : (iblk m c 6 t : Vec Ideal S2x128x64 .f32) (ix3 u w x)
    = out (hq m c (rowHead t u) (rowOf (nth t) w)) (hk m c (rowHead t u)) (hv m c (rowHead t u)) (hkc m c (rowHead t u)) (hvc m c (rowHead t u))
        (hs m c (rowHead t u)) (within (rowOf (nth t) w)) x := by
  refine Eq.trans (congrArg (V m c main_v66) (?_ : ((cfg0.win 6).blk t).view.emb (ix3 u w x) = ix3 (rowHead t u) (rowOf (nth t) w) x)) (o_at m c _ _ x)
  blk_ext [idx t]

/-- What is loaded of an array of 4352 rows at a grid point. -/
theorem ld_at {e : EltTy} (t : Fin cfg0.N) (y : Vec Ideal S1x4352x64 e) (J : Fin 384) (x : Fin 64) :
    View.ld y (Rect.unit (s := S1x4352x64) (k0_off1 (grid0.coords t)) S1x384x64.size (k0_off1_inb (grid0.coords t))) (ix3 0 J x)
      = y (ix3 0 ⟨t.val % 32 * 128 + J, by omega⟩ x) := by
  refine View.ld_unit_apply_of _ _ _ _ _ _ fun a => ?_
  refine Eq.trans ?_ (congrArg (· + ((ix3 0 J x : S1x384x64.Idx) a).val) (congrFun (coord t).2 a).symm)
  fin_cases a
  · rfl
  · rfl
  · exact (Nat.zero_add _).symm

theorem read_k (t : Fin cfg0.N) (u : Fin 2) (x : Fin 64) :
    (fun J => View.ld (iblk m c 1 t : Vec Ideal S1x4352x64 .bf16) (Rect.unit (s := S1x4352x64) (k0_off1 (grid0.coords t)) S1x384x64.size (k0_off1_inb (grid0.coords t))) (ix3 0 J x))
      = spread (nth t) (fun j => head (argK m c) ⟨rowHead t u / 4, by omega⟩ ⟨rowHead t u % 4 / 2, by omega⟩ j x) 0 := by
  funext J
  rw [ld_at]
  refine Eq.trans (congrArg (V m c main_v56) (?_ : ((cfg0.win 1).blk t).view.emb (ix3 0 ⟨t.val % 32 * 128 + J, by omega⟩ x)
    = ix3 (grp t) ⟨t.val % 32 * 128 + J, by omega⟩ x)) ((k_at m c _ _ x).trans ?_)
  · blk_ext [idx t]
  · have h1 : (⟨t.val / 32 / 2, by have := point_lt t; omega⟩ : Fin 2) = ⟨rowHead t u / 4, by omega⟩ :=
      Fin.ext (show t.val / 32 / 2 = (t.val / 32 * 2 + u.val) / 4 by omega)
    have h2 : (⟨t.val / 32 % 2, by omega⟩ : Fin 2) = ⟨rowHead t u % 4 / 2, by omega⟩ :=
      Fin.ext (show t.val / 32 % 2 = (t.val / 32 * 2 + u.val) % 4 / 2 by omega)
    unfold spread
    simp only [head, h1, h2]
    split <;> rename_i h
    · have h' : 128 ≤ t.val % 32 * 128 + J.val ∧ t.val % 32 * 128 + J.val - 128 < 4096 := h
      rw [dif_pos (show 128 ≤ t.val % 32 * 128 + J.val ∧ t.val % 32 * 128 + J.val < 4224 by omega)]
    · have h' : ¬(128 ≤ t.val % 32 * 128 + J.val ∧ t.val % 32 * 128 + J.val - 128 < 4096) := h
      rw [dif_neg (show ¬(128 ≤ t.val % 32 * 128 + J.val ∧ t.val % 32 * 128 + J.val < 4224) by omega)]

theorem read_v (t : Fin cfg0.N) (u : Fin 2) (x : Fin 64) :
    (fun J => View.ld (iblk m c 2 t : Vec Ideal S1x4352x64 .bf16) (Rect.unit (s := S1x4352x64) (k0_off1 (grid0.coords t)) S1x384x64.size (k0_off1_inb (grid0.coords t))) (ix3 0 J x))
      = spread (nth t) (fun j => head (argV m c) ⟨rowHead t u / 4, by omega⟩ ⟨rowHead t u % 4 / 2, by omega⟩ j x) 0 := by
  funext J
  rw [ld_at]
  refine Eq.trans (congrArg (V m c main_v57) (?_ : ((cfg0.win 2).blk t).view.emb (ix3 0 ⟨t.val % 32 * 128 + J, by omega⟩ x)
    = ix3 (grp t) ⟨t.val % 32 * 128 + J, by omega⟩ x)) ((v_at m c _ _ x).trans ?_)
  · blk_ext [idx t]
  · have h1 : (⟨t.val / 32 / 2, by have := point_lt t; omega⟩ : Fin 2) = ⟨rowHead t u / 4, by omega⟩ :=
      Fin.ext (show t.val / 32 / 2 = (t.val / 32 * 2 + u.val) / 4 by omega)
    have h2 : (⟨t.val / 32 % 2, by omega⟩ : Fin 2) = ⟨rowHead t u % 4 / 2, by omega⟩ :=
      Fin.ext (show t.val / 32 % 2 = (t.val / 32 * 2 + u.val) % 4 / 2 by omega)
    unfold spread
    simp only [head, h1, h2]
    split <;> rename_i h
    · have h' : 128 ≤ t.val % 32 * 128 + J.val ∧ t.val % 32 * 128 + J.val - 128 < 4096 := h
      rw [dif_pos (show 128 ≤ t.val % 32 * 128 + J.val ∧ t.val % 32 * 128 + J.val < 4224 by omega)]
    · have h' : ¬(128 ≤ t.val % 32 * 128 + J.val ∧ t.val % 32 * 128 + J.val - 128 < 4096) := h
      rw [dif_neg (show ¬(128 ≤ t.val % 32 * 128 + J.val ∧ t.val % 32 * 128 + J.val < 4224) by omega)]

theorem read_kc (t : Fin cfg0.N) (u : Fin 2) (j : Fin 256) (x : Fin 64) : (iblk m c 3 t : Vec Ideal S1x256x64 .bf16) (ix3 0 j x)
    = head (argKc m c) ⟨rowHead t u / 4, by omega⟩ ⟨rowHead t u % 4 / 2, by omega⟩ j x := by
  refine Eq.trans (congrArg (V m c main_v58) (?_ : ((cfg0.win 3).blk t).view.emb (ix3 0 j x) = ix3 (grp t) j x)) ((kc_at m c _ _ x).trans ?_)
  · blk_ext [idx t]
  · exact congrArg (argKc m c) (congrArg₂ (fun a b => ix4 a j b x)
      (Fin.ext (show t.val / 32 / 2 = (t.val / 32 * 2 + u.val) / 4 by omega))
      (Fin.ext (show t.val / 32 % 2 = (t.val / 32 * 2 + u.val) % 4 / 2 by omega)))

theorem read_vc (t : Fin cfg0.N) (u : Fin 2) (j : Fin 256) (x : Fin 64) : (iblk m c 4 t : Vec Ideal S1x256x64 .bf16) (ix3 0 j x)
    = head (argVc m c) ⟨rowHead t u / 4, by omega⟩ ⟨rowHead t u % 4 / 2, by omega⟩ j x := by
  refine Eq.trans (congrArg (V m c main_v59) (?_ : ((cfg0.win 4).blk t).view.emb (ix3 0 j x) = ix3 (grp t) j x)) ((vc_at m c _ _ x).trans ?_)
  · blk_ext [idx t]
  · exact congrArg (argVc m c) (congrArg₂ (fun a b => ix4 a j b x)
      (Fin.ext (show t.val / 32 / 2 = (t.val / 32 * 2 + u.val) / 4 by omega))
      (Fin.ext (show t.val / 32 % 2 = (t.val / 32 * 2 + u.val) % 4 / 2 by omega)))

theorem read_s (t : Fin cfg0.N) (u : Fin 2) : (iblk m c 5 t : Vec Ideal S2x1x128 .f32) (ix3 u 0 0)
    = argS m c (ix1 ⟨rowHead t u % 4, by omega⟩) := by
  refine Eq.trans (congrArg (V m c main_v64) (?_ : ((cfg0.win 5).blk t).view.emb (ix3 u 0 0) = ix3 (rowHead t u) 0 0)) (s_at m c _ 0)
  blk_ext [idx t]

/-- The sink of a row's head, chosen by the row. -/
theorem choose_s (y : Vec Ideal S2x1x128 .f32) (u : Fin 2) (w : Fin 128) (a b) :
    (if u.val * 128 + w.val < 128 then View.ld y (Rect.unit ![0, 0, 0] ![1, 1, 1] a) (ix3 0 0 0) else View.ld y (Rect.unit ![1, 0, 0] ![1, 1, 1] b) (ix3 0 0 0))
      = y (ix3 u 0 0) := by
  split <;> rename_i h
  · obtain rfl : u = 0 := Fin.ext (by simp only [Fin.val_zero]; omega)
    exact View.ld_unit_apply_of _ _ _ _ _ _ fun a => by fin_cases a <;> rfl
  · obtain rfl : u = 1 := Fin.ext (by simp only [Fin.val_one]; omega)
    exact View.ld_unit_apply_of _ _ _ _ _ _ fun a => by fin_cases a <;> rfl

section Point

variable (t : Fin cfg0.N) (r : Fin 256)

/-- The head and the query of row `r` of a grid point's block. -/
abbrev rh : Fin 8 := rowHead t ⟨r / 128, by omega⟩
@[inherit_doc rh] abbrev ri : Fin 4096 := rowOf (nth t) ⟨r % 128, by omega⟩

theorem rh_row (u : Fin 2) (w : Fin 128) : rh t ⟨u * 128 + w, by omega⟩ = rowHead t u :=
  Fin.ext (show t.val / 32 * 2 + (u.val * 128 + w.val) / 128 = t.val / 32 * 2 + u.val by omega)

theorem ri_row (u : Fin 2) (w : Fin 128) : ri t ⟨u * 128 + w, by omega⟩ = rowOf (nth t) w :=
  Fin.ext (show t.val % 32 * 128 + (u.val * 128 + w.val) % 128 = t.val % 32 * 128 + w.val by omega)

/-- The blocks of a grid point, as the kernel's body reads them. -/
abbrev bq := k0_pay3 (F := Ideal) (iblk m c 0 t)
@[inherit_doc bq] abbrev bc := k0_pay4 (F := Ideal) (iblk m c 7 t)
@[inherit_doc bq] abbrev bk := k0_pay5 (F := Ideal) (View.ld (iblk m c 1 t : Vec Ideal S1x4352x64 .bf16)
  (Rect.unit (s := S1x4352x64) (k0_off1 (grid0.coords t)) S1x384x64.size (k0_off1_inb (grid0.coords t))))
@[inherit_doc bq] abbrev bv := k0_pay6 (F := Ideal) (View.ld (iblk m c 2 t : Vec Ideal S1x4352x64 .bf16)
  (Rect.unit (s := S1x4352x64) (k0_off1 (grid0.coords t)) S1x384x64.size (k0_off1_inb (grid0.coords t))))
@[inherit_doc bq] abbrev bkc := k0_pay7 (F := Ideal) (iblk m c 3 t)
@[inherit_doc bq] abbrev bvc := k0_pay8 (F := Ideal) (iblk m c 4 t)
@[inherit_doc bq] abbrev bs := k0_pay12 (F := Ideal) (iota .tc S256x1 32 [0] iota_S256x1_d0_w32) k0_pay9 k0_pay10 k0_pay11
  (View.ld (iblk m c 5 t : Vec Ideal S2x1x128 .f32) (Rect.unit ![0, 0, 0] ![1, 1, 1] inb_S2x1x128_S1x1x1_0_0_0))
  (View.ld (iblk m c 5 t : Vec Ideal S2x1x128 .f32) (Rect.unit ![1, 0, 0] ![1, 1, 1] inb_S2x1x128_S1x1x1_1_0_0))
@[inherit_doc bq] abbrev bo : Vec Ideal S2x128x64 .f32 := iblk m c 6 t
/-- The block of queries of a grid point, as a word. -/
abbrev bn : BitVec 32 := BitVec.ofNat 32 ((grid0.coords t) 1).val
/-- The exponentials of the scores of a grid point over the keys near it, over the context and of the sink, and the reciprocals
    of their sums. -/
abbrev eN := k0_pay19 (F := Ideal) (bn t) (bq m c t) (bkc m c t) (bs m c t) (k0_pay13 (bq m c t) (bk m c t)) (Scalar.muli (bn t) 128#32) 128#32 k0_pay14 k0_pay15
@[inherit_doc eN] abbrev eF := k0_pay20 (F := Ideal) (bn t) (bq m c t) (bkc m c t) (bs m c t) (k0_pay13 (bq m c t) (bk m c t)) (Scalar.muli (bn t) 128#32) 128#32 k0_pay14 k0_pay15
@[inherit_doc eN] abbrev eS := k0_pay21 (F := Ideal) (bn t) (bq m c t) (bkc m c t) (bs m c t) (k0_pay13 (bq m c t) (bk m c t)) (Scalar.muli (bn t) 128#32) 128#32 k0_pay14 k0_pay15
@[inherit_doc eN] abbrev eR := k0_pay22 (F := Ideal) (bn t) (bq m c t) (bkc m c t) (bs m c t) (k0_pay13 (bq m c t) (bk m c t)) (Scalar.muli (bn t) 128#32) 128#32 k0_pay14 k0_pay15

theorem bn_eq : bn t = BitVec.ofNat 32 (nth t).val := by rw [bn, (coord t).1]

theorem q_row (x : Fin 64) : bq m c t (ix2 r x) = hq m c (rh t r) (ri t r) x := (Blocks.queries_at _ _ _).trans (read_q m c t _ _ x)

theorem c_row (x : Fin 64) : bc m c t (ix2 r x) = hc m c (rh t r) (ri t r) x := (Blocks.grads_at _ _ _).trans (read_c m c t _ _ x)

theorem k_row (J : Fin 384) (x : Fin 64) : bk m c t (ix2 J x) = spread (nth t) (fun j => hk m c (rh t r) j x) 0 J :=
  (Blocks.keys_at _ _ _).trans (congrFun (read_k m c t _ x) J)

theorem v_row (J : Fin 384) (x : Fin 64) : bv m c t (ix2 J x) = spread (nth t) (fun j => hv m c (rh t r) j x) 0 J :=
  (Blocks.values_at _ _ _).trans (congrFun (read_v m c t _ x) J)

theorem kc_row (j : Fin 256) (x : Fin 64) : bkc m c t (ix2 j x) = hkc m c (rh t r) j x := (Blocks.ckeys_at _ _ _).trans (read_kc m c t _ j x)

theorem vc_row (j : Fin 256) (x : Fin 64) : bvc m c t (ix2 j x) = hvc m c (rh t r) j x := (Blocks.cvalues_at _ _ _).trans (read_vc m c t _ j x)

theorem s_row : bs m c t (ix2 r 0) = hs m c (rh t r) := by
  refine (Blocks.sink_at _ _ _).trans (Eq.trans (if_congr ?_ rfl rfl) ((choose_s _ ⟨r / 128, by omega⟩ ⟨r % 128, by omega⟩ _ _).trans (read_s m c t _)))
  show r.val < 128 ↔ r.val / 128 * 128 + r.val % 128 < 128
  omega

theorem row_near : Blocks.rowA (bn t) (k0_pay13 (bq m c t) (bk m c t)) (Scalar.muli (bn t) 128#32) 128#32 k0_pay14 k0_pay15 r
    = spread (nth t) (full (nth t) ⟨r % 128, by omega⟩ (hq m c (rh t r) (ri t r)) (hk m c (rh t r))) ⊥ := by
  funext J
  rw [bn_eq]
  refine (Blocks.masked_at _ _ _ _ _).trans ?_
  simp only [q_row]
  exact masked (nth t) r _ (fun J x => bk m c t (ix2 J x)) (hk m c (rh t r)) (fun x => funext fun J => k_row m c t r J x) J

theorem row_far : Blocks.rowB (bq m c t) (bkc m c t) r = far (hq m c (rh t r) (ri t r)) (hkc m c (rh t r)) := by
  funext j
  refine (Blocks.context_at _ _ _ _).trans ?_
  simp only [q_row, kc_row m c t r]
  rfl

theorem p_near (J : Fin 384) : eN m c t (ix2 r J) * eR m c t (ix2 r 0) = spread (nth t) (pN m c (rh t r) (ri t r)) 0 J := by
  refine (congrArg₂ (· * ·) (Blocks.near_at (bn t) (bq m c t) (bkc m c t) (bs m c t) (k0_pay13 (bq m c t) (bk m c t)) (Scalar.muli (bn t) 128#32) 128#32 k0_pay14 k0_pay15 r J)
    (Blocks.inv_at (bn t) (bq m c t) (bkc m c t) (bs m c t) (k0_pay13 (bq m c t) (bk m c t)) (Scalar.muli (bn t) 128#32) 128#32 k0_pay14 k0_pay15 r)).trans ?_
  rw [row_near, row_far, s_row]
  exact congrFun (prob_spread (nth t) ⟨r % 128, by omega⟩ (hq m c (rh t r) (ri t r)) (hk m c (rh t r))
    (far (hq m c (rh t r) (ri t r)) (hkc m c (rh t r))) (hs m c (rh t r))) J

theorem p_far (j : Fin 256) : eF m c t (ix2 r j) * eR m c t (ix2 r 0) = pF m c (rh t r) (ri t r) j := by
  refine (congrArg₂ (· * ·) (Blocks.far_at (bn t) (bq m c t) (bkc m c t) (bs m c t) (k0_pay13 (bq m c t) (bk m c t)) (Scalar.muli (bn t) 128#32) 128#32 k0_pay14 k0_pay15 r j)
    (Blocks.inv_at (bn t) (bq m c t) (bkc m c t) (bs m c t) (k0_pay13 (bq m c t) (bk m c t)) (Scalar.muli (bn t) 128#32) 128#32 k0_pay14 k0_pay15 r)).trans ?_
  rw [row_near, row_far, s_row]
  exact prob_band (nth t) ⟨r % 128, by omega⟩ _ _ _ _ _

theorem p_sink : eS m c t (ix2 r 0) * eR m c t (ix2 r 0) = pS m c (rh t r) (ri t r) := by
  refine (congrArg₂ (· * ·) (Blocks.last_at (bn t) (bq m c t) (bkc m c t) (bs m c t) (k0_pay13 (bq m c t) (bk m c t)) (Scalar.muli (bn t) 128#32) 128#32 k0_pay14 k0_pay15 r)
    (Blocks.inv_at (bn t) (bq m c t) (bkc m c t) (bs m c t) (k0_pay13 (bq m c t) (bk m c t)) (Scalar.muli (bn t) 128#32) 128#32 k0_pay14 k0_pay15 r)).trans ?_
  rw [row_near, row_far, s_row]
  exact prob_band (nth t) ⟨r % 128, by omega⟩ _ _ _ _ _

theorem mean : k0_pay25 (bc m c t) (bo m c t) (ix2 r 0) = iN m c (rh t r) (ri t r) := by
  rw [Blocks.inner_at]
  simp only [c_row, read_o]
  rfl

theorem ds_near (J : Fin 384) : k0_pay26 (bc m c t) (bv m c t) (eN m c t) (eR m c t) (bo m c t) (ix2 r J)
    = spread (nth t) (dN m c (rh t r) (ri t r)) 0 J := by
  rw [Blocks.dnear_at, p_near, mean]
  simp only [c_row, v_row m c t r]
  unfold spread
  split
  · rfl
  · rw [zero_mul, zero_mul]

theorem ds_far (j : Fin 256) : k0_pay27 (bc m c t) (bvc m c t) (eF m c t) (eR m c t) (bo m c t) (ix2 r j) = dF m c (rh t r) (ri t r) j := by
  rw [Blocks.dfar_at, p_far, mean]
  simp only [c_row, vc_row m c t r]
  rfl

end Point

end Cert.Window.Inputs
-- ==== Proof.WindowGradient.lean ====
/- What the reference of the backward pass of the sliding-window attention computes, entry by entry. -/
module

public import proofs.«01_k».proof.Proof.Gen.Reference31Ideal
public import Idealize.ShloMosaic.Lib.Pipeline.ValueKit
public import proofs.«01_k».proof.Proof.WindowHost
public import proofs.«01_k».proof.Proof.WideProducts

@[expose] public section

set_option maxRecDepth 16384

noncomputable section

namespace Cert.Window.Gradient

open Cert.Reference31Ideal Cert.Reference31Ideal.Gen Idealize.ShloMosaic Idealize.ShloMosaic.TcCoe Idealize.SL.Sem
  Idealize.ShloMosaic.StableHlo
open Cert.Window.Host (groups reach exps den probs head hd groups_at reach_at exps_at den_at probs_at rowNear rowFar)
open Cert.Attn (lowest lowest_eq coe_sum)
open Cert.Products (pad_zero)

variable (q : FVec Ideal S2x4096x4x64 .f32) (k v : FVec Ideal S2x4096x2x64 .f32) (kc vc : FVec Ideal S2x256x2x64 .f32)
  (s : FVec Ideal S4 .f32) (ct : FVec Ideal S2x4096x4x64 .f32)

/-- The incoming gradient, the queries last. -/
def turned : FVec Ideal S2x2x64x2x4096 .f32 :=
  transpose S2x2x64x2x4096 [0, 2, 4, 3, 1] (groups ct) transposes_S2x4096x2x2x64_S2x2x64x2x4096_0_2_4_3_1

/-- The gradient of the probabilities of the context, after those of the keys. -/
def dprobsFar : FVec Ideal S2x2x2x4096x4353 .f32 :=
  pad S2x2x2x4096x4353 ![0, 0, 0, 0, 4096] ![0, 0, 0, 0, 1] ![0, 0, 0, 0, 0]
    (Host.dotGeneral dot_S2x2x64x2x4096_S2x256x2x64_S2x2x2x4096x256_2_3_34_1_01_02 none (turned ct) vc)
    (constant S_ .f32 0x00000000#32) pads_S2x2x2x4096x256_S2x2x2x4096x4353_000_000_000_000_409610 h_S_

/-- The gradient of the probabilities of the keys, before those of the context. -/
def dprobsNear : FVec Ideal S2x2x2x4096x4353 .f32 :=
  pad S2x2x2x4096x4353 ![0, 0, 0, 0, 0] ![0, 0, 0, 0, 257] ![0, 0, 0, 0, 0]
    (Host.dotGeneral dot_S2x2x64x2x4096_S2x4096x2x64_S2x2x2x4096x4096_2_3_34_1_01_02 none (turned ct) v)
    (constant S_ .f32 0x00000000#32) pads_S2x2x2x4096x4096_S2x2x2x4096x4353_000_000_000_000_02570 h_S_

/-- The gradient of the probabilities. -/
def dprobs : FVec Ideal S2x2x2x4096x4353 .f32 := addf (dprobsFar vc ct) (dprobsNear v ct)

/-- The derivative of the division and of the exponential, for any gradient, exponentials and sums. -/
def quotient (D E : FVec Ideal S2x2x2x4096x4353 .f32) (d : FVec Ideal S2x2x2x4096x1 .f32) : FVec Ideal S2x2x2x4096x4353 .f32 :=
  mulf (addf (Host.divf D (broadcastInDim S2x2x2x4096x4353 ![0, 1, 2, 3, 4] bcast_S2x2x2x4096x1_S2x2x2x4096x4353_0_1_2_3_4 d))
    (broadcastInDim S2x2x2x4096x4353 ![0, 1, 2, 3] bcast_S2x2x2x4096_S2x2x2x4096x4353_0_1_2_3
      (Host.reduceAdd (Host.negf (shapeCast S2x2x2x4096x1 (Host.reduceAdd (mulf (mulf D
          (broadcastInDim S2x2x2x4096x4353 ![0, 1, 2, 3, 4] bcast_S2x2x2x4096x1_S2x2x2x4096x4353_0_1_2_3_4
            (Host.divf (broadcastInDim S2x2x2x4096x1 ![] bcast_S_S2x2x2x4096x1 (constant S_ .f32 0x3F800000#32)) (mulf d d)))) E)
        (constant S_ .f32 0x00000000#32) reducesTo_S2x2x2x4096x4353_S2x2x2x4096_d4 h_S_) shapeCasts_S2x2x2x4096_S2x2x2x4096x1))
        (constant S_ .f32 0x00000000#32) reducesTo_S2x2x2x4096x1_S2x2x2x4096_d4 h_S_))) E

/-- The gradient of the scores. -/
def dscores : FVec Ideal S2x2x2x4096x4353 .f32 := quotient (dprobs v vc ct) (exps q k kc s) (den q k kc s)

/-- The gradient of the products with the keys of the context, from that of the scores. -/
def farScores (D : FVec Ideal S2x2x2x4096x4353 .f32) : FVec Ideal S2x2x256x4096x2 .f32 :=
  transpose S2x2x256x4096x2 [0, 1, 4, 3, 2] (mulf (extractStridedSlice S2x2x2x4096x256 ![0, 0, 0, 0, 4096] D
      slices_S2x2x2x4096x4353_S2x2x2x4096x256_0_0_0_0_4096)
    (broadcastInDim S2x2x2x4096x256 ![] bcast_S_S2x2x2x4096x256 (constant S_ .f32 0x3E000000#32)))
    transposes_S2x2x2x4096x256_S2x2x256x4096x2_0_1_4_3_2

/-- The gradient of the products with the keys, from that of the scores. -/
def nearScores (D : FVec Ideal S2x2x2x4096x4353 .f32) : FVec Ideal S2x2x4096x4096x2 .f32 :=
  transpose S2x2x4096x4096x2 [0, 1, 4, 3, 2] (mulf (select reach (extractStridedSlice S2x2x2x4096x4096 ![0, 0, 0, 0, 0] D
      slices_S2x2x2x4096x4353_S2x2x2x4096x4096_0_0_0_0_0)
    (broadcastInDim S2x2x2x4096x4096 ![] bcast_S_S2x2x2x4096x4096 (constant S_ .f32 0x00000000#32)))
    (broadcastInDim S2x2x2x4096x4096 ![] bcast_S_S2x2x2x4096x4096 (constant S_ .f32 0x3E000000#32)))
    transposes_S2x2x2x4096x4096_S2x2x4096x4096x2_0_1_4_3_2

theorem turned_at (b g u : Fin 2) (x : Fin 64) (i : Fin 4096) : turned ct (ix5 b g x u i) = head ct b (hd g u) i x := by
  rw [← groups_at]
  unfold turned
  generalize groups ct = y
  pointwise

section Row

variable (b g u : Fin 2) (i : Fin 4096)

theorem dprobsFar_at (j : Fin 4353) : dprobsFar vc ct (ix5 b g u i j)
    = if h : 4096 ≤ j.val ∧ j.val - 4096 < 256 then ∑ x, head ct b (hd g u) i x * vc (ix4 b ⟨j - 4096, by omega⟩ g x) else 0 := by
  have h : dprobsFar vc ct (ix5 b g u i j) = if h : 4096 ≤ j.val ∧ j.val - 4096 < 256
      then ∑ x, turned ct (ix5 b g x u i) * vc (ix4 b ⟨j - 4096, by omega⟩ g x) else 0 := by
    unfold dprobsFar
    generalize turned ct = y
    pointwise
  rw [h]
  simp only [turned_at]

theorem dprobsNear_at (j : Fin 4353) : dprobsNear v ct (ix5 b g u i j)
    = if h : j.val < 4096 then ∑ x, head ct b (hd g u) i x * v (ix4 b ⟨j, h⟩ g x) else 0 := by
  have h : dprobsNear v ct (ix5 b g u i j) = if h : j.val < 4096
      then ∑ x, turned ct (ix5 b g x u i) * v (ix4 b ⟨j, h⟩ g x) else 0 := by
    unfold dprobsNear
    generalize turned ct = y
    pointwise
  rw [h]
  simp only [turned_at]

theorem dprobs_at (j : Fin 4353) : dprobs v vc ct (ix5 b g u i j)
    = dprob (L := 4096) (head ct b (hd g u) i) (head v b g) (head vc b g) j := by
  have h1 : dprobs v vc ct (ix5 b g u i j) = dprobsFar vc ct (ix5 b g u i j) + dprobsNear v ct (ix5 b g u i j) := rfl
  rw [h1, dprobsFar_at, dprobsNear_at]
  unfold dprob
  refine parts (L := 4096) (p := fun j => (if h : 4096 ≤ j.val ∧ j.val - 4096 < 256 then ∑ x, head ct b (hd g u) i x * vc (ix4 b ⟨j - 4096, by omega⟩ g x) else 0)
    + (if h : j.val < 4096 then ∑ x, head ct b (hd g u) i x * v (ix4 b ⟨j, h⟩ g x) else 0)
    = joined (fun j => ∑ x, head ct b (hd g u) i x * head v b g j x) (fun j => ∑ x, head ct b (hd g u) i x * head vc b g j x) 0 j)
    (fun j => ?_) (fun j => ?_) ?_ j
  · rw [joined_near, dif_neg (show ¬(4096 ≤ j.val ∧ j.val - 4096 < 256) by omega), dif_pos (show j.val < 4096 by omega), zero_add]
  · rw [joined_far, dif_pos (show 4096 ≤ 4096 + j.val ∧ 4096 + j.val - 4096 < 256 by omega), dif_neg (show ¬4096 + j.val < 4096 by omega), add_zero]
    simp only [Nat.add_sub_cancel_left]
  · rw [joined_last, dif_neg (by simp), dif_neg (by simp), add_zero]

theorem quotient_at (D E : FVec Ideal S2x2x2x4096x4353 .f32) (d : FVec Ideal S2x2x2x4096x1 .f32) (j : Fin 4353) :
    quotient D E d (ix5 b g u i j) = (Ideal.div (D (ix5 b g u i j)) (d (ix5 b g u i 0))
      + -∑ x, D (ix5 b g u i x) * Ideal.div 1 (d (ix5 b g u i 0) * d (ix5 b g u i 0)) * E (ix5 b g u i x)) * E (ix5 b g u i j) := by
  unfold quotient
  pointwise
  rw [Fin.sum_univ_one]

theorem dscores_at (j : Fin 4353) : dscores q k v kc vc s ct (ix5 b g u i j)
    = dscore (L := 4096) (head q b (hd g u) i) (head ct b (hd g u) i) (head k b g) (head v b g) (head kc b g) (head vc b g) (s (ix1 (hd g u))) (within i) j := by
  unfold dscores
  rw [quotient_at]
  simp only [dprobs_at, exps_at, den_at]
  rfl

theorem farScores_at (D : FVec Ideal S2x2x2x4096x4353 .f32) (j : Fin 256) :
    farScores D (ix5 b g j i u) = D (ix5 b g u i ⟨4096 + j, by omega⟩) * scale := by
  unfold farScores
  pointwise

theorem nearScores_at (D : FVec Ideal S2x2x2x4096x4353 .f32) (j : Fin 4096) :
    nearScores D (ix5 b g j i u) = (if within i j = 1#1 then D (ix5 b g u i ⟨j, by omega⟩) else 0) * scale := by
  rw [← reach_at b g u]
  unfold nearScores
  generalize reach = y
  pointwise
  by_cases h : y (ix5 b g u i j) = 1#1
  · rw [if_pos h]
    exact if_pos h
  · rw [if_neg h, zero_mul]
    exact if_neg h

end Row

section Results

variable (D p : FVec Ideal S2x2x2x4096x4353 .f32) (N : FVec Ideal S2x2x4096x4096x2 .f32) (C : FVec Ideal S2x2x256x4096x2 .f32)
  (T : FVec Ideal S2x2x64x2x4096 .f32) (Q : FVec Ideal S2x4096x2x2x64 .f32)

/-- The gradient of the queries. -/
def resQ : FVec Ideal S8x4096x64 .f32 :=
  shapeCast S8x4096x64 (transpose S2x4x4096x64 [0, 2, 1, 3] (shapeCast S2x4096x4x64
    (addf (transpose S2x4096x2x2x64 [0, 2, 1, 3, 4] (Host.dotGeneral dot_S2x2x256x4096x2_S2x256x2x64_S2x2x4096x2x64_2_1_34_3_01_02 none C kc)
        transposes_S2x2x4096x2x64_S2x4096x2x2x64_0_2_1_3_4)
      (transpose S2x4096x2x2x64 [0, 2, 1, 3, 4] (Host.dotGeneral dot_S2x2x4096x4096x2_S2x4096x2x64_S2x2x4096x2x64_2_1_34_3_01_02 none N k)
        transposes_S2x2x4096x2x64_S2x4096x2x2x64_0_2_1_3_4))
    shapeCasts_S2x4096x2x2x64_S2x4096x4x64) transposes_S2x4096x4x64_S2x4x4096x64_0_2_1_3) shapeCasts_S2x4x4096x64_S8x4096x64

theorem resQ_at (G : Fin 8) (i : Fin 4096) (x : Fin 64) : resQ k kc N C (ix3 G i x)
    = (∑ j : Fin 256, C (ix5 ⟨G / 4, by omega⟩ ⟨G % 4 / 2, by omega⟩ j i ⟨G % 4 % 2, by omega⟩) * kc (ix4 ⟨G / 4, by omega⟩ j ⟨G % 4 / 2, by omega⟩ x))
      + ∑ j : Fin 4096, N (ix5 ⟨G / 4, by omega⟩ ⟨G % 4 / 2, by omega⟩ j i ⟨G % 4 % 2, by omega⟩) * k (ix4 ⟨G / 4, by omega⟩ j ⟨G % 4 / 2, by omega⟩ x) := by
  unfold resQ
  pointwise

/-- The gradient of the keys, with rows of zeros before and after. -/
def resK : FVec Ideal S4x4352x64 .f32 :=
  pad S4x4352x64 ![0, 128, 0] ![0, 128, 0] ![0, 0, 0] (shapeCast S4x4096x64 (transpose S2x2x4096x64 [0, 2, 1, 3]
    (transpose S2x4096x2x64 [0, 2, 1, 3] (Host.dotGeneral dot_S2x2x4096x4096x2_S2x4096x2x2x64_S2x2x4096x64_34_13_2_4_01_02 none N Q)
      transposes_S2x2x4096x64_S2x4096x2x64_0_2_1_3) transposes_S2x4096x2x64_S2x2x4096x64_0_2_1_3) shapeCasts_S2x2x4096x64_S4x4096x64)
    (sitofp .f32 (constantI S_ 32 0#32)) pads_S4x4096x64_S4x4352x64_000_1281280_000 h_S_

theorem resK_at (G : Fin 4) (J : Fin 4352) (x : Fin 64) : resK N Q (ix3 G J x)
    = if h : 128 ≤ J.val ∧ J.val - 128 < 4096 then ∑ i : Fin 4096, ∑ u : Fin 2,
        N (ix5 ⟨G / 2, by omega⟩ ⟨G % 2, by omega⟩ ⟨J - 128, by omega⟩ i u) * Q (ix5 ⟨G / 2, by omega⟩ i ⟨G % 2, by omega⟩ u x) else 0 := by
  unfold resK
  pointwise [pad_zero]

/-- The gradient of the values, with rows of zeros before and after. -/
def resV : FVec Ideal S4x4352x64 .f32 :=
  pad S4x4352x64 ![0, 128, 0] ![0, 128, 0] ![0, 0, 0] (shapeCast S4x4096x64 (transpose S2x2x4096x64 [0, 2, 1, 3]
    (transpose S2x4096x2x64 [0, 3, 1, 2] (Host.dotGeneral dot_S2x2x64x2x4096_S2x2x2x4096x4096_S2x2x64x4096_34_23_2_4_01_01 none T
      (extractStridedSlice S2x2x2x4096x4096 ![0, 0, 0, 0, 0] p slices_S2x2x2x4096x4353_S2x2x2x4096x4096_0_0_0_0_0))
      transposes_S2x2x64x4096_S2x4096x2x64_0_3_1_2) transposes_S2x4096x2x64_S2x2x4096x64_0_2_1_3) shapeCasts_S2x2x4096x64_S4x4096x64)
    (sitofp .f32 (constantI S_ 32 0#32)) pads_S4x4096x64_S4x4352x64_000_1281280_000 h_S_

theorem resV_at (G : Fin 4) (J : Fin 4352) (x : Fin 64) : resV p T (ix3 G J x)
    = if h : 128 ≤ J.val ∧ J.val - 128 < 4096 then ∑ u : Fin 2, ∑ i : Fin 4096,
        T (ix5 ⟨G / 2, by omega⟩ ⟨G % 2, by omega⟩ x u i) * p (ix5 ⟨G / 2, by omega⟩ ⟨G % 2, by omega⟩ u i ⟨J - 128, by omega⟩) else 0 := by
  unfold resV
  pointwise [pad_zero]

/-- The gradient of the context's keys. -/
def resKc : FVec Ideal S4x256x64 .f32 :=
  shapeCast S4x256x64 (transpose S2x2x256x64 [0, 2, 1, 3] (transpose S2x256x2x64 [0, 2, 1, 3]
    (Host.dotGeneral dot_S2x2x256x4096x2_S2x4096x2x2x64_S2x2x256x64_34_13_2_4_01_02 none C Q)
    transposes_S2x2x256x64_S2x256x2x64_0_2_1_3) transposes_S2x256x2x64_S2x2x256x64_0_2_1_3) shapeCasts_S2x2x256x64_S4x256x64

theorem resKc_at (G : Fin 4) (j : Fin 256) (x : Fin 64) : resKc C Q (ix3 G j x)
    = ∑ i : Fin 4096, ∑ u : Fin 2,
        C (ix5 ⟨G / 2, by omega⟩ ⟨G % 2, by omega⟩ j i u) * Q (ix5 ⟨G / 2, by omega⟩ i ⟨G % 2, by omega⟩ u x) := by
  unfold resKc
  pointwise

/-- The gradient of the context's values. -/
def resVc : FVec Ideal S4x256x64 .f32 :=
  shapeCast S4x256x64 (transpose S2x2x256x64 [0, 2, 1, 3] (transpose S2x256x2x64 [0, 3, 1, 2]
    (Host.dotGeneral dot_S2x2x64x2x4096_S2x2x2x4096x256_S2x2x64x256_34_23_2_4_01_01 none T
      (extractStridedSlice S2x2x2x4096x256 ![0, 0, 0, 0, 4096] p slices_S2x2x2x4096x4353_S2x2x2x4096x256_0_0_0_0_4096))
    transposes_S2x2x64x256_S2x256x2x64_0_3_1_2) transposes_S2x256x2x64_S2x2x256x64_0_2_1_3) shapeCasts_S2x2x256x64_S4x256x64

theorem resVc_at (G : Fin 4) (j : Fin 256) (x : Fin 64) : resVc p T (ix3 G j x)
    = ∑ u : Fin 2, ∑ i : Fin 4096,
        T (ix5 ⟨G / 2, by omega⟩ ⟨G % 2, by omega⟩ x u i) * p (ix5 ⟨G / 2, by omega⟩ ⟨G % 2, by omega⟩ u i ⟨4096 + j, by omega⟩) := by
  unfold resVc
  pointwise

/-- The gradient of the sinks, repeated over the lanes. -/
def resS : FVec Ideal S8x1x128 .f32 :=
  broadcastInDim S8x1x128 ![0, 1, 2] bcast_S8x1x1_S8x1x128_0_1_2 (shapeCast S8x1x1 (shapeCast S2x4 (Host.reduceAdd
    (broadcastInDim S2x2x2x1x1 ![0, 1, 2] bcast_S2x2x2_S2x2x2x1x1_0_1_2 (Host.reduceAdd (extractStridedSlice S2x2x2x4096x1 ![0, 0, 0, 0, 4352] D
        slices_S2x2x2x4096x4353_S2x2x2x4096x1_0_0_0_0_4352) (constant S_ .f32 0x00000000#32) reducesTo_S2x2x2x4096x1_S2x2x2_d3_4 h_S_))
      (constant S_ .f32 0x00000000#32) reducesTo_S2x2x2x1x1_S2x2x2_d3_4 h_S_) shapeCasts_S2x2x2_S2x4) shapeCasts_S2x4_S8x1x1)

/-- A sum over the last two axes, the last of one entry. -/
theorem sum_last {n : ℕ} (x : (⟨5, ![2, 2, 2, n, 1]⟩ : Shape).Idx → EReal) (h : (⟨5, ![2, 2, 2, n, 1]⟩ : Shape).ReducesTo [3, 4] ⟨3, ![2, 2, 2]⟩)
    (b g u : Fin 2) : Ideal.hostReduceAdd h x 0 (ix3 b g u) = ∑ i : Fin n, x (ix5 b g u i 0) := by
  have e : ∀ z : (⟨5, ![2, 2, 2, n, 1]⟩ : Shape).Idx, h.drop z = ix3 b g u → z = ix5 b g u (z 3) 0 := by
    intro z hz
    funext a
    fin_cases a
    · exact congrFun hz 0
    · exact congrFun hz 1
    · exact congrFun hz 2
    · rfl
    · exact Subsingleton.elim (α := Fin 1) _ _
  unfold Ideal.hostReduceAdd
  rw [zero_add]
  refine Finset.sum_bij' (fun z _ => z 3) (fun i _ => ix5 b g u i 0) (fun _ _ => Finset.mem_univ _) (fun i _ => ?_) (fun z hz => ?_)
    (fun _ _ => rfl) (fun z hz => ?_)
  · refine Finset.mem_filter.2 ⟨Finset.mem_univ _, ?_⟩
    funext a
    fin_cases a <;> rfl
  · exact (e z (Finset.mem_filter.1 hz).2).symm
  · exact congrArg x (e z (Finset.mem_filter.1 hz).2)

theorem resS_at (G : Fin 8) (z : Fin 128) : resS D (ix3 G 0 z)
    = ∑ i : Fin 4096, D (ix5 ⟨G / 4, by omega⟩ ⟨G % 4 / 2, by omega⟩ ⟨G % 4 % 2, by omega⟩ i 4352) := by
  have h1 : ∀ y : FVec Ideal S2x2x2 .f32, broadcastInDim S8x1x128 ![0, 1, 2] bcast_S8x1x1_S8x1x128_0_1_2 (shapeCast S8x1x1 (shapeCast S2x4 y
      shapeCasts_S2x2x2_S2x4) shapeCasts_S2x4_S8x1x1) (ix3 G 0 z) = y (ix3 ⟨G / 4, by omega⟩ ⟨G % 4 / 2, by omega⟩ ⟨G % 4 % 2, by omega⟩) := by
    intro y
    pointwise
    exact congrArg y (congrArg₂ (fun a b => ix3 ⟨G / 4, by omega⟩ a b) (Fin.ext (by simp only; omega)) (Fin.ext (by simp only; omega)))
  have h2 : ∀ (y : FVec Ideal S2x2x2 .f32) (b g u : Fin 2), Host.reduceAdd (broadcastInDim S2x2x2x1x1 ![0, 1, 2] bcast_S2x2x2_S2x2x2x1x1_0_1_2 y)
      (constant S_ .f32 0x00000000#32) reducesTo_S2x2x2x1x1_S2x2x2_d3_4 h_S_ (ix3 b g u) = y (ix3 b g u) := by
    intro y b g u
    pointwise
    refine (sum_last _ _ _ _ _).trans ?_
    rw [Fin.sum_univ_one]
    pointwise
  have h3 : ∀ b g u : Fin 2, Host.reduceAdd (extractStridedSlice S2x2x2x4096x1 ![0, 0, 0, 0, 4352] D
      slices_S2x2x2x4096x4353_S2x2x2x4096x1_0_0_0_0_4352) (constant S_ .f32 0x00000000#32) reducesTo_S2x2x2x4096x1_S2x2x2_d3_4 h_S_ (ix3 b g u)
      = ∑ i : Fin 4096, D (ix5 b g u i 4352) := by
    intro b g u
    pointwise
    refine (sum_last _ _ _ _ _).trans (Finset.sum_congr rfl fun i _ => ?_)
    pointwise
  unfold resS
  rw [h1, h2, h3]

end Results

section Finite

variable (hQ : ∀ i, ∃ r : ℝ, q i = r) (hK : ∀ i, ∃ r : ℝ, k i = r) (hV : ∀ i, ∃ r : ℝ, v i = r) (hKc : ∀ i, ∃ r : ℝ, kc i = r)
  (hVc : ∀ i, ∃ r : ℝ, vc i = r) (hS : ∀ i, ∃ r : ℝ, s i = r) (hC : ∀ i, ∃ r : ℝ, ct i = r) (b g u : Fin 2) (i : Fin 4096)

include hQ hK hV hKc hVc hS hC

theorem near_eq (j : Fin 4096) : nearScores (dscores q k v kc vc s ct) (ix5 b g j i u)
    = dnear (head q b (hd g u) i) (head ct b (hd g u) i) (head k b g) (head v b g) (head kc b g) (head vc b g) (s (ix1 (hd g u))) (within i) j := by
  rw [nearScores_at, dscores_at, dscore_eq (L := 4096) _ (fun _ => hQ _) (fun _ => hC _) (fun _ _ => hK _) (fun _ _ => hV _) (fun _ _ => hKc _)
    (fun _ _ => hVc _) (hS _)]
  unfold dnear dprob
  rw [joined_near (L := 4096), joined_near (L := 4096)]
  by_cases h : within i j = 1#1
  · rw [if_pos h]
  · rw [if_neg h]
    have h1 : near (head q b (hd g u) i) (head k b g) (within i) j = ⊥ := by rw [near, if_neg h, lowest_eq]
    rw [h1, prob_bot]
    simp only [zero_mul]

theorem far_eq (j : Fin 256) : farScores (dscores q k v kc vc s ct) (ix5 b g j i u)
    = dfar (L := 4096) (head q b (hd g u) i) (head ct b (hd g u) i) (head k b g) (head v b g) (head kc b g) (head vc b g) (s (ix1 (hd g u))) (within i) j := by
  rw [farScores_at, dscores_at, dscore_eq (L := 4096) _ (fun _ => hQ _) (fun _ => hC _) (fun _ _ => hK _) (fun _ _ => hV _) (fun _ _ => hKc _)
    (fun _ _ => hVc _) (hS _)]
  unfold dfar dprob
  rw [joined_far (L := 4096), joined_far (L := 4096)]

theorem sink_eq : dscores q k v kc vc s ct (ix5 b g u i 4352)
    = prob (L := 4096) (rowNear q k b g u i) (rowFar q kc b g u i) (s (ix1 (hd g u))) (s (ix1 (hd g u)))
      * (0 - inner (L := 4096) (head q b (hd g u) i) (head ct b (hd g u) i) (head k b g) (head v b g) (head kc b g) (head vc b g) (s (ix1 (hd g u))) (within i)) := by
  rw [dscores_at, dscore_eq (L := 4096) _ (fun _ => hQ _) (fun _ => hC _) (fun _ _ => hK _) (fun _ _ => hV _) (fun _ _ => hKc _)
    (fun _ _ => hVc _) (hS _)]
  unfold dprob
  exact congrArg₂ (fun a b => prob _ _ _ a * (b - _)) (joined_last (L := 4096) _ _ _) (joined_last (L := 4096) _ _ _)

end Finite

end Cert.Window.Gradient
-- ==== Proof.WindowBackward.lean ====
/- The backward call of the sliding-window attention: what the kernel computes over all its grid points, and that it is the
   gradient of the attention. -/
module

public import proofs.«01_k».proof.Defs
public import proofs.«01_k».proof.Proof.Finite
public import proofs.«01_k».proof.Proof.WindowInputs
public import proofs.«01_k».proof.Proof.WindowGradient
public import proofs.«01_k».proof.Proof.Gen.Kernel31.Frame
public import proofs.«01_k».proof.Proof.Gen.Kernel31Ideal.Value
public import proofs.«01_k».proof.Proof.Gen.Reference31Ideal.Run
public import Idealize.ShloMosaic.Lib.WritesUnit
public import Idealize.ShloMosaic.Adequacy

@[expose] public section

set_option maxRecDepth 16384

noncomputable section

namespace Cert.Window.Backward

open Idealize.ShloMosaic Idealize.ShloMosaic.TcCoe Idealize.SL.Sem
open Cert.Window.Host (head hd)
open Cert.Attn (coe_sum)

section Precondition

open Cert.Pre_finite_window_all Cert.Attn.Finite

instance facts : Cert.Pre_finite_window_all.Facts where
  bcast_S_S2x4096x4x64 := by decide
  reducesTo_S2x4096x4x64_S_d0_1_2_3 := by decide
  h_S_ := by decide
  bcast_S_S2x4096x2x64 := by decide
  reducesTo_S2x4096x2x64_S_d0_1_2_3 := by decide
  bcast_S_S2x256x2x64 := by decide
  reducesTo_S2x256x2x64_S_d0_1_2_3 := by decide
  bcast_S_S4 := by decide
  reducesTo_S4_S_d0 := by decide

theorem real_window (q : FVec Ideal S2x4096x4x64 .f32) (k v : FVec Ideal S2x4096x2x64 .f32) (kc vc : FVec Ideal S2x256x2x64 .f32)
    (s : FVec Ideal S4 .f32) (ct : FVec Ideal S2x4096x4x64 .f32) (h : Cert.Pre_finite_window_all.fn q k v kc vc s ct = fun _ => 1#1) :
    (∀ i, ∃ r : ℝ, q i = r) ∧ (∀ i, ∃ r : ℝ, k i = r) ∧ (∀ i, ∃ r : ℝ, v i = r) ∧ (∀ i, ∃ r : ℝ, kc i = r) ∧ (∀ i, ∃ r : ℝ, vc i = r)
      ∧ (∀ i, ∃ r : ℝ, s i = r) ∧ ∀ i, ∃ r : ℝ, ct i = r := by
  have h0 := congrFun h (fun a => a.elim0)
  unfold fn fn_part1 at h0
  obtain ⟨h1, hc⟩ := and_one _ _ _ h0
  obtain ⟨h2, hs⟩ := and_one _ _ _ h1
  obtain ⟨h3, hvc⟩ := and_one _ _ _ h2
  obtain ⟨h4, hkc⟩ := and_one _ _ _ h3
  obtain ⟨h5, hv⟩ := and_one _ _ _ h4
  obtain ⟨hq, hk⟩ := and_one _ _ _ h5
  exact ⟨real_of_all q _ _ _ _ hq, real_of_all k _ _ _ _ hk, real_of_all v _ _ _ _ hv, real_of_all kc _ _ _ _ hkc,
    real_of_all vc _ _ _ _ hvc, real_of_all s _ _ _ _ hs, real_of_all ct _ _ _ _ hc⟩

end Precondition

section Kernel

open Cert.Kernel31Ideal Cert.Kernel31Ideal.Gen Cert.Window.Inputs

/-- A function of the 4096 keys, with zeros for the 128 rows before the first and after the last. -/
def padded (J : Fin 4352) (f : Fin 4096 → EReal) : EReal :=
  if h : 128 ≤ J.val ∧ J.val - 128 < 4096 then f ⟨J - 128, by omega⟩ else 0

/-- Of a function that vanishes away from a block, the rows near the block. -/
theorem padded_band (n : Fin 32) (f : Fin 4096 → EReal)
    (hf : ∀ j : Fin 4096, ¬(n.val * 128 ≤ j.val + 128 ∧ j.val + 128 < n.val * 128 + 384) → f j = 0) (J : Fin 4352) :
    padded J f = if h : n.val * 128 ≤ J.val ∧ J.val < n.val * 128 + 384 then spread n f 0 ⟨J - n * 128, by omega⟩ else 0 := by
  unfold padded
  by_cases h : n.val * 128 ≤ J.val ∧ J.val < n.val * 128 + 384
  · rw [dif_pos h]
    unfold spread
    have e : n.val * 128 + (J.val - n.val * 128) = J.val := by omega
    simp only [e]
    by_cases h1 : 128 ≤ J.val ∧ J.val - 128 < 4096
    · rw [dif_pos h1, dif_pos (show 128 ≤ J.val ∧ J.val < 4224 by omega)]
    · rw [dif_neg h1, dif_neg (show ¬(128 ≤ J.val ∧ J.val < 4224) by omega)]
  · rw [dif_neg h]
    split <;> rename_i h1
    · refine hf _ fun h2 => h ?_
      have h3 : n.val * 128 ≤ J.val - 128 + 128 ∧ J.val - 128 + 128 < n.val * 128 + 384 := h2
      omega
    · rfl

/-- Head `u` of group `G`. -/
abbrev gh (G : Fin 4) (u : Fin 2) : Fin 8 := ⟨G * 2 + u, by omega⟩

/-- A sum over the rows of the blocks of a group is the sum over the group's queries and heads. -/
theorem sum_rows (t : Fin cfg0.N) (ht : t.val % 32 = 32 - 1) (f : Fin 8 → Fin 4096 → EReal) :
    (∑ s : Fin 32, ∑ r : Fin 256, f (rh ⟨32 * (t.val / 32) + s.val, Pipeline.run_point_lt_of_flush t ht s⟩ r)
        (ri ⟨32 * (t.val / 32) + s.val, Pipeline.run_point_lt_of_flush t ht s⟩ r))
      = ∑ i, ∑ u, f (gh (grp t) u) i := by
  refine Eq.trans (Finset.sum_congr rfl fun s _ => ?_ : _ = ∑ s : Fin 32, ∑ w : Fin 128, ∑ u, f (gh (grp t) u) (rowOf s w))
    (Fin.sum_mul_add_congr (n := 128) fun s w hl => rfl)
  rw [Finset.sum_comm]
  refine Fin.sum_divmod_congr (S := 128) fun r ha hs => ?_
  refine congrArg₂ f (Fin.ext ?_) (Fin.ext ?_)
  · show (32 * (t.val / 32) + s.val) / 32 * 2 + r.val / 128 = t.val / 32 * 2 + r.val / 128
    omega
  · show (32 * (t.val / 32) + s.val) % 32 * 128 + r.val % 128 = s.val * 128 + r.val % 128
    omega

set_option maxHeartbeats 2000000

/-- What two stores leave of an array of 4352 rows, the later one at the rows near a block. -/
theorem canon_band (t : Fin cfg0.N) (z : Vec Ideal S1x4352x64 .f32) (w : Vec Ideal S1x384x64 .f32) (b) (J : Fin 4352) (x : Fin 64) :
    View.canon (Val := Elt Ideal) (s := S1x4352x64) (e := .f32) [⟨Rect.unit (k0_off1 (grid0.coords t)) S1x384x64.size (k0_off1_inb (grid0.coords t)), w⟩,
        ⟨Rect.unit ![0, 0, 0] S1x4352x64.size b, z⟩] (ix3 0 J x)
      = if h : t.val % 32 * 128 ≤ J.val ∧ J.val < t.val % 32 * 128 + 384 then w (ix3 0 ⟨J - t.val % 32 * 128, by omega⟩ x) else z (ix3 0 J x) := by
  split <;> rename_i h
  · have e : (Rect.unit (s := S1x4352x64) (k0_off1 (grid0.coords t)) S1x384x64.size (k0_off1_inb (grid0.coords t))).emb
        (ix3 0 ⟨J - t.val % 32 * 128, by omega⟩ x) = ix3 0 J x := by
      funext a
      refine Fin.ext ?_
      refine Eq.trans (congrArg (· + 1 * ((ix3 0 ⟨J - t.val % 32 * 128, by omega⟩ x : S1x384x64.Idx) a).val) (congrFun (coord t).2 a)) ?_
      fin_cases a
      · rfl
      · show t.val % 32 * 128 + 1 * (J.val - t.val % 32 * 128) = J.val
        omega
      · show 0 + 1 * x.val = x.val
        omega
    have e1 := View.canon_cons_emb (Val := Elt Ideal) (e := .f32)
      (Rect.unit (s := S1x4352x64) (k0_off1 (grid0.coords t)) S1x384x64.size (k0_off1_inb (grid0.coords t))) w
      [⟨Rect.unit ![0, 0, 0] S1x4352x64.size b, z⟩] (ix3 0 ⟨J - t.val % 32 * 128, by omega⟩ x)
    rw [e] at e1
    exact e1
  · refine (View.canon_cons_of_not_mem _ _ fun hm => h ?_).trans
      (congrFun (View.canon_cons_unit_lit (S := S1x4352x64) b z [] fun a => by fin_cases a <;> rfl) _)
    have h1 := (Rect.mem_set_unit (inb := k0_off1_inb (grid0.coords t))).1 hm 1
    rw [congrFun (coord t).2 1] at h1
    exact h1

/-- The same of a store at the rows near a block, over what was there before. -/
theorem read_band (t : Fin cfg0.N) {sp : Space} {κ : Kind} (v : View sig κ sp S1x4352x64 .f32) (f : v.ty.Contents (Elt Ideal))
    (w : Vec Ideal S1x384x64 .f32) (J : Fin 4352) (x : Fin 64) :
    v.read (Elt Ideal) (v.writes (Elt Ideal) f [⟨Rect.unit (k0_off1 (grid0.coords t)) S1x384x64.size (k0_off1_inb (grid0.coords t)), w⟩]) (ix3 0 J x)
      = if h : t.val % 32 * 128 ≤ J.val ∧ J.val < t.val % 32 * 128 + 384 then w (ix3 0 ⟨J - t.val % 32 * 128, by omega⟩ x)
        else v.read (Elt Ideal) f (ix3 0 J x) := by
  split <;> rename_i h
  · refine View.read_writes_cons_unit_of_mem v f (k0_off1_inb (grid0.coords t)) w [] _ _ (coord t).2 fun a => ?_
    fin_cases a
    · rfl
    · show J.val = t.val % 32 * 128 + (J.val - t.val % 32 * 128)
      omega
    · exact (Nat.zero_add _).symm
  · refine View.read_writes_cons_unit_of_not_mem v f (k0_off1_inb (grid0.coords t)) w [] _ (coord t).2 1 ?_
    show J.val < t.val % 32 * 128 ∨ t.val % 32 * 128 + 384 ≤ J.val
    omega

variable (m : (ℓ : Loc nD τ sig) → Buf (Elt Ideal) ℓ) (c : Dev nD)

/-- The gradient of the queries, by head. -/
def entQ (G : Fin 8) (i : Fin 4096) (x : Fin 64) : EReal :=
  (∑ j, dN m c G i j * hk m c G j x) + ∑ j, dF m c G i j * hkc m c G j x
def arrQ : S8x4096x64.Idx → EReal := fun z => entQ m c (z 0) (z 1) (z 2)

theorem entQ_block (t : Fin cfg0.N) (u : Fin 2) (w : Fin 128) (x : Fin 64) :
    k0_pay28 (bc m c t) (bk m c t) (bv m c t) (bkc m c t) (bvc m c t) (eN m c t) (eF m c t) (eR m c t) (bo m c t) (ix3 u w x)
      = entQ m c (rowHead t u) (rowOf (nth t) w) x := by
  rw [Blocks.dq_at, ← rh_row t u w, ← ri_row t u w]
  generalize (⟨u * 128 + w, by omega⟩ : Fin 256) = r
  simp only [ds_near, ds_far, k_row m c t r, kc_row m c t r]
  exact congrArg (· + _) (sum_spread (nth t) _ _ 0 (dN_away m c (rh t r) (nth t) ⟨r % 128, by omega⟩))

theorem finalQ : (dats m 0 c).arrAt 8 (cfgs 0).N = arrQ m c := by
  refine (dats m 0 c).arrAt_eq_of_covers 8 _ (by decide +kernel) fun t hf y => ?_
  blk_simp
  rw [after0_8]
  by_cases h : t.val % 32 = 0
  · rw [outsAt0_A m c t h]
    frame_out
    idx_vars y
    have e : ((cfg0.win 8).blk t).view.emb (ix3 y0 y1 y2) = ix3 (rowHead t y0) (rowOf (nth t) y1) y2 := by blk_ext [idx t]
    exact (entQ_block m c t y0 y1 y2).trans (congrArg (arrQ m c) e).symm
  · rw [outsAt0_B m c t h]
    frame_out
    idx_vars y
    have e : ((cfg0.win 8).blk t).view.emb (ix3 y0 y1 y2) = ix3 (rowHead t y0) (rowOf (nth t) y1) y2 := by blk_ext [idx t]
    exact (entQ_block m c t y0 y1 y2).trans (congrArg (arrQ m c) e).symm

/-- The gradient of the keys, by group, with rows of zeros before and after. -/
def entK (G : Fin 4) (J : Fin 4352) (x : Fin 64) : EReal := ∑ i, ∑ u, padded J (dN m c (gh G u) i) * hq m c (gh G u) i x
def arrK : S4x4352x64.Idx → EReal := fun z => entK m c (z 0) (z 1) (z 2)

/-- What one grid point adds to it. -/
def partK (t : Fin cfg0.N) (z : S1x4352x64.Idx) : EReal :=
  ∑ r, padded (z 1) (dN m c (rh t r) (ri t r)) * hq m c (rh t r) (ri t r) (z 2)

theorem partK_band (t : Fin cfg0.N) (y : Vec Ideal S1x4352x64 .f32) (J : Fin 4352) (x : Fin 64) :
    (if h : t.val % 32 * 128 ≤ J.val ∧ J.val < t.val % 32 * 128 + 384 then
        k0_pay35 (bq m c t) (k0_pay26 (bc m c t) (bv m c t) (eN m c t) (eR m c t) (bo m c t)) (View.ld y
          (Rect.unit (s := S1x4352x64) (k0_off1 (grid0.coords t)) S1x384x64.size (k0_off1_inb (grid0.coords t)))) (ix3 0 ⟨J - t.val % 32 * 128, by omega⟩ x)
        else y (ix3 0 J x))
      = y (ix3 0 J x) + partK m c t (ix3 0 J x) := by
  have e : ∀ r, padded J (dN m c (rh t r) (ri t r)) = if h : t.val % 32 * 128 ≤ J.val ∧ J.val < t.val % 32 * 128 + 384
      then spread (nth t) (dN m c (rh t r) (ri t r)) 0 ⟨J - t.val % 32 * 128, by omega⟩ else 0 := fun r =>
    padded_band (nth t) _ (dN_away m c (rh t r) (nth t) ⟨r % 128, by omega⟩) J
  have e1 : partK m c t (ix3 0 J x) = ∑ r, padded J (dN m c (rh t r) (ri t r)) * hq m c (rh t r) (ri t r) x := rfl
  rw [e1]
  simp only [e]
  by_cases h : t.val % 32 * 128 ≤ J.val ∧ J.val < t.val % 32 * 128 + 384
  · simp only [dif_pos h]
    rw [Blocks.dk_at, ld_at]
    refine congrArg₂ (· + ·) (congrArg (fun K => y (ix3 0 K x)) (Fin.ext ?_)) (Finset.sum_congr rfl fun r _ => ?_)
    · show t.val % 32 * 128 + (J.val - t.val % 32 * 128) = J.val
      omega
    · rw [ds_near, q_row]
  · simp only [dif_neg h, zero_mul, Finset.sum_const_zero, add_zero]

theorem finalK : (dats m 0 c).arrAt 9 (cfgs 0).N = arrK m c := by
  refine (dats m 0 c).arrAt_eq_of_covers 9 _ (by decide +kernel) fun t hf y => ?_
  blk_simp
  rw [after0_9]
  refine (Pipeline.eq_sum_fin_of_reset_step_apply_of_flush (fun n h => (outsAt0 m c n h).2.1) 32 (fun _ => (0 : EReal)) (partK m c)
    (fun t h j => by
      rw [outsAt0_A m c t h]
      frame_out
      idx_vars j
      obtain rfl : j0 = 0 := Subsingleton.elim _ _
      refine (canon_band t _ _ _ j1 j2).trans ((partK_band m c t _ j1 j2).trans ?_)
      rw [Blocks.zero_k])
    (fun t h j => by
      rw [outsAt0_B m c t (by omega)]
      frame_out
      idx_vars j
      obtain rfl : j0 = 0 := Subsingleton.elim _ _
      refine (read_band t _ _ _ j1 j2).trans ?_
      rw [Memref.IsWhole.read_unread]
      exact partK_band m c t _ j1 j2)
    t ((flush0_9 t).mp hf) y).trans ?_
  idx_vars y
  obtain rfl : y0 = 0 := Subsingleton.elim _ _
  have e : ((cfg0.win 9).blk t).view.emb (ix3 0 y1 y2) = ix3 (grp t) y1 y2 := by blk_ext [idx t]
  refine Eq.trans ?_ (congrArg (arrK m c) e).symm
  rw [zero_add]
  exact sum_rows t ((flush0_9 t).mp hf) fun G i => padded y1 (dN m c G i) * hq m c G i y2

/-- The gradient of the values, by group, with rows of zeros before and after. -/
def entV (G : Fin 4) (J : Fin 4352) (x : Fin 64) : EReal := ∑ i, ∑ u, padded J (pN m c (gh G u) i) * hc m c (gh G u) i x
def arrV : S4x4352x64.Idx → EReal := fun z => entV m c (z 0) (z 1) (z 2)

/-- What one grid point adds to it. -/
def partV (t : Fin cfg0.N) (z : S1x4352x64.Idx) : EReal :=
  ∑ r, padded (z 1) (pN m c (rh t r) (ri t r)) * hc m c (rh t r) (ri t r) (z 2)

theorem partV_band (t : Fin cfg0.N) (y : Vec Ideal S1x4352x64 .f32) (J : Fin 4352) (x : Fin 64) :
    (if h : t.val % 32 * 128 ≤ J.val ∧ J.val < t.val % 32 * 128 + 384 then
        k0_pay36 (bc m c t) (k0_pay23 (eN m c t) (eR m c t)) (View.ld y
          (Rect.unit (s := S1x4352x64) (k0_off1 (grid0.coords t)) S1x384x64.size (k0_off1_inb (grid0.coords t)))) (ix3 0 ⟨J - t.val % 32 * 128, by omega⟩ x)
        else y (ix3 0 J x))
      = y (ix3 0 J x) + partV m c t (ix3 0 J x) := by
  have e : ∀ r, padded J (pN m c (rh t r) (ri t r)) = if h : t.val % 32 * 128 ≤ J.val ∧ J.val < t.val % 32 * 128 + 384
      then spread (nth t) (pN m c (rh t r) (ri t r)) 0 ⟨J - t.val % 32 * 128, by omega⟩ else 0 := fun r =>
    padded_band (nth t) _ (pN_away m c (rh t r) (nth t) ⟨r % 128, by omega⟩) J
  have e1 : partV m c t (ix3 0 J x) = ∑ r, padded J (pN m c (rh t r) (ri t r)) * hc m c (rh t r) (ri t r) x := rfl
  rw [e1]
  simp only [e]
  by_cases h : t.val % 32 * 128 ≤ J.val ∧ J.val < t.val % 32 * 128 + 384
  · simp only [dif_pos h]
    rw [Blocks.dv_at, ld_at]
    refine congrArg₂ (· + ·) (congrArg (fun K => y (ix3 0 K x)) (Fin.ext ?_)) (Finset.sum_congr rfl fun r _ => ?_)
    · show t.val % 32 * 128 + (J.val - t.val % 32 * 128) = J.val
      omega
    · rw [Blocks.prob_at, p_near, c_row]
  · simp only [dif_neg h, zero_mul, Finset.sum_const_zero, add_zero]

theorem finalV : (dats m 0 c).arrAt 10 (cfgs 0).N = arrV m c := by
  refine (dats m 0 c).arrAt_eq_of_covers 10 _ (by decide +kernel) fun t hf y => ?_
  blk_simp
  rw [after0_10]
  refine (Pipeline.eq_sum_fin_of_reset_step_apply_of_flush (fun n h => (outsAt0 m c n h).2.2.1) 32 (fun _ => (0 : EReal)) (partV m c)
    (fun t h j => by
      rw [outsAt0_A m c t h]
      frame_out
      idx_vars j
      obtain rfl : j0 = 0 := Subsingleton.elim _ _
      refine (canon_band t _ _ _ j1 j2).trans ((partV_band m c t _ j1 j2).trans ?_)
      rw [Blocks.zero_v])
    (fun t h j => by
      rw [outsAt0_B m c t (by omega)]
      frame_out
      idx_vars j
      obtain rfl : j0 = 0 := Subsingleton.elim _ _
      refine (read_band t _ _ _ j1 j2).trans ?_
      rw [Memref.IsWhole.read_unread]
      exact partV_band m c t _ j1 j2)
    t ((flush0_10 t).mp hf) y).trans ?_
  idx_vars y
  obtain rfl : y0 = 0 := Subsingleton.elim _ _
  have e : ((cfg0.win 10).blk t).view.emb (ix3 0 y1 y2) = ix3 (grp t) y1 y2 := by blk_ext [idx t]
  refine Eq.trans ?_ (congrArg (arrV m c) e).symm
  rw [zero_add]
  exact sum_rows t ((flush0_10 t).mp hf) fun G i => padded y1 (pN m c G i) * hc m c G i y2

/-- The gradient of the context's keys, by group. -/
def entKc (G : Fin 4) (j : Fin 256) (x : Fin 64) : EReal := ∑ i, ∑ u, dF m c (gh G u) i j * hq m c (gh G u) i x
def arrKc : S4x256x64.Idx → EReal := fun z => entKc m c (z 0) (z 1) (z 2)

/-- What one grid point adds to it. -/
def partKc (t : Fin cfg0.N) (z : S1x256x64.Idx) : EReal :=
  ∑ r, dF m c (rh t r) (ri t r) (z 1) * hq m c (rh t r) (ri t r) (z 2)

theorem partKc_block (t : Fin cfg0.N) (y : Vec Ideal S1x256x64 .f32) (j : Fin 256) (x : Fin 64) :
    k0_pay37 (bq m c t) (k0_pay27 (bc m c t) (bvc m c t) (eF m c t) (eR m c t) (bo m c t)) y (ix3 0 j x)
      = y (ix3 0 j x) + partKc m c t (ix3 0 j x) := by
  rw [Blocks.dkc_at]
  refine congrArg (_ + ·) (Finset.sum_congr rfl fun r _ => ?_)
  rw [ds_far, q_row]
  rfl

theorem finalKc : (dats m 0 c).arrAt 11 (cfgs 0).N = arrKc m c := by
  refine (dats m 0 c).arrAt_eq_of_covers 11 _ (by decide +kernel) fun t hf y => ?_
  blk_simp
  rw [after0_11]
  refine (Pipeline.eq_sum_fin_of_reset_step_apply_of_flush (fun n h => (outsAt0 m c n h).2.2.2.1) 32 (fun _ => (0 : EReal)) (partKc m c)
    (fun t h j => by
      rw [outsAt0_A m c t h]
      frame_out
      idx_vars j
      obtain rfl : j0 = 0 := Subsingleton.elim _ _
      refine (partKc_block m c t _ j1 j2).trans ?_
      rw [Blocks.zero_kc])
    (fun t h j => by
      rw [outsAt0_B m c t (by omega)]
      frame_out
      idx_vars j
      obtain rfl : j0 = 0 := Subsingleton.elim _ _
      exact partKc_block m c t _ j1 j2)
    t ((flush0_11 t).mp hf) y).trans ?_
  idx_vars y
  obtain rfl : y0 = 0 := Subsingleton.elim _ _
  have e : ((cfg0.win 11).blk t).view.emb (ix3 0 y1 y2) = ix3 (grp t) y1 y2 := by blk_ext [idx t]
  refine Eq.trans ?_ (congrArg (arrKc m c) e).symm
  rw [zero_add]
  exact sum_rows t ((flush0_11 t).mp hf) fun G i => dF m c G i y1 * hq m c G i y2

/-- The gradient of the context's values, by group. -/
def entVc (G : Fin 4) (j : Fin 256) (x : Fin 64) : EReal := ∑ i, ∑ u, pF m c (gh G u) i j * hc m c (gh G u) i x
def arrVc : S4x256x64.Idx → EReal := fun z => entVc m c (z 0) (z 1) (z 2)

/-- What one grid point adds to it. -/
def partVc (t : Fin cfg0.N) (z : S1x256x64.Idx) : EReal :=
  ∑ r, pF m c (rh t r) (ri t r) (z 1) * hc m c (rh t r) (ri t r) (z 2)

theorem partVc_block (t : Fin cfg0.N) (y : Vec Ideal S1x256x64 .f32) (j : Fin 256) (x : Fin 64) :
    k0_pay1 (k0_pay38 y) (k0_pay39 (bc m c t) (k0_pay24 (eF m c t) (eR m c t))) (ix3 0 j x)
      = y (ix3 0 j x) + partVc m c t (ix3 0 j x) := by
  rw [Blocks.dvc_at]
  refine congrArg (_ + ·) (Finset.sum_congr rfl fun r _ => ?_)
  rw [Blocks.cprob_at, p_far, c_row]
  rfl

theorem finalVc : (dats m 0 c).arrAt 12 (cfgs 0).N = arrVc m c := by
  refine (dats m 0 c).arrAt_eq_of_covers 12 _ (by decide +kernel) fun t hf y => ?_
  blk_simp
  rw [after0_12]
  refine (Pipeline.eq_sum_fin_of_reset_step_apply_of_flush (fun n h => (outsAt0 m c n h).2.2.2.2.1) 32 (fun _ => (0 : EReal)) (partVc m c)
    (fun t h j => by
      rw [outsAt0_A m c t h]
      frame_out
      idx_vars j
      obtain rfl : j0 = 0 := Subsingleton.elim _ _
      refine (partVc_block m c t _ j1 j2).trans ?_
      rw [Blocks.zero_vc])
    (fun t h j => by
      rw [outsAt0_B m c t (by omega)]
      frame_out
      idx_vars j
      obtain rfl : j0 = 0 := Subsingleton.elim _ _
      exact partVc_block m c t _ j1 j2)
    t ((flush0_12 t).mp hf) y).trans ?_
  idx_vars y
  obtain rfl : y0 = 0 := Subsingleton.elim _ _
  have e : ((cfg0.win 12).blk t).view.emb (ix3 0 y1 y2) = ix3 (grp t) y1 y2 := by blk_ext [idx t]
  refine Eq.trans ?_ (congrArg (arrVc m c) e).symm
  rw [zero_add]
  exact sum_rows t ((flush0_12 t).mp hf) fun G i => pF m c G i y1 * hc m c G i y2

/-- The gradient of the sinks, by head, repeated over the lanes. -/
def entS (G : Fin 8) : EReal := ∑ n : Fin 32, (0 - ∑ w : Fin 128, pS m c G (rowOf n w) * iN m c G (rowOf n w))
def arrS : S8x1x128.Idx → EReal := fun z => entS m c (z 0)

/-- What one grid point adds to it. -/
def partS (t : Fin cfg0.N) (z : S2x1x128.Idx) : EReal :=
  0 - ∑ w : Fin 128, pS m c (rowHead t (z 0)) (rowOf (nth t) w) * iN m c (rowHead t (z 0)) (rowOf (nth t) w)

theorem partS_block (t : Fin cfg0.N) (y : Vec Ideal S2x1x128 .f32) (u : Fin 2) (z : Fin 128) :
    k0_pay2 (k0_pay29 (bc m c t) (eS m c t) (eR m c t) (bo m c t)) y (ix3 u 0 z) = y (ix3 u 0 z) + partS m c t (ix3 u 0 z) := by
  rw [Blocks.ds_at, Blocks.dsink_at]
  refine congrArg (_ + ·) (congrArg (0 - ·) (Finset.sum_congr rfl fun w _ => ?_))
  rw [p_sink, mean, rh_row, ri_row]
  rfl

theorem finalS : (dats m 0 c).arrAt 13 (cfgs 0).N = arrS m c := by
  refine (dats m 0 c).arrAt_eq_of_covers 13 _ (by decide +kernel) fun t hf y => ?_
  blk_simp
  rw [after0_13]
  refine (Pipeline.eq_sum_fin_of_reset_step_apply_of_flush (fun n h => (outsAt0 m c n h).2.2.2.2.2) 32 (fun _ => (0 : EReal)) (partS m c)
    (fun t h j => by
      rw [outsAt0_A m c t h]
      frame_out
      idx_vars j
      obtain rfl : j1 = 0 := Subsingleton.elim _ _
      refine (partS_block m c t _ j0 j2).trans ?_
      rw [Blocks.zero_s])
    (fun t h j => by
      rw [outsAt0_B m c t (by omega)]
      frame_out
      idx_vars j
      obtain rfl : j1 = 0 := Subsingleton.elim _ _
      exact partS_block m c t _ j0 j2)
    t ((flush0_13 t).mp hf) y).trans ?_
  idx_vars y
  obtain rfl : y1 = 0 := Subsingleton.elim _ _
  have e : ((cfg0.win 13).blk t).view.emb (ix3 y0 0 y2) = ix3 (rowHead t y0) 0 y2 := by blk_ext [idx t]
  refine Eq.trans ?_ (congrArg (arrS m c) e).symm
  rw [zero_add]
  show _ = ∑ n : Fin 32, (0 - ∑ w : Fin 128, pS m c (rowHead t y0) (rowOf n w) * iN m c (rowHead t y0) (rowOf n w))
  refine Finset.sum_congr rfl fun s _ => ?_
  have e1 : ∀ h, rowHead ⟨32 * (t.val / 32) + s.val, h⟩ y0 = rowHead t y0 := fun h =>
    Fin.ext (show (32 * (t.val / 32) + s.val) / 32 * 2 + y0.val = t.val / 32 * 2 + y0.val by omega)
  have e2 : ∀ h, nth ⟨32 * (t.val / 32) + s.val, h⟩ = s := fun h => Fin.ext (show (32 * (t.val / 32) + s.val) % 32 = s.val by omega)
  refine Eq.trans (b := 0 - ∑ w : Fin 128, pS m c (rowHead ⟨32 * (t.val / 32) + s.val, Pipeline.run_point_lt_of_flush t ((flush0_13 t).mp hf) s⟩ y0)
    (rowOf (nth ⟨32 * (t.val / 32) + s.val, Pipeline.run_point_lt_of_flush t ((flush0_13 t).mp hf) s⟩) w)
    * iN m c (rowHead ⟨32 * (t.val / 32) + s.val, Pipeline.run_point_lt_of_flush t ((flush0_13 t).mp hf) s⟩ y0)
    (rowOf (nth ⟨32 * (t.val / 32) + s.val, Pipeline.run_point_lt_of_flush t ((flush0_13 t).mp hf) s⟩) w)) rfl ?_
  rw [e1, e2]

section Sink

variable {L : ℕ} {q c : Fin 64 → EReal} {k v : Fin L → Fin 64 → EReal} {kc vc : Fin 256 → Fin 64 → EReal} {s : EReal}
  (ok : Fin L → BitVec 1)
  (hq : ∀ x, ∃ r : ℝ, q x = r) (hc : ∀ x, ∃ r : ℝ, c x = r) (hk : ∀ j x, ∃ r : ℝ, k j x = r) (hv : ∀ j x, ∃ r : ℝ, v j x = r)
  (hkc : ∀ j x, ∃ r : ℝ, kc j x = r) (hvc : ∀ j x, ∃ r : ℝ, vc j x = r) (hs : ∃ r : ℝ, s = r)

include hq hk hkc hs in
theorem sink_prob_real : ∃ r : ℝ, prob (near q k ok) (far q kc) s s = r := by
  obtain ⟨e, he, h, hm⟩ := row_real ok hq hk hkc hs
  have hl : expo (near q k ok) (far q kc) s s = e ⟨L + 256, by omega⟩ := by rw [← h, joined_last]
  refine ⟨e ⟨L + 256, by omega⟩ * (1 / ∑ j, e j), ?_⟩
  rw [prob, hl, hm, Ideal.div_coe he.ne', one_mul, ← EReal.coe_mul]

include hq hc hk hv hkc hvc hs in
theorem inner_real : ∃ r : ℝ, inner q c k v kc vc s ok = r := by
  obtain ⟨e, he, h, hm⟩ := row_real ok hq hk hkc hs
  choose c' hc using hc
  choose v' hv using hv
  choose w' hvc using hvc
  have hn : ∀ j : Fin L, expo (near q k ok) (far q kc) s (near q k ok j) = e ⟨j, by omega⟩ := fun j => by
    rw [← h, joined_near]
  have hf : ∀ j : Fin 256, expo (near q k ok) (far q kc) s (far q kc j) = e ⟨L + j, by omega⟩ := fun j => by
    rw [← h, joined_far]
  simp only [inner, out, hm, hn, hf, Ideal.div_coe he.ne', hc, hv, hvc, ← EReal.coe_mul, coe_sum, ← EReal.coe_add]
  exact ⟨_, rfl⟩

end Sink

section Reference

open Cert.Window.Host (rowNear rowFar groups groups_at probs probs_at)

/-- What a head's query has, by the head's batch, its group and its place in the group. -/
theorem by_head (G : Fin 8) (b g u : Fin 2) (hb : G.val / 4 = b.val) (hu : G.val % 4 = g.val * 2 + u.val) (i : Fin 4096) :
    dN m c G i = dnear (head (argQ m c) b (hd g u) i) (head (argC m c) b (hd g u) i) (head (argK m c) b g) (head (argV m c) b g)
        (head (argKc m c) b g) (head (argVc m c) b g) (argS m c (ix1 (hd g u))) (within i)
      ∧ dF m c G i = dfar (L := 4096) (head (argQ m c) b (hd g u) i) (head (argC m c) b (hd g u) i) (head (argK m c) b g) (head (argV m c) b g)
        (head (argKc m c) b g) (head (argVc m c) b g) (argS m c (ix1 (hd g u))) (within i)
      ∧ pN m c G i = (fun j => prob (rowNear (argQ m c) (argK m c) b g u i) (rowFar (argQ m c) (argKc m c) b g u i) (argS m c (ix1 (hd g u)))
        (rowNear (argQ m c) (argK m c) b g u i j))
      ∧ pF m c G i = (fun j => prob (rowNear (argQ m c) (argK m c) b g u i) (rowFar (argQ m c) (argKc m c) b g u i) (argS m c (ix1 (hd g u)))
        (rowFar (argQ m c) (argKc m c) b g u i j))
      ∧ pS m c G i = prob (rowNear (argQ m c) (argK m c) b g u i) (rowFar (argQ m c) (argKc m c) b g u i) (argS m c (ix1 (hd g u)))
        (argS m c (ix1 (hd g u)))
      ∧ iN m c G i = inner (head (argQ m c) b (hd g u) i) (head (argC m c) b (hd g u) i) (head (argK m c) b g) (head (argV m c) b g)
        (head (argKc m c) b g) (head (argVc m c) b g) (argS m c (ix1 (hd g u))) (within i)
      ∧ hq m c G i = head (argQ m c) b (hd g u) i ∧ hc m c G i = head (argC m c) b (hd g u) i := by
  have h1 : G.val / 4 < 2 := by clear hb hu; omega
  have h2 : G.val % 4 / 2 < 2 := by clear hb hu; omega
  obtain rfl : b = ⟨G / 4, h1⟩ := Fin.ext hb.symm
  obtain rfl : g = ⟨G % 4 / 2, h2⟩ := Fin.ext (show g.val = G.val % 4 / 2 by omega)
  have e : hd ⟨G % 4 / 2, by omega⟩ u = ⟨G % 4, by omega⟩ := Fin.ext hu.symm
  simp only [rowNear, rowFar, e]
  exact ⟨rfl, rfl, rfl, rfl, rfl, rfl, trivial, trivial⟩

theorem of_group (G : Fin 4) (u : Fin 2) : (gh G u).val / 4 = G.val / 2 ∧ (gh G u).val % 4 = G.val % 2 * 2 + u.val := by
  constructor
  · show (G.val * 2 + u.val) / 4 = G.val / 2
    omega
  · show (G.val * 2 + u.val) % 4 = G.val % 2 * 2 + u.val
    omega

/-- The gradient of the scores, as the reference has it. -/
abbrev grads := Gradient.dscores (argQ m c) (argK m c) (argV m c) (argKc m c) (argVc m c) (argS m c) (argC m c)

variable (hQ : ∀ i, ∃ r : ℝ, argQ m c i = r) (hK : ∀ i, ∃ r : ℝ, argK m c i = r) (hV : ∀ i, ∃ r : ℝ, argV m c i = r)
  (hKc : ∀ i, ∃ r : ℝ, argKc m c i = r) (hVc : ∀ i, ∃ r : ℝ, argVc m c i = r) (hS : ∀ i, ∃ r : ℝ, argS m c i = r)
  (hC : ∀ i, ∃ r : ℝ, argC m c i = r)

include hQ hK hV hKc hVc hS hC

theorem arrQ_eq : arrQ m c = Gradient.resQ (argK m c) (argKc m c) (Gradient.nearScores (grads m c)) (Gradient.farScores (grads m c)) := by
  funext z
  idx_vars z
  refine Eq.trans ?_ (Gradient.resQ_at _ _ _ _ z0 z1 z2).symm
  obtain ⟨e1, e2, _⟩ := by_head m c z0 ⟨z0 / 4, by omega⟩ ⟨z0 % 4 / 2, by omega⟩ ⟨z0 % 4 % 2, by omega⟩ rfl (by simp only; omega) z1
  refine Eq.trans (b := (∑ j, dN m c z0 z1 j * hk m c z0 j z2) + ∑ j, dF m c z0 z1 j * hkc m c z0 j z2) rfl ?_
  rw [add_comm]
  refine congrArg₂ (· + ·) (Finset.sum_congr rfl fun j _ => ?_) (Finset.sum_congr rfl fun j _ => ?_)
  · exact congrArg₂ (· * ·) ((congrFun e2 j).trans (Gradient.far_eq _ _ _ _ _ _ _ hQ hK hV hKc hVc hS hC _ _ _ _ j).symm) rfl
  · exact congrArg₂ (· * ·) ((congrFun e1 j).trans (Gradient.near_eq _ _ _ _ _ _ _ hQ hK hV hKc hVc hS hC _ _ _ _ j).symm) rfl

theorem arrK_eq : arrK m c = Gradient.resK (Gradient.nearScores (grads m c)) (groups (argQ m c)) := by
  funext z
  idx_vars z
  refine Eq.trans ?_ (Gradient.resK_at _ _ z0 z1 z2).symm
  refine Eq.trans (b := ∑ i, ∑ u, padded z1 (dN m c (gh z0 u) i) * hq m c (gh z0 u) i z2) rfl ?_
  by_cases h : 128 ≤ z1.val ∧ z1.val - 128 < 4096
  · rw [dif_pos h]
    refine Finset.sum_congr rfl fun i _ => Finset.sum_congr rfl fun u _ => ?_
    obtain ⟨e1, _, _, _, _, _, e7, _⟩ := by_head m c (gh z0 u) ⟨z0 / 2, by omega⟩ ⟨z0 % 2, by omega⟩ u (of_group z0 u).1 (of_group z0 u).2 i
    refine congrArg₂ (· * ·) ?_ ((congrFun e7 z2).trans (groups_at _ _ _ _ _ _).symm)
    refine (dif_pos h).trans ((congrFun e1 _).trans (Gradient.near_eq _ _ _ _ _ _ _ hQ hK hV hKc hVc hS hC _ _ _ _ _).symm)
  · rw [dif_neg h]
    exact Finset.sum_eq_zero fun i _ => Finset.sum_eq_zero fun u _ => by rw [padded, dif_neg h, zero_mul]

theorem arrKc_eq : arrKc m c = Gradient.resKc (Gradient.farScores (grads m c)) (groups (argQ m c)) := by
  funext z
  idx_vars z
  refine Eq.trans ?_ (Gradient.resKc_at _ _ z0 z1 z2).symm
  refine Eq.trans (b := ∑ i, ∑ u, dF m c (gh z0 u) i z1 * hq m c (gh z0 u) i z2) rfl ?_
  refine Finset.sum_congr rfl fun i _ => Finset.sum_congr rfl fun u _ => ?_
  obtain ⟨_, e2, _, _, _, _, e7, _⟩ := by_head m c (gh z0 u) ⟨z0 / 2, by omega⟩ ⟨z0 % 2, by omega⟩ u (of_group z0 u).1 (of_group z0 u).2 i
  exact congrArg₂ (· * ·) ((congrFun e2 _).trans (Gradient.far_eq _ _ _ _ _ _ _ hQ hK hV hKc hVc hS hC _ _ _ _ _).symm)
    ((congrFun e7 z2).trans (groups_at _ _ _ _ _ _).symm)

omit hV hVc hC in
theorem probs_near (b g u : Fin 2) (i j : Fin 4096) : probs (argQ m c) (argK m c) (argKc m c) (argS m c) (ix5 b g u i ⟨j, by omega⟩)
    = prob (rowNear (argQ m c) (argK m c) b g u i) (rowFar (argQ m c) (argKc m c) b g u i) (argS m c (ix1 (hd g u)))
        (rowNear (argQ m c) (argK m c) b g u i j) := by
  rw [probs_at, joined_near (L := 4096)]
  exact prob_near _ (fun _ => hQ _) (fun _ _ => hK _) (fun _ _ => hKc _) (hS _) j

omit hV hVc hC in
theorem probs_far (b g u : Fin 2) (i : Fin 4096) (j : Fin 256) :
    probs (argQ m c) (argK m c) (argKc m c) (argS m c) (ix5 b g u i ⟨4096 + j, by omega⟩)
      = prob (rowNear (argQ m c) (argK m c) b g u i) (rowFar (argQ m c) (argKc m c) b g u i) (argS m c (ix1 (hd g u)))
        (rowFar (argQ m c) (argKc m c) b g u i j) := by
  rw [probs_at, joined_far (L := 4096)]
  exact prob_far _ (fun _ => hQ _) (fun _ _ => hK _) (fun _ _ => hKc _) (hS _) j

omit hV hVc hC in
theorem arrV_eq : arrV m c = Gradient.resV (probs (argQ m c) (argK m c) (argKc m c) (argS m c)) (Gradient.turned (argC m c)) := by
  funext z
  idx_vars z
  refine Eq.trans ?_ (Gradient.resV_at _ _ z0 z1 z2).symm
  refine Eq.trans (b := ∑ i, ∑ u, padded z1 (pN m c (gh z0 u) i) * hc m c (gh z0 u) i z2) rfl ?_
  by_cases h : 128 ≤ z1.val ∧ z1.val - 128 < 4096
  · rw [dif_pos h, Finset.sum_comm]
    refine Finset.sum_congr rfl fun u _ => Finset.sum_congr rfl fun i _ => ?_
    obtain ⟨_, _, e3, _, _, _, _, e8⟩ := by_head m c (gh z0 u) ⟨z0 / 2, by omega⟩ ⟨z0 % 2, by omega⟩ u (of_group z0 u).1 (of_group z0 u).2 i
    rw [mul_comm]
    refine congrArg₂ (· * ·) ((congrFun e8 z2).trans (Gradient.turned_at _ _ _ _ _ _).symm) ?_
    refine (dif_pos h).trans ((congrFun e3 _).trans (probs_near m c hQ hK hKc hS _ _ _ _ _).symm)
  · rw [dif_neg h]
    exact Finset.sum_eq_zero fun i _ => Finset.sum_eq_zero fun u _ => by rw [padded, dif_neg h, zero_mul]

omit hV hVc hC in
theorem arrVc_eq : arrVc m c = Gradient.resVc (probs (argQ m c) (argK m c) (argKc m c) (argS m c)) (Gradient.turned (argC m c)) := by
  funext z
  idx_vars z
  refine Eq.trans ?_ (Gradient.resVc_at _ _ z0 z1 z2).symm
  refine Eq.trans (b := ∑ i, ∑ u, pF m c (gh z0 u) i z1 * hc m c (gh z0 u) i z2) rfl ?_
  rw [Finset.sum_comm]
  refine Finset.sum_congr rfl fun u _ => Finset.sum_congr rfl fun i _ => ?_
  obtain ⟨_, _, _, e4, _, _, _, e8⟩ := by_head m c (gh z0 u) ⟨z0 / 2, by omega⟩ ⟨z0 % 2, by omega⟩ u (of_group z0 u).1 (of_group z0 u).2 i
  rw [mul_comm]
  exact congrArg₂ (· * ·) ((congrFun e8 z2).trans (Gradient.turned_at _ _ _ _ _ _).symm)
    ((congrFun e4 _).trans (probs_far m c hQ hK hKc hS _ _ _ _ _).symm)

theorem arrS_eq : arrS m c = Gradient.resS (grads m c) := by
  funext z
  idx_vars z
  obtain rfl : z1 = 0 := Subsingleton.elim _ _
  refine Eq.trans ?_ (Gradient.resS_at _ z0 z2).symm
  have hE : ∀ i, grads m c (ix5 ⟨z0 / 4, by omega⟩ ⟨z0 % 4 / 2, by omega⟩ ⟨z0 % 4 % 2, by omega⟩ i 4352) = pS m c z0 i * (0 - iN m c z0 i) := fun i => by
    obtain ⟨_, _, _, _, e5, e6, _⟩ := by_head m c z0 ⟨z0 / 4, by omega⟩ ⟨z0 % 4 / 2, by omega⟩ ⟨z0 % 4 % 2, by omega⟩ rfl (by simp only; omega) i
    rw [e5, e6]
    exact Gradient.sink_eq _ _ _ _ _ _ _ hQ hK hV hKc hVc hS hC _ _ _ i
  have hP : ∀ i, ∃ r : ℝ, pS m c z0 i = r := fun i => sink_prob_real _ (fun _ => hQ _) (fun _ _ => hK _) (fun _ _ => hKc _) (hS _)
  have hI : ∀ i, ∃ r : ℝ, iN m c z0 i = r := fun i => inner_real _ (fun _ => hQ _) (fun _ => hC _) (fun _ _ => hK _) (fun _ _ => hV _)
    (fun _ _ => hKc _) (fun _ _ => hVc _) (hS _)
  choose P hP using hP
  choose I hI using hI
  have h0 : (0 : EReal) = ((0 : ℝ) : EReal) := rfl
  refine Eq.trans (b := ∑ n : Fin 32, (0 - ∑ w : Fin 128, pS m c z0 (rowOf n w) * iN m c z0 (rowOf n w))) rfl ?_
  simp only [hE, hP, hI, h0, ← EReal.coe_mul, coe_sum, ← EReal.coe_sub]
  refine congrArg _ ?_
  refine Eq.trans (Finset.sum_congr rfl fun n _ => ?_) (Fin.sum_mul_add_congr (n := 128) (S := 32)
    (F := fun n w => P (rowOf n w) * (0 - I (rowOf n w))) fun s w hl => rfl)
  rw [zero_sub, ← Finset.sum_neg_distrib]
  exact Finset.sum_congr rfl fun w _ => by ring

end Reference

end Kernel

theorem frame_p : Cert.quiescent_Kernel31 := fun m ρ _ => Cert.Kernel31.Gen.frame m ρ
theorem frame_pi : Cert.quiescent_Kernel31Ideal := fun m ρ _ => Cert.Kernel31Ideal.Gen.frame m ρ
theorem frame_pi_finite : Cert.quiescent_Kernel31Ideal_pre_finite_window_all := fun m ρ _ => Cert.Kernel31Ideal.Gen.frame m ρ
theorem frame_ri : Cert.quiescent_Reference31Ideal := fun m ρ _ =>
  (θ_run Cert.Reference31Ideal.defs _ _).mono (fun r h => ⟨fun c => (h c).2.2.2.2.2.2, sem_eq_zero_of_no_sems (by decide) r.2⟩)
    (Cert.Reference31Ideal.Value.run (F := Ideal) m ρ)
theorem frame_ri_finite : Cert.quiescent_Reference31Ideal_pre_finite_window_all := fun m ρ _ => frame_ri m ρ trivial

/-- The kernel and the reference end with the same gradients. -/
theorem algebraic : Cert.algebraic_Kernel31Ideal_Reference31Ideal_pre_finite_window_all := by
  intro m ρ m' ρ' hpre hagree
  refine ⟨fun c => arrQ m c, fun c => arrK m c, fun c => arrV m c, fun c => arrKc m c, fun c => arrVc m c, fun c => arrS m c, ?_, ?_⟩
  · refine (θ_run Cert.Kernel31Ideal.defs _ _).mono (fun r h c => ?_) (Cert.Kernel31Ideal.Value.run_blocks (F := Ideal) m ρ)
    obtain ⟨h0, h1, h2, h3, h4, h5, hrest⟩ := h c
    exact ⟨h0.trans (finalQ m c), h1.trans (finalK m c), h2.trans (finalV m c), h3.trans (finalKc m c), h4.trans (finalVc m c),
      h5.trans (finalS m c), hrest⟩
  · refine (θ_run Cert.Reference31Ideal.defs _ _).mono (fun r h c => ?_) (Cert.Reference31Ideal.Value.run (F := Ideal) m' ρ')
    obtain ⟨h0, h1, h2, h3, h4, h5, hrest⟩ := h c
    obtain ⟨hQ, hK, hV, hKc, hVc, hS, hC⟩ := real_window _ _ _ _ _ _ _ (hpre c)
    obtain ⟨e0, e1, e2, e3, e4, e5, e6⟩ := hagree c
    refine ⟨h0.trans (Eq.trans ?_ (arrQ_eq m c hQ hK hV hKc hVc hS hC).symm), h1.trans (Eq.trans ?_ (arrK_eq m c hQ hK hV hKc hVc hS hC).symm),
      h2.trans (Eq.trans ?_ (arrV_eq m c hQ hK hKc hS).symm), h3.trans (Eq.trans ?_ (arrKc_eq m c hQ hK hV hKc hVc hS hC).symm),
      h4.trans (Eq.trans ?_ (arrVc_eq m c hQ hK hKc hS).symm), h5.trans (Eq.trans ?_ (arrS_eq m c hQ hK hV hKc hVc hS hC).symm), hrest⟩
    · refine Eq.trans (b := Gradient.resQ (m' ((c.tc : Thread Cert.Reference31Ideal.nD Cert.Reference31Ideal.τ).loc Cert.Reference31Ideal.main_arg1)) (m' ((c.tc : Thread Cert.Reference31Ideal.nD Cert.Reference31Ideal.τ).loc Cert.Reference31Ideal.main_arg3))
      (Gradient.nearScores (Gradient.dscores (m' ((c.tc : Thread Cert.Reference31Ideal.nD Cert.Reference31Ideal.τ).loc Cert.Reference31Ideal.main_arg0))
        (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg2))
        (m' ((c.tc : Thread Cert.Reference31Ideal.nD Cert.Reference31Ideal.τ).loc Cert.Reference31Ideal.main_arg3))
        (m' ((c.tc : Thread Cert.Reference31Ideal.nD Cert.Reference31Ideal.τ).loc Cert.Reference31Ideal.main_arg4))
        (m' ((c.tc : Thread Cert.Reference31Ideal.nD Cert.Reference31Ideal.τ).loc Cert.Reference31Ideal.main_arg5))
        (m' ((c.tc : Thread Cert.Reference31Ideal.nD Cert.Reference31Ideal.τ).loc Cert.Reference31Ideal.main_arg6))))
      (Gradient.farScores (Gradient.dscores (m' ((c.tc : Thread Cert.Reference31Ideal.nD Cert.Reference31Ideal.τ).loc Cert.Reference31Ideal.main_arg0))
        (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg2))
        (m' ((c.tc : Thread Cert.Reference31Ideal.nD Cert.Reference31Ideal.τ).loc Cert.Reference31Ideal.main_arg3))
        (m' ((c.tc : Thread Cert.Reference31Ideal.nD Cert.Reference31Ideal.τ).loc Cert.Reference31Ideal.main_arg4))
        (m' ((c.tc : Thread Cert.Reference31Ideal.nD Cert.Reference31Ideal.τ).loc Cert.Reference31Ideal.main_arg5))
        (m' ((c.tc : Thread Cert.Reference31Ideal.nD Cert.Reference31Ideal.τ).loc Cert.Reference31Ideal.main_arg6))))) rfl ?_
      rw [e0, e1, e2, e3, e4, e5, e6]
    · refine Eq.trans (b := Gradient.resK (Gradient.nearScores (Gradient.dscores (m' ((c.tc : Thread Cert.Reference31Ideal.nD Cert.Reference31Ideal.τ).loc Cert.Reference31Ideal.main_arg0))
        (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg2))
        (m' ((c.tc : Thread Cert.Reference31Ideal.nD Cert.Reference31Ideal.τ).loc Cert.Reference31Ideal.main_arg3))
        (m' ((c.tc : Thread Cert.Reference31Ideal.nD Cert.Reference31Ideal.τ).loc Cert.Reference31Ideal.main_arg4))
        (m' ((c.tc : Thread Cert.Reference31Ideal.nD Cert.Reference31Ideal.τ).loc Cert.Reference31Ideal.main_arg5))
        (m' ((c.tc : Thread Cert.Reference31Ideal.nD Cert.Reference31Ideal.τ).loc Cert.Reference31Ideal.main_arg6))))
      (Host.groups (m' ((c.tc : Thread Cert.Reference31Ideal.nD Cert.Reference31Ideal.τ).loc Cert.Reference31Ideal.main_arg0)))) rfl ?_
      rw [e0, e1, e2, e3, e4, e5, e6]
    · refine Eq.trans (b := Gradient.resV (Host.probs (m' ((c.tc : Thread Cert.Reference31Ideal.nD Cert.Reference31Ideal.τ).loc Cert.Reference31Ideal.main_arg0)) (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg3)) (m' ((c.tc : Thread Cert.Reference31Ideal.nD Cert.Reference31Ideal.τ).loc Cert.Reference31Ideal.main_arg5)))
      (Gradient.turned (m' ((c.tc : Thread Cert.Reference31Ideal.nD Cert.Reference31Ideal.τ).loc Cert.Reference31Ideal.main_arg6)))) rfl ?_
      rw [e0, e1, e3, e5, e6]
    · refine Eq.trans (b := Gradient.resKc (Gradient.farScores (Gradient.dscores (m' ((c.tc : Thread Cert.Reference31Ideal.nD Cert.Reference31Ideal.τ).loc Cert.Reference31Ideal.main_arg0))
        (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg2))
        (m' ((c.tc : Thread Cert.Reference31Ideal.nD Cert.Reference31Ideal.τ).loc Cert.Reference31Ideal.main_arg3))
        (m' ((c.tc : Thread Cert.Reference31Ideal.nD Cert.Reference31Ideal.τ).loc Cert.Reference31Ideal.main_arg4))
        (m' ((c.tc : Thread Cert.Reference31Ideal.nD Cert.Reference31Ideal.τ).loc Cert.Reference31Ideal.main_arg5))
        (m' ((c.tc : Thread Cert.Reference31Ideal.nD Cert.Reference31Ideal.τ).loc Cert.Reference31Ideal.main_arg6))))
      (Host.groups (m' ((c.tc : Thread Cert.Reference31Ideal.nD Cert.Reference31Ideal.τ).loc Cert.Reference31Ideal.main_arg0)))) rfl ?_
      rw [e0, e1, e2, e3, e4, e5, e6]
    · refine Eq.trans (b := Gradient.resVc (Host.probs (m' ((c.tc : Thread Cert.Reference31Ideal.nD Cert.Reference31Ideal.τ).loc Cert.Reference31Ideal.main_arg0)) (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg3)) (m' ((c.tc : Thread Cert.Reference31Ideal.nD Cert.Reference31Ideal.τ).loc Cert.Reference31Ideal.main_arg5)))
      (Gradient.turned (m' ((c.tc : Thread Cert.Reference31Ideal.nD Cert.Reference31Ideal.τ).loc Cert.Reference31Ideal.main_arg6)))) rfl ?_
      rw [e0, e1, e3, e5, e6]
    · refine Eq.trans (b := Gradient.resS (Gradient.dscores (m' ((c.tc : Thread Cert.Reference31Ideal.nD Cert.Reference31Ideal.τ).loc Cert.Reference31Ideal.main_arg0))
        (m' ((c.tc : Thread Cert.Reference31Ideal.nD Cert.Reference31Ideal.τ).loc Cert.Reference31Ideal.main_arg1))
        (m' ((c.tc : Thread Cert.Reference31Ideal.nD Cert.Reference31Ideal.τ).loc Cert.Reference31Ideal.main_arg2))
        (m' ((c.tc : Thread Cert.Reference31Ideal.nD Cert.Reference31Ideal.τ).loc Cert.Reference31Ideal.main_arg3))
        (m' ((c.tc : Thread Cert.Reference31Ideal.nD Cert.Reference31Ideal.τ).loc Cert.Reference31Ideal.main_arg4))
        (m' ((c.tc : Thread Cert.Reference31Ideal.nD Cert.Reference31Ideal.τ).loc Cert.Reference31Ideal.main_arg5))
        (m' ((c.tc : Thread Cert.Reference31Ideal.nD Cert.Reference31Ideal.τ).loc Cert.Reference31Ideal.main_arg6)))) rfl ?_
      rw [e0, e1, e2, e3, e4, e5, e6]

end Cert.Window.Backward
-- ==== Proof.ReluRows.lean ====
/- The squared-ReLU product, backward: the gradient of the array that the activation is taken of. -/
module

public import proofs.«01_k».proof.Proof.Products
public import proofs.«01_k».proof.Proof.Gen.Kernel2.Frame
public import proofs.«01_k».proof.Proof.Gen.Kernel2Ideal.Value
public import proofs.«01_k».proof.Proof.Gen.Reference2Ideal.Run
public import proofs.«01_k».proof.Defs

@[expose] public section

set_option maxRecDepth 16384

noncomputable section

namespace Cert.ReluRows

open Idealize.ShloMosaic Idealize.ShloMosaic.TcCoe Idealize.SL.Sem
open Cert.Products

section Host

open Cert.Reference2Ideal Cert.Reference2Ideal.Gen

variable (a : FVec Ideal S8704x4096 .f32) (b : FVec Ideal S4096x1024 .f32) (g : FVec Ideal S8704x1024 .f32)

/-- The result that the reference computes. -/
def host : FVec Ideal S8704x4096 .f32 :=
  select (cmpf .ogt a (broadcastInDim S8704x4096 ![] bcast_S_S8704x4096 (constant S_ .f32 0x00000000#32))) (mulf (Host.dotGeneral dot_S8704x1024_S4096x1024_S8704x4096_1_1_0_0_n_n none g b) (mulf (broadcastInDim S8704x4096 ![] bcast_S_S8704x4096 (constant S_ .f32 0x40000000#32)) (maximumf a (broadcastInDim S8704x4096 ![] bcast_S_S8704x4096 (constant S_ .f32 0x00000000#32))))) (broadcastInDim S8704x4096 ![] bcast_S_S8704x4096 (constant S_ .f32 0x00000000#32))

theorem host_at (i : Fin 8704) (j : Fin 4096) :
    host a b g (ix2 i j) = (∑ k : Fin 1024, g (ix2 i k) * b (ix2 j k)) * reluSlope (a (ix2 i j)) := by
  rw [← mul_reluSlope]
  unfold host reluSlope
  pointwise

end Host

section Kernel

open Cert.Kernel2Ideal Cert.Kernel2Ideal.Gen

section Block

variable (x : Vec Ideal S1088x1024 .f32) (w : Vec Ideal S1024x1024 .bf16) (e : Vec Ideal S1088x1024 .f32) (i : Fin 1088) (j : Fin 1024)

/-- What a grid point writes. -/
theorem block_at : k0_pay1 x w e (ix2 i j) = (∑ k : Fin 1024, x (ix2 i k) * w (ix2 k j)) * reluSlope (e (ix2 i j)) := by
  unfold reluSlope
  pointwise [k0_pay1]

end Block

/-- Which block of each array a grid point reads and writes. -/
theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x4096 .f32 := m ((c.tc : Thread nD τ).loc main_arg0)
abbrev argB : FVec Ideal S4096x1024 .f32 := m ((c.tc : Thread nD τ).loc main_arg1)
abbrev argG : FVec Ideal S8704x1024 .f32 := m ((c.tc : Thread nD τ).loc main_arg2)

/-- The result that the kernel computes. -/
def arr : FVec Ideal S8704x4096 .f32 := fun z =>
  (∑ k : Fin 1024, argG m c (ix2 (z 0) k) * argB m c (ix2 (z 1) k)) * reluSlope (argA m c z)

theorem left_eq : V m c main_arg2 = argG m c := by
  entry_read
  rfl

theorem right_at (k : Fin 1024) (j : Fin 4096) : (V m c main_v1 : S1024x4096.Idx → EReal) (ix2 k j) = argB m c (ix2 j k) := by
  entry_read
  pointwise

theorem acts_eq : V m c main_arg0 = argA m c := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1088) : Fin 8704 := ⟨t.val / 4 * 1088 + i, by have := point_lt t; omega⟩
@[inherit_doc row] abbrev col (t : Fin cfg0.N) (j : Fin 1024) : Fin 4096 := ⟨t.val % 4 * 1024 + j, by omega⟩
@[inherit_doc row] abbrev pos (_ : Fin cfg0.N) (k : Fin 1024) : Fin 1024 := ⟨k, by omega⟩

theorem read_left (t : Fin cfg0.N) (i : Fin 1088) (k : Fin 1024) :
    (iblk m c 0 t : Vec Ideal S1088x1024 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

theorem read_acts (t : Fin cfg0.N) (i : Fin 1088) (j : Fin 1024) :
    (iblk m c 2 t : Vec Ideal S1088x1024 .f32) (ix2 i j) = argA m c (ix2 (row t i) (col t j)) := by
  refine Eq.trans (congrArg (V m c main_arg0) (?_ : ((cfg0.win 2).blk t).view.emb (ix2 i j) = ix2 (row t i) (col t j))) (congrFun (acts_eq m c) _)
  blk_ext [idx t]

/-- The kernel's result array after its run. -/
theorem final : (dats m 0 c).arrAt 3 (cfgs 0).N = arr m c := by
  refine (dats m 0 c).arrAt_eq_of_covers 3 _ (by decide +kernel) fun t hf y => ?_
  blk_simp
  rw [after0_3]
  frame_out
  idx_vars y
  have e : ((cfg0.win 3).blk t).view.emb (ix2 y0 y1) = ix2 (row t y0) (col t y1) := by blk_ext [idx t]
  refine Eq.trans ?_ (congrArg (arr m c) e).symm
  rw [block_at, read_acts]
  show (_ : EReal) = _
  exact congrArg (· * _) (Finset.sum_congr rfl fun k _ => by rw [read_left, read_right]; rfl)

theorem arr_eq : arr m c = host (argA m c) (argB m c) (argG m c) := by
  funext z
  idx_vars z
  exact (host_at _ _ _ z0 z1).symm

end Kernel

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the reference end with the same array. -/
theorem algebraic : Cert.algebraic_Kernel2Ideal_Reference2Ideal := by
  intro m ρ m' ρ' _ hagree
  refine ⟨fun c => arr m c, ?_, ?_⟩
  · refine (θ_run Cert.Kernel2Ideal.defs _ _).mono (fun r h c => ?_) (Cert.Kernel2Ideal.Value.run_blocks (F := Ideal) m ρ)
    exact ⟨(h c).1.trans (final m c), (h c).2⟩
  · refine (θ_run Cert.Reference2Ideal.defs _ _).mono (fun r h c => ?_) (Cert.Reference2Ideal.Value.run (F := Ideal) m' ρ')
    obtain ⟨e0, e1, e2⟩ := hagree c
    refine ⟨(h c).1.trans (Eq.trans ?_ (arr_eq m c).symm), (h c).2⟩
    rw [e0, e1, e2]
    rfl

end Cert.ReluRows
-- ==== Proof.ReluWeight.lean ====
/- The squared-ReLU product, backward: the gradient of its weight. -/
module

public import proofs.«01_k».proof.Proof.Products
public import proofs.«01_k».proof.Proof.Gen.Kernel3.Frame
public import proofs.«01_k».proof.Proof.Gen.Kernel3Ideal.Value
public import proofs.«01_k».proof.Proof.Gen.Reference3Ideal.Run
public import proofs.«01_k».proof.Defs

@[expose] public section

set_option maxRecDepth 16384

noncomputable section

namespace Cert.ReluWeight

open Idealize.ShloMosaic Idealize.ShloMosaic.TcCoe Idealize.SL.Sem
open Cert.Products

section Host

open Cert.Reference3Ideal Cert.Reference3Ideal.Gen

variable (a : FVec Ideal S8704x4096 .f32) (g : FVec Ideal S8704x1024 .f32)

/-- The result that the reference computes. -/
def host : FVec Ideal S4096x1024 .f32 :=
  transpose S4096x1024 [1, 0] (Host.dotGeneral dot_S8704x1024_S8704x4096_S1024x4096_0_0_1_1_n_n none g (mulf (maximumf a (broadcastInDim S8704x4096 ![] bcast_S_S8704x4096 (constant S_ .f32 0x00000000#32))) (maximumf a (broadcastInDim S8704x4096 ![] bcast_S_S8704x4096 (constant S_ .f32 0x00000000#32))))) transposes_S1024x4096_S4096x1024_1_0

theorem host_at (i : Fin 4096) (j : Fin 1024) :
    host a g (ix2 i j) = ∑ k : Fin 8704, g (ix2 k j) * relu2 (a (ix2 k i)) := by
  unfold host relu2
  pointwise

end Host

section Kernel

open Cert.Kernel3Ideal Cert.Kernel3Ideal.Gen

section Block

variable (x : Vec Ideal S1088x1024 .f32) (w : Vec Ideal S1088x1024 .f32) (acc : Vec Ideal S1024x1024 .f32) (i : Fin 1024) (j : Fin 1024)

/-- What the first grid point of a run writes, and what each later one adds. -/
theorem first_at : k0_pay1 x w (ix2 i j) = ∑ k : Fin 1088, relu2 (x (ix2 k i)) * w (ix2 k j) := by
  unfold relu2
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val % 8, t.val / 8]
    ∧ win0_1.index t = ![t.val % 8, 0]
    ∧ win0_2.index t = ![t.val / 8, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x4096 .f32 := m ((c.tc : Thread nD τ).loc main_arg0)
abbrev argG : FVec Ideal S8704x1024 .f32 := m ((c.tc : Thread nD τ).loc main_arg2)

/-- The result that the kernel computes. -/
def arr : FVec Ideal S4096x1024 .f32 := fun z =>
  ∑ k : Fin 8704, relu2 (argA m c (ix2 k (z 0))) * argG m c (ix2 k (z 1))

theorem left_eq : V m c main_arg0 = argA m c := by
  entry_read
  rfl

theorem right_at (k : Fin 8704) (j : Fin 1024) : (V m c main_arg2 : S8704x1024.Idx → EReal) (ix2 k j) = argG m c (ix2 k j) := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1024) : Fin 4096 := ⟨t.val / 8 * 1024 + i, by have := point_lt t; omega⟩
@[inherit_doc row] abbrev col (_ : Fin cfg0.N) (j : Fin 1024) : Fin 1024 := ⟨j, by omega⟩
@[inherit_doc row] abbrev pos (t : Fin cfg0.N) (k : Fin 1088) : Fin 8704 := ⟨t.val % 8 * 1088 + k, by omega⟩

theorem read_left (t : Fin cfg0.N) (k : Fin 1088) (i : Fin 1024) :
    (iblk m c 0 t : Vec Ideal S1088x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1088) (j : Fin 1024) :
    (iblk m c 1 t : Vec Ideal S1088x1024 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1088, relu2 (argA m c (ix2 (pos t k) (row t (z 0)))) * argG m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨8 * (t.val / 8) + s.val, Pipeline.run_point_lt_of_flush t hs s⟩ y0 = row t y0 := Fin.ext (by
    show (8 * (t.val / 8) + s.val) / 8 * 1024 + y0.val = t.val / 8 * 1024 + y0.val
    have := point_lt t
    omega)
  have h3 : pos ⟨8 * (t.val / 8) + s.val, Pipeline.run_point_lt_of_flush t hs s⟩ k = ⟨s.val * 1088 + k.val, hl⟩ := Fin.ext (by
    show (8 * (t.val / 8) + s.val) % 8 * 1088 + k.val = s.val * 1088 + k.val
    have := point_lt t
    omega)
  show relu2 (argA m c (ix2 (pos _ k) (row _ y0))) * argG m c (ix2 (pos _ k) (col _ y1)) = _
  rw [h1, h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference end with the same array. -/
theorem algebraic : Cert.algebraic_Kernel3Ideal_Reference3Ideal := by
  intro m ρ m' ρ' _ hagree
  refine ⟨fun c => arr m c, ?_, ?_⟩
  · refine (θ_run Cert.Kernel3Ideal.defs _ _).mono (fun r h c => ?_) (Cert.Kernel3Ideal.Value.run_blocks (F := Ideal) m ρ)
    exact ⟨(h c).1.trans (final m c), (h c).2⟩
  · refine (θ_run Cert.Reference3Ideal.defs _ _).mono (fun r h c => ?_) (Cert.Reference3Ideal.Value.run (F := Ideal) m' ρ')
    obtain ⟨e0, e1, e2⟩ := hagree c
    refine ⟨(h c).1.trans (Eq.trans ?_ (arr_eq m c).symm), (h c).2⟩
    rw [e0, e2]
    rfl

end Cert.ReluWeight
-- ==== Proof.FirstRows.lean ====
/- The MLP's first product, backward: the gradient of its rows. -/
module

public import proofs.«01_k».proof.Proof.Products
public import proofs.«01_k».proof.Proof.Gen.Kernel4.Frame
public import proofs.«01_k».proof.Proof.Gen.Kernel4Ideal.Value
public import proofs.«01_k».proof.Proof.Gen.Reference4Ideal.Run
public import proofs.«01_k».proof.Defs

@[expose] public section

set_option maxRecDepth 16384

noncomputable section

namespace Cert.FirstRows

open Idealize.ShloMosaic Idealize.ShloMosaic.TcCoe Idealize.SL.Sem
open Cert.Products

section Host

open Cert.Reference4Ideal Cert.Reference4Ideal.Gen

variable (b : FVec Ideal S1024x4096 .f32) (g : FVec Ideal S8704x4096 .f32)

/-- The result that the reference computes. -/
def host : FVec Ideal S8704x1024 .f32 :=
  Host.dotGeneral dot_S8704x4096_S1024x4096_S8704x1024_1_1_0_0_n_n none g b

theorem host_at (i : Fin 8704) (j : Fin 1024) :
    host b g (ix2 i j) = ∑ k : Fin 4096, g (ix2 i k) * b (ix2 j k) := by
  unfold host
  pointwise

end Host

section Kernel

open Cert.Kernel4Ideal Cert.Kernel4Ideal.Gen

section Block

variable (x : Vec Ideal S1088x1024 .f32) (w : Vec Ideal S1024x1024 .bf16) (acc : Vec Ideal S1088x1024 .f32) (i : Fin 1088) (j : Fin 1024)

/-- What the first grid point of a run writes, and what each later one adds. -/
theorem first_at : k0_pay1 x w (ix2 i j) = ∑ k : Fin 1024, x (ix2 i k) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val / 4, t.val % 4]
    ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S1024x4096 .f32 := m ((c.tc : Thread nD τ).loc main_arg1)
abbrev argG : FVec Ideal S8704x4096 .f32 := m ((c.tc : Thread nD τ).loc main_arg2)

/-- The result that the kernel computes. -/
def arr : FVec Ideal S8704x1024 .f32 := fun z =>
  ∑ k : Fin 4096, argG m c (ix2 (z 0) k) * argB m c (ix2 (z 1) k)

theorem left_eq : V m c main_arg2 = argG m c := by
  entry_read
  rfl

theorem right_at (k : Fin 4096) (j : Fin 1024) : (V m c main_v1 : S4096x1024.Idx → EReal) (ix2 k j) = argB m c (ix2 j k) := by
  entry_read
  pointwise

theorem point_lt (t : Fin cfg0.N) : t.val < 32 := lt_of_lt_of_eq t.isLt N_0

/-- The row and the column of the result, and the place along the summed dimension, of an index of a grid point's blocks. -/
abbrev row (t : Fin cfg0.N) (i : Fin 1088) : Fin 8704 := ⟨t.val / 4 * 1088 + i, by have := point_lt t; omega⟩
@[inherit_doc row] abbrev col (_ : Fin cfg0.N) (j : Fin 1024) : Fin 1024 := ⟨j, by omega⟩
@[inherit_doc row] abbrev pos (t : Fin cfg0.N) (k : Fin 1024) : Fin 4096 := ⟨t.val % 4 * 1024 + k, by omega⟩

theorem read_left (t : Fin cfg0.N) (i : Fin 1088) (k : Fin 1024) :
    (iblk m c 0 t : Vec Ideal S1088x1024 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

/-- What a grid point adds. -/
def part (t : Fin cfg0.N) (z : S1088x1024.Idx) : EReal :=
  ∑ k : Fin 1024, argG m c (ix2 (row t (z 0)) (pos t k)) * argB m c (ix2 (col t (z 1)) (pos t k))

theorem part_eq (t : Fin cfg0.N) (i : Fin 1088) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 4 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 4 (fun _ => (0 : EReal)) (part m c)
    (fun t h j => by
      rw [outsAt0_A m c t h (by omega) (by omega)]
      frame_out
      idx_vars j
      rw [part_eq, zero_add])
    (fun t h j => by
      by_cases h' : t.val % 4 = 3
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨4 * (t.val / 4) + s.val, Pipeline.run_point_lt_of_flush t hs s⟩ y0 = row t y0 := Fin.ext (by
    show (4 * (t.val / 4) + s.val) / 4 * 1088 + y0.val = t.val / 4 * 1088 + y0.val
    have := point_lt t
    omega)
  have h3 : pos ⟨4 * (t.val / 4) + s.val, Pipeline.run_point_lt_of_flush t hs s⟩ k = ⟨s.val * 1024 + k.val, hl⟩ := Fin.ext (by
    show (4 * (t.val / 4) + s.val) % 4 * 1024 + k.val = s.val * 1024 + k.val
    have := point_lt t
    omega)
  show argG m c (ix2 (row _ y0) (pos _ k)) * argB m c (ix2 (col _ y1) (pos _ k)) = _
  rw [h1, h3]
  rfl

theorem arr_eq : arr m c = host (argB m c) (argG m c) := by
  funext z
  idx_vars z
  exact (host_at _ _ z0 z1).symm

end Kernel

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference end with the same array. -/
theorem algebraic : Cert.algebraic_Kernel4Ideal_Reference4Ideal := by
  intro m ρ m' ρ' _ hagree
  refine ⟨fun c => arr m c, ?_, ?_⟩
  · refine (θ_run Cert.Kernel4Ideal.defs _ _).mono (fun r h c => ?_) (Cert.Kernel4Ideal.Value.run_blocks (F := Ideal) m ρ)
    exact ⟨(h c).1.trans (final m c), (h c).2⟩
  · refine (θ_run Cert.Reference4Ideal.defs _ _).mono (fun r h c => ?_) (Cert.Reference4Ideal.Value.run (F := Ideal) m' ρ')
    obtain ⟨e0, e1, e2⟩ := hagree c
    refine ⟨(h c).1.trans (Eq.trans ?_ (arr_eq m c).symm), (h c).2⟩
    rw [e1, e2]
    rfl

end Cert.FirstRows
-- ==== Proof.FirstWeight.lean ====
/- The MLP's first product, backward: the gradient of its weight. -/
module

public import proofs.«01_k».proof.Proof.Products
public import proofs.«01_k».proof.Proof.Gen.Kernel5.Frame
public import proofs.«01_k».proof.Proof.Gen.Kernel5Ideal.Value
public import proofs.«01_k».proof.Proof.Gen.Reference5Ideal.Run
public import proofs.«01_k».proof.Defs

@[expose] public section

set_option maxRecDepth 16384

noncomputable section

namespace Cert.FirstWeight

open Idealize.ShloMosaic Idealize.ShloMosaic.TcCoe Idealize.SL.Sem
open Cert.Products

section Host

open Cert.Reference5Ideal Cert.Reference5Ideal.Gen

variable (a : FVec Ideal S8704x1024 .f32) (g : FVec Ideal S8704x4096 .f32)

/-- The result that the reference computes. -/
def host : FVec Ideal S1024x4096 .f32 :=
  transpose S1024x4096 [1, 0] (Host.dotGeneral dot_S8704x4096_S8704x1024_S4096x1024_0_0_1_1_n_n none g a) transposes_S4096x1024_S1024x4096_1_0

theorem host_at (i : Fin 1024) (j : Fin 4096) :
    host a g (ix2 i j) = ∑ k : Fin 8704, g (ix2 k j) * a (ix2 k i) := by
  unfold host
  pointwise

end Host

section Kernel

open Cert.Kernel5Ideal Cert.Kernel5Ideal.Gen

section Block

variable (x : Vec Ideal S1088x1024 .f32) (w : Vec Ideal S1088x1024 .f32) (acc : Vec Ideal S1024x1024 .f32) (i : Fin 1024) (j : Fin 1024)

/-- What the first grid point of a run writes, and what each later one adds. -/
theorem first_at : k0_pay1 x w (ix2 i j) = ∑ k : Fin 1088, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val % 8, 0]
    ∧ win0_1.index t = ![t.val % 8, t.val / 8]
    ∧ win0_2.index t = ![0, t.val / 8] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x1024 .f32 := m ((c.tc : Thread nD τ).loc main_arg0)
abbrev argG : FVec Ideal S8704x4096 .f32 := m ((c.tc : Thread nD τ).loc main_arg2)

/-- The result that the kernel computes. -/
def arr : FVec Ideal S1024x4096 .f32 := fun z =>
  ∑ k : Fin 8704, argA m c (ix2 k (z 0)) * argG m c (ix2 k (z 1))

theorem left_eq : V m c main_arg0 = argA m c := by
  entry_read
  rfl

theorem right_at (k : Fin 8704) (j : Fin 4096) : (V m c main_arg2 : S8704x4096.Idx → EReal) (ix2 k j) = argG m c (ix2 k j) := by
  entry_read
  rfl

theorem point_lt (t : Fin cfg0.N) : t.val < 32 := lt_of_lt_of_eq t.isLt N_0

/-- The row and the column of the result, and the place along the summed dimension, of an index of a grid point's blocks. -/
abbrev row (_ : Fin cfg0.N) (i : Fin 1024) : Fin 1024 := ⟨i, by omega⟩
@[inherit_doc row] abbrev col (t : Fin cfg0.N) (j : Fin 1024) : Fin 4096 := ⟨t.val / 8 * 1024 + j, by have := point_lt t; omega⟩
@[inherit_doc row] abbrev pos (t : Fin cfg0.N) (k : Fin 1088) : Fin 8704 := ⟨t.val % 8 * 1088 + k, by omega⟩

theorem read_left (t : Fin cfg0.N) (k : Fin 1088) (i : Fin 1024) :
    (iblk m c 0 t : Vec Ideal S1088x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1088) (j : Fin 1024) :
    (iblk m c 1 t : Vec Ideal S1088x1024 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1088, argA m c (ix2 (pos t k) (row t (z 0))) * argG m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h2 : col ⟨8 * (t.val / 8) + s.val, Pipeline.run_point_lt_of_flush t hs s⟩ y1 = col t y1 := Fin.ext (by
    show (8 * (t.val / 8) + s.val) / 8 * 1024 + y1.val = t.val / 8 * 1024 + y1.val
    have := point_lt t
    omega)
  have h3 : pos ⟨8 * (t.val / 8) + s.val, Pipeline.run_point_lt_of_flush t hs s⟩ k = ⟨s.val * 1088 + k.val, hl⟩ := Fin.ext (by
    show (8 * (t.val / 8) + s.val) % 8 * 1088 + k.val = s.val * 1088 + k.val
    have := point_lt t
    omega)
  show argA m c (ix2 (pos _ k) (row _ y0)) * argG m c (ix2 (pos _ k) (col _ y1)) = _
  rw [h2, h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference end with the same array. -/
theorem algebraic : Cert.algebraic_Kernel5Ideal_Reference5Ideal := by
  intro m ρ m' ρ' _ hagree
  refine ⟨fun c => arr m c, ?_, ?_⟩
  · refine (θ_run Cert.Kernel5Ideal.defs _ _).mono (fun r h c => ?_) (Cert.Kernel5Ideal.Value.run_blocks (F := Ideal) m ρ)
    exact ⟨(h c).1.trans (final m c), (h c).2⟩
  · refine (θ_run Cert.Reference5Ideal.defs _ _).mono (fun r h c => ?_) (Cert.Reference5Ideal.Value.run (F := Ideal) m' ρ')
    obtain ⟨e0, e1, e2⟩ := hagree c
    refine ⟨(h c).1.trans (Eq.trans ?_ (arr_eq m c).symm), (h c).2⟩
    rw [e0, e2]
    rfl

end Cert.FirstWeight
-- ==== Proof.InRows.lean ====
/- The mixers' input projection, backward: the gradient of its rows. -/
module

public import proofs.«01_k».proof.Proof.WideProducts
public import proofs.«01_k».proof.Proof.Gen.Kernel6.Frame
public import proofs.«01_k».proof.Proof.Gen.Kernel6Ideal.Value
public import proofs.«01_k».proof.Proof.Gen.Reference6Ideal.Run
public import proofs.«01_k».proof.Defs

@[expose] public section

set_option maxRecDepth 16384

noncomputable section

namespace Cert.InRows

open Idealize.ShloMosaic Idealize.ShloMosaic.TcCoe Idealize.SL.Sem
open Cert.Products

section Host

open Cert.Reference6Ideal Cert.Reference6Ideal.Gen

variable (b : FVec Ideal S1024x2736 .f32) (g : FVec Ideal S8704x2736 .f32)

/-- The result that the reference computes. -/
def host : FVec Ideal S8704x1024 .f32 :=
  Host.dotGeneral dot_S8704x2736_S1024x2736_S8704x1024_1_1_0_0_n_n none g b

theorem host_at (i : Fin 8704) (j : Fin 1024) :
    host b g (ix2 i j) = ∑ k : Fin 2736, g (ix2 i k) * b (ix2 j k) := by
  unfold host
  pointwise

end Host

section Kernel

open Cert.Kernel6Ideal Cert.Kernel6Ideal.Gen

section Block

variable (x : Vec Ideal S1088x1408 .f32) (w : Vec Ideal S1408x1024 .bf16) (acc : Vec Ideal S1088x1024 .f32) (i : Fin 1088) (j : Fin 1024)

/-- What the first grid point of a run writes, and what each later one adds. -/
theorem first_at : k0_pay1 x w (ix2 i j) = ∑ k : Fin 1408, x (ix2 i k) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val / 2, t.val % 2]
    ∧ win0_1.index t = ![t.val % 2, 0]
    ∧ win0_2.index t = ![t.val / 2, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S1024x2736 .f32 := m ((c.tc : Thread nD τ).loc main_arg1)
abbrev argG : FVec Ideal S8704x2736 .f32 := m ((c.tc : Thread nD τ).loc main_arg2)

/-- The weight with its columns of zeros, as the version hands it to the call. -/
def wideB : FVec Ideal S1024x2816 .f32 := fun z => wide (fun k => argB m c (ix2 (z 0) k)) (z 1)

/-- The incoming gradient with its columns of zeros, as the version hands it to the call. -/
def wideG : FVec Ideal S8704x2816 .f32 := fun z => wide (fun k => argG m c (ix2 (z 0) k)) (z 1)

/-- The result that the kernel computes. -/
def arr : FVec Ideal S8704x1024 .f32 := fun z =>
  ∑ k : Fin 2816, wideG m c (ix2 (z 0) k) * wideB m c (ix2 (z 1) k)

theorem left_at (i : Fin 8704) (k : Fin 2816) : (V m c main_v1 : S8704x2816.Idx → EReal) (ix2 i k) = wideG m c (ix2 i k) := by
  simp only [V, hostOps0, hostOps0_1, hostOps0_2, hostOps0_3, hostOps0_4, List.flatten_cons, List.flatten_nil, List.append_nil, List.cons_append, List.nil_append]
  entry_read
  show (pad S8704x2816 ![0, 0] ![0, 80] ![0, 0] (argG m c) (sitofp .f32 (constantI S_ 32 0#32)) pads_S8704x2736_S8704x2816_000_0800 h_S_) (ix2 i k) = _
  unfold wideG wide
  pointwise [pad_zero]

theorem right_at (k : Fin 2816) (j : Fin 1024) : (V m c main_v3 : S2816x1024.Idx → EReal) (ix2 k j) = wideB m c (ix2 j k) := by
  simp only [V, hostOps0, hostOps0_1, hostOps0_2, hostOps0_3, hostOps0_4, List.flatten_cons, List.flatten_nil, List.append_nil, List.cons_append, List.nil_append]
  entry_read
  show (transpose S2816x1024 [1, 0] (pad S1024x2816 ![0, 0] ![0, 80] ![0, 0] (argB m c) (sitofp .f32 (constantI S_ 32 0#32)) pads_S1024x2736_S1024x2816_000_0800 h_S_) transposes_S1024x2816_S2816x1024_1_0) (ix2 k j) = _
  unfold wideB wide
  pointwise [pad_zero]

theorem point_lt (t : Fin cfg0.N) : t.val < 16 := lt_of_lt_of_eq t.isLt N_0

/-- The row and the column of the result, and the place along the summed dimension, of an index of a grid point's blocks. -/
abbrev row (t : Fin cfg0.N) (i : Fin 1088) : Fin 8704 := ⟨t.val / 2 * 1088 + i, by have := point_lt t; omega⟩
@[inherit_doc row] abbrev col (_ : Fin cfg0.N) (j : Fin 1024) : Fin 1024 := ⟨j, by omega⟩
@[inherit_doc row] abbrev pos (t : Fin cfg0.N) (k : Fin 1408) : Fin 2816 := ⟨t.val % 2 * 1408 + k, by omega⟩

theorem read_left (t : Fin cfg0.N) (i : Fin 1088) (k : Fin 1408) :
    (iblk m c 0 t : Vec Ideal S1088x1408 .f32) (ix2 i k) = wideG m c (ix2 (row t i) (pos t k)) := by
  refine Eq.trans (congrArg (V m c main_v1) (?_ : ((cfg0.win 0).blk t).view.emb (ix2 i k) = ix2 (row t i) (pos t k))) (left_at m c (row t i) (pos t k))
  blk_ext [idx t]

theorem read_right (t : Fin cfg0.N) (k : Fin 1408) (j : Fin 1024) :
    (iblk m c 1 t : Vec Ideal S1408x1024 .bf16) (ix2 k j) = wideB m c (ix2 (col t j) (pos t k)) := by
  refine Eq.trans (congrArg (V m c main_v3) (?_ : ((cfg0.win 1).blk t).view.emb (ix2 k j) = ix2 (pos t k) (col t j))) (right_at m c (pos t k) (col t j))
  blk_ext [idx t]

/-- What a grid point adds. -/
def part (t : Fin cfg0.N) (z : S1088x1024.Idx) : EReal :=
  ∑ k : Fin 1408, wideG m c (ix2 (row t (z 0)) (pos t k)) * wideB m c (ix2 (col t (z 1)) (pos t k))

theorem part_eq (t : Fin cfg0.N) (i : Fin 1088) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 2 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 2 (fun _ => (0 : EReal)) (part m c)
    (fun t h j => by
      rw [outsAt0_A m c t h (by omega)]
      frame_out
      idx_vars j
      rw [part_eq, zero_add])
    (fun t h j => by
      rw [outsAt0_B m c t h (by omega)]
      frame_out
      idx_vars j
      rw [last_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨2 * (t.val / 2) + s.val, Pipeline.run_point_lt_of_flush t hs s⟩ y0 = row t y0 := Fin.ext (by
    show (2 * (t.val / 2) + s.val) / 2 * 1088 + y0.val = t.val / 2 * 1088 + y0.val
    have := point_lt t
    omega)
  have h3 : pos ⟨2 * (t.val / 2) + s.val, Pipeline.run_point_lt_of_flush t hs s⟩ k = ⟨s.val * 1408 + k.val, hl⟩ := Fin.ext (by
    show (2 * (t.val / 2) + s.val) % 2 * 1408 + k.val = s.val * 1408 + k.val
    have := point_lt t
    omega)
  show wideG m c (ix2 (row _ y0) (pos _ k)) * wideB m c (ix2 (col _ y1) (pos _ k)) = _
  rw [h1, h3]
  rfl

theorem arr_eq : arr m c = host (argB m c) (argG m c) := by
  funext z
  idx_vars z
  refine Eq.trans ?_ (host_at _ _ z0 z1).symm
  exact sum_wide_mul _ _

end Kernel

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel and the reference end with the same array. -/
theorem algebraic : Cert.algebraic_Kernel6Ideal_Reference6Ideal := by
  intro m ρ m' ρ' _ hagree
  refine ⟨fun c => arr m c, ?_, ?_⟩
  · refine (θ_run Cert.Kernel6Ideal.defs _ _).mono (fun r h c => ?_) (Cert.Kernel6Ideal.Value.run_blocks (F := Ideal) m ρ)
    exact ⟨(h c).1.trans (final m c), (h c).2⟩
  · refine (θ_run Cert.Reference6Ideal.defs _ _).mono (fun r h c => ?_) (Cert.Reference6Ideal.Value.run (F := Ideal) m' ρ')
    obtain ⟨e0, e1, e2⟩ := hagree c
    refine ⟨(h c).1.trans (Eq.trans ?_ (arr_eq m c).symm), (h c).2⟩
    rw [e1, e2]
    rfl

end Cert.InRows
-- ==== Proof.InWeight.lean ====
/- The mixers' input projection, backward: the gradient of its weight. -/
module

public import proofs.«01_k».proof.Proof.WideProducts
public import proofs.«01_k».proof.Proof.Gen.Kernel7.Frame
public import proofs.«01_k».proof.Proof.Gen.Kernel7Ideal.Value
public import proofs.«01_k».proof.Proof.Gen.Reference7Ideal.Run
public import proofs.«01_k».proof.Defs

@[expose] public section

set_option maxRecDepth 16384

noncomputable section

namespace Cert.InWeight

open Idealize.ShloMosaic Idealize.ShloMosaic.TcCoe Idealize.SL.Sem
open Cert.Products

section Host

open Cert.Reference7Ideal Cert.Reference7Ideal.Gen

variable (a : FVec Ideal S8704x1024 .f32) (g : FVec Ideal S8704x2736 .f32)

/-- The result that the reference computes. -/
def host : FVec Ideal S1024x2816 .f32 :=
  pad S1024x2816 ![0, 0] ![0, 80] ![0, 0] (transpose S1024x2736 [1, 0] (Host.dotGeneral dot_S8704x2736_S8704x1024_S2736x1024_0_0_1_1_n_n none g a) transposes_S2736x1024_S1024x2736_1_0) (sitofp .f32 (constantI S_ 32 0#32)) pads_S1024x2736_S1024x2816_000_0800 h_S_

theorem host_at (i : Fin 1024) (j : Fin 2816) :
    host a g (ix2 i j) = if h : j.val < 2736 then ∑ k : Fin 8704, g (ix2 k ⟨j, h⟩) * a (ix2 k i) else 0 := by
  unfold host
  pointwise [pad_zero]

end Host

section Kernel

open Cert.Kernel7Ideal Cert.Kernel7Ideal.Gen

section Block

variable (x : Vec Ideal S1088x1024 .f32) (w : Vec Ideal S1088x1408 .f32) (acc : Vec Ideal S1024x1408 .f32) (i : Fin 1024) (j : Fin 1408)

/-- What the first grid point of a run writes, and what each later one adds. -/
theorem first_at : k0_pay1 x w (ix2 i j) = ∑ k : Fin 1088, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val % 8, 0]
    ∧ win0_1.index t = ![t.val % 8, t.val / 8]
    ∧ win0_2.index t = ![0, t.val / 8] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x1024 .f32 := m ((c.tc : Thread nD τ).loc main_arg0)
abbrev argG : FVec Ideal S8704x2736 .f32 := m ((c.tc : Thread nD τ).loc main_arg2)

/-- The incoming gradient with its columns of zeros, as the version hands it to the call. -/
def wideG : FVec Ideal S8704x2816 .f32 := fun z => wide (fun k => argG m c (ix2 (z 0) k)) (z 1)

/-- The result that the kernel computes. -/
def arr : FVec Ideal S1024x2816 .f32 := fun z =>
  ∑ k : Fin 8704, argA m c (ix2 k (z 0)) * wideG m c (ix2 k (z 1))

theorem left_eq : V m c main_arg0 = argA m c := by
  entry_read
  rfl

theorem right_at (k : Fin 8704) (j : Fin 2816) : (V m c main_v1 : S8704x2816.Idx → EReal) (ix2 k j) = wideG m c (ix2 k j) := by
  simp only [V, hostOps0, hostOps0_1, hostOps0_2, hostOps0_3, List.flatten_cons, List.flatten_nil, List.append_nil, List.cons_append, List.nil_append]
  entry_read
  show (pad S8704x2816 ![0, 0] ![0, 80] ![0, 0] (argG m c) (sitofp .f32 (constantI S_ 32 0#32)) pads_S8704x2736_S8704x2816_000_0800 h_S_) (ix2 k j) = _
  unfold wideG wide
  pointwise [pad_zero]

theorem point_lt (t : Fin cfg0.N) : t.val < 16 := lt_of_lt_of_eq t.isLt N_0

/-- The row and the column of the result, and the place along the summed dimension, of an index of a grid point's blocks. -/
abbrev row (_ : Fin cfg0.N) (i : Fin 1024) : Fin 1024 := ⟨i, by omega⟩
@[inherit_doc row] abbrev col (t : Fin cfg0.N) (j : Fin 1408) : Fin 2816 := ⟨t.val / 8 * 1408 + j, by have := point_lt t; omega⟩
@[inherit_doc row] abbrev pos (t : Fin cfg0.N) (k : Fin 1088) : Fin 8704 := ⟨t.val % 8 * 1088 + k, by omega⟩

theorem read_left (t : Fin cfg0.N) (k : Fin 1088) (i : Fin 1024) :
    (iblk m c 0 t : Vec Ideal S1088x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1088) (j : Fin 1408) :
    (iblk m c 1 t : Vec Ideal S1088x1408 .f32) (ix2 k j) = wideG m c (ix2 (pos t k) (col t j)) := by
  refine Eq.trans (congrArg (V m c main_v1) (?_ : ((cfg0.win 1).blk t).view.emb (ix2 k j) = ix2 (pos t k) (col t j))) (right_at m c (pos t k) (col t j))
  blk_ext [idx t]

/-- What a grid point adds. -/
def part (t : Fin cfg0.N) (z : S1024x1408.Idx) : EReal :=
  ∑ k : Fin 1088, argA m c (ix2 (pos t k) (row t (z 0))) * wideG m c (ix2 (pos t k) (col t (z 1)))

theorem part_eq (t : Fin cfg0.N) (i : Fin 1024) (j : Fin 1408) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h2 : col ⟨8 * (t.val / 8) + s.val, Pipeline.run_point_lt_of_flush t hs s⟩ y1 = col t y1 := Fin.ext (by
    show (8 * (t.val / 8) + s.val) / 8 * 1408 + y1.val = t.val / 8 * 1408 + y1.val
    have := point_lt t
    omega)
  have h3 : pos ⟨8 * (t.val / 8) + s.val, Pipeline.run_point_lt_of_flush t hs s⟩ k = ⟨s.val * 1088 + k.val, hl⟩ := Fin.ext (by
    show (8 * (t.val / 8) + s.val) % 8 * 1088 + k.val = s.val * 1088 + k.val
    have := point_lt t
    omega)
  show argA m c (ix2 (pos _ k) (row _ y0)) * wideG m c (ix2 (pos _ k) (col _ y1)) = _
  rw [h2, h3]
  rfl

theorem arr_eq : arr m c = host (argA m c) (argG m c) := by
  funext z
  idx_vars z
  refine Eq.trans ?_ (host_at _ _ z0 z1).symm
  refine (sum_mul_wide (fun k => argA m c (ix2 k z0)) (fun k j => argG m c (ix2 k j)) z1).trans ?_
  split
  · exact Finset.sum_congr rfl fun k _ => mul_comm _ _
  · rfl

end Kernel

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel and the reference end with the same array. -/
theorem algebraic : Cert.algebraic_Kernel7Ideal_Reference7Ideal := by
  intro m ρ m' ρ' _ hagree
  refine ⟨fun c => arr m c, ?_, ?_⟩
  · refine (θ_run Cert.Kernel7Ideal.defs _ _).mono (fun r h c => ?_) (Cert.Kernel7Ideal.Value.run_blocks (F := Ideal) m ρ)
    exact ⟨(h c).1.trans (final m c), (h c).2⟩
  · refine (θ_run Cert.Reference7Ideal.defs _ _).mono (fun r h c => ?_) (Cert.Reference7Ideal.Value.run (F := Ideal) m' ρ')
    obtain ⟨e0, e1, e2⟩ := hagree c
    refine ⟨(h c).1.trans (Eq.trans ?_ (arr_eq m c).symm), (h c).2⟩
    rw [e0, e2]
    rfl

end Cert.InWeight
-- ==== Proof.OutRows.lean ====
/- The mixers' output projection, backward: the gradient of its rows. -/
module

public import proofs.«01_k».proof.Proof.Products
public import proofs.«01_k».proof.Proof.Gen.Kernel8.Frame
public import proofs.«01_k».proof.Proof.Gen.Kernel8Ideal.Value
public import proofs.«01_k».proof.Proof.Gen.Reference8Ideal.Run
public import proofs.«01_k».proof.Defs

@[expose] public section

set_option maxRecDepth 16384

noncomputable section

namespace Cert.OutRows

open Idealize.ShloMosaic Idealize.ShloMosaic.TcCoe Idealize.SL.Sem
open Cert.Products

section Host

open Cert.Reference8Ideal Cert.Reference8Ideal.Gen

variable (b : FVec Ideal S1024x1024 .f32) (g : FVec Ideal S8704x1024 .f32)

/-- The result that the reference computes. -/
def host : FVec Ideal S8704x1024 .f32 :=
  Host.dotGeneral dot_S8704x1024_S1024x1024_S8704x1024_1_1_0_0_n_n none g b

theorem host_at (i : Fin 8704) (j : Fin 1024) :
    host b g (ix2 i j) = ∑ k : Fin 1024, g (ix2 i k) * b (ix2 j k) := by
  unfold host
  pointwise

end Host

section Kernel

open Cert.Kernel8Ideal Cert.Kernel8Ideal.Gen

section Block

variable (x : Vec Ideal S1088x1024 .f32) (w : Vec Ideal S1024x1024 .bf16) (i : Fin 1088) (j : Fin 1024)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S1024x1024 .f32 := m ((c.tc : Thread nD τ).loc main_arg1)
abbrev argG : FVec Ideal S8704x1024 .f32 := m ((c.tc : Thread nD τ).loc main_arg2)

/-- The result that the kernel computes. -/
def arr : FVec Ideal S8704x1024 .f32 := fun z =>
  ∑ k : Fin 1024, argG m c (ix2 (z 0) k) * argB m c (ix2 (z 1) k)

theorem left_eq : V m c main_arg2 = argG m c := by
  entry_read
  rfl

theorem right_at (k : Fin 1024) (j : Fin 1024) : (V m c main_v1 : S1024x1024.Idx → EReal) (ix2 k j) = argB m c (ix2 j k) := by
  entry_read
  pointwise

theorem point_lt (t : Fin cfg0.N) : t.val < 8 := lt_of_lt_of_eq t.isLt N_0

/-- The row and the column of the result, and the place along the summed dimension, of an index of a grid point's blocks. -/
abbrev row (t : Fin cfg0.N) (i : Fin 1088) : Fin 8704 := ⟨t.val * 1088 + i, by have := point_lt t; omega⟩
@[inherit_doc row] abbrev col (_ : Fin cfg0.N) (j : Fin 1024) : Fin 1024 := ⟨j, by omega⟩
@[inherit_doc row] abbrev pos (_ : Fin cfg0.N) (k : Fin 1024) : Fin 1024 := ⟨k, by omega⟩

theorem read_left (t : Fin cfg0.N) (i : Fin 1088) (k : Fin 1024) :
    (iblk m c 0 t : Vec Ideal S1088x1024 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argB m c) (argG m c) := by
  funext z
  idx_vars z
  exact (host_at _ _ z0 z1).symm

end Kernel

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel and the reference end with the same array. -/
theorem algebraic : Cert.algebraic_Kernel8Ideal_Reference8Ideal := by
  intro m ρ m' ρ' _ hagree
  refine ⟨fun c => arr m c, ?_, ?_⟩
  · refine (θ_run Cert.Kernel8Ideal.defs _ _).mono (fun r h c => ?_) (Cert.Kernel8Ideal.Value.run_blocks (F := Ideal) m ρ)
    exact ⟨(h c).1.trans (final m c), (h c).2⟩
  · refine (θ_run Cert.Reference8Ideal.defs _ _).mono (fun r h c => ?_) (Cert.Reference8Ideal.Value.run (F := Ideal) m' ρ')
    obtain ⟨e0, e1, e2⟩ := hagree c
    refine ⟨(h c).1.trans (Eq.trans ?_ (arr_eq m c).symm), (h c).2⟩
    rw [e1, e2]
    rfl

end Cert.OutRows
-- ==== Proof.OutWeight.lean ====
/- The mixers' output projection, backward: the gradient of its weight. -/
module

public import proofs.«01_k».proof.Proof.Products
public import proofs.«01_k».proof.Proof.Gen.Kernel9.Frame
public import proofs.«01_k».proof.Proof.Gen.Kernel9Ideal.Value
public import proofs.«01_k».proof.Proof.Gen.Reference9Ideal.Run
public import proofs.«01_k».proof.Defs

@[expose] public section

set_option maxRecDepth 16384

noncomputable section

namespace Cert.OutWeight

open Idealize.ShloMosaic Idealize.ShloMosaic.TcCoe Idealize.SL.Sem
open Cert.Products

section Host

open Cert.Reference9Ideal Cert.Reference9Ideal.Gen

variable (a : FVec Ideal S8704x1024 .f32) (g : FVec Ideal S8704x1024 .f32)

/-- The result that the reference computes. -/
def host : FVec Ideal S1024x1024 .f32 :=
  transpose S1024x1024 [1, 0] (Host.dotGeneral dot_S8704x1024_S8704x1024_S1024x1024_0_0_1_1_n_n none g a) transposes_S1024x1024_S1024x1024_1_0

theorem host_at (i : Fin 1024) (j : Fin 1024) :
    host a g (ix2 i j) = ∑ k : Fin 8704, g (ix2 k j) * a (ix2 k i) := by
  unfold host
  pointwise

end Host

section Kernel

open Cert.Kernel9Ideal Cert.Kernel9Ideal.Gen

section Block

variable (x : Vec Ideal S1088x1024 .f32) (w : Vec Ideal S1088x1024 .f32) (acc : Vec Ideal S1024x1024 .f32) (i : Fin 1024) (j : Fin 1024)

/-- What the first grid point of a run writes, and what each later one adds. -/
theorem first_at : k0_pay1 x w (ix2 i j) = ∑ k : Fin 1088, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val, 0]
    ∧ win0_1.index t = ![t.val, 0]
    ∧ win0_2.index t = ![0, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x1024 .f32 := m ((c.tc : Thread nD τ).loc main_arg0)
abbrev argG : FVec Ideal S8704x1024 .f32 := m ((c.tc : Thread nD τ).loc main_arg2)

/-- The result that the kernel computes. -/
def arr : FVec Ideal S1024x1024 .f32 := fun z =>
  ∑ k : Fin 8704, argA m c (ix2 k (z 0)) * argG m c (ix2 k (z 1))

theorem left_eq : V m c main_arg0 = argA m c := by
  entry_read
  rfl

theorem right_at (k : Fin 8704) (j : Fin 1024) : (V m c main_arg2 : S8704x1024.Idx → EReal) (ix2 k j) = argG m c (ix2 k j) := by
  entry_read
  rfl

theorem point_lt (t : Fin cfg0.N) : t.val < 8 := lt_of_lt_of_eq t.isLt N_0

/-- The row and the column of the result, and the place along the summed dimension, of an index of a grid point's blocks. -/
abbrev row (_ : Fin cfg0.N) (i : Fin 1024) : Fin 1024 := ⟨i, by omega⟩
@[inherit_doc row] abbrev col (_ : Fin cfg0.N) (j : Fin 1024) : Fin 1024 := ⟨j, by omega⟩
@[inherit_doc row] abbrev pos (t : Fin cfg0.N) (k : Fin 1088) : Fin 8704 := ⟨t.val * 1088 + k, by have := point_lt t; omega⟩

theorem read_left (t : Fin cfg0.N) (k : Fin 1088) (i : Fin 1024) :
    (iblk m c 0 t : Vec Ideal S1088x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1088) (j : Fin 1024) :
    (iblk m c 1 t : Vec Ideal S1088x1024 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1088, argA m c (ix2 (pos t k) (row t (z 0))) * argG m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h3 : pos ⟨8 * (t.val / 8) + s.val, Pipeline.run_point_lt_of_flush t hs s⟩ k = ⟨s.val * 1088 + k.val, hl⟩ := Fin.ext (by
    show (8 * (t.val / 8) + s.val) * 1088 + k.val = s.val * 1088 + k.val
    have := point_lt t
    omega)
  show argA m c (ix2 (pos _ k) (row _ y0)) * argG m c (ix2 (pos _ k) (col _ y1)) = _
  rw [h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel and the reference end with the same array. -/
theorem algebraic : Cert.algebraic_Kernel9Ideal_Reference9Ideal := by
  intro m ρ m' ρ' _ hagree
  refine ⟨fun c => arr m c, ?_, ?_⟩
  · refine (θ_run Cert.Kernel9Ideal.defs _ _).mono (fun r h c => ?_) (Cert.Kernel9Ideal.Value.run_blocks (F := Ideal) m ρ)
    exact ⟨(h c).1.trans (final m c), (h c).2⟩
  · refine (θ_run Cert.Reference9Ideal.defs _ _).mono (fun r h c => ?_) (Cert.Reference9Ideal.Value.run (F := Ideal) m' ρ')
    obtain ⟨e0, e1, e2⟩ := hagree c
    refine ⟨(h c).1.trans (Eq.trans ?_ (arr_eq m c).symm), (h c).2⟩
    rw [e0, e2]
    rfl

end Cert.OutWeight
-- ==== Proof.ReluProduct.lean ====
/- The squared-ReLU product, forward. -/
module

public import proofs.«01_k».proof.Proof.Products
public import proofs.«01_k».proof.Proof.Gen.Kernel11.Frame
public import proofs.«01_k».proof.Proof.Gen.Kernel11Ideal.Value
public import proofs.«01_k».proof.Proof.Gen.Reference11Ideal.Run
public import proofs.«01_k».proof.Defs

@[expose] public section

set_option maxRecDepth 16384

noncomputable section

namespace Cert.ReluProduct

open Idealize.ShloMosaic Idealize.ShloMosaic.TcCoe Idealize.SL.Sem
open Cert.Products

section Host

open Cert.Reference11Ideal Cert.Reference11Ideal.Gen

variable (a : FVec Ideal S8704x4096 .f32) (b : FVec Ideal S4096x1024 .f32)

/-- The result that the reference computes. -/
def host : FVec Ideal S8704x1024 .f32 :=
  Host.dotGeneral dot_S8704x4096_S4096x1024_S8704x1024_1_0_0_1_n_n none (mulf (maximumf a (broadcastInDim S8704x4096 ![] bcast_S_S8704x4096 (constant S_ .f32 0x00000000#32))) (maximumf a (broadcastInDim S8704x4096 ![] bcast_S_S8704x4096 (constant S_ .f32 0x00000000#32)))) b

theorem host_at (i : Fin 8704) (j : Fin 1024) :
    host a b (ix2 i j) = ∑ k : Fin 4096, relu2 (a (ix2 i k)) * b (ix2 k j) := by
  unfold host relu2
  pointwise

end Host

section Kernel

open Cert.Kernel11Ideal Cert.Kernel11Ideal.Gen

section Block

variable (x : Vec Ideal S1088x1024 .f32) (w : Vec Ideal S1024x1024 .bf16) (acc : Vec Ideal S1088x1024 .f32) (i : Fin 1088) (j : Fin 1024)

/-- What the first grid point of a run writes, and what each later one adds. -/
theorem first_at : k0_pay1 x w (ix2 i j) = ∑ k : Fin 1024, relu2 (x (ix2 i k)) * w (ix2 k j) := by
  unfold relu2
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val / 4, t.val % 4]
    ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x4096 .f32 := m ((c.tc : Thread nD τ).loc main_arg0)
abbrev argB : FVec Ideal S4096x1024 .f32 := m ((c.tc : Thread nD τ).loc main_arg1)

/-- The result that the kernel computes. -/
def arr : FVec Ideal S8704x1024 .f32 := fun z =>
  ∑ k : Fin 4096, relu2 (argA m c (ix2 (z 0) k)) * argB m c (ix2 k (z 1))

theorem left_eq : V m c main_arg0 = argA m c := by
  entry_read
  rfl

theorem right_at (k : Fin 4096) (j : Fin 1024) : (V m c main_v0 : S4096x1024.Idx → EReal) (ix2 k j) = argB m c (ix2 k j) := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1088) : Fin 8704 := ⟨t.val / 4 * 1088 + i, by have := point_lt t; omega⟩
@[inherit_doc row] abbrev col (_ : Fin cfg0.N) (j : Fin 1024) : Fin 1024 := ⟨j, by omega⟩
@[inherit_doc row] abbrev pos (t : Fin cfg0.N) (k : Fin 1024) : Fin 4096 := ⟨t.val % 4 * 1024 + k, by omega⟩

theorem read_left (t : Fin cfg0.N) (i : Fin 1088) (k : Fin 1024) :
    (iblk m c 0 t : Vec Ideal S1088x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- What a grid point adds. -/
def part (t : Fin cfg0.N) (z : S1088x1024.Idx) : EReal :=
  ∑ k : Fin 1024, relu2 (argA m c (ix2 (row t (z 0)) (pos t k))) * argB m c (ix2 (pos t k) (col t (z 1)))

theorem part_eq (t : Fin cfg0.N) (i : Fin 1088) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 4 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 4 (fun _ => (0 : EReal)) (part m c)
    (fun t h j => by
      rw [outsAt0_A m c t h (by omega) (by omega)]
      frame_out
      idx_vars j
      rw [part_eq, zero_add])
    (fun t h j => by
      by_cases h' : t.val % 4 = 3
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨4 * (t.val / 4) + s.val, Pipeline.run_point_lt_of_flush t hs s⟩ y0 = row t y0 := Fin.ext (by
    show (4 * (t.val / 4) + s.val) / 4 * 1088 + y0.val = t.val / 4 * 1088 + y0.val
    have := point_lt t
    omega)
  have h3 : pos ⟨4 * (t.val / 4) + s.val, Pipeline.run_point_lt_of_flush t hs s⟩ k = ⟨s.val * 1024 + k.val, hl⟩ := Fin.ext (by
    show (4 * (t.val / 4) + s.val) % 4 * 1024 + k.val = s.val * 1024 + k.val
    have := point_lt t
    omega)
  show relu2 (argA m c (ix2 (row _ y0) (pos _ k))) * argB m c (ix2 (pos _ k) (col _ y1)) = _
  rw [h1, h3]
  rfl

theorem arr_eq : arr m c = host (argA m c) (argB m c) := by
  funext z
  idx_vars z
  exact (host_at _ _ z0 z1).symm

end Kernel

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel and the reference end with the same array. -/
theorem algebraic : Cert.algebraic_Kernel11Ideal_Reference11Ideal := by
  intro m ρ m' ρ' _ hagree
  refine ⟨fun c => arr m c, ?_, ?_⟩
  · refine (θ_run Cert.Kernel11Ideal.defs _ _).mono (fun r h c => ?_) (Cert.Kernel11Ideal.Value.run_blocks (F := Ideal) m ρ)
    exact ⟨(h c).1.trans (final m c), (h c).2⟩
  · refine (θ_run Cert.Reference11Ideal.defs _ _).mono (fun r h c => ?_) (Cert.Reference11Ideal.Value.run (F := Ideal) m' ρ')
    obtain ⟨e0, e1⟩ := hagree c
    refine ⟨(h c).1.trans (Eq.trans ?_ (arr_eq m c).symm), (h c).2⟩
    rw [e0, e1]
    rfl

end Cert.ReluProduct
-- ==== Proof.FirstProduct.lean ====
/- The MLP's first product, forward. -/
module

public import proofs.«01_k».proof.Proof.Products
public import proofs.«01_k».proof.Proof.Gen.Kernel12.Frame
public import proofs.«01_k».proof.Proof.Gen.Kernel12Ideal.Value
public import proofs.«01_k».proof.Proof.Gen.Reference12Ideal.Run
public import proofs.«01_k».proof.Defs

@[expose] public section

set_option maxRecDepth 16384

noncomputable section

namespace Cert.FirstProduct

open Idealize.ShloMosaic Idealize.ShloMosaic.TcCoe Idealize.SL.Sem
open Cert.Products

section Host

open Cert.Reference12Ideal Cert.Reference12Ideal.Gen

variable (a : FVec Ideal S8704x1024 .f32) (b : FVec Ideal S1024x4096 .f32)

/-- The result that the reference computes. -/
def host : FVec Ideal S8704x4096 .f32 :=
  Host.dotGeneral dot_S8704x1024_S1024x4096_S8704x4096_1_0_0_1_n_n none a b

theorem host_at (i : Fin 8704) (j : Fin 4096) :
    host a b (ix2 i j) = ∑ k : Fin 1024, a (ix2 i k) * b (ix2 k j) := by
  unfold host
  pointwise

end Host

section Kernel

open Cert.Kernel12Ideal Cert.Kernel12Ideal.Gen

section Block

variable (x : Vec Ideal S1088x1024 .f32) (w : Vec Ideal S1024x1024 .bf16) (i : Fin 1088) (j : Fin 1024)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x1024 .f32 := m ((c.tc : Thread nD τ).loc main_arg0)
abbrev argB : FVec Ideal S1024x4096 .f32 := m ((c.tc : Thread nD τ).loc main_arg1)

/-- The result that the kernel computes. -/
def arr : FVec Ideal S8704x4096 .f32 := fun z =>
  ∑ k : Fin 1024, argA m c (ix2 (z 0) k) * argB m c (ix2 k (z 1))

theorem left_eq : V m c main_arg0 = argA m c := by
  entry_read
  rfl

theorem right_at (k : Fin 1024) (j : Fin 4096) : (V m c main_v0 : S1024x4096.Idx → EReal) (ix2 k j) = argB m c (ix2 k j) := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1088) : Fin 8704 := ⟨t.val / 4 * 1088 + i, by have := point_lt t; omega⟩
@[inherit_doc row] abbrev col (t : Fin cfg0.N) (j : Fin 1024) : Fin 4096 := ⟨t.val % 4 * 1024 + j, by omega⟩
@[inherit_doc row] abbrev pos (_ : Fin cfg0.N) (k : Fin 1024) : Fin 1024 := ⟨k, by omega⟩

theorem read_left (t : Fin cfg0.N) (i : Fin 1088) (k : Fin 1024) :
    (iblk m c 0 t : Vec Ideal S1088x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  exact (host_at _ _ z0 z1).symm

end Kernel

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel and the reference end with the same array. -/
theorem algebraic : Cert.algebraic_Kernel12Ideal_Reference12Ideal := by
  intro m ρ m' ρ' _ hagree
  refine ⟨fun c => arr m c, ?_, ?_⟩
  · refine (θ_run Cert.Kernel12Ideal.defs _ _).mono (fun r h c => ?_) (Cert.Kernel12Ideal.Value.run_blocks (F := Ideal) m ρ)
    exact ⟨(h c).1.trans (final m c), (h c).2⟩
  · refine (θ_run Cert.Reference12Ideal.defs _ _).mono (fun r h c => ?_) (Cert.Reference12Ideal.Value.run (F := Ideal) m' ρ')
    obtain ⟨e0, e1⟩ := hagree c
    refine ⟨(h c).1.trans (Eq.trans ?_ (arr_eq m c).symm), (h c).2⟩
    rw [e0, e1]
    rfl

end Cert.FirstProduct
-- ==== Proof.InProduct.lean ====
/- The mixers' input projection, forward. -/
module

public import proofs.«01_k».proof.Proof.WideProducts
public import proofs.«01_k».proof.Proof.Gen.Kernel13.Frame
public import proofs.«01_k».proof.Proof.Gen.Kernel13Ideal.Value
public import proofs.«01_k».proof.Proof.Gen.Reference13Ideal.Run
public import proofs.«01_k».proof.Defs

@[expose] public section

set_option maxRecDepth 16384

noncomputable section

namespace Cert.InProduct

open Idealize.ShloMosaic Idealize.ShloMosaic.TcCoe Idealize.SL.Sem
open Cert.Products

section Host

open Cert.Reference13Ideal Cert.Reference13Ideal.Gen

variable (a : FVec Ideal S8704x1024 .f32) (b : FVec Ideal S1024x2736 .f32)

/-- The result that the reference computes. -/
def host : FVec Ideal S8704x2816 .f32 :=
  pad S8704x2816 ![0, 0] ![0, 80] ![0, 0] (Host.dotGeneral dot_S8704x1024_S1024x2736_S8704x2736_1_0_0_1_n_n none a b) (sitofp .f32 (constantI S_ 32 0#32)) pads_S8704x2736_S8704x2816_000_0800 h_S_

theorem host_at (i : Fin 8704) (j : Fin 2816) :
    host a b (ix2 i j) = if h : j.val < 2736 then ∑ k : Fin 1024, a (ix2 i k) * b (ix2 k ⟨j, h⟩) else 0 := by
  unfold host
  pointwise [pad_zero]

end Host

section Kernel

open Cert.Kernel13Ideal Cert.Kernel13Ideal.Gen

section Block

variable (x : Vec Ideal S1088x1024 .f32) (w : Vec Ideal S1024x1408 .bf16) (i : Fin 1088) (j : Fin 1408)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x1024 .f32 := m ((c.tc : Thread nD τ).loc main_arg0)
abbrev argB : FVec Ideal S1024x2736 .f32 := m ((c.tc : Thread nD τ).loc main_arg1)

/-- The weight with its columns of zeros, as the version hands it to the call. -/
def wideB : FVec Ideal S1024x2816 .f32 := fun z => wide (fun k => argB m c (ix2 (z 0) k)) (z 1)

/-- The result that the kernel computes. -/
def arr : FVec Ideal S8704x2816 .f32 := fun z =>
  ∑ k : Fin 1024, argA m c (ix2 (z 0) k) * wideB m c (ix2 k (z 1))

theorem left_eq : V m c main_arg0 = argA m c := by
  entry_read
  rfl

theorem right_at (k : Fin 1024) (j : Fin 2816) : (V m c main_v1 : S1024x2816.Idx → EReal) (ix2 k j) = wideB m c (ix2 k j) := by
  simp only [V, hostOps0, hostOps0_1, hostOps0_2, List.flatten_cons, List.flatten_nil, List.append_nil, List.cons_append, List.nil_append]
  entry_read
  show (pad S1024x2816 ![0, 0] ![0, 80] ![0, 0] (argB m c) (sitofp .f32 (constantI S_ 32 0#32)) pads_S1024x2736_S1024x2816_000_0800 h_S_) (ix2 k j) = _
  unfold wideB wide
  pointwise [pad_zero]

theorem point_lt (t : Fin cfg0.N) : t.val < 16 := lt_of_lt_of_eq t.isLt N_0

/-- The row and the column of the result, and the place along the summed dimension, of an index of a grid point's blocks. -/
abbrev row (t : Fin cfg0.N) (i : Fin 1088) : Fin 8704 := ⟨t.val / 2 * 1088 + i, by have := point_lt t; omega⟩
@[inherit_doc row] abbrev col (t : Fin cfg0.N) (j : Fin 1408) : Fin 2816 := ⟨t.val % 2 * 1408 + j, by omega⟩
@[inherit_doc row] abbrev pos (_ : Fin cfg0.N) (k : Fin 1024) : Fin 1024 := ⟨k, by omega⟩

theorem read_left (t : Fin cfg0.N) (i : Fin 1088) (k : Fin 1024) :
    (iblk m c 0 t : Vec Ideal S1088x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1408) :
    (iblk m c 1 t : Vec Ideal S1024x1408 .bf16) (ix2 k j) = wideB m c (ix2 (pos t k) (col t j)) := by
  refine Eq.trans (congrArg (V m c main_v1) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  refine Eq.trans ?_ (host_at _ _ z0 z1).symm
  exact sum_mul_wide (fun k => argA m c (ix2 z0 k)) (fun k j => argB m c (ix2 k j)) z1

end Kernel

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel and the reference end with the same array. -/
theorem algebraic : Cert.algebraic_Kernel13Ideal_Reference13Ideal := by
  intro m ρ m' ρ' _ hagree
  refine ⟨fun c => arr m c, ?_, ?_⟩
  · refine (θ_run Cert.Kernel13Ideal.defs _ _).mono (fun r h c => ?_) (Cert.Kernel13Ideal.Value.run_blocks (F := Ideal) m ρ)
    exact ⟨(h c).1.trans (final m c), (h c).2⟩
  · refine (θ_run Cert.Reference13Ideal.defs _ _).mono (fun r h c => ?_) (Cert.Reference13Ideal.Value.run (F := Ideal) m' ρ')
    obtain ⟨e0, e1⟩ := hagree c
    refine ⟨(h c).1.trans (Eq.trans ?_ (arr_eq m c).symm), (h c).2⟩
    rw [e0, e1]
    rfl

end Cert.InProduct
-- ==== Proof.OutProduct.lean ====
/- The mixers' output projection, forward. -/
module

public import proofs.«01_k».proof.Proof.Products
public import proofs.«01_k».proof.Proof.Gen.Kernel14.Frame
public import proofs.«01_k».proof.Proof.Gen.Kernel14Ideal.Value
public import proofs.«01_k».proof.Proof.Gen.Reference14Ideal.Run
public import proofs.«01_k».proof.Defs

@[expose] public section

set_option maxRecDepth 16384

noncomputable section

namespace Cert.OutProduct

open Idealize.ShloMosaic Idealize.ShloMosaic.TcCoe Idealize.SL.Sem
open Cert.Products

section Host

open Cert.Reference14Ideal Cert.Reference14Ideal.Gen

variable (a : FVec Ideal S8704x1024 .f32) (b : FVec Ideal S1024x1024 .f32)

/-- The result that the reference computes. -/
def host : FVec Ideal S8704x1024 .f32 :=
  Host.dotGeneral dot_S8704x1024_S1024x1024_S8704x1024_1_0_0_1_n_n none a b

theorem host_at (i : Fin 8704) (j : Fin 1024) :
    host a b (ix2 i j) = ∑ k : Fin 1024, a (ix2 i k) * b (ix2 k j) := by
  unfold host
  pointwise

end Host

section Kernel

open Cert.Kernel14Ideal Cert.Kernel14Ideal.Gen

section Block

variable (x : Vec Ideal S1088x1024 .f32) (w : Vec Ideal S1024x1024 .bf16) (i : Fin 1088) (j : Fin 1024)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x1024 .f32 := m ((c.tc : Thread nD τ).loc main_arg0)
abbrev argB : FVec Ideal S1024x1024 .f32 := m ((c.tc : Thread nD τ).loc main_arg1)

/-- The result that the kernel computes. -/
def arr : FVec Ideal S8704x1024 .f32 := fun z =>
  ∑ k : Fin 1024, argA m c (ix2 (z 0) k) * argB m c (ix2 k (z 1))

theorem left_eq : V m c main_arg0 = argA m c := by
  entry_read
  rfl

theorem right_at (k : Fin 1024) (j : Fin 1024) : (V m c main_v0 : S1024x1024.Idx → EReal) (ix2 k j) = argB m c (ix2 k j) := by
  entry_read
  rfl

theorem point_lt (t : Fin cfg0.N) : t.val < 8 := lt_of_lt_of_eq t.isLt N_0

/-- The row and the column of the result, and the place along the summed dimension, of an index of a grid point's blocks. -/
abbrev row (t : Fin cfg0.N) (i : Fin 1088) : Fin 8704 := ⟨t.val * 1088 + i, by have := point_lt t; omega⟩
@[inherit_doc row] abbrev col (_ : Fin cfg0.N) (j : Fin 1024) : Fin 1024 := ⟨j, by omega⟩
@[inherit_doc row] abbrev pos (_ : Fin cfg0.N) (k : Fin 1024) : Fin 1024 := ⟨k, by omega⟩

theorem read_left (t : Fin cfg0.N) (i : Fin 1088) (k : Fin 1024) :
    (iblk m c 0 t : Vec Ideal S1088x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  exact (host_at _ _ z0 z1).symm

end Kernel

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The kernel and the reference end with the same array. -/
theorem algebraic : Cert.algebraic_Kernel14Ideal_Reference14Ideal := by
  intro m ρ m' ρ' _ hagree
  refine ⟨fun c => arr m c, ?_, ?_⟩
  · refine (θ_run Cert.Kernel14Ideal.defs _ _).mono (fun r h c => ?_) (Cert.Kernel14Ideal.Value.run_blocks (F := Ideal) m ρ)
    exact ⟨(h c).1.trans (final m c), (h c).2⟩
  · refine (θ_run Cert.Reference14Ideal.defs _ _).mono (fun r h c => ?_) (Cert.Reference14Ideal.Value.run (F := Ideal) m' ρ')
    obtain ⟨e0, e1⟩ := hagree c
    refine ⟨(h c).1.trans (Eq.trans ?_ (arr_eq m c).symm), (h c).2⟩
    rw [e0, e1]
    rfl

end Cert.OutProduct
-- ==== Proof.LastReluRows.lean ====
/- The squared-ReLU product of the last layer, backward: the gradient of the array that the activation is taken of. -/
module

public import proofs.«01_k».proof.Proof.Products
public import proofs.«01_k».proof.Proof.Gen.Kernel15.Frame
public import proofs.«01_k».proof.Proof.Gen.Kernel15Ideal.Value
public import proofs.«01_k».proof.Proof.Gen.Reference15Ideal.Run
public import proofs.«01_k».proof.Defs

@[expose] public section

set_option maxRecDepth 16384

noncomputable section

namespace Cert.LastReluRows

open Idealize.ShloMosaic Idealize.ShloMosaic.TcCoe Idealize.SL.Sem
open Cert.Products

section Host

open Cert.Reference15Ideal Cert.Reference15Ideal.Gen

variable (a : FVec Ideal S8192x4096 .f32) (b : FVec Ideal S4096x1024 .f32) (g : FVec Ideal S8192x1024 .f32)

/-- The result that the reference computes. -/
def host : FVec Ideal S8192x4096 .f32 :=
  select (cmpf .ogt a (broadcastInDim S8192x4096 ![] bcast_S_S8192x4096 (constant S_ .f32 0x00000000#32))) (mulf (Host.dotGeneral dot_S8192x1024_S4096x1024_S8192x4096_1_1_0_0_n_n none g b) (mulf (broadcastInDim S8192x4096 ![] bcast_S_S8192x4096 (constant S_ .f32 0x40000000#32)) (maximumf a (broadcastInDim S8192x4096 ![] bcast_S_S8192x4096 (constant S_ .f32 0x00000000#32))))) (broadcastInDim S8192x4096 ![] bcast_S_S8192x4096 (constant S_ .f32 0x00000000#32))

theorem host_at (i : Fin 8192) (j : Fin 4096) :
    host a b g (ix2 i j) = (∑ k : Fin 1024, g (ix2 i k) * b (ix2 j k)) * reluSlope (a (ix2 i j)) := by
  rw [← mul_reluSlope]
  unfold host reluSlope
  pointwise

end Host

section Kernel

open Cert.Kernel15Ideal Cert.Kernel15Ideal.Gen

section Block

variable (x : Vec Ideal S1024x1024 .f32) (w : Vec Ideal S1024x1024 .bf16) (e : Vec Ideal S1024x1024 .f32) (i : Fin 1024) (j : Fin 1024)

/-- What a grid point writes. -/
theorem block_at : k0_pay1 x w e (ix2 i j) = (∑ k : Fin 1024, x (ix2 i k) * w (ix2 k j)) * reluSlope (e (ix2 i j)) := by
  unfold reluSlope
  pointwise [k0_pay1]

end Block

/-- Which block of each array a grid point reads and writes. -/
theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x4096 .f32 := m ((c.tc : Thread nD τ).loc main_arg0)
abbrev argB : FVec Ideal S4096x1024 .f32 := m ((c.tc : Thread nD τ).loc main_arg1)
abbrev argG : FVec Ideal S8192x1024 .f32 := m ((c.tc : Thread nD τ).loc main_arg2)

/-- The result that the kernel computes. -/
def arr : FVec Ideal S8192x4096 .f32 := fun z =>
  (∑ k : Fin 1024, argG m c (ix2 (z 0) k) * argB m c (ix2 (z 1) k)) * reluSlope (argA m c z)

theorem left_eq : V m c main_arg2 = argG m c := by
  entry_read
  rfl

theorem right_at (k : Fin 1024) (j : Fin 4096) : (V m c main_v1 : S1024x4096.Idx → EReal) (ix2 k j) = argB m c (ix2 j k) := by
  entry_read
  pointwise

theorem acts_eq : V m c main_arg0 = argA m c := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1024) : Fin 8192 := ⟨t.val / 4 * 1024 + i, by have := point_lt t; omega⟩
@[inherit_doc row] abbrev col (t : Fin cfg0.N) (j : Fin 1024) : Fin 4096 := ⟨t.val % 4 * 1024 + j, by omega⟩
@[inherit_doc row] abbrev pos (_ : Fin cfg0.N) (k : Fin 1024) : Fin 1024 := ⟨k, by omega⟩

theorem read_left (t : Fin cfg0.N) (i : Fin 1024) (k : Fin 1024) :
    (iblk m c 0 t : Vec Ideal S1024x1024 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

theorem read_acts (t : Fin cfg0.N) (i : Fin 1024) (j : Fin 1024) :
    (iblk m c 2 t : Vec Ideal S1024x1024 .f32) (ix2 i j) = argA m c (ix2 (row t i) (col t j)) := by
  refine Eq.trans (congrArg (V m c main_arg0) (?_ : ((cfg0.win 2).blk t).view.emb (ix2 i j) = ix2 (row t i) (col t j))) (congrFun (acts_eq m c) _)
  blk_ext [idx t]

/-- The kernel's result array after its run. -/
theorem final : (dats m 0 c).arrAt 3 (cfgs 0).N = arr m c := by
  refine (dats m 0 c).arrAt_eq_of_covers 3 _ (by decide +kernel) fun t hf y => ?_
  blk_simp
  rw [after0_3]
  frame_out
  idx_vars y
  have e : ((cfg0.win 3).blk t).view.emb (ix2 y0 y1) = ix2 (row t y0) (col t y1) := by blk_ext [idx t]
  refine Eq.trans ?_ (congrArg (arr m c) e).symm
  rw [block_at, read_acts]
  show (_ : EReal) = _
  exact congrArg (· * _) (Finset.sum_congr rfl fun k _ => by rw [read_left, read_right]; rfl)

theorem arr_eq : arr m c = host (argA m c) (argB m c) (argG m c) := by
  funext z
  idx_vars z
  exact (host_at _ _ _ z0 z1).symm

end Kernel

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The kernel and the reference end with the same array. -/
theorem algebraic : Cert.algebraic_Kernel15Ideal_Reference15Ideal := by
  intro m ρ m' ρ' _ hagree
  refine ⟨fun c => arr m c, ?_, ?_⟩
  · refine (θ_run Cert.Kernel15Ideal.defs _ _).mono (fun r h c => ?_) (Cert.Kernel15Ideal.Value.run_blocks (F := Ideal) m ρ)
    exact ⟨(h c).1.trans (final m c), (h c).2⟩
  · refine (θ_run Cert.Reference15Ideal.defs _ _).mono (fun r h c => ?_) (Cert.Reference15Ideal.Value.run (F := Ideal) m' ρ')
    obtain ⟨e0, e1, e2⟩ := hagree c
    refine ⟨(h c).1.trans (Eq.trans ?_ (arr_eq m c).symm), (h c).2⟩
    rw [e0, e1, e2]
    rfl

end Cert.LastReluRows
-- ==== Proof.LastReluWeight.lean ====
/- The squared-ReLU product of the last layer, backward: the gradient of its weight. -/
module

public import proofs.«01_k».proof.Proof.Products
public import proofs.«01_k».proof.Proof.Gen.Kernel16.Frame
public import proofs.«01_k».proof.Proof.Gen.Kernel16Ideal.Value
public import proofs.«01_k».proof.Proof.Gen.Reference16Ideal.Run
public import proofs.«01_k».proof.Defs

@[expose] public section

set_option maxRecDepth 16384

noncomputable section

namespace Cert.LastReluWeight

open Idealize.ShloMosaic Idealize.ShloMosaic.TcCoe Idealize.SL.Sem
open Cert.Products

section Host

open Cert.Reference16Ideal Cert.Reference16Ideal.Gen

variable (a : FVec Ideal S8192x4096 .f32) (g : FVec Ideal S8192x1024 .f32)

/-- The result that the reference computes. -/
def host : FVec Ideal S4096x1024 .f32 :=
  transpose S4096x1024 [1, 0] (Host.dotGeneral dot_S8192x1024_S8192x4096_S1024x4096_0_0_1_1_n_n none g (mulf (maximumf a (broadcastInDim S8192x4096 ![] bcast_S_S8192x4096 (constant S_ .f32 0x00000000#32))) (maximumf a (broadcastInDim S8192x4096 ![] bcast_S_S8192x4096 (constant S_ .f32 0x00000000#32))))) transposes_S1024x4096_S4096x1024_1_0

theorem host_at (i : Fin 4096) (j : Fin 1024) :
    host a g (ix2 i j) = ∑ k : Fin 8192, g (ix2 k j) * relu2 (a (ix2 k i)) := by
  unfold host relu2
  pointwise

end Host

section Kernel

open Cert.Kernel16Ideal Cert.Kernel16Ideal.Gen

section Block

variable (x : Vec Ideal S1024x1024 .f32) (w : Vec Ideal S1024x1024 .f32) (acc : Vec Ideal S1024x1024 .f32) (i : Fin 1024) (j : Fin 1024)

/-- What the first grid point of a run writes, and what each later one adds. -/
theorem first_at : k0_pay1 x w (ix2 i j) = ∑ k : Fin 1024, relu2 (x (ix2 k i)) * w (ix2 k j) := by
  unfold relu2
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val % 8, t.val / 8]
    ∧ win0_1.index t = ![t.val % 8, 0]
    ∧ win0_2.index t = ![t.val / 8, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x4096 .f32 := m ((c.tc : Thread nD τ).loc main_arg0)
abbrev argG : FVec Ideal S8192x1024 .f32 := m ((c.tc : Thread nD τ).loc main_arg2)

/-- The result that the kernel computes. -/
def arr : FVec Ideal S4096x1024 .f32 := fun z =>
  ∑ k : Fin 8192, relu2 (argA m c (ix2 k (z 0))) * argG m c (ix2 k (z 1))

theorem left_eq : V m c main_arg0 = argA m c := by
  entry_read
  rfl

theorem right_at (k : Fin 8192) (j : Fin 1024) : (V m c main_arg2 : S8192x1024.Idx → EReal) (ix2 k j) = argG m c (ix2 k j) := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1024) : Fin 4096 := ⟨t.val / 8 * 1024 + i, by have := point_lt t; omega⟩
@[inherit_doc row] abbrev col (_ : Fin cfg0.N) (j : Fin 1024) : Fin 1024 := ⟨j, by omega⟩
@[inherit_doc row] abbrev pos (t : Fin cfg0.N) (k : Fin 1024) : Fin 8192 := ⟨t.val % 8 * 1024 + k, by omega⟩

theorem read_left (t : Fin cfg0.N) (k : Fin 1024) (i : Fin 1024) :
    (iblk m c 0 t : Vec Ideal S1024x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1024) (j : Fin 1024) :
    (iblk m c 1 t : Vec Ideal S1024x1024 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1024, relu2 (argA m c (ix2 (pos t k) (row t (z 0)))) * argG m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨8 * (t.val / 8) + s.val, Pipeline.run_point_lt_of_flush t hs s⟩ y0 = row t y0 := Fin.ext (by
    show (8 * (t.val / 8) + s.val) / 8 * 1024 + y0.val = t.val / 8 * 1024 + y0.val
    have := point_lt t
    omega)
  have h3 : pos ⟨8 * (t.val / 8) + s.val, Pipeline.run_point_lt_of_flush t hs s⟩ k = ⟨s.val * 1024 + k.val, hl⟩ := Fin.ext (by
    show (8 * (t.val / 8) + s.val) % 8 * 1024 + k.val = s.val * 1024 + k.val
    have := point_lt t
    omega)
  show relu2 (argA m c (ix2 (pos _ k) (row _ y0))) * argG m c (ix2 (pos _ k) (col _ y1)) = _
  rw [h1, h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The kernel and the reference end with the same array. -/
theorem algebraic : Cert.algebraic_Kernel16Ideal_Reference16Ideal := by
  intro m ρ m' ρ' _ hagree
  refine ⟨fun c => arr m c, ?_, ?_⟩
  · refine (θ_run Cert.Kernel16Ideal.defs _ _).mono (fun r h c => ?_) (Cert.Kernel16Ideal.Value.run_blocks (F := Ideal) m ρ)
    exact ⟨(h c).1.trans (final m c), (h c).2⟩
  · refine (θ_run Cert.Reference16Ideal.defs _ _).mono (fun r h c => ?_) (Cert.Reference16Ideal.Value.run (F := Ideal) m' ρ')
    obtain ⟨e0, e1, e2⟩ := hagree c
    refine ⟨(h c).1.trans (Eq.trans ?_ (arr_eq m c).symm), (h c).2⟩
    rw [e0, e2]
    rfl

end Cert.LastReluWeight
-- ==== Proof.LastFirstRows.lean ====
/- The MLP's first product in the last layer, backward: the gradient of its rows. -/
module

public import proofs.«01_k».proof.Proof.Products
public import proofs.«01_k».proof.Proof.Gen.Kernel17.Frame
public import proofs.«01_k».proof.Proof.Gen.Kernel17Ideal.Value
public import proofs.«01_k».proof.Proof.Gen.Reference17Ideal.Run
public import proofs.«01_k».proof.Defs

@[expose] public section

set_option maxRecDepth 16384

noncomputable section

namespace Cert.LastFirstRows

open Idealize.ShloMosaic Idealize.ShloMosaic.TcCoe Idealize.SL.Sem
open Cert.Products

section Host

open Cert.Reference17Ideal Cert.Reference17Ideal.Gen

variable (b : FVec Ideal S1024x4096 .f32) (g : FVec Ideal S8192x4096 .f32)

/-- The result that the reference computes. -/
def host : FVec Ideal S8192x1024 .f32 :=
  Host.dotGeneral dot_S8192x4096_S1024x4096_S8192x1024_1_1_0_0_n_n none g b

theorem host_at (i : Fin 8192) (j : Fin 1024) :
    host b g (ix2 i j) = ∑ k : Fin 4096, g (ix2 i k) * b (ix2 j k) := by
  unfold host
  pointwise

end Host

section Kernel

open Cert.Kernel17Ideal Cert.Kernel17Ideal.Gen

section Block

variable (x : Vec Ideal S1024x1024 .f32) (w : Vec Ideal S1024x1024 .bf16) (acc : Vec Ideal S1024x1024 .f32) (i : Fin 1024) (j : Fin 1024)

/-- What the first grid point of a run writes, and what each later one adds. -/
theorem first_at : k0_pay1 x w (ix2 i j) = ∑ k : Fin 1024, x (ix2 i k) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val / 4, t.val % 4]
    ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S1024x4096 .f32 := m ((c.tc : Thread nD τ).loc main_arg1)
abbrev argG : FVec Ideal S8192x4096 .f32 := m ((c.tc : Thread nD τ).loc main_arg2)

/-- The result that the kernel computes. -/
def arr : FVec Ideal S8192x1024 .f32 := fun z =>
  ∑ k : Fin 4096, argG m c (ix2 (z 0) k) * argB m c (ix2 (z 1) k)

theorem left_eq : V m c main_arg2 = argG m c := by
  entry_read
  rfl

theorem right_at (k : Fin 4096) (j : Fin 1024) : (V m c main_v1 : S4096x1024.Idx → EReal) (ix2 k j) = argB m c (ix2 j k) := by
  entry_read
  pointwise

theorem point_lt (t : Fin cfg0.N) : t.val < 32 := lt_of_lt_of_eq t.isLt N_0

/-- The row and the column of the result, and the place along the summed dimension, of an index of a grid point's blocks. -/
abbrev row (t : Fin cfg0.N) (i : Fin 1024) : Fin 8192 := ⟨t.val / 4 * 1024 + i, by have := point_lt t; omega⟩
@[inherit_doc row] abbrev col (_ : Fin cfg0.N) (j : Fin 1024) : Fin 1024 := ⟨j, by omega⟩
@[inherit_doc row] abbrev pos (t : Fin cfg0.N) (k : Fin 1024) : Fin 4096 := ⟨t.val % 4 * 1024 + k, by omega⟩

theorem read_left (t : Fin cfg0.N) (i : Fin 1024) (k : Fin 1024) :
    (iblk m c 0 t : Vec Ideal S1024x1024 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1024, argG m c (ix2 (row t (z 0)) (pos t k)) * argB m c (ix2 (col t (z 1)) (pos t k))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 4 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 4 (fun _ => (0 : EReal)) (part m c)
    (fun t h j => by
      rw [outsAt0_A m c t h (by omega) (by omega)]
      frame_out
      idx_vars j
      rw [part_eq, zero_add])
    (fun t h j => by
      by_cases h' : t.val % 4 = 3
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨4 * (t.val / 4) + s.val, Pipeline.run_point_lt_of_flush t hs s⟩ y0 = row t y0 := Fin.ext (by
    show (4 * (t.val / 4) + s.val) / 4 * 1024 + y0.val = t.val / 4 * 1024 + y0.val
    have := point_lt t
    omega)
  have h3 : pos ⟨4 * (t.val / 4) + s.val, Pipeline.run_point_lt_of_flush t hs s⟩ k = ⟨s.val * 1024 + k.val, hl⟩ := Fin.ext (by
    show (4 * (t.val / 4) + s.val) % 4 * 1024 + k.val = s.val * 1024 + k.val
    have := point_lt t
    omega)
  show argG m c (ix2 (row _ y0) (pos _ k)) * argB m c (ix2 (col _ y1) (pos _ k)) = _
  rw [h1, h3]
  rfl

theorem arr_eq : arr m c = host (argB m c) (argG m c) := by
  funext z
  idx_vars z
  exact (host_at _ _ z0 z1).symm

end Kernel

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The kernel and the reference end with the same array. -/
theorem algebraic : Cert.algebraic_Kernel17Ideal_Reference17Ideal := by
  intro m ρ m' ρ' _ hagree
  refine ⟨fun c => arr m c, ?_, ?_⟩
  · refine (θ_run Cert.Kernel17Ideal.defs _ _).mono (fun r h c => ?_) (Cert.Kernel17Ideal.Value.run_blocks (F := Ideal) m ρ)
    exact ⟨(h c).1.trans (final m c), (h c).2⟩
  · refine (θ_run Cert.Reference17Ideal.defs _ _).mono (fun r h c => ?_) (Cert.Reference17Ideal.Value.run (F := Ideal) m' ρ')
    obtain ⟨e0, e1, e2⟩ := hagree c
    refine ⟨(h c).1.trans (Eq.trans ?_ (arr_eq m c).symm), (h c).2⟩
    rw [e1, e2]
    rfl

end Cert.LastFirstRows
-- ==== Proof.LastFirstWeight.lean ====
/- The MLP's first product in the last layer, backward: the gradient of its weight. -/
module

public import proofs.«01_k».proof.Proof.Products
public import proofs.«01_k».proof.Proof.Gen.Kernel18.Frame
public import proofs.«01_k».proof.Proof.Gen.Kernel18Ideal.Value
public import proofs.«01_k».proof.Proof.Gen.Reference18Ideal.Run
public import proofs.«01_k».proof.Defs

@[expose] public section

set_option maxRecDepth 16384

noncomputable section

namespace Cert.LastFirstWeight

open Idealize.ShloMosaic Idealize.ShloMosaic.TcCoe Idealize.SL.Sem
open Cert.Products

section Host

open Cert.Reference18Ideal Cert.Reference18Ideal.Gen

variable (a : FVec Ideal S8192x1024 .f32) (g : FVec Ideal S8192x4096 .f32)

/-- The result that the reference computes. -/
def host : FVec Ideal S1024x4096 .f32 :=
  transpose S1024x4096 [1, 0] (Host.dotGeneral dot_S8192x4096_S8192x1024_S4096x1024_0_0_1_1_n_n none g a) transposes_S4096x1024_S1024x4096_1_0

theorem host_at (i : Fin 1024) (j : Fin 4096) :
    host a g (ix2 i j) = ∑ k : Fin 8192, g (ix2 k j) * a (ix2 k i) := by
  unfold host
  pointwise

end Host

section Kernel

open Cert.Kernel18Ideal Cert.Kernel18Ideal.Gen

section Block

variable (x : Vec Ideal S1024x1024 .f32) (w : Vec Ideal S1024x1024 .f32) (acc : Vec Ideal S1024x1024 .f32) (i : Fin 1024) (j : Fin 1024)

/-- What the first grid point of a run writes, and what each later one adds. -/
theorem first_at : k0_pay1 x w (ix2 i j) = ∑ k : Fin 1024, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val % 8, 0]
    ∧ win0_1.index t = ![t.val % 8, t.val / 8]
    ∧ win0_2.index t = ![0, t.val / 8] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x1024 .f32 := m ((c.tc : Thread nD τ).loc main_arg0)
abbrev argG : FVec Ideal S8192x4096 .f32 := m ((c.tc : Thread nD τ).loc main_arg2)

/-- The result that the kernel computes. -/
def arr : FVec Ideal S1024x4096 .f32 := fun z =>
  ∑ k : Fin 8192, argA m c (ix2 k (z 0)) * argG m c (ix2 k (z 1))

theorem left_eq : V m c main_arg0 = argA m c := by
  entry_read
  rfl

theorem right_at (k : Fin 8192) (j : Fin 4096) : (V m c main_arg2 : S8192x4096.Idx → EReal) (ix2 k j) = argG m c (ix2 k j) := by
  entry_read
  rfl

theorem point_lt (t : Fin cfg0.N) : t.val < 32 := lt_of_lt_of_eq t.isLt N_0

/-- The row and the column of the result, and the place along the summed dimension, of an index of a grid point's blocks. -/
abbrev row (_ : Fin cfg0.N) (i : Fin 1024) : Fin 1024 := ⟨i, by omega⟩
@[inherit_doc row] abbrev col (t : Fin cfg0.N) (j : Fin 1024) : Fin 4096 := ⟨t.val / 8 * 1024 + j, by have := point_lt t; omega⟩
@[inherit_doc row] abbrev pos (t : Fin cfg0.N) (k : Fin 1024) : Fin 8192 := ⟨t.val % 8 * 1024 + k, by omega⟩

theorem read_left (t : Fin cfg0.N) (k : Fin 1024) (i : Fin 1024) :
    (iblk m c 0 t : Vec Ideal S1024x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1024) (j : Fin 1024) :
    (iblk m c 1 t : Vec Ideal S1024x1024 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1024, argA m c (ix2 (pos t k) (row t (z 0))) * argG m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h2 : col ⟨8 * (t.val / 8) + s.val, Pipeline.run_point_lt_of_flush t hs s⟩ y1 = col t y1 := Fin.ext (by
    show (8 * (t.val / 8) + s.val) / 8 * 1024 + y1.val = t.val / 8 * 1024 + y1.val
    have := point_lt t
    omega)
  have h3 : pos ⟨8 * (t.val / 8) + s.val, Pipeline.run_point_lt_of_flush t hs s⟩ k = ⟨s.val * 1024 + k.val, hl⟩ := Fin.ext (by
    show (8 * (t.val / 8) + s.val) % 8 * 1024 + k.val = s.val * 1024 + k.val
    have := point_lt t
    omega)
  show argA m c (ix2 (pos _ k) (row _ y0)) * argG m c (ix2 (pos _ k) (col _ y1)) = _
  rw [h2, h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The kernel and the reference end with the same array. -/
theorem algebraic : Cert.algebraic_Kernel18Ideal_Reference18Ideal := by
  intro m ρ m' ρ' _ hagree
  refine ⟨fun c => arr m c, ?_, ?_⟩
  · refine (θ_run Cert.Kernel18Ideal.defs _ _).mono (fun r h c => ?_) (Cert.Kernel18Ideal.Value.run_blocks (F := Ideal) m ρ)
    exact ⟨(h c).1.trans (final m c), (h c).2⟩
  · refine (θ_run Cert.Reference18Ideal.defs _ _).mono (fun r h c => ?_) (Cert.Reference18Ideal.Value.run (F := Ideal) m' ρ')
    obtain ⟨e0, e1, e2⟩ := hagree c
    refine ⟨(h c).1.trans (Eq.trans ?_ (arr_eq m c).symm), (h c).2⟩
    rw [e0, e2]
    rfl

end Cert.LastFirstWeight
-- ==== Proof.LastOutRows.lean ====
/- The mixers' output projection in the last layer, backward: the gradient of its rows. -/
module

public import proofs.«01_k».proof.Proof.Products
public import proofs.«01_k».proof.Proof.Gen.Kernel19.Frame
public import proofs.«01_k».proof.Proof.Gen.Kernel19Ideal.Value
public import proofs.«01_k».proof.Proof.Gen.Reference19Ideal.Run
public import proofs.«01_k».proof.Defs

@[expose] public section

set_option maxRecDepth 16384

noncomputable section

namespace Cert.LastOutRows

open Idealize.ShloMosaic Idealize.ShloMosaic.TcCoe Idealize.SL.Sem
open Cert.Products

section Host

open Cert.Reference19Ideal Cert.Reference19Ideal.Gen

variable (b : FVec Ideal S1024x1024 .f32) (g : FVec Ideal S8192x1024 .f32)

/-- The result that the reference computes. -/
def host : FVec Ideal S8192x1024 .f32 :=
  Host.dotGeneral dot_S8192x1024_S1024x1024_S8192x1024_1_1_0_0_n_n none g b

theorem host_at (i : Fin 8192) (j : Fin 1024) :
    host b g (ix2 i j) = ∑ k : Fin 1024, g (ix2 i k) * b (ix2 j k) := by
  unfold host
  pointwise

end Host

section Kernel

open Cert.Kernel19Ideal Cert.Kernel19Ideal.Gen

section Block

variable (x : Vec Ideal S1024x1024 .f32) (w : Vec Ideal S1024x1024 .bf16) (i : Fin 1024) (j : Fin 1024)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S1024x1024 .f32 := m ((c.tc : Thread nD τ).loc main_arg1)
abbrev argG : FVec Ideal S8192x1024 .f32 := m ((c.tc : Thread nD τ).loc main_arg2)

/-- The result that the kernel computes. -/
def arr : FVec Ideal S8192x1024 .f32 := fun z =>
  ∑ k : Fin 1024, argG m c (ix2 (z 0) k) * argB m c (ix2 (z 1) k)

theorem left_eq : V m c main_arg2 = argG m c := by
  entry_read
  rfl

theorem right_at (k : Fin 1024) (j : Fin 1024) : (V m c main_v1 : S1024x1024.Idx → EReal) (ix2 k j) = argB m c (ix2 j k) := by
  entry_read
  pointwise

theorem point_lt (t : Fin cfg0.N) : t.val < 8 := lt_of_lt_of_eq t.isLt N_0

/-- The row and the column of the result, and the place along the summed dimension, of an index of a grid point's blocks. -/
abbrev row (t : Fin cfg0.N) (i : Fin 1024) : Fin 8192 := ⟨t.val * 1024 + i, by have := point_lt t; omega⟩
@[inherit_doc row] abbrev col (_ : Fin cfg0.N) (j : Fin 1024) : Fin 1024 := ⟨j, by omega⟩
@[inherit_doc row] abbrev pos (_ : Fin cfg0.N) (k : Fin 1024) : Fin 1024 := ⟨k, by omega⟩

theorem read_left (t : Fin cfg0.N) (i : Fin 1024) (k : Fin 1024) :
    (iblk m c 0 t : Vec Ideal S1024x1024 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argB m c) (argG m c) := by
  funext z
  idx_vars z
  exact (host_at _ _ z0 z1).symm

end Kernel

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The kernel and the reference end with the same array. -/
theorem algebraic : Cert.algebraic_Kernel19Ideal_Reference19Ideal := by
  intro m ρ m' ρ' _ hagree
  refine ⟨fun c => arr m c, ?_, ?_⟩
  · refine (θ_run Cert.Kernel19Ideal.defs _ _).mono (fun r h c => ?_) (Cert.Kernel19Ideal.Value.run_blocks (F := Ideal) m ρ)
    exact ⟨(h c).1.trans (final m c), (h c).2⟩
  · refine (θ_run Cert.Reference19Ideal.defs _ _).mono (fun r h c => ?_) (Cert.Reference19Ideal.Value.run (F := Ideal) m' ρ')
    obtain ⟨e0, e1, e2⟩ := hagree c
    refine ⟨(h c).1.trans (Eq.trans ?_ (arr_eq m c).symm), (h c).2⟩
    rw [e1, e2]
    rfl

end Cert.LastOutRows
-- ==== Proof.LastOutWeight.lean ====
/- The mixers' output projection in the last layer, backward: the gradient of its weight. -/
module

public import proofs.«01_k».proof.Proof.Products
public import proofs.«01_k».proof.Proof.Gen.Kernel20.Frame
public import proofs.«01_k».proof.Proof.Gen.Kernel20Ideal.Value
public import proofs.«01_k».proof.Proof.Gen.Reference20Ideal.Run
public import proofs.«01_k».proof.Defs

@[expose] public section

set_option maxRecDepth 16384

noncomputable section

namespace Cert.LastOutWeight

open Idealize.ShloMosaic Idealize.ShloMosaic.TcCoe Idealize.SL.Sem
open Cert.Products

section Host

open Cert.Reference20Ideal Cert.Reference20Ideal.Gen

variable (a : FVec Ideal S8192x1024 .f32) (g : FVec Ideal S8192x1024 .f32)

/-- The result that the reference computes. -/
def host : FVec Ideal S1024x1024 .f32 :=
  transpose S1024x1024 [1, 0] (Host.dotGeneral dot_S8192x1024_S8192x1024_S1024x1024_0_0_1_1_n_n none g a) transposes_S1024x1024_S1024x1024_1_0

theorem host_at (i : Fin 1024) (j : Fin 1024) :
    host a g (ix2 i j) = ∑ k : Fin 8192, g (ix2 k j) * a (ix2 k i) := by
  unfold host
  pointwise

end Host

section Kernel

open Cert.Kernel20Ideal Cert.Kernel20Ideal.Gen

section Block

variable (x : Vec Ideal S1024x1024 .f32) (w : Vec Ideal S1024x1024 .f32) (acc : Vec Ideal S1024x1024 .f32) (i : Fin 1024) (j : Fin 1024)

/-- What the first grid point of a run writes, and what each later one adds. -/
theorem first_at : k0_pay1 x w (ix2 i j) = ∑ k : Fin 1024, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val, 0]
    ∧ win0_1.index t = ![t.val, 0]
    ∧ win0_2.index t = ![0, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x1024 .f32 := m ((c.tc : Thread nD τ).loc main_arg0)
abbrev argG : FVec Ideal S8192x1024 .f32 := m ((c.tc : Thread nD τ).loc main_arg2)

/-- The result that the kernel computes. -/
def arr : FVec Ideal S1024x1024 .f32 := fun z =>
  ∑ k : Fin 8192, argA m c (ix2 k (z 0)) * argG m c (ix2 k (z 1))

theorem left_eq : V m c main_arg0 = argA m c := by
  entry_read
  rfl

theorem right_at (k : Fin 8192) (j : Fin 1024) : (V m c main_arg2 : S8192x1024.Idx → EReal) (ix2 k j) = argG m c (ix2 k j) := by
  entry_read
  rfl

theorem point_lt (t : Fin cfg0.N) : t.val < 8 := lt_of_lt_of_eq t.isLt N_0

/-- The row and the column of the result, and the place along the summed dimension, of an index of a grid point's blocks. -/
abbrev row (_ : Fin cfg0.N) (i : Fin 1024) : Fin 1024 := ⟨i, by omega⟩
@[inherit_doc row] abbrev col (_ : Fin cfg0.N) (j : Fin 1024) : Fin 1024 := ⟨j, by omega⟩
@[inherit_doc row] abbrev pos (t : Fin cfg0.N) (k : Fin 1024) : Fin 8192 := ⟨t.val * 1024 + k, by have := point_lt t; omega⟩

theorem read_left (t : Fin cfg0.N) (k : Fin 1024) (i : Fin 1024) :
    (iblk m c 0 t : Vec Ideal S1024x1024 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1024) (j : Fin 1024) :
    (iblk m c 1 t : Vec Ideal S1024x1024 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1024, argA m c (ix2 (pos t k) (row t (z 0))) * argG m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h3 : pos ⟨8 * (t.val / 8) + s.val, Pipeline.run_point_lt_of_flush t hs s⟩ k = ⟨s.val * 1024 + k.val, hl⟩ := Fin.ext (by
    show (8 * (t.val / 8) + s.val) * 1024 + k.val = s.val * 1024 + k.val
    have := point_lt t
    omega)
  show argA m c (ix2 (pos _ k) (row _ y0)) * argG m c (ix2 (pos _ k) (col _ y1)) = _
  rw [h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- The kernel and the reference end with the same array. -/
theorem algebraic : Cert.algebraic_Kernel20Ideal_Reference20Ideal := by
  intro m ρ m' ρ' _ hagree
  refine ⟨fun c => arr m c, ?_, ?_⟩
  · refine (θ_run Cert.Kernel20Ideal.defs _ _).mono (fun r h c => ?_) (Cert.Kernel20Ideal.Value.run_blocks (F := Ideal) m ρ)
    exact ⟨(h c).1.trans (final m c), (h c).2⟩
  · refine (θ_run Cert.Reference20Ideal.defs _ _).mono (fun r h c => ?_) (Cert.Reference20Ideal.Value.run (F := Ideal) m' ρ')
    obtain ⟨e0, e1, e2⟩ := hagree c
    refine ⟨(h c).1.trans (Eq.trans ?_ (arr_eq m c).symm), (h c).2⟩
    rw [e0, e2]
    rfl

end Cert.LastOutWeight
-- ==== Proof.LastReluProduct.lean ====
/- The squared-ReLU product of the last layer, forward. -/
module

public import proofs.«01_k».proof.Proof.Products
public import proofs.«01_k».proof.Proof.Gen.Kernel21.Frame
public import proofs.«01_k».proof.Proof.Gen.Kernel21Ideal.Value
public import proofs.«01_k».proof.Proof.Gen.Reference21Ideal.Run
public import proofs.«01_k».proof.Defs

@[expose] public section

set_option maxRecDepth 16384

noncomputable section

namespace Cert.LastReluProduct

open Idealize.ShloMosaic Idealize.ShloMosaic.TcCoe Idealize.SL.Sem
open Cert.Products

section Host

open Cert.Reference21Ideal Cert.Reference21Ideal.Gen

variable (a : FVec Ideal S8192x4096 .f32) (b : FVec Ideal S4096x1024 .f32)

/-- The result that the reference computes. -/
def host : FVec Ideal S8192x1024 .f32 :=
  Host.dotGeneral dot_S8192x4096_S4096x1024_S8192x1024_1_0_0_1_n_n none (mulf (maximumf a (broadcastInDim S8192x4096 ![] bcast_S_S8192x4096 (constant S_ .f32 0x00000000#32))) (maximumf a (broadcastInDim S8192x4096 ![] bcast_S_S8192x4096 (constant S_ .f32 0x00000000#32)))) b

theorem host_at (i : Fin 8192) (j : Fin 1024) :
    host a b (ix2 i j) = ∑ k : Fin 4096, relu2 (a (ix2 i k)) * b (ix2 k j) := by
  unfold host relu2
  pointwise

end Host

section Kernel

open Cert.Kernel21Ideal Cert.Kernel21Ideal.Gen

section Block

variable (x : Vec Ideal S1024x1024 .f32) (w : Vec Ideal S1024x1024 .bf16) (acc : Vec Ideal S1024x1024 .f32) (i : Fin 1024) (j : Fin 1024)

/-- What the first grid point of a run writes, and what each later one adds. -/
theorem first_at : k0_pay1 x w (ix2 i j) = ∑ k : Fin 1024, relu2 (x (ix2 i k)) * w (ix2 k j) := by
  unfold relu2
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val / 4, t.val % 4]
    ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x4096 .f32 := m ((c.tc : Thread nD τ).loc main_arg0)
abbrev argB : FVec Ideal S4096x1024 .f32 := m ((c.tc : Thread nD τ).loc main_arg1)

/-- The result that the kernel computes. -/
def arr : FVec Ideal S8192x1024 .f32 := fun z =>
  ∑ k : Fin 4096, relu2 (argA m c (ix2 (z 0) k)) * argB m c (ix2 k (z 1))

theorem left_eq : V m c main_arg0 = argA m c := by
  entry_read
  rfl

theorem right_at (k : Fin 4096) (j : Fin 1024) : (V m c main_v0 : S4096x1024.Idx → EReal) (ix2 k j) = argB m c (ix2 k j) := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1024) : Fin 8192 := ⟨t.val / 4 * 1024 + i, by have := point_lt t; omega⟩
@[inherit_doc row] abbrev col (_ : Fin cfg0.N) (j : Fin 1024) : Fin 1024 := ⟨j, by omega⟩
@[inherit_doc row] abbrev pos (t : Fin cfg0.N) (k : Fin 1024) : Fin 4096 := ⟨t.val % 4 * 1024 + k, by omega⟩

theorem read_left (t : Fin cfg0.N) (i : Fin 1024) (k : Fin 1024) :
    (iblk m c 0 t : Vec Ideal S1024x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- What a grid point adds. -/
def part (t : Fin cfg0.N) (z : S1024x1024.Idx) : EReal :=
  ∑ k : Fin 1024, relu2 (argA m c (ix2 (row t (z 0)) (pos t k))) * argB m c (ix2 (pos t k) (col t (z 1)))

theorem part_eq (t : Fin cfg0.N) (i : Fin 1024) (j : Fin 1024) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 4 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 4 (fun _ => (0 : EReal)) (part m c)
    (fun t h j => by
      rw [outsAt0_A m c t h (by omega) (by omega)]
      frame_out
      idx_vars j
      rw [part_eq, zero_add])
    (fun t h j => by
      by_cases h' : t.val % 4 = 3
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h1 : row ⟨4 * (t.val / 4) + s.val, Pipeline.run_point_lt_of_flush t hs s⟩ y0 = row t y0 := Fin.ext (by
    show (4 * (t.val / 4) + s.val) / 4 * 1024 + y0.val = t.val / 4 * 1024 + y0.val
    have := point_lt t
    omega)
  have h3 : pos ⟨4 * (t.val / 4) + s.val, Pipeline.run_point_lt_of_flush t hs s⟩ k = ⟨s.val * 1024 + k.val, hl⟩ := Fin.ext (by
    show (4 * (t.val / 4) + s.val) % 4 * 1024 + k.val = s.val * 1024 + k.val
    have := point_lt t
    omega)
  show relu2 (argA m c (ix2 (row _ y0) (pos _ k))) * argB m c (ix2 (pos _ k) (col _ y1)) = _
  rw [h1, h3]
  rfl

theorem arr_eq : arr m c = host (argA m c) (argB m c) := by
  funext z
  idx_vars z
  exact (host_at _ _ z0 z1).symm

end Kernel

theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-- The kernel and the reference end with the same array. -/
theorem algebraic : Cert.algebraic_Kernel21Ideal_Reference21Ideal := by
  intro m ρ m' ρ' _ hagree
  refine ⟨fun c => arr m c, ?_, ?_⟩
  · refine (θ_run Cert.Kernel21Ideal.defs _ _).mono (fun r h c => ?_) (Cert.Kernel21Ideal.Value.run_blocks (F := Ideal) m ρ)
    exact ⟨(h c).1.trans (final m c), (h c).2⟩
  · refine (θ_run Cert.Reference21Ideal.defs _ _).mono (fun r h c => ?_) (Cert.Reference21Ideal.Value.run (F := Ideal) m' ρ')
    obtain ⟨e0, e1⟩ := hagree c
    refine ⟨(h c).1.trans (Eq.trans ?_ (arr_eq m c).symm), (h c).2⟩
    rw [e0, e1]
    rfl

end Cert.LastReluProduct
-- ==== Proof.LastFirstProduct.lean ====
/- The MLP's first product in the last layer, forward. -/
module

public import proofs.«01_k».proof.Proof.Products
public import proofs.«01_k».proof.Proof.Gen.Kernel22.Frame
public import proofs.«01_k».proof.Proof.Gen.Kernel22Ideal.Value
public import proofs.«01_k».proof.Proof.Gen.Reference22Ideal.Run
public import proofs.«01_k».proof.Defs

@[expose] public section

set_option maxRecDepth 16384

noncomputable section

namespace Cert.LastFirstProduct

open Idealize.ShloMosaic Idealize.ShloMosaic.TcCoe Idealize.SL.Sem
open Cert.Products

section Host

open Cert.Reference22Ideal Cert.Reference22Ideal.Gen

variable (a : FVec Ideal S8192x1024 .f32) (b : FVec Ideal S1024x4096 .f32)

/-- The result that the reference computes. -/
def host : FVec Ideal S8192x4096 .f32 :=
  Host.dotGeneral dot_S8192x1024_S1024x4096_S8192x4096_1_0_0_1_n_n none a b

theorem host_at (i : Fin 8192) (j : Fin 4096) :
    host a b (ix2 i j) = ∑ k : Fin 1024, a (ix2 i k) * b (ix2 k j) := by
  unfold host
  pointwise

end Host

section Kernel

open Cert.Kernel22Ideal Cert.Kernel22Ideal.Gen

section Block

variable (x : Vec Ideal S1024x1024 .f32) (w : Vec Ideal S1024x1024 .bf16) (i : Fin 1024) (j : Fin 1024)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x1024 .f32 := m ((c.tc : Thread nD τ).loc main_arg0)
abbrev argB : FVec Ideal S1024x4096 .f32 := m ((c.tc : Thread nD τ).loc main_arg1)

/-- The result that the kernel computes. -/
def arr : FVec Ideal S8192x4096 .f32 := fun z =>
  ∑ k : Fin 1024, argA m c (ix2 (z 0) k) * argB m c (ix2 k (z 1))

theorem left_eq : V m c main_arg0 = argA m c := by
  entry_read
  rfl

theorem right_at (k : Fin 1024) (j : Fin 4096) : (V m c main_v0 : S1024x4096.Idx → EReal) (ix2 k j) = argB m c (ix2 k j) := by
  entry_read
  rfl

theorem point_lt (t : Fin cfg0.N) : t.val < 32 := lt_of_lt_of_eq t.isLt N_0

/-- The row and the column of the result, and the place along the summed dimension, of an index of a grid point's blocks. -/
abbrev row (t : Fin cfg0.N) (i : Fin 1024) : Fin 8192 := ⟨t.val / 4 * 1024 + i, by have := point_lt t; omega⟩
@[inherit_doc row] abbrev col (t : Fin cfg0.N) (j : Fin 1024) : Fin 4096 := ⟨t.val % 4 * 1024 + j, by omega⟩
@[inherit_doc row] abbrev pos (_ : Fin cfg0.N) (k : Fin 1024) : Fin 1024 := ⟨k, by omega⟩

theorem read_left (t : Fin cfg0.N) (i : Fin 1024) (k : Fin 1024) :
    (iblk m c 0 t : Vec Ideal S1024x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  exact (host_at _ _ z0 z1).symm

end Kernel

theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- The kernel and the reference end with the same array. -/
theorem algebraic : Cert.algebraic_Kernel22Ideal_Reference22Ideal := by
  intro m ρ m' ρ' _ hagree
  refine ⟨fun c => arr m c, ?_, ?_⟩
  · refine (θ_run Cert.Kernel22Ideal.defs _ _).mono (fun r h c => ?_) (Cert.Kernel22Ideal.Value.run_blocks (F := Ideal) m ρ)
    exact ⟨(h c).1.trans (final m c), (h c).2⟩
  · refine (θ_run Cert.Reference22Ideal.defs _ _).mono (fun r h c => ?_) (Cert.Reference22Ideal.Value.run (F := Ideal) m' ρ')
    obtain ⟨e0, e1⟩ := hagree c
    refine ⟨(h c).1.trans (Eq.trans ?_ (arr_eq m c).symm), (h c).2⟩
    rw [e0, e1]
    rfl

end Cert.LastFirstProduct
-- ==== Proof.LastOutProduct.lean ====
/- The mixers' output projection in the last layer, forward. -/
module

public import proofs.«01_k».proof.Proof.Products
public import proofs.«01_k».proof.Proof.Gen.Kernel23.Frame
public import proofs.«01_k».proof.Proof.Gen.Kernel23Ideal.Value
public import proofs.«01_k».proof.Proof.Gen.Reference23Ideal.Run
public import proofs.«01_k».proof.Defs

@[expose] public section

set_option maxRecDepth 16384

noncomputable section

namespace Cert.LastOutProduct

open Idealize.ShloMosaic Idealize.ShloMosaic.TcCoe Idealize.SL.Sem
open Cert.Products

section Host

open Cert.Reference23Ideal Cert.Reference23Ideal.Gen

variable (a : FVec Ideal S8192x1024 .f32) (b : FVec Ideal S1024x1024 .f32)

/-- The result that the reference computes. -/
def host : FVec Ideal S8192x1024 .f32 :=
  Host.dotGeneral dot_S8192x1024_S1024x1024_S8192x1024_1_0_0_1_n_n none a b

theorem host_at (i : Fin 8192) (j : Fin 1024) :
    host a b (ix2 i j) = ∑ k : Fin 1024, a (ix2 i k) * b (ix2 k j) := by
  unfold host
  pointwise

end Host

section Kernel

open Cert.Kernel23Ideal Cert.Kernel23Ideal.Gen

section Block

variable (x : Vec Ideal S1024x1024 .f32) (w : Vec Ideal S1024x1024 .bf16) (i : Fin 1024) (j : Fin 1024)

/-- What a grid point writes. -/
theorem block_at : k0_pay1 x w (ix2 i j) = ∑ k : Fin 1024, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8192x1024 .f32 := m ((c.tc : Thread nD τ).loc main_arg0)
abbrev argB : FVec Ideal S1024x1024 .f32 := m ((c.tc : Thread nD τ).loc main_arg1)

/-- The result that the kernel computes. -/
def arr : FVec Ideal S8192x1024 .f32 := fun z =>
  ∑ k : Fin 1024, argA m c (ix2 (z 0) k) * argB m c (ix2 k (z 1))

theorem left_eq : V m c main_arg0 = argA m c := by
  entry_read
  rfl

theorem right_at (k : Fin 1024) (j : Fin 1024) : (V m c main_v0 : S1024x1024.Idx → EReal) (ix2 k j) = argB m c (ix2 k j) := by
  entry_read
  rfl

theorem point_lt (t : Fin cfg0.N) : t.val < 8 := lt_of_lt_of_eq t.isLt N_0

/-- The row and the column of the result, and the place along the summed dimension, of an index of a grid point's blocks. -/
abbrev row (t : Fin cfg0.N) (i : Fin 1024) : Fin 8192 := ⟨t.val * 1024 + i, by have := point_lt t; omega⟩
@[inherit_doc row] abbrev col (_ : Fin cfg0.N) (j : Fin 1024) : Fin 1024 := ⟨j, by omega⟩
@[inherit_doc row] abbrev pos (_ : Fin cfg0.N) (k : Fin 1024) : Fin 1024 := ⟨k, by omega⟩

theorem read_left (t : Fin cfg0.N) (i : Fin 1024) (k : Fin 1024) :
    (iblk m c 0 t : Vec Ideal S1024x1024 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 1024) (j : Fin 1024) :
    (iblk m c 1 t : Vec Ideal S1024x1024 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  exact (host_at _ _ z0 z1).symm

end Kernel

theorem frame_p : Cert.quiescent_Kernel23 := fun m ρ _ => Cert.Kernel23.Gen.frame m ρ
theorem frame_pi : Cert.quiescent_Kernel23Ideal := fun m ρ _ => Cert.Kernel23Ideal.Gen.frame m ρ
theorem frame_ri : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- The kernel and the reference end with the same array. -/
theorem algebraic : Cert.algebraic_Kernel23Ideal_Reference23Ideal := by
  intro m ρ m' ρ' _ hagree
  refine ⟨fun c => arr m c, ?_, ?_⟩
  · refine (θ_run Cert.Kernel23Ideal.defs _ _).mono (fun r h c => ?_) (Cert.Kernel23Ideal.Value.run_blocks (F := Ideal) m ρ)
    exact ⟨(h c).1.trans (final m c), (h c).2⟩
  · refine (θ_run Cert.Reference23Ideal.defs _ _).mono (fun r h c => ?_) (Cert.Reference23Ideal.Value.run (F := Ideal) m' ρ')
    obtain ⟨e0, e1⟩ := hagree c
    refine ⟨(h c).1.trans (Eq.trans ?_ (arr_eq m c).symm), (h c).2⟩
    rw [e0, e1]
    rfl

end Cert.LastOutProduct
-- ==== Proof.QueryRows.lean ====
/- The latent attention's query projection, backward: the gradient of its rows. -/
module

public import proofs.«01_k».proof.Proof.Products
public import proofs.«01_k».proof.Proof.Gen.Kernel24.Frame
public import proofs.«01_k».proof.Proof.Gen.Kernel24Ideal.Value
public import proofs.«01_k».proof.Proof.Gen.Reference24Ideal.Run
public import proofs.«01_k».proof.Defs

@[expose] public section

set_option maxRecDepth 16384

noncomputable section

namespace Cert.QueryRows

open Idealize.ShloMosaic Idealize.ShloMosaic.TcCoe Idealize.SL.Sem
open Cert.Products

section Host

open Cert.Reference24Ideal Cert.Reference24Ideal.Gen

variable (b : FVec Ideal S256x384 .f32) (g : FVec Ideal S8704x384 .f32)

/-- The result that the reference computes. -/
def host : FVec Ideal S8704x256 .f32 :=
  Host.dotGeneral dot_S8704x384_S256x384_S8704x256_1_1_0_0_n_n none g b

theorem host_at (i : Fin 8704) (j : Fin 256) :
    host b g (ix2 i j) = ∑ k : Fin 384, g (ix2 i k) * b (ix2 j k) := by
  unfold host
  pointwise

end Host

section Kernel

open Cert.Kernel24Ideal Cert.Kernel24Ideal.Gen

section Block

variable (x : Vec Ideal S1088x384 .f32) (w : Vec Ideal S384x256 .bf16) (i : Fin 1088) (j : Fin 256)

/-- What a grid point writes. -/
theorem block_at : k0_pay1 x w (ix2 i j) = ∑ k : Fin 384, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S256x384 .f32 := m ((c.tc : Thread nD τ).loc main_arg1)
abbrev argG : FVec Ideal S8704x384 .f32 := m ((c.tc : Thread nD τ).loc main_arg2)

/-- The result that the kernel computes. -/
def arr : FVec Ideal S8704x256 .f32 := fun z =>
  ∑ k : Fin 384, argG m c (ix2 (z 0) k) * argB m c (ix2 (z 1) k)

theorem left_eq : V m c main_arg2 = argG m c := by
  entry_read
  rfl

theorem right_at (k : Fin 384) (j : Fin 256) : (V m c main_v1 : S384x256.Idx → EReal) (ix2 k j) = argB m c (ix2 j k) := by
  entry_read
  pointwise

theorem point_lt (t : Fin cfg0.N) : t.val < 8 := lt_of_lt_of_eq t.isLt N_0

/-- The row and the column of the result, and the place along the summed dimension, of an index of a grid point's blocks. -/
abbrev row (t : Fin cfg0.N) (i : Fin 1088) : Fin 8704 := ⟨t.val * 1088 + i, by have := point_lt t; omega⟩
@[inherit_doc row] abbrev col (_ : Fin cfg0.N) (j : Fin 256) : Fin 256 := ⟨j, by omega⟩
@[inherit_doc row] abbrev pos (_ : Fin cfg0.N) (k : Fin 384) : Fin 384 := ⟨k, by omega⟩

theorem read_left (t : Fin cfg0.N) (i : Fin 1088) (k : Fin 384) :
    (iblk m c 0 t : Vec Ideal S1088x384 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 384) (j : Fin 256) :
    (iblk m c 1 t : Vec Ideal S384x256 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argB m c) (argG m c) := by
  funext z
  idx_vars z
  exact (host_at _ _ z0 z1).symm

end Kernel

theorem frame_p : Cert.quiescent_Kernel24 := fun m ρ _ => Cert.Kernel24.Gen.frame m ρ
theorem frame_pi : Cert.quiescent_Kernel24Ideal := fun m ρ _ => Cert.Kernel24Ideal.Gen.frame m ρ
theorem frame_ri : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- The kernel and the reference end with the same array. -/
theorem algebraic : Cert.algebraic_Kernel24Ideal_Reference24Ideal := by
  intro m ρ m' ρ' _ hagree
  refine ⟨fun c => arr m c, ?_, ?_⟩
  · refine (θ_run Cert.Kernel24Ideal.defs _ _).mono (fun r h c => ?_) (Cert.Kernel24Ideal.Value.run_blocks (F := Ideal) m ρ)
    exact ⟨(h c).1.trans (final m c), (h c).2⟩
  · refine (θ_run Cert.Reference24Ideal.defs _ _).mono (fun r h c => ?_) (Cert.Reference24Ideal.Value.run (F := Ideal) m' ρ')
    obtain ⟨e0, e1, e2⟩ := hagree c
    refine ⟨(h c).1.trans (Eq.trans ?_ (arr_eq m c).symm), (h c).2⟩
    rw [e1, e2]
    rfl

end Cert.QueryRows
-- ==== Proof.QueryWeight.lean ====
/- The latent attention's query projection, backward: the gradient of its weight. -/
module

public import proofs.«01_k».proof.Proof.Products
public import proofs.«01_k».proof.Proof.Gen.Kernel25.Frame
public import proofs.«01_k».proof.Proof.Gen.Kernel25Ideal.Value
public import proofs.«01_k».proof.Proof.Gen.Reference25Ideal.Run
public import proofs.«01_k».proof.Defs

@[expose] public section

set_option maxRecDepth 16384

noncomputable section

namespace Cert.QueryWeight

open Idealize.ShloMosaic Idealize.ShloMosaic.TcCoe Idealize.SL.Sem
open Cert.Products

section Host

open Cert.Reference25Ideal Cert.Reference25Ideal.Gen

variable (a : FVec Ideal S8704x256 .f32) (g : FVec Ideal S8704x384 .f32)

/-- The result that the reference computes. -/
def host : FVec Ideal S256x384 .f32 :=
  transpose S256x384 [1, 0] (Host.dotGeneral dot_S8704x384_S8704x256_S384x256_0_0_1_1_n_n none g a) transposes_S384x256_S256x384_1_0

theorem host_at (i : Fin 256) (j : Fin 384) :
    host a g (ix2 i j) = ∑ k : Fin 8704, g (ix2 k j) * a (ix2 k i) := by
  unfold host
  pointwise

end Host

section Kernel

open Cert.Kernel25Ideal Cert.Kernel25Ideal.Gen

section Block

variable (x : Vec Ideal S1088x256 .f32) (w : Vec Ideal S1088x384 .f32) (acc : Vec Ideal S256x384 .f32) (i : Fin 256) (j : Fin 384)

/-- What the first grid point of a run writes, and what each later one adds. -/
theorem first_at : k0_pay1 x w (ix2 i j) = ∑ k : Fin 1088, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val, 0]
    ∧ win0_1.index t = ![t.val, 0]
    ∧ win0_2.index t = ![0, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x256 .f32 := m ((c.tc : Thread nD τ).loc main_arg0)
abbrev argG : FVec Ideal S8704x384 .f32 := m ((c.tc : Thread nD τ).loc main_arg2)

/-- The result that the kernel computes. -/
def arr : FVec Ideal S256x384 .f32 := fun z =>
  ∑ k : Fin 8704, argA m c (ix2 k (z 0)) * argG m c (ix2 k (z 1))

theorem left_eq : V m c main_arg0 = argA m c := by
  entry_read
  rfl

theorem right_at (k : Fin 8704) (j : Fin 384) : (V m c main_arg2 : S8704x384.Idx → EReal) (ix2 k j) = argG m c (ix2 k j) := by
  entry_read
  rfl

theorem point_lt (t : Fin cfg0.N) : t.val < 8 := lt_of_lt_of_eq t.isLt N_0

/-- The row and the column of the result, and the place along the summed dimension, of an index of a grid point's blocks. -/
abbrev row (_ : Fin cfg0.N) (i : Fin 256) : Fin 256 := ⟨i, by omega⟩
@[inherit_doc row] abbrev col (_ : Fin cfg0.N) (j : Fin 384) : Fin 384 := ⟨j, by omega⟩
@[inherit_doc row] abbrev pos (t : Fin cfg0.N) (k : Fin 1088) : Fin 8704 := ⟨t.val * 1088 + k, by have := point_lt t; omega⟩

theorem read_left (t : Fin cfg0.N) (k : Fin 1088) (i : Fin 256) :
    (iblk m c 0 t : Vec Ideal S1088x256 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1088) (j : Fin 384) :
    (iblk m c 1 t : Vec Ideal S1088x384 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S256x384.Idx) : EReal :=
  ∑ k : Fin 1088, argA m c (ix2 (pos t k) (row t (z 0))) * argG m c (ix2 (pos t k) (col t (z 1)))

theorem part_eq (t : Fin cfg0.N) (i : Fin 256) (j : Fin 384) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h3 : pos ⟨8 * (t.val / 8) + s.val, Pipeline.run_point_lt_of_flush t hs s⟩ k = ⟨s.val * 1088 + k.val, hl⟩ := Fin.ext (by
    show (8 * (t.val / 8) + s.val) * 1088 + k.val = s.val * 1088 + k.val
    have := point_lt t
    omega)
  show argA m c (ix2 (pos _ k) (row _ y0)) * argG m c (ix2 (pos _ k) (col _ y1)) = _
  rw [h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel25 := fun m ρ _ => Cert.Kernel25.Gen.frame m ρ
theorem frame_pi : Cert.quiescent_Kernel25Ideal := fun m ρ _ => Cert.Kernel25Ideal.Gen.frame m ρ
theorem frame_ri : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- The kernel and the reference end with the same array. -/
theorem algebraic : Cert.algebraic_Kernel25Ideal_Reference25Ideal := by
  intro m ρ m' ρ' _ hagree
  refine ⟨fun c => arr m c, ?_, ?_⟩
  · refine (θ_run Cert.Kernel25Ideal.defs _ _).mono (fun r h c => ?_) (Cert.Kernel25Ideal.Value.run_blocks (F := Ideal) m ρ)
    exact ⟨(h c).1.trans (final m c), (h c).2⟩
  · refine (θ_run Cert.Reference25Ideal.defs _ _).mono (fun r h c => ?_) (Cert.Reference25Ideal.Value.run (F := Ideal) m' ρ')
    obtain ⟨e0, e1, e2⟩ := hagree c
    refine ⟨(h c).1.trans (Eq.trans ?_ (arr_eq m c).symm), (h c).2⟩
    rw [e0, e2]
    rfl

end Cert.QueryWeight
-- ==== Proof.KeyRows.lean ====
/- The latent attention's key and value projection, backward: the gradient of its rows. -/
module

public import proofs.«01_k».proof.Proof.Products
public import proofs.«01_k».proof.Proof.Gen.Kernel26.Frame
public import proofs.«01_k».proof.Proof.Gen.Kernel26Ideal.Value
public import proofs.«01_k».proof.Proof.Gen.Reference26Ideal.Run
public import proofs.«01_k».proof.Defs

@[expose] public section

set_option maxRecDepth 16384

noncomputable section

namespace Cert.KeyRows

open Idealize.ShloMosaic Idealize.ShloMosaic.TcCoe Idealize.SL.Sem
open Cert.Products

section Host

open Cert.Reference26Ideal Cert.Reference26Ideal.Gen

variable (b : FVec Ideal S128x512 .f32) (g : FVec Ideal S8704x512 .f32)

/-- The result that the reference computes. -/
def host : FVec Ideal S8704x128 .f32 :=
  Host.dotGeneral dot_S8704x512_S128x512_S8704x128_1_1_0_0_n_n none g b

theorem host_at (i : Fin 8704) (j : Fin 128) :
    host b g (ix2 i j) = ∑ k : Fin 512, g (ix2 i k) * b (ix2 j k) := by
  unfold host
  pointwise

end Host

section Kernel

open Cert.Kernel26Ideal Cert.Kernel26Ideal.Gen

section Block

variable (x : Vec Ideal S1088x512 .f32) (w : Vec Ideal S512x128 .bf16) (i : Fin 1088) (j : Fin 128)

/-- What a grid point writes. -/
theorem block_at : k0_pay1 x w (ix2 i j) = ∑ k : Fin 512, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argB : FVec Ideal S128x512 .f32 := m ((c.tc : Thread nD τ).loc main_arg1)
abbrev argG : FVec Ideal S8704x512 .f32 := m ((c.tc : Thread nD τ).loc main_arg2)

/-- The result that the kernel computes. -/
def arr : FVec Ideal S8704x128 .f32 := fun z =>
  ∑ k : Fin 512, argG m c (ix2 (z 0) k) * argB m c (ix2 (z 1) k)

theorem left_eq : V m c main_arg2 = argG m c := by
  entry_read
  rfl

theorem right_at (k : Fin 512) (j : Fin 128) : (V m c main_v1 : S512x128.Idx → EReal) (ix2 k j) = argB m c (ix2 j k) := by
  entry_read
  pointwise

theorem point_lt (t : Fin cfg0.N) : t.val < 8 := lt_of_lt_of_eq t.isLt N_0

/-- The row and the column of the result, and the place along the summed dimension, of an index of a grid point's blocks. -/
abbrev row (t : Fin cfg0.N) (i : Fin 1088) : Fin 8704 := ⟨t.val * 1088 + i, by have := point_lt t; omega⟩
@[inherit_doc row] abbrev col (_ : Fin cfg0.N) (j : Fin 128) : Fin 128 := ⟨j, by omega⟩
@[inherit_doc row] abbrev pos (_ : Fin cfg0.N) (k : Fin 512) : Fin 512 := ⟨k, by omega⟩

theorem read_left (t : Fin cfg0.N) (i : Fin 1088) (k : Fin 512) :
    (iblk m c 0 t : Vec Ideal S1088x512 .f32) (ix2 i k) = argG m c (ix2 (row t i) (pos t k)) := by
  refine Eq.trans (congrArg (V m c main_arg2) (?_ : ((cfg0.win 0).blk t).view.emb (ix2 i k) = ix2 (row t i) (pos t k))) (congrFun (left_eq m c) _)
  blk_ext [idx t]

theorem read_right (t : Fin cfg0.N) (k : Fin 512) (j : Fin 128) :
    (iblk m c 1 t : Vec Ideal S512x128 .bf16) (ix2 k j) = argB m c (ix2 (col t j) (pos t k)) := by
  refine Eq.trans (congrArg (V m c main_v1) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argB m c) (argG m c) := by
  funext z
  idx_vars z
  exact (host_at _ _ z0 z1).symm

end Kernel

theorem frame_p : Cert.quiescent_Kernel26 := fun m ρ _ => Cert.Kernel26.Gen.frame m ρ
theorem frame_pi : Cert.quiescent_Kernel26Ideal := fun m ρ _ => Cert.Kernel26Ideal.Gen.frame m ρ
theorem frame_ri : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- The kernel and the reference end with the same array. -/
theorem algebraic : Cert.algebraic_Kernel26Ideal_Reference26Ideal := by
  intro m ρ m' ρ' _ hagree
  refine ⟨fun c => arr m c, ?_, ?_⟩
  · refine (θ_run Cert.Kernel26Ideal.defs _ _).mono (fun r h c => ?_) (Cert.Kernel26Ideal.Value.run_blocks (F := Ideal) m ρ)
    exact ⟨(h c).1.trans (final m c), (h c).2⟩
  · refine (θ_run Cert.Reference26Ideal.defs _ _).mono (fun r h c => ?_) (Cert.Reference26Ideal.Value.run (F := Ideal) m' ρ')
    obtain ⟨e0, e1, e2⟩ := hagree c
    refine ⟨(h c).1.trans (Eq.trans ?_ (arr_eq m c).symm), (h c).2⟩
    rw [e1, e2]
    rfl

end Cert.KeyRows
-- ==== Proof.KeyWeight.lean ====
/- The latent attention's key and value projection, backward: the gradient of its weight. -/
module

public import proofs.«01_k».proof.Proof.Products
public import proofs.«01_k».proof.Proof.Gen.Kernel27.Frame
public import proofs.«01_k».proof.Proof.Gen.Kernel27Ideal.Value
public import proofs.«01_k».proof.Proof.Gen.Reference27Ideal.Run
public import proofs.«01_k».proof.Defs

@[expose] public section

set_option maxRecDepth 16384

noncomputable section

namespace Cert.KeyWeight

open Idealize.ShloMosaic Idealize.ShloMosaic.TcCoe Idealize.SL.Sem
open Cert.Products

section Host

open Cert.Reference27Ideal Cert.Reference27Ideal.Gen

variable (a : FVec Ideal S8704x128 .f32) (g : FVec Ideal S8704x512 .f32)

/-- The result that the reference computes. -/
def host : FVec Ideal S128x512 .f32 :=
  transpose S128x512 [1, 0] (Host.dotGeneral dot_S8704x512_S8704x128_S512x128_0_0_1_1_n_n none g a) transposes_S512x128_S128x512_1_0

theorem host_at (i : Fin 128) (j : Fin 512) :
    host a g (ix2 i j) = ∑ k : Fin 8704, g (ix2 k j) * a (ix2 k i) := by
  unfold host
  pointwise

end Host

section Kernel

open Cert.Kernel27Ideal Cert.Kernel27Ideal.Gen

section Block

variable (x : Vec Ideal S1088x128 .f32) (w : Vec Ideal S1088x512 .f32) (acc : Vec Ideal S128x512 .f32) (i : Fin 128) (j : Fin 512)

/-- What the first grid point of a run writes, and what each later one adds. -/
theorem first_at : k0_pay1 x w (ix2 i j) = ∑ k : Fin 1088, x (ix2 k i) * w (ix2 k j) := by
  pointwise [k0_pay1]

@[inherit_doc first_at] theorem next_at : k0_pay2 x w acc (ix2 i j) = acc (ix2 i j) + k0_pay1 x w (ix2 i j) := by
  pointwise [k0_pay2]

@[inherit_doc first_at] theorem last_at : k0_pay3 x w acc (ix2 i j) = acc (ix2 i j) + k0_pay1 x w (ix2 i j) := by
  pointwise [k0_pay3]

end Block

/-- Which block of each array a grid point reads and writes. -/
theorem idx : ∀ t : Fin cfg0.N, win0_0.index t = ![t.val, 0]
    ∧ win0_1.index t = ![t.val, 0]
    ∧ win0_2.index t = ![0, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x128 .f32 := m ((c.tc : Thread nD τ).loc main_arg0)
abbrev argG : FVec Ideal S8704x512 .f32 := m ((c.tc : Thread nD τ).loc main_arg2)

/-- The result that the kernel computes. -/
def arr : FVec Ideal S128x512 .f32 := fun z =>
  ∑ k : Fin 8704, argA m c (ix2 k (z 0)) * argG m c (ix2 k (z 1))

theorem left_eq : V m c main_arg0 = argA m c := by
  entry_read
  rfl

theorem right_at (k : Fin 8704) (j : Fin 512) : (V m c main_arg2 : S8704x512.Idx → EReal) (ix2 k j) = argG m c (ix2 k j) := by
  entry_read
  rfl

theorem point_lt (t : Fin cfg0.N) : t.val < 8 := lt_of_lt_of_eq t.isLt N_0

/-- The row and the column of the result, and the place along the summed dimension, of an index of a grid point's blocks. -/
abbrev row (_ : Fin cfg0.N) (i : Fin 128) : Fin 128 := ⟨i, by omega⟩
@[inherit_doc row] abbrev col (_ : Fin cfg0.N) (j : Fin 512) : Fin 512 := ⟨j, by omega⟩
@[inherit_doc row] abbrev pos (t : Fin cfg0.N) (k : Fin 1088) : Fin 8704 := ⟨t.val * 1088 + k, by have := point_lt t; omega⟩

theorem read_left (t : Fin cfg0.N) (k : Fin 1088) (i : Fin 128) :
    (iblk m c 0 t : Vec Ideal S1088x128 .f32) (ix2 k i) = argA m c (ix2 (pos t k) (row t i)) := by
  refine Eq.trans (congrArg (V m c main_arg0) (?_ : ((cfg0.win 0).blk t).view.emb (ix2 k i) = ix2 (pos t k) (row t i))) (congrFun (left_eq m c) _)
  blk_ext [idx t]

theorem read_right (t : Fin cfg0.N) (k : Fin 1088) (j : Fin 512) :
    (iblk m c 1 t : Vec Ideal S1088x512 .f32) (ix2 k j) = argG m c (ix2 (pos t k) (col t j)) := by
  refine Eq.trans (congrArg (V m c main_arg2) (?_ : ((cfg0.win 1).blk t).view.emb (ix2 k j) = ix2 (pos t k) (col t j))) (right_at m c (pos t k) (col t j))
  blk_ext [idx t]

/-- What a grid point adds. -/
def part (t : Fin cfg0.N) (z : S128x512.Idx) : EReal :=
  ∑ k : Fin 1088, argA m c (ix2 (pos t k) (row t (z 0))) * argG m c (ix2 (pos t k) (col t (z 1)))

theorem part_eq (t : Fin cfg0.N) (i : Fin 128) (j : Fin 512) :
    k0_pay1 (F := Ideal) (iblk m c 0 t) (iblk m c 1 t) (ix2 i j) = part m c t (ix2 i j) := by
  rw [first_at]
  show (_ : EReal) = _
  exact Finset.sum_congr rfl fun k _ => by rw [read_left, read_right]; rfl

/-- The kernel's result array after its run: the sum of what the 8 points of each run add. -/
theorem final : (dats m 0 c).arrAt 2 (cfgs 0).N = arr m c := by
  refine (dats m 0 c).arrAt_eq_of_covers 2 _ (by decide +kernel) fun t hf y => ?_
  blk_simp
  rw [after0_2]
  have hs := (flush0_2 t).mp hf
  refine (Pipeline.eq_sum_fin_of_reset_step_apply_of_flush (fun n h => outsAt0 m c n h) 8 (fun _ => (0 : EReal)) (part m c)
    (fun t h j => by
      rw [outsAt0_A m c t h (by omega) (by omega)]
      frame_out
      idx_vars j
      rw [part_eq, zero_add])
    (fun t h j => by
      by_cases h' : t.val % 8 = 7
      · rw [outsAt0_C m c t h (by omega) h']
        frame_out
        idx_vars j
        rw [last_at, part_eq]
      · rw [outsAt0_B m c t h (by omega) h']
        frame_out
        idx_vars j
        rw [next_at, part_eq])
    t hs y).trans ?_
  idx_vars y
  have e : ((cfg0.win 2).blk t).view.emb (ix2 y0 y1) = ix2 (row t y0) (col t y1) := by blk_ext [idx t]
  refine Eq.trans ?_ (congrArg (arr m c) e).symm
  rw [zero_add]
  refine Fin.sum_mul_add_congr fun s k hl => ?_
  have h3 : pos ⟨8 * (t.val / 8) + s.val, Pipeline.run_point_lt_of_flush t hs s⟩ k = ⟨s.val * 1088 + k.val, hl⟩ := Fin.ext (by
    show (8 * (t.val / 8) + s.val) * 1088 + k.val = s.val * 1088 + k.val
    have := point_lt t
    omega)
  show argA m c (ix2 (pos _ k) (row _ y0)) * argG m c (ix2 (pos _ k) (col _ y1)) = _
  rw [h3]
  rfl

theorem arr_eq : arr m c = host (argA m c) (argG m c) := by
  funext z
  idx_vars z
  refine Eq.trans ?_ (host_at _ _ z0 z1).symm
  exact Finset.sum_congr rfl fun k _ => mul_comm _ _

end Kernel

theorem frame_p : Cert.quiescent_Kernel27 := fun m ρ _ => Cert.Kernel27.Gen.frame m ρ
theorem frame_pi : Cert.quiescent_Kernel27Ideal := fun m ρ _ => Cert.Kernel27Ideal.Gen.frame m ρ
theorem frame_ri : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- The kernel and the reference end with the same array. -/
theorem algebraic : Cert.algebraic_Kernel27Ideal_Reference27Ideal := by
  intro m ρ m' ρ' _ hagree
  refine ⟨fun c => arr m c, ?_, ?_⟩
  · refine (θ_run Cert.Kernel27Ideal.defs _ _).mono (fun r h c => ?_) (Cert.Kernel27Ideal.Value.run_blocks (F := Ideal) m ρ)
    exact ⟨(h c).1.trans (final m c), (h c).2⟩
  · refine (θ_run Cert.Reference27Ideal.defs _ _).mono (fun r h c => ?_) (Cert.Reference27Ideal.Value.run (F := Ideal) m' ρ')
    obtain ⟨e0, e1, e2⟩ := hagree c
    refine ⟨(h c).1.trans (Eq.trans ?_ (arr_eq m c).symm), (h c).2⟩
    rw [e0, e2]
    rfl

end Cert.KeyWeight
-- ==== Proof.QueryProduct.lean ====
/- The latent attention's query projection, forward. -/
module

public import proofs.«01_k».proof.Proof.Products
public import proofs.«01_k».proof.Proof.Gen.Kernel28.Frame
public import proofs.«01_k».proof.Proof.Gen.Kernel28Ideal.Value
public import proofs.«01_k».proof.Proof.Gen.Reference28Ideal.Run
public import proofs.«01_k».proof.Defs

@[expose] public section

set_option maxRecDepth 16384

noncomputable section

namespace Cert.QueryProduct

open Idealize.ShloMosaic Idealize.ShloMosaic.TcCoe Idealize.SL.Sem
open Cert.Products

section Host

open Cert.Reference28Ideal Cert.Reference28Ideal.Gen

variable (a : FVec Ideal S8704x256 .f32) (b : FVec Ideal S256x384 .f32)

/-- The result that the reference computes. -/
def host : FVec Ideal S8704x384 .f32 :=
  Host.dotGeneral dot_S8704x256_S256x384_S8704x384_1_0_0_1_n_n none a b

theorem host_at (i : Fin 8704) (j : Fin 384) :
    host a b (ix2 i j) = ∑ k : Fin 256, a (ix2 i k) * b (ix2 k j) := by
  unfold host
  pointwise

end Host

section Kernel

open Cert.Kernel28Ideal Cert.Kernel28Ideal.Gen

section Block

variable (x : Vec Ideal S1088x256 .f32) (w : Vec Ideal S256x384 .bf16) (i : Fin 1088) (j : Fin 384)

/-- What a grid point writes. -/
theorem block_at : k0_pay1 x w (ix2 i j) = ∑ k : Fin 256, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x256 .f32 := m ((c.tc : Thread nD τ).loc main_arg0)
abbrev argB : FVec Ideal S256x384 .f32 := m ((c.tc : Thread nD τ).loc main_arg1)

/-- The result that the kernel computes. -/
def arr : FVec Ideal S8704x384 .f32 := fun z =>
  ∑ k : Fin 256, argA m c (ix2 (z 0) k) * argB m c (ix2 k (z 1))

theorem left_eq : V m c main_arg0 = argA m c := by
  entry_read
  rfl

theorem right_at (k : Fin 256) (j : Fin 384) : (V m c main_v0 : S256x384.Idx → EReal) (ix2 k j) = argB m c (ix2 k j) := by
  entry_read
  rfl

theorem point_lt (t : Fin cfg0.N) : t.val < 8 := lt_of_lt_of_eq t.isLt N_0

/-- The row and the column of the result, and the place along the summed dimension, of an index of a grid point's blocks. -/
abbrev row (t : Fin cfg0.N) (i : Fin 1088) : Fin 8704 := ⟨t.val * 1088 + i, by have := point_lt t; omega⟩
@[inherit_doc row] abbrev col (_ : Fin cfg0.N) (j : Fin 384) : Fin 384 := ⟨j, by omega⟩
@[inherit_doc row] abbrev pos (_ : Fin cfg0.N) (k : Fin 256) : Fin 256 := ⟨k, by omega⟩

theorem read_left (t : Fin cfg0.N) (i : Fin 1088) (k : Fin 256) :
    (iblk m c 0 t : Vec Ideal S1088x256 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 256) (j : Fin 384) :
    (iblk m c 1 t : Vec Ideal S256x384 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  exact (host_at _ _ z0 z1).symm

end Kernel

theorem frame_p : Cert.quiescent_Kernel28 := fun m ρ _ => Cert.Kernel28.Gen.frame m ρ
theorem frame_pi : Cert.quiescent_Kernel28Ideal := fun m ρ _ => Cert.Kernel28Ideal.Gen.frame m ρ
theorem frame_ri : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- The kernel and the reference end with the same array. -/
theorem algebraic : Cert.algebraic_Kernel28Ideal_Reference28Ideal := by
  intro m ρ m' ρ' _ hagree
  refine ⟨fun c => arr m c, ?_, ?_⟩
  · refine (θ_run Cert.Kernel28Ideal.defs _ _).mono (fun r h c => ?_) (Cert.Kernel28Ideal.Value.run_blocks (F := Ideal) m ρ)
    exact ⟨(h c).1.trans (final m c), (h c).2⟩
  · refine (θ_run Cert.Reference28Ideal.defs _ _).mono (fun r h c => ?_) (Cert.Reference28Ideal.Value.run (F := Ideal) m' ρ')
    obtain ⟨e0, e1⟩ := hagree c
    refine ⟨(h c).1.trans (Eq.trans ?_ (arr_eq m c).symm), (h c).2⟩
    rw [e0, e1]
    rfl

end Cert.QueryProduct
-- ==== Proof.KeyProduct.lean ====
/- The latent attention's key and value projection, forward. -/
module

public import proofs.«01_k».proof.Proof.Products
public import proofs.«01_k».proof.Proof.Gen.Kernel29.Frame
public import proofs.«01_k».proof.Proof.Gen.Kernel29Ideal.Value
public import proofs.«01_k».proof.Proof.Gen.Reference29Ideal.Run
public import proofs.«01_k».proof.Defs

@[expose] public section

set_option maxRecDepth 16384

noncomputable section

namespace Cert.KeyProduct

open Idealize.ShloMosaic Idealize.ShloMosaic.TcCoe Idealize.SL.Sem
open Cert.Products

section Host

open Cert.Reference29Ideal Cert.Reference29Ideal.Gen

variable (a : FVec Ideal S8704x128 .f32) (b : FVec Ideal S128x512 .f32)

/-- The result that the reference computes. -/
def host : FVec Ideal S8704x512 .f32 :=
  Host.dotGeneral dot_S8704x128_S128x512_S8704x512_1_0_0_1_n_n none a b

theorem host_at (i : Fin 8704) (j : Fin 512) :
    host a b (ix2 i j) = ∑ k : Fin 128, a (ix2 i k) * b (ix2 k j) := by
  unfold host
  pointwise

end Host

section Kernel

open Cert.Kernel29Ideal Cert.Kernel29Ideal.Gen

section Block

variable (x : Vec Ideal S1088x128 .f32) (w : Vec Ideal S128x512 .bf16) (i : Fin 1088) (j : Fin 512)

/-- What a grid point writes. -/
theorem block_at : k0_pay1 x w (ix2 i j) = ∑ k : Fin 128, x (ix2 i k) * w (ix2 k j) := by
  pointwise [k0_pay1]

end Block

/-- Which block of each array a grid point reads and writes. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ) (c : Dev nD)

/-! The arrays at launch: `argA` the rows, `argB` the weight, `argG` the gradient of the product. -/

abbrev argA : FVec Ideal S8704x128 .f32 := m ((c.tc : Thread nD τ).loc main_arg0)
abbrev argB : FVec Ideal S128x512 .f32 := m ((c.tc : Thread nD τ).loc main_arg1)

/-- The result that the kernel computes. -/
def arr : FVec Ideal S8704x512 .f32 := fun z =>
  ∑ k : Fin 128, argA m c (ix2 (z 0) k) * argB m c (ix2 k (z 1))

theorem left_eq : V m c main_arg0 = argA m c := by
  entry_read
  rfl

theorem right_at (k : Fin 128) (j : Fin 512) : (V m c main_v0 : S128x512.Idx → EReal) (ix2 k j) = argB m c (ix2 k j) := by
  entry_read
  rfl

theorem point_lt (t : Fin cfg0.N) : t.val < 8 := lt_of_lt_of_eq t.isLt N_0

/-- The row and the column of the result, and the place along the summed dimension, of an index of a grid point's blocks. -/
abbrev row (t : Fin cfg0.N) (i : Fin 1088) : Fin 8704 := ⟨t.val * 1088 + i, by have := point_lt t; omega⟩
@[inherit_doc row] abbrev col (_ : Fin cfg0.N) (j : Fin 512) : Fin 512 := ⟨j, by omega⟩
@[inherit_doc row] abbrev pos (_ : Fin cfg0.N) (k : Fin 128) : Fin 128 := ⟨k, by omega⟩

theorem read_left (t : Fin cfg0.N) (i : Fin 1088) (k : Fin 128) :
    (iblk m c 0 t : Vec Ideal S1088x128 .f32) (ix2 i k) = argA m c (ix2 (row t i) (pos t k)) := by
  refine Eq.trans (congrArg (V m c main_arg0) (?_ : ((cfg0.win 0).blk t).view.emb (ix2 i k) = ix2 (row t i) (pos t k))) (congrFun (left_eq m c) _)
  blk_ext [idx t]

theorem read_right (t : Fin cfg0.N) (k : Fin 128) (j : Fin 512) :
    (iblk m c 1 t : Vec Ideal S128x512 .bf16) (ix2 k j) = argB m c (ix2 (pos t k) (col t j)) := by
  refine Eq.trans (congrArg (V m c main_v0) (?_ : ((cfg0.win 1).blk t).view.emb (ix2 k j) = ix2 (pos t k) (col t j))) (right_at m c (pos t k) (col t j))
  blk_ext [idx t]

/-- The kernel's result array after its run. -/
theorem final : (dats m 0 c).arrAt 2 (cfgs 0).N = arr m c := by
  refine (dats m 0 c).arrAt_eq_of_covers 2 _ (by decide +kernel) fun t hf y => ?_
  blk_simp
  rw [after0_2]
  frame_out
  idx_vars y
  have e : ((cfg0.win 2).blk t).view.emb (ix2 y0 y1) = ix2 (row t y0) (col t y1) := by blk_ext [idx t]
  refine Eq.trans ?_ (congrArg (arr m c) e).symm
  rw [block_at]
  show (_ : EReal) = _
  exact Finset.sum_congr rfl fun k _ => by rw [read_left, read_right]; rfl

theorem arr_eq : arr m c = host (argA m c) (argB m c) := by
  funext z
  idx_vars z
  exact (host_at _ _ z0 z1).symm

end Kernel

theorem frame_p : Cert.quiescent_Kernel29 := fun m ρ _ => Cert.Kernel29.Gen.frame m ρ
theorem frame_pi : Cert.quiescent_Kernel29Ideal := fun m ρ _ => Cert.Kernel29Ideal.Gen.frame m ρ
theorem frame_ri : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

/-- The kernel and the reference end with the same array. -/
theorem algebraic : Cert.algebraic_Kernel29Ideal_Reference29Ideal := by
  intro m ρ m' ρ' _ hagree
  refine ⟨fun c => arr m c, ?_, ?_⟩
  · refine (θ_run Cert.Kernel29Ideal.defs _ _).mono (fun r h c => ?_) (Cert.Kernel29Ideal.Value.run_blocks (F := Ideal) m ρ)
    exact ⟨(h c).1.trans (final m c), (h c).2⟩
  · refine (θ_run Cert.Reference29Ideal.defs _ _).mono (fun r h c => ?_) (Cert.Reference29Ideal.Value.run (F := Ideal) m' ρ')
    obtain ⟨e0, e1⟩ := hagree c
    refine ⟨(h c).1.trans (Eq.trans ?_ (arr_eq m c).symm), (h c).2⟩
    rw [e0, e1]
    rfl

end Cert.KeyProduct
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.AttentionBackward
public import proofs.«01_k».proof.Proof.AttentionForward
public import proofs.«01_k».proof.Proof.WindowForward
public import proofs.«01_k».proof.Proof.WindowBackward
public import proofs.«01_k».proof.Proof.ReluRows
public import proofs.«01_k».proof.Proof.ReluWeight
public import proofs.«01_k».proof.Proof.FirstRows
public import proofs.«01_k».proof.Proof.FirstWeight
public import proofs.«01_k».proof.Proof.InRows
public import proofs.«01_k».proof.Proof.InWeight
public import proofs.«01_k».proof.Proof.OutRows
public import proofs.«01_k».proof.Proof.OutWeight
public import proofs.«01_k».proof.Proof.ReluProduct
public import proofs.«01_k».proof.Proof.FirstProduct
public import proofs.«01_k».proof.Proof.InProduct
public import proofs.«01_k».proof.Proof.OutProduct
public import proofs.«01_k».proof.Proof.LastReluRows
public import proofs.«01_k».proof.Proof.LastReluWeight
public import proofs.«01_k».proof.Proof.LastFirstRows
public import proofs.«01_k».proof.Proof.LastFirstWeight
public import proofs.«01_k».proof.Proof.LastOutRows
public import proofs.«01_k».proof.Proof.LastOutWeight
public import proofs.«01_k».proof.Proof.LastReluProduct
public import proofs.«01_k».proof.Proof.LastFirstProduct
public import proofs.«01_k».proof.Proof.LastOutProduct
public import proofs.«01_k».proof.Proof.QueryRows
public import proofs.«01_k».proof.Proof.QueryWeight
public import proofs.«01_k».proof.Proof.KeyRows
public import proofs.«01_k».proof.Proof.KeyWeight
public import proofs.«01_k».proof.Proof.QueryProduct
public import proofs.«01_k».proof.Proof.KeyProduct
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts,
  Cert.Kernel7Ideal.Gen.facts, Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts,
  Cert.Reference10Ideal.Gen.facts, Cert.Kernel11.Gen.facts, Cert.Kernel11Ideal.Gen.facts, Cert.Reference11Ideal.Gen.facts, Cert.Kernel12.Gen.facts,
  Cert.Kernel12Ideal.Gen.facts, Cert.Reference12Ideal.Gen.facts, Cert.Kernel13.Gen.facts, Cert.Kernel13Ideal.Gen.facts,
  Cert.Reference13Ideal.Gen.facts, Cert.Kernel14.Gen.facts, Cert.Kernel14Ideal.Gen.facts, Cert.Reference14Ideal.Gen.facts, Cert.Kernel15.Gen.facts,
  Cert.Kernel15Ideal.Gen.facts, Cert.Reference15Ideal.Gen.facts, Cert.Kernel16.Gen.facts, Cert.Kernel16Ideal.Gen.facts,
  Cert.Reference16Ideal.Gen.facts, Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts, Cert.Kernel21.Gen.facts,
  Cert.Kernel21Ideal.Gen.facts, Cert.Reference21Ideal.Gen.facts, Cert.Kernel22.Gen.facts, Cert.Kernel22Ideal.Gen.facts,
  Cert.Reference22Ideal.Gen.facts, Cert.Kernel23.Gen.facts, Cert.Kernel23Ideal.Gen.facts, Cert.Reference23Ideal.Gen.facts, Cert.Kernel24.Gen.facts,
  Cert.Kernel24Ideal.Gen.facts, Cert.Reference24Ideal.Gen.facts, Cert.Kernel25.Gen.facts, Cert.Kernel25Ideal.Gen.facts,
  Cert.Reference25Ideal.Gen.facts, Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts, Cert.Kernel30.Gen.facts,
  Cert.Kernel30Ideal.Gen.facts, Cert.Reference30Ideal.Gen.facts, Cert.Kernel31.Gen.facts, Cert.Kernel31Ideal.Gen.facts,
  Cert.Reference31Ideal.Gen.facts, Cert.Attn.Finite.facts, Cert.Attn.Forward.facts, Cert.Window.Forward.facts, Cert.Window.Backward.facts,
  Cert.Attn.Claims.frame_p, Cert.Attn.Claims.frame_pi, Cert.Attn.Claims.frame_pi_finite, Cert.Attn.Claims.frame_ri, Cert.Attn.Claims.frame_ri_finite,
  Cert.ReluRows.frame_p, Cert.ReluRows.frame_pi, Cert.ReluRows.frame_ri, Cert.ReluWeight.frame_p, Cert.ReluWeight.frame_pi, Cert.ReluWeight.frame_ri,
  Cert.FirstRows.frame_p, Cert.FirstRows.frame_pi, Cert.FirstRows.frame_ri, Cert.FirstWeight.frame_p, Cert.FirstWeight.frame_pi,
  Cert.FirstWeight.frame_ri, Cert.InRows.frame_p, Cert.InRows.frame_pi, Cert.InRows.frame_ri, Cert.InWeight.frame_p, Cert.InWeight.frame_pi,
  Cert.InWeight.frame_ri, Cert.OutRows.frame_p, Cert.OutRows.frame_pi, Cert.OutRows.frame_ri, Cert.OutWeight.frame_p, Cert.OutWeight.frame_pi,
  Cert.OutWeight.frame_ri, Cert.Attn.Forward.frame_p, Cert.Attn.Forward.frame_pi, Cert.Attn.Forward.frame_pi_finite, Cert.Attn.Forward.frame_ri,
  Cert.Attn.Forward.frame_ri_finite, Cert.ReluProduct.frame_p, Cert.ReluProduct.frame_pi, Cert.ReluProduct.frame_ri, Cert.FirstProduct.frame_p,
  Cert.FirstProduct.frame_pi, Cert.FirstProduct.frame_ri, Cert.InProduct.frame_p, Cert.InProduct.frame_pi, Cert.InProduct.frame_ri,
  Cert.OutProduct.frame_p, Cert.OutProduct.frame_pi, Cert.OutProduct.frame_ri, Cert.LastReluRows.frame_p, Cert.LastReluRows.frame_pi,
  Cert.LastReluRows.frame_ri, Cert.LastReluWeight.frame_p, Cert.LastReluWeight.frame_pi, Cert.LastReluWeight.frame_ri, Cert.LastFirstRows.frame_p,
  Cert.LastFirstRows.frame_pi, Cert.LastFirstRows.frame_ri, Cert.LastFirstWeight.frame_p, Cert.LastFirstWeight.frame_pi,
  Cert.LastFirstWeight.frame_ri, Cert.LastOutRows.frame_p, Cert.LastOutRows.frame_pi, Cert.LastOutRows.frame_ri, Cert.LastOutWeight.frame_p,
  Cert.LastOutWeight.frame_pi, Cert.LastOutWeight.frame_ri, Cert.LastReluProduct.frame_p, Cert.LastReluProduct.frame_pi,
  Cert.LastReluProduct.frame_ri, Cert.LastFirstProduct.frame_p, Cert.LastFirstProduct.frame_pi, Cert.LastFirstProduct.frame_ri,
  Cert.LastOutProduct.frame_p, Cert.LastOutProduct.frame_pi, Cert.LastOutProduct.frame_ri, Cert.QueryRows.frame_p, Cert.QueryRows.frame_pi,
  Cert.QueryRows.frame_ri, Cert.QueryWeight.frame_p, Cert.QueryWeight.frame_pi, Cert.QueryWeight.frame_ri, Cert.KeyRows.frame_p,
  Cert.KeyRows.frame_pi, Cert.KeyRows.frame_ri, Cert.KeyWeight.frame_p, Cert.KeyWeight.frame_pi, Cert.KeyWeight.frame_ri, Cert.QueryProduct.frame_p,
  Cert.QueryProduct.frame_pi, Cert.QueryProduct.frame_ri, Cert.KeyProduct.frame_p, Cert.KeyProduct.frame_pi, Cert.KeyProduct.frame_ri,
  Cert.Window.Forward.frame_p, Cert.Window.Forward.frame_pi, Cert.Window.Forward.frame_pi_finite, Cert.Window.Forward.frame_ri,
  Cert.Window.Forward.frame_ri_finite, Cert.Window.Backward.frame_p, Cert.Window.Backward.frame_pi, Cert.Window.Backward.frame_pi_finite,
  Cert.Window.Backward.frame_ri, Cert.Window.Backward.frame_ri_finite, trivial, Cert.Attn.Claims.algebraic, trivial, Cert.ReluRows.algebraic,
  trivial, Cert.ReluWeight.algebraic, trivial, Cert.FirstRows.algebraic, trivial, Cert.FirstWeight.algebraic, trivial, Cert.InRows.algebraic,
  trivial, Cert.InWeight.algebraic, trivial, Cert.OutRows.algebraic, trivial, Cert.OutWeight.algebraic, trivial, Cert.Attn.Forward.algebraic,
  trivial, Cert.ReluProduct.algebraic, trivial, Cert.FirstProduct.algebraic, trivial, Cert.InProduct.algebraic, trivial, Cert.OutProduct.algebraic,
  trivial, Cert.LastReluRows.algebraic, trivial, Cert.LastReluWeight.algebraic, trivial, Cert.LastFirstRows.algebraic, trivial,
  Cert.LastFirstWeight.algebraic, trivial, Cert.LastOutRows.algebraic, trivial, Cert.LastOutWeight.algebraic, trivial,
  Cert.LastReluProduct.algebraic, trivial, Cert.LastFirstProduct.algebraic, trivial, Cert.LastOutProduct.algebraic, trivial,
  Cert.QueryRows.algebraic, trivial, Cert.QueryWeight.algebraic, trivial, Cert.KeyRows.algebraic, trivial, Cert.KeyWeight.algebraic, trivial,
  Cert.QueryProduct.algebraic, trivial, Cert.KeyProduct.algebraic, trivial, Cert.Window.Forward.algebraic, trivial, Cert.Window.Backward.algebraic⟩

end Cert.Proof

end
